-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def preserves_Kernel_KernelIdeal : Prop :=
  True

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v83) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v57) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v12_0)) (v1 : (c : Dev Cert.Kernel4Ideal.nD) → Buf (Elt Ideal) ((c.tc : Thread Cert.Kernel4Ideal.nD Cert.Kernel4Ideal.τ).loc Cert.Kernel4Ideal.main_v12_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12_0) = v0 c
          ∧ r.2.mem ((c.tc : Thread Cert.Kernel4Ideal.nD Cert.Kernel4Ideal.τ).loc Cert.Kernel4Ideal.main_v12_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v22) = v0 c
          ∧ r.2.mem ((c.tc : Thread Cert.Reference4Ideal.nD Cert.Reference4Ideal.τ).loc Cert.Reference4Ideal.main_v24) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v53) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v113) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v113) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_scores_finite : Cert.Pre_scores_finite.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_scores_finite.lean ====
abbrev S65536x5888 : Shape := ⟨2, ![65536, 5888]⟩
abbrev S8x15x31 : Shape := ⟨3, ![8, 15, 31]⟩
abbrev S65536x1024 : Shape := ⟨2, ![65536, 1024]⟩
abbrev S_ : Shape := ⟨0, ![]⟩

class Facts : Prop where
  slices_S65536x5888_S65536x1024_0_0 : S65536x5888.Slices ![0, 0] S65536x1024
  bcast_S_S65536x1024 : S_.BroadcastsInDim S65536x1024 (![] : Fin 0 → Fin S65536x1024.rank)
  bcast_S_S8x15x31 : S_.BroadcastsInDim S8x15x31 (![] : Fin 0 → Fin S8x15x31.rank)

variable [Facts]

def fn {F : FTy → Type} [FloatOps F] (main_arg0 : FVec F S65536x5888 .bf16) (main_arg1 : FVec F S8x15x31 .f32) : IVec S65536x1024 1 × IVec S8x15x31 1 :=
  let main_v0 : FVec F S65536x1024 .bf16 := (extractStridedSlice S65536x1024 ![0, 0] · slices_S65536x5888_S65536x1024_0_0) main_arg0
  let main_v1 : FVec F S65536x1024 .bf16 := Host.absf main_v0
  let main_cst : FVec F S_ .bf16 := constant S_ .bf16 0x7F80#16
  let main_v2 : FVec F S65536x1024 .bf16 := broadcastInDim S65536x1024 ![] bcast_S_S65536x1024 main_cst
  let main_v3 : IVec S65536x1024 1 := cmpf .olt main_v1 main_v2
  let main_v4 : FVec F S8x15x31 .f32 := Host.absf main_arg1
  let main_cst_0 : FVec F S_ .f32 := constant S_ .f32 0x7F800000#32
  let main_v5 : FVec F S8x15x31 .f32 := broadcastInDim S8x15x31 ![] bcast_S_S8x15x31 main_cst_0
  let main_v6 : IVec S8x15x31 1 := cmpf .olt main_v4 main_v5
  (main_v3, main_v6)
-- ==== Kernel.lean ====
abbrev S65536x5888 : Shape := ⟨2, ![65536, 5888]⟩
abbrev S8x15x31 : Shape := ⟨3, ![8, 15, 31]⟩
abbrev S8x8 : Shape := ⟨2, ![8, 8]⟩
abbrev S64x64 : Shape := ⟨2, ![64, 64]⟩
abbrev S_ : Shape := ⟨0, ![]⟩
abbrev S8x8x1 : Shape := ⟨3, ![8, 8, 1]⟩
abbrev S8x8x8x31 : Shape := ⟨4, ![8, 8, 8, 31]⟩
abbrev S64x64x1 : Shape := ⟨3, ![64, 64, 1]⟩
abbrev S8x8x8x64x64 : Shape := ⟨5, ![8, 8, 8, 64, 64]⟩
abbrev S8x8x64x8x64 : Shape := ⟨5, ![8, 8, 64, 8, 64]⟩
abbrev S1x1x64x1x64 : Shape := ⟨5, ![1, 1, 64, 1, 64]⟩
abbrev S8x512x512 : Shape := ⟨3, ![8, 512, 512]⟩
abbrev S65536x512 : Shape := ⟨2, ![65536, 512]⟩
abbrev S512x512 : Shape := ⟨2, ![512, 512]⟩
abbrev S1536x512 : Shape := ⟨2, ![1536, 512]⟩
abbrev S2x512x512 : Shape := ⟨3, ![2, 512, 512]⟩
abbrev S64x128 : Shape := ⟨2, ![64, 128]⟩
abbrev S64x512 : Shape := ⟨2, ![64, 512]⟩
abbrev S128x128 : Shape := ⟨2, ![128, 128]⟩
abbrev S512x128 : Shape := ⟨2, ![512, 128]⟩
abbrev S128x512 : Shape := ⟨2, ![128, 512]⟩
abbrev S1x128x512 : Shape := ⟨3, ![1, 128, 512]⟩
abbrev S1x512x512 : Shape := ⟨3, ![1, 512, 512]⟩
abbrev S512 : Shape := ⟨1, ![512]⟩
abbrev S512x1 : Shape := ⟨2, ![512, 1]⟩
abbrev S128x1 : Shape := ⟨2, ![128, 1]⟩

abbrev nBuf : Space → Nat
  | .hbm => 28
  | .vmem => 11
  | .smem => 0
  | _ => 0

abbrev bufTy : (tb : Table) → Fin (tcTables nBuf tb) → BufTy
  | .hbm, ⟨0, _⟩ => ⟨S65536x5888, .bf16⟩
  | .hbm, ⟨1, _⟩ => ⟨S8x15x31, .f32⟩
  | .hbm, ⟨2, _⟩ => ⟨S8x8, .i32⟩
  | .hbm, ⟨3, _⟩ => ⟨S8x8, .i1⟩
  | .hbm, ⟨4, _⟩ => ⟨S64x64, .i32⟩
  | .hbm, ⟨5, _⟩ => ⟨S64x64, .i1⟩
  | .hbm, ⟨6, _⟩ => ⟨S64x64, .i1⟩
  | .hbm, ⟨7, _⟩ => ⟨S_, .i32⟩
  | .hbm, ⟨8, _⟩ => ⟨S8x8, .i32⟩
  | .hbm, ⟨9, _⟩ => ⟨S8x8, .i32⟩
  | .hbm, ⟨10, _⟩ => ⟨S8x8, .i32⟩
  | .hbm, ⟨11, _⟩ => ⟨S8x8x1, .i32⟩
  | .hbm, ⟨12, _⟩ => ⟨S8x8x8x31, .f32⟩
  | .hbm, ⟨13, _⟩ => ⟨S_, .i32⟩
  | .hbm, ⟨14, _⟩ => ⟨S64x64, .i32⟩
  | .hbm, ⟨15, _⟩ => ⟨S64x64, .i32⟩
  | .hbm, ⟨16, _⟩ => ⟨S64x64, .i32⟩
  | .hbm, ⟨17, _⟩ => ⟨S64x64x1, .i32⟩
  | .hbm, ⟨18, _⟩ => ⟨S8x8x8x64x64, .f32⟩
  | .hbm, ⟨19, _⟩ => ⟨S8x8x64x8x64, .f32⟩
  | .hbm, ⟨20, _⟩ => ⟨S1x1x64x1x64, .i1⟩
  | .hbm, ⟨21, _⟩ => ⟨S_, .f32⟩
  | .hbm, ⟨22, _⟩ => ⟨S_, .f32⟩
  | .hbm, ⟨23, _⟩ => ⟨S8x8x64x8x64, .i1⟩
  | .hbm, ⟨24, _⟩ => ⟨S8x8x64x8x64, .f32⟩
  | .hbm, ⟨25, _⟩ => ⟨S8x8x64x8x64, .f32⟩
  | .hbm, ⟨26, _⟩ => ⟨S8x512x512, .f32⟩
  | .hbm, ⟨27, _⟩ => ⟨S65536x512, .bf16⟩
  | .local _ .vmem, ⟨0, _⟩ => ⟨S512x512, .bf16⟩
  | .local _ .vmem, ⟨1, _⟩ => ⟨S512x512, .bf16⟩
  | .local _ .vmem, ⟨2, _⟩ => ⟨S1536x512, .bf16⟩
  | .local _ .vmem, ⟨3, _⟩ => ⟨S1536x512, .bf16⟩
  | .local _ .vmem, ⟨4, _⟩ => ⟨S1536x512, .bf16⟩
  | .local _ .vmem, ⟨5, _⟩ => ⟨S1536x512, .bf16⟩
  | .local _ .vmem, ⟨6, _⟩ => ⟨S8x512x512, .f32⟩
  | .local _ .vmem, ⟨7, _⟩ => ⟨S512x512, .bf16⟩
  | .local _ .vmem, ⟨8, _⟩ => ⟨S512x512, .bf16⟩
  | .local _ .vmem, ⟨9, _⟩ => ⟨S2x512x512, .f32⟩
  | .local _ .vmem, ⟨10, _⟩ => ⟨S2x512x512, .bf16⟩
  | _, _ => ⟨S65536x5888, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_c_3 : Ref sig .tc := ⟨.hbm, 6, rfl⟩
abbrev main_c_4 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_5 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![128], ![false]⟩

def k0_mult1 (i : grid0.Coords) : BitVec 32 :=
  let arg0 : BitVec 32 := BitVec.ofNat 32 (i 0).val
  let c512_i32_13 : BitVec 32 := 512#32
  let v28 : BitVec 32 := Scalar.muli arg0 c512_i32_13
  let c125_i32 : BitVec 32 := 125#32
  let c0_i32_15 : BitVec 32 := 0#32
  let c1_i32_14 : BitVec 32 := 1#32
  let v29 : BitVec 32 := Scalar.subi arg0 c1_i32_14
  let v30 : BitVec 32 := Scalar.maxsi c0_i32_15 v29
  let v31 : BitVec 32 := Scalar.minsi c125_i32 v30
  let c512_i32_16 : BitVec 32 := 512#32
  let v32 : BitVec 32 := Scalar.muli v31 c512_i32_16
  let v33 : BitVec 32 := Scalar.subi v28 v32
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c64_i32 : BitVec 32 := 64#32
  let c0_i32_19 : BitVec 32 := 0#32
  let v40 : BitVec 1 := Scalar.cmpi .sgt c64_i32 c0_i32_19
  let v41 : BitVec 32 := Scalar.extui v40
  let c0_i32_20 : BitVec 32 := 0#32
  let v42 : BitVec 1 := Scalar.cmpi .slt c64_i32 c0_i32_20
  let v43 : BitVec 32 := Scalar.extui v42
  let v44 : BitVec 32 := Scalar.subi v41 v43
  let v45 : BitVec 1 := Scalar.cmpi .ne v39 v44
  let v46 : BitVec 32 := Scalar.remsi v33 c64_i32
  let c0_i32_21 : BitVec 32 := 0#32
  let v47 : BitVec 1 := Scalar.cmpi .ne v46 c0_i32_21
  let v48 : BitVec 1 := Scalar.andi v45 v47
  let v34 : BitVec 32 := Scalar.divsi v33 c64_i32
  let c1_i32_22 : BitVec 32 := 1#32
  let v49 : BitVec 32 := Scalar.subi v34 c1_i32_22
  let v50 : BitVec 32 := Scalar.select v48 v49 v34
  let c512_i32 : BitVec 32 := 512#32
  let v0 : BitVec 32 := Scalar.muli arg0 c512_i32
  let c32768_i32 : BitVec 32 := 32768#32
  let v1 : BitVec 1 := Scalar.cmpi .slt v0 c32768_i32
  let c16384_i32 : BitVec 32 := 16384#32
  let c0_i32 : BitVec 32 := 0#32
  let v2 : BitVec 1 := Scalar.cmpi .eq c16384_i32 c0_i32
  let c1_i32 : BitVec 32 := 1#32
  let v3 : BitVec 32 := Scalar.select v2 c1_i32 c16384_i32
  let v4 : BitVec 32 := Scalar.remsi v0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c32768_i32_3 : BitVec 32 := 32768#32
  let v12 : BitVec 32 := Scalar.subi v0 c32768_i32_3
  let c8192_i32 : BitVec 32 := 8192#32
  let c0_i32_4 : BitVec 32 := 0#32
  let v13 : BitVec 1 := Scalar.cmpi .eq c8192_i32 c0_i32_4
  let c1_i32_5 : BitVec 32 := 1#32
  let v14 : BitVec 32 := Scalar.select v13 c1_i32_5 c8192_i32
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let v23 : BitVec 32 := Scalar.select v1 v11 v22
  let c512_i32_12 : BitVec 32 := 512#32
  let v26 : BitVec 32 := Scalar.addi v23 c512_i32_12
  let c16384_i32_9 : BitVec 32 := 16384#32
  let c8192_i32_10 : BitVec 32 := 8192#32
  let v24 : BitVec 32 := Scalar.select v1 c16384_i32_9 c8192_i32_10
  let v27 : BitVec 1 := Scalar.cmpi .eq v26 v24
  let c0_i32_24 : BitVec 32 := 0#32
  let c8_i32 : BitVec 32 := 8#32
  let v52 : BitVec 32 := Scalar.select v27 c0_i32_24 c8_i32
  let c0_i32_11 : BitVec 32 := 0#32
  let v25 : BitVec 1 := Scalar.cmpi .eq v23 c0_i32_11
  let c0_i32_23 : BitVec 32 := 0#32
  let c_m8_i32 : BitVec 32 := 4294967288#32
  let v51 : BitVec 32 := Scalar.select v25 c0_i32_23 c_m8_i32
  let c_m4_i32 : BitVec 32 := 4294967292#32
  let v56 : BitVec 32 := Scalar.maxsi v51 c_m4_i32
  let v57 : BitVec 32 := Scalar.minsi v52 v56
  let v58 : BitVec 32 := Scalar.addi v50 v57
  let c64_i32_27 : BitVec 32 := 64#32
  let v61 : BitVec 32 := Scalar.muli v58 c64_i32_27
  v61
def k0_off1 (i : grid0.Coords) (c_m4_i32 : BitVec 32) : Fin 2 → Nat :=
  let arg0 : BitVec 32 := BitVec.ofNat 32 (i 0).val
  let c512_i32_13 : BitVec 32 := 512#32
  let v28 : BitVec 32 := Scalar.muli arg0 c512_i32_13
  let c125_i32 : BitVec 32 := 125#32
  let c0_i32_15 : BitVec 32 := 0#32
  let c1_i32_14 : BitVec 32 := 1#32
  let v29 : BitVec 32 := Scalar.subi arg0 c1_i32_14
  let v30 : BitVec 32 := Scalar.maxsi c0_i32_15 v29
  let v31 : BitVec 32 := Scalar.minsi c125_i32 v30
  let c512_i32_16 : BitVec 32 := 512#32
  let v32 : BitVec 32 := Scalar.muli v31 c512_i32_16
  let v33 : BitVec 32 := Scalar.subi v28 v32
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c64_i32 : BitVec 32 := 64#32
  let c0_i32_19 : BitVec 32 := 0#32
  let v40 : BitVec 1 := Scalar.cmpi .sgt c64_i32 c0_i32_19
  let v41 : BitVec 32 := Scalar.extui v40
  let c0_i32_20 : BitVec 32 := 0#32
  let v42 : BitVec 1 := Scalar.cmpi .slt c64_i32 c0_i32_20
  let v43 : BitVec 32 := Scalar.extui v42
  let v44 : BitVec 32 := Scalar.subi v41 v43
  let v45 : BitVec 1 := Scalar.cmpi .ne v39 v44
  let v46 : BitVec 32 := Scalar.remsi v33 c64_i32
  let c0_i32_21 : BitVec 32 := 0#32
  let v47 : BitVec 1 := Scalar.cmpi .ne v46 c0_i32_21
  let v48 : BitVec 1 := Scalar.andi v45 v47
  let v34 : BitVec 32 := Scalar.divsi v33 c64_i32
  let c1_i32_22 : BitVec 32 := 1#32
  let v49 : BitVec 32 := Scalar.subi v34 c1_i32_22
  let v50 : BitVec 32 := Scalar.select v48 v49 v34
  let c512_i32 : BitVec 32 := 512#32
  let v0 : BitVec 32 := Scalar.muli arg0 c512_i32
  let c32768_i32 : BitVec 32 := 32768#32
  let v1 : BitVec 1 := Scalar.cmpi .slt v0 c32768_i32
  let c16384_i32 : BitVec 32 := 16384#32
  let c0_i32 : BitVec 32 := 0#32
  let v2 : BitVec 1 := Scalar.cmpi .eq c16384_i32 c0_i32
  let c1_i32 : BitVec 32 := 1#32
  let v3 : BitVec 32 := Scalar.select v2 c1_i32 c16384_i32
  let v4 : BitVec 32 := Scalar.remsi v0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c32768_i32_3 : BitVec 32 := 32768#32
  let v12 : BitVec 32 := Scalar.subi v0 c32768_i32_3
  let c8192_i32 : BitVec 32 := 8192#32
  let c0_i32_4 : BitVec 32 := 0#32
  let v13 : BitVec 1 := Scalar.cmpi .eq c8192_i32 c0_i32_4
  let c1_i32_5 : BitVec 32 := 1#32
  let v14 : BitVec 32 := Scalar.select v13 c1_i32_5 c8192_i32
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let v23 : BitVec 32 := Scalar.select v1 v11 v22
  let c512_i32_12 : BitVec 32 := 512#32
  let v26 : BitVec 32 := Scalar.addi v23 c512_i32_12
  let c16384_i32_9 : BitVec 32 := 16384#32
  let c8192_i32_10 : BitVec 32 := 8192#32
  let v24 : BitVec 32 := Scalar.select v1 c16384_i32_9 c8192_i32_10
  let v27 : BitVec 1 := Scalar.cmpi .eq v26 v24
  let c0_i32_24 : BitVec 32 := 0#32
  let c8_i32 : BitVec 32 := 8#32
  let v52 : BitVec 32 := Scalar.select v27 c0_i32_24 c8_i32
  let c0_i32_11 : BitVec 32 := 0#32
  let v25 : BitVec 1 := Scalar.cmpi .eq v23 c0_i32_11
  let c0_i32_23 : BitVec 32 := 0#32
  let c_m8_i32 : BitVec 32 := 4294967288#32
  let v51 : BitVec 32 := Scalar.select v25 c0_i32_23 c_m8_i32
  let v56 : BitVec 32 := Scalar.maxsi v51 c_m4_i32
  let v57 : BitVec 32 := Scalar.minsi v52 v56
  let v58 : BitVec 32 := Scalar.addi v50 v57
  let c64_i32_27 : BitVec 32 := 64#32
  let v61 : BitVec 32 := Scalar.muli v58 c64_i32_27
  let v62 : BitVec 32 := v61
  let v74 : Index := Scalar.indexCast v62
  let c0_31 : Index := 0#32
  ![v74.toNat, 0]
def k0_off1_at (r : Fin 8) : BitVec 32 :=
  if r.val < 4 then
    if r.val < 2 then
      if r.val < 1 then
        4294967292#32
      else
        4294967293#32
    else
      if r.val < 3 then
        4294967294#32
      else
        4294967295#32
  else
    if r.val < 6 then
      if r.val < 5 then
        0#32
      else
        1#32
    else
      if r.val < 7 then
        2#32
      else
        3#32
def k0_off2 (i : grid0.Coords) (c0_i32_26 : BitVec 32) (c_m4_i32 : BitVec 32) : Fin 3 → Nat :=
  let arg0 : BitVec 32 := BitVec.ofNat 32 (i 0).val
  let c512_i32_13 : BitVec 32 := 512#32
  let v28 : BitVec 32 := Scalar.muli arg0 c512_i32_13
  let c125_i32 : BitVec 32 := 125#32
  let c0_i32_15 : BitVec 32 := 0#32
  let c1_i32_14 : BitVec 32 := 1#32
  let v29 : BitVec 32 := Scalar.subi arg0 c1_i32_14
  let v30 : BitVec 32 := Scalar.maxsi c0_i32_15 v29
  let v31 : BitVec 32 := Scalar.minsi c125_i32 v30
  let c512_i32_16 : BitVec 32 := 512#32
  let v32 : BitVec 32 := Scalar.muli v31 c512_i32_16
  let v33 : BitVec 32 := Scalar.subi v28 v32
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c64_i32 : BitVec 32 := 64#32
  let c0_i32_19 : BitVec 32 := 0#32
  let v40 : BitVec 1 := Scalar.cmpi .sgt c64_i32 c0_i32_19
  let v41 : BitVec 32 := Scalar.extui v40
  let c0_i32_20 : BitVec 32 := 0#32
  let v42 : BitVec 1 := Scalar.cmpi .slt c64_i32 c0_i32_20
  let v43 : BitVec 32 := Scalar.extui v42
  let v44 : BitVec 32 := Scalar.subi v41 v43
  let v45 : BitVec 1 := Scalar.cmpi .ne v39 v44
  let v46 : BitVec 32 := Scalar.remsi v33 c64_i32
  let c0_i32_21 : BitVec 32 := 0#32
  let v47 : BitVec 1 := Scalar.cmpi .ne v46 c0_i32_21
  let v48 : BitVec 1 := Scalar.andi v45 v47
  let v34 : BitVec 32 := Scalar.divsi v33 c64_i32
  let c1_i32_22 : BitVec 32 := 1#32
  let v49 : BitVec 32 := Scalar.subi v34 c1_i32_22
  let v50 : BitVec 32 := Scalar.select v48 v49 v34
  let v59 : BitVec 32 := Scalar.addi v50 c0_i32_26
  let c512_i32 : BitVec 32 := 512#32
  let v0 : BitVec 32 := Scalar.muli arg0 c512_i32
  let c32768_i32 : BitVec 32 := 32768#32
  let v1 : BitVec 1 := Scalar.cmpi .slt v0 c32768_i32
  let c16384_i32 : BitVec 32 := 16384#32
  let c0_i32 : BitVec 32 := 0#32
  let v2 : BitVec 1 := Scalar.cmpi .eq c16384_i32 c0_i32
  let c1_i32 : BitVec 32 := 1#32
  let v3 : BitVec 32 := Scalar.select v2 c1_i32 c16384_i32
  let v4 : BitVec 32 := Scalar.remsi v0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c32768_i32_3 : BitVec 32 := 32768#32
  let v12 : BitVec 32 := Scalar.subi v0 c32768_i32_3
  let c8192_i32 : BitVec 32 := 8192#32
  let c0_i32_4 : BitVec 32 := 0#32
  let v13 : BitVec 1 := Scalar.cmpi .eq c8192_i32 c0_i32_4
  let c1_i32_5 : BitVec 32 := 1#32
  let v14 : BitVec 32 := Scalar.select v13 c1_i32_5 c8192_i32
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let v23 : BitVec 32 := Scalar.select v1 v11 v22
  let c512_i32_12 : BitVec 32 := 512#32
  let v26 : BitVec 32 := Scalar.addi v23 c512_i32_12
  let c16384_i32_9 : BitVec 32 := 16384#32
  let c8192_i32_10 : BitVec 32 := 8192#32
  let v24 : BitVec 32 := Scalar.select v1 c16384_i32_9 c8192_i32_10
  let v27 : BitVec 1 := Scalar.cmpi .eq v26 v24
  let c0_i32_24 : BitVec 32 := 0#32
  let c8_i32 : BitVec 32 := 8#32
  let v52 : BitVec 32 := Scalar.select v27 c0_i32_24 c8_i32
  let c0_i32_11 : BitVec 32 := 0#32
  let v25 : BitVec 1 := Scalar.cmpi .eq v23 c0_i32_11
  let c0_i32_23 : BitVec 32 := 0#32
  let c_m8_i32 : BitVec 32 := 4294967288#32
  let v51 : BitVec 32 := Scalar.select v25 c0_i32_23 c_m8_i32
  let v56 : BitVec 32 := Scalar.maxsi v51 c_m4_i32
  let v57 : BitVec 32 := Scalar.minsi v52 v56
  let v58 : BitVec 32 := Scalar.addi v50 v57
  let v60 : BitVec 32 := Scalar.subi v59 v58
  let v77 : Index := Scalar.indexCast v60
  let c0_33 : Index := 0#32
  let c0_34 : Index := 0#32
  ![v77.toNat, 0, 0]
def k0_off2_at (r : Fin 8) : BitVec 32 × BitVec 32 :=
  if r.val < 4 then
    if r.val < 2 then
      if r.val < 1 then
        (0#32, 4294967292#32)
      else
        (1#32, 4294967293#32)
    else
      if r.val < 3 then
        (2#32, 4294967294#32)
      else
        (3#32, 4294967295#32)
  else
    if r.val < 6 then
      if r.val < 5 then
        (4#32, 0#32)
      else
        (5#32, 1#32)
    else
      if r.val < 7 then
        (6#32, 2#32)
      else
        (7#32, 3#32)
def k0_off3 (i : grid0.Coords) (c_m4_i32 : BitVec 32) : Fin 2 → Nat :=
  let arg0 : BitVec 32 := BitVec.ofNat 32 (i 0).val
  let c512_i32_13 : BitVec 32 := 512#32
  let v28 : BitVec 32 := Scalar.muli arg0 c512_i32_13
  let c125_i32 : BitVec 32 := 125#32
  let c0_i32_15 : BitVec 32 := 0#32
  let c1_i32_14 : BitVec 32 := 1#32
  let v29 : BitVec 32 := Scalar.subi arg0 c1_i32_14
  let v30 : BitVec 32 := Scalar.maxsi c0_i32_15 v29
  let v31 : BitVec 32 := Scalar.minsi c125_i32 v30
  let c512_i32_16 : BitVec 32 := 512#32
  let v32 : BitVec 32 := Scalar.muli v31 c512_i32_16
  let v33 : BitVec 32 := Scalar.subi v28 v32
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c64_i32 : BitVec 32 := 64#32
  let c0_i32_19 : BitVec 32 := 0#32
  let v40 : BitVec 1 := Scalar.cmpi .sgt c64_i32 c0_i32_19
  let v41 : BitVec 32 := Scalar.extui v40
  let c0_i32_20 : BitVec 32 := 0#32
  let v42 : BitVec 1 := Scalar.cmpi .slt c64_i32 c0_i32_20
  let v43 : BitVec 32 := Scalar.extui v42
  let v44 : BitVec 32 := Scalar.subi v41 v43
  let v45 : BitVec 1 := Scalar.cmpi .ne v39 v44
  let v46 : BitVec 32 := Scalar.remsi v33 c64_i32
  let c0_i32_21 : BitVec 32 := 0#32
  let v47 : BitVec 1 := Scalar.cmpi .ne v46 c0_i32_21
  let v48 : BitVec 1 := Scalar.andi v45 v47
  let v34 : BitVec 32 := Scalar.divsi v33 c64_i32
  let c1_i32_22 : BitVec 32 := 1#32
  let v49 : BitVec 32 := Scalar.subi v34 c1_i32_22
  let v50 : BitVec 32 := Scalar.select v48 v49 v34
  let c512_i32 : BitVec 32 := 512#32
  let v0 : BitVec 32 := Scalar.muli arg0 c512_i32
  let c32768_i32 : BitVec 32 := 32768#32
  let v1 : BitVec 1 := Scalar.cmpi .slt v0 c32768_i32
  let c16384_i32 : BitVec 32 := 16384#32
  let c0_i32 : BitVec 32 := 0#32
  let v2 : BitVec 1 := Scalar.cmpi .eq c16384_i32 c0_i32
  let c1_i32 : BitVec 32 := 1#32
  let v3 : BitVec 32 := Scalar.select v2 c1_i32 c16384_i32
  let v4 : BitVec 32 := Scalar.remsi v0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c32768_i32_3 : BitVec 32 := 32768#32
  let v12 : BitVec 32 := Scalar.subi v0 c32768_i32_3
  let c8192_i32 : BitVec 32 := 8192#32
  let c0_i32_4 : BitVec 32 := 0#32
  let v13 : BitVec 1 := Scalar.cmpi .eq c8192_i32 c0_i32_4
  let c1_i32_5 : BitVec 32 := 1#32
  let v14 : BitVec 32 := Scalar.select v13 c1_i32_5 c8192_i32
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let v23 : BitVec 32 := Scalar.select v1 v11 v22
  let c512_i32_12 : BitVec 32 := 512#32
  let v26 : BitVec 32 := Scalar.addi v23 c512_i32_12
  let c16384_i32_9 : BitVec 32 := 16384#32
  let c8192_i32_10 : BitVec 32 := 8192#32
  let v24 : BitVec 32 := Scalar.select v1 c16384_i32_9 c8192_i32_10
  let v27 : BitVec 1 := Scalar.cmpi .eq v26 v24
  let c0_i32_24 : BitVec 32 := 0#32
  let c8_i32 : BitVec 32 := 8#32
  let v52 : BitVec 32 := Scalar.select v27 c0_i32_24 c8_i32
  let c0_i32_11 : BitVec 32 := 0#32
  let v25 : BitVec 1 := Scalar.cmpi .eq v23 c0_i32_11
  let c0_i32_23 : BitVec 32 := 0#32
  let c_m8_i32 : BitVec 32 := 4294967288#32
  let v51 : BitVec 32 := Scalar.select v25 c0_i32_23 c_m8_i32
  let v56 : BitVec 32 := Scalar.maxsi v51 c_m4_i32
  let v57 : BitVec 32 := Scalar.minsi v52 v56
  let v58 : BitVec 32 := Scalar.addi v50 v57
  let c64_i32_27 : BitVec 32 := 64#32
  let v61 : BitVec 32 := Scalar.muli v58 c64_i32_27
  let v62 : BitVec 32 := v61
  let v91 : Index := Scalar.indexCast v62
  let c128 : Index := 128#32
  ![v91.toNat, 128]
def k0_off3_at (r : Fin 8) : BitVec 32 :=
  if r.val < 4 then
    if r.val < 2 then
      if r.val < 1 then
        4294967292#32
      else
        4294967293#32
    else
      if r.val < 3 then
        4294967294#32
      else
        4294967295#32
  else
    if r.val < 6 then
      if r.val < 5 then
        0#32
      else
        1#32
    else
      if r.val < 7 then
        2#32
      else
        3#32
def k0_off4 (i : grid0.Coords) (c0_i32_26 : BitVec 32) (c_m4_i32 : BitVec 32) : Fin 3 → Nat :=
  let arg0 : BitVec 32 := BitVec.ofNat 32 (i 0).val
  let c512_i32_13 : BitVec 32 := 512#32
  let v28 : BitVec 32 := Scalar.muli arg0 c512_i32_13
  let c125_i32 : BitVec 32 := 125#32
  let c0_i32_15 : BitVec 32 := 0#32
  let c1_i32_14 : BitVec 32 := 1#32
  let v29 : BitVec 32 := Scalar.subi arg0 c1_i32_14
  let v30 : BitVec 32 := Scalar.maxsi c0_i32_15 v29
  let v31 : BitVec 32 := Scalar.minsi c125_i32 v30
  let c512_i32_16 : BitVec 32 := 512#32
  let v32 : BitVec 32 := Scalar.muli v31 c512_i32_16
  let v33 : BitVec 32 := Scalar.subi v28 v32
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c64_i32 : BitVec 32 := 64#32
  let c0_i32_19 : BitVec 32 := 0#32
  let v40 : BitVec 1 := Scalar.cmpi .sgt c64_i32 c0_i32_19
  let v41 : BitVec 32 := Scalar.extui v40
  let c0_i32_20 : BitVec 32 := 0#32
  let v42 : BitVec 1 := Scalar.cmpi .slt c64_i32 c0_i32_20
  let v43 : BitVec 32 := Scalar.extui v42
  let v44 : BitVec 32 := Scalar.subi v41 v43
  let v45 : BitVec 1 := Scalar.cmpi .ne v39 v44
  let v46 : BitVec 32 := Scalar.remsi v33 c64_i32
  let c0_i32_21 : BitVec 32 := 0#32
  let v47 : BitVec 1 := Scalar.cmpi .ne v46 c0_i32_21
  let v48 : BitVec 1 := Scalar.andi v45 v47
  let v34 : BitVec 32 := Scalar.divsi v33 c64_i32
  let c1_i32_22 : BitVec 32 := 1#32
  let v49 : BitVec 32 := Scalar.subi v34 c1_i32_22
  let v50 : BitVec 32 := Scalar.select v48 v49 v34
  let v59 : BitVec 32 := Scalar.addi v50 c0_i32_26
  let c512_i32 : BitVec 32 := 512#32
  let v0 : BitVec 32 := Scalar.muli arg0 c512_i32
  let c32768_i32 : BitVec 32 := 32768#32
  let v1 : BitVec 1 := Scalar.cmpi .slt v0 c32768_i32
  let c16384_i32 : BitVec 32 := 16384#32
  let c0_i32 : BitVec 32 := 0#32
  let v2 : BitVec 1 := Scalar.cmpi .eq c16384_i32 c0_i32
  let c1_i32 : BitVec 32 := 1#32
  let v3 : BitVec 32 := Scalar.select v2 c1_i32 c16384_i32
  let v4 : BitVec 32 := Scalar.remsi v0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c32768_i32_3 : BitVec 32 := 32768#32
  let v12 : BitVec 32 := Scalar.subi v0 c32768_i32_3
  let c8192_i32 : BitVec 32 := 8192#32
  let c0_i32_4 : BitVec 32 := 0#32
  let v13 : BitVec 1 := Scalar.cmpi .eq c8192_i32 c0_i32_4
  let c1_i32_5 : BitVec 32 := 1#32
  let v14 : BitVec 32 := Scalar.select v13 c1_i32_5 c8192_i32
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let v23 : BitVec 32 := Scalar.select v1 v11 v22
  let c512_i32_12 : BitVec 32 := 512#32
  let v26 : BitVec 32 := Scalar.addi v23 c512_i32_12
  let c16384_i32_9 : BitVec 32 := 16384#32
  let c8192_i32_10 : BitVec 32 := 8192#32
  let v24 : BitVec 32 := Scalar.select v1 c16384_i32_9 c8192_i32_10
  let v27 : BitVec 1 := Scalar.cmpi .eq v26 v24
  let c0_i32_24 : BitVec 32 := 0#32
  let c8_i32 : BitVec 32 := 8#32
  let v52 : BitVec 32 := Scalar.select v27 c0_i32_24 c8_i32
  let c0_i32_11 : BitVec 32 := 0#32
  let v25 : BitVec 1 := Scalar.cmpi .eq v23 c0_i32_11
  let c0_i32_23 : BitVec 32 := 0#32
  let c_m8_i32 : BitVec 32 := 4294967288#32
  let v51 : BitVec 32 := Scalar.select v25 c0_i32_23 c_m8_i32
  let v56 : BitVec 32 := Scalar.maxsi v51 c_m4_i32
  let v57 : BitVec 32 := Scalar.minsi v52 v56
  let v58 : BitVec 32 := Scalar.addi v50 v57
  let v60 : BitVec 32 := Scalar.subi v59 v58
  let v94 : Index := Scalar.indexCast v60
  let c128_41 : Index := 128#32
  let c0_42 : Index := 0#32
  ![v94.toNat, 128, 0]
def k0_off4_at (r : Fin 8) : BitVec 32 × BitVec 32 :=
  if r.val < 4 then
    if r.val < 2 then
      if r.val < 1 then
        (0#32, 4294967292#32)
      else
        (1#32, 4294967293#32)
    else
      if r.val < 3 then
        (2#32, 4294967294#32)
      else
        (3#32, 4294967295#32)
  else
    if r.val < 6 then
      if r.val < 5 then
        (4#32, 0#32)
      else
        (5#32, 1#32)
    else
      if r.val < 7 then
        (6#32, 2#32)
      else
        (7#32, 3#32)
def k0_off5 (i : grid0.Coords) (c_m4_i32 : BitVec 32) : Fin 2 → Nat :=
  let arg0 : BitVec 32 := BitVec.ofNat 32 (i 0).val
  let c512_i32_13 : BitVec 32 := 512#32
  let v28 : BitVec 32 := Scalar.muli arg0 c512_i32_13
  let c125_i32 : BitVec 32 := 125#32
  let c0_i32_15 : BitVec 32 := 0#32
  let c1_i32_14 : BitVec 32 := 1#32
  let v29 : BitVec 32 := Scalar.subi arg0 c1_i32_14
  let v30 : BitVec 32 := Scalar.maxsi c0_i32_15 v29
  let v31 : BitVec 32 := Scalar.minsi c125_i32 v30
  let c512_i32_16 : BitVec 32 := 512#32
  let v32 : BitVec 32 := Scalar.muli v31 c512_i32_16
  let v33 : BitVec 32 := Scalar.subi v28 v32
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c64_i32 : BitVec 32 := 64#32
  let c0_i32_19 : BitVec 32 := 0#32
  let v40 : BitVec 1 := Scalar.cmpi .sgt c64_i32 c0_i32_19
  let v41 : BitVec 32 := Scalar.extui v40
  let c0_i32_20 : BitVec 32 := 0#32
  let v42 : BitVec 1 := Scalar.cmpi .slt c64_i32 c0_i32_20
  let v43 : BitVec 32 := Scalar.extui v42
  let v44 : BitVec 32 := Scalar.subi v41 v43
  let v45 : BitVec 1 := Scalar.cmpi .ne v39 v44
  let v46 : BitVec 32 := Scalar.remsi v33 c64_i32
  let c0_i32_21 : BitVec 32 := 0#32
  let v47 : BitVec 1 := Scalar.cmpi .ne v46 c0_i32_21
  let v48 : BitVec 1 := Scalar.andi v45 v47
  let v34 : BitVec 32 := Scalar.divsi v33 c64_i32
  let c1_i32_22 : BitVec 32 := 1#32
  let v49 : BitVec 32 := Scalar.subi v34 c1_i32_22
  let v50 : BitVec 32 := Scalar.select v48 v49 v34
  let c512_i32 : BitVec 32 := 512#32
  let v0 : BitVec 32 := Scalar.muli arg0 c512_i32
  let c32768_i32 : BitVec 32 := 32768#32
  let v1 : BitVec 1 := Scalar.cmpi .slt v0 c32768_i32
  let c16384_i32 : BitVec 32 := 16384#32
  let c0_i32 : BitVec 32 := 0#32
  let v2 : BitVec 1 := Scalar.cmpi .eq c16384_i32 c0_i32
  let c1_i32 : BitVec 32 := 1#32
  let v3 : BitVec 32 := Scalar.select v2 c1_i32 c16384_i32
  let v4 : BitVec 32 := Scalar.remsi v0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c32768_i32_3 : BitVec 32 := 32768#32
  let v12 : BitVec 32 := Scalar.subi v0 c32768_i32_3
  let c8192_i32 : BitVec 32 := 8192#32
  let c0_i32_4 : BitVec 32 := 0#32
  let v13 : BitVec 1 := Scalar.cmpi .eq c8192_i32 c0_i32_4
  let c1_i32_5 : BitVec 32 := 1#32
  let v14 : BitVec 32 := Scalar.select v13 c1_i32_5 c8192_i32
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let v23 : BitVec 32 := Scalar.select v1 v11 v22
  let c512_i32_12 : BitVec 32 := 512#32
  let v26 : BitVec 32 := Scalar.addi v23 c512_i32_12
  let c16384_i32_9 : BitVec 32 := 16384#32
  let c8192_i32_10 : BitVec 32 := 8192#32
  let v24 : BitVec 32 := Scalar.select v1 c16384_i32_9 c8192_i32_10
  let v27 : BitVec 1 := Scalar.cmpi .eq v26 v24
  let c0_i32_24 : BitVec 32 := 0#32
  let c8_i32 : BitVec 32 := 8#32
  let v52 : BitVec 32 := Scalar.select v27 c0_i32_24 c8_i32
  let c0_i32_11 : BitVec 32 := 0#32
  let v25 : BitVec 1 := Scalar.cmpi .eq v23 c0_i32_11
  let c0_i32_23 : BitVec 32 := 0#32
  let c_m8_i32 : BitVec 32 := 4294967288#32
  let v51 : BitVec 32 := Scalar.select v25 c0_i32_23 c_m8_i32
  let v56 : BitVec 32 := Scalar.maxsi v51 c_m4_i32
  let v57 : BitVec 32 := Scalar.minsi v52 v56
  let v58 : BitVec 32 := Scalar.addi v50 v57
  let c64_i32_27 : BitVec 32 := 64#32
  let v61 : BitVec 32 := Scalar.muli v58 c64_i32_27
  let v62 : BitVec 32 := v61
  let v108 : Index := Scalar.indexCast v62
  let c256 : Index := 256#32
  ![v108.toNat, 256]
def k0_off5_at (r : Fin 8) : BitVec 32 :=
  if r.val < 4 then
    if r.val < 2 then
      if r.val < 1 then
        4294967292#32
      else
        4294967293#32
    else
      if r.val < 3 then
        4294967294#32
      else
        4294967295#32
  else
    if r.val < 6 then
      if r.val < 5 then
        0#32
      else
        1#32
    else
      if r.val < 7 then
        2#32
      else
        3#32
def k0_off6 (i : grid0.Coords) (c0_i32_26 : BitVec 32) (c_m4_i32 : BitVec 32) : Fin 3 → Nat :=
  let arg0 : BitVec 32 := BitVec.ofNat 32 (i 0).val
  let c512_i32_13 : BitVec 32 := 512#32
  let v28 : BitVec 32 := Scalar.muli arg0 c512_i32_13
  let c125_i32 : BitVec 32 := 125#32
  let c0_i32_15 : BitVec 32 := 0#32
  let c1_i32_14 : BitVec 32 := 1#32
  let v29 : BitVec 32 := Scalar.subi arg0 c1_i32_14
  let v30 : BitVec 32 := Scalar.maxsi c0_i32_15 v29
  let v31 : BitVec 32 := Scalar.minsi c125_i32 v30
  let c512_i32_16 : BitVec 32 := 512#32
  let v32 : BitVec 32 := Scalar.muli v31 c512_i32_16
  let v33 : BitVec 32 := Scalar.subi v28 v32
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c64_i32 : BitVec 32 := 64#32
  let c0_i32_19 : BitVec 32 := 0#32
  let v40 : BitVec 1 := Scalar.cmpi .sgt c64_i32 c0_i32_19
  let v41 : BitVec 32 := Scalar.extui v40
  let c0_i32_20 : BitVec 32 := 0#32
  let v42 : BitVec 1 := Scalar.cmpi .slt c64_i32 c0_i32_20
  let v43 : BitVec 32 := Scalar.extui v42
  let v44 : BitVec 32 := Scalar.subi v41 v43
  let v45 : BitVec 1 := Scalar.cmpi .ne v39 v44
  let v46 : BitVec 32 := Scalar.remsi v33 c64_i32
  let c0_i32_21 : BitVec 32 := 0#32
  let v47 : BitVec 1 := Scalar.cmpi .ne v46 c0_i32_21
  let v48 : BitVec 1 := Scalar.andi v45 v47
  let v34 : BitVec 32 := Scalar.divsi v33 c64_i32
  let c1_i32_22 : BitVec 32 := 1#32
  let v49 : BitVec 32 := Scalar.subi v34 c1_i32_22
  let v50 : BitVec 32 := Scalar.select v48 v49 v34
  let v59 : BitVec 32 := Scalar.addi v50 c0_i32_26
  let c512_i32 : BitVec 32 := 512#32
  let v0 : BitVec 32 := Scalar.muli arg0 c512_i32
  let c32768_i32 : BitVec 32 := 32768#32
  let v1 : BitVec 1 := Scalar.cmpi .slt v0 c32768_i32
  let c16384_i32 : BitVec 32 := 16384#32
  let c0_i32 : BitVec 32 := 0#32
  let v2 : BitVec 1 := Scalar.cmpi .eq c16384_i32 c0_i32
  let c1_i32 : BitVec 32 := 1#32
  let v3 : BitVec 32 := Scalar.select v2 c1_i32 c16384_i32
  let v4 : BitVec 32 := Scalar.remsi v0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c32768_i32_3 : BitVec 32 := 32768#32
  let v12 : BitVec 32 := Scalar.subi v0 c32768_i32_3
  let c8192_i32 : BitVec 32 := 8192#32
  let c0_i32_4 : BitVec 32 := 0#32
  let v13 : BitVec 1 := Scalar.cmpi .eq c8192_i32 c0_i32_4
  let c1_i32_5 : BitVec 32 := 1#32
  let v14 : BitVec 32 := Scalar.select v13 c1_i32_5 c8192_i32
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let v23 : BitVec 32 := Scalar.select v1 v11 v22
  let c512_i32_12 : BitVec 32 := 512#32
  let v26 : BitVec 32 := Scalar.addi v23 c512_i32_12
  let c16384_i32_9 : BitVec 32 := 16384#32
  let c8192_i32_10 : BitVec 32 := 8192#32
  let v24 : BitVec 32 := Scalar.select v1 c16384_i32_9 c8192_i32_10
  let v27 : BitVec 1 := Scalar.cmpi .eq v26 v24
  let c0_i32_24 : BitVec 32 := 0#32
  let c8_i32 : BitVec 32 := 8#32
  let v52 : BitVec 32 := Scalar.select v27 c0_i32_24 c8_i32
  let c0_i32_11 : BitVec 32 := 0#32
  let v25 : BitVec 1 := Scalar.cmpi .eq v23 c0_i32_11
  let c0_i32_23 : BitVec 32 := 0#32
  let c_m8_i32 : BitVec 32 := 4294967288#32
  let v51 : BitVec 32 := Scalar.select v25 c0_i32_23 c_m8_i32
  let v56 : BitVec 32 := Scalar.maxsi v51 c_m4_i32
  let v57 : BitVec 32 := Scalar.minsi v52 v56
  let v58 : BitVec 32 := Scalar.addi v50 v57
  let v60 : BitVec 32 := Scalar.subi v59 v58
  let v111 : Index := Scalar.indexCast v60
  let c256_49 : Index := 256#32
  let c0_50 : Index := 0#32
  ![v111.toNat, 256, 0]
def k0_off6_at (r : Fin 8) : BitVec 32 × BitVec 32 :=
  if r.val < 4 then
    if r.val < 2 then
      if r.val < 1 then
        (0#32, 4294967292#32)
      else
        (1#32, 4294967293#32)
    else
      if r.val < 3 then
        (2#32, 4294967294#32)
      else
        (3#32, 4294967295#32)
  else
    if r.val < 6 then
      if r.val < 5 then
        (4#32, 0#32)
      else
        (5#32, 1#32)
    else
      if r.val < 7 then
        (6#32, 2#32)
      else
        (7#32, 3#32)
def k0_off7 (i : grid0.Coords) (c_m4_i32 : BitVec 32) : Fin 2 → Nat :=
  let arg0 : BitVec 32 := BitVec.ofNat 32 (i 0).val
  let c512_i32_13 : BitVec 32 := 512#32
  let v28 : BitVec 32 := Scalar.muli arg0 c512_i32_13
  let c125_i32 : BitVec 32 := 125#32
  let c0_i32_15 : BitVec 32 := 0#32
  let c1_i32_14 : BitVec 32 := 1#32
  let v29 : BitVec 32 := Scalar.subi arg0 c1_i32_14
  let v30 : BitVec 32 := Scalar.maxsi c0_i32_15 v29
  let v31 : BitVec 32 := Scalar.minsi c125_i32 v30
  let c512_i32_16 : BitVec 32 := 512#32
  let v32 : BitVec 32 := Scalar.muli v31 c512_i32_16
  let v33 : BitVec 32 := Scalar.subi v28 v32
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c64_i32 : BitVec 32 := 64#32
  let c0_i32_19 : BitVec 32 := 0#32
  let v40 : BitVec 1 := Scalar.cmpi .sgt c64_i32 c0_i32_19
  let v41 : BitVec 32 := Scalar.extui v40
  let c0_i32_20 : BitVec 32 := 0#32
  let v42 : BitVec 1 := Scalar.cmpi .slt c64_i32 c0_i32_20
  let v43 : BitVec 32 := Scalar.extui v42
  let v44 : BitVec 32 := Scalar.subi v41 v43
  let v45 : BitVec 1 := Scalar.cmpi .ne v39 v44
  let v46 : BitVec 32 := Scalar.remsi v33 c64_i32
  let c0_i32_21 : BitVec 32 := 0#32
  let v47 : BitVec 1 := Scalar.cmpi .ne v46 c0_i32_21
  let v48 : BitVec 1 := Scalar.andi v45 v47
  let v34 : BitVec 32 := Scalar.divsi v33 c64_i32
  let c1_i32_22 : BitVec 32 := 1#32
  let v49 : BitVec 32 := Scalar.subi v34 c1_i32_22
  let v50 : BitVec 32 := Scalar.select v48 v49 v34
  let c512_i32 : BitVec 32 := 512#32
  let v0 : BitVec 32 := Scalar.muli arg0 c512_i32
  let c32768_i32 : BitVec 32 := 32768#32
  let v1 : BitVec 1 := Scalar.cmpi .slt v0 c32768_i32
  let c16384_i32 : BitVec 32 := 16384#32
  let c0_i32 : BitVec 32 := 0#32
  let v2 : BitVec 1 := Scalar.cmpi .eq c16384_i32 c0_i32
  let c1_i32 : BitVec 32 := 1#32
  let v3 : BitVec 32 := Scalar.select v2 c1_i32 c16384_i32
  let v4 : BitVec 32 := Scalar.remsi v0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c32768_i32_3 : BitVec 32 := 32768#32
  let v12 : BitVec 32 := Scalar.subi v0 c32768_i32_3
  let c8192_i32 : BitVec 32 := 8192#32
  let c0_i32_4 : BitVec 32 := 0#32
  let v13 : BitVec 1 := Scalar.cmpi .eq c8192_i32 c0_i32_4
  let c1_i32_5 : BitVec 32 := 1#32
  let v14 : BitVec 32 := Scalar.select v13 c1_i32_5 c8192_i32
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let v23 : BitVec 32 := Scalar.select v1 v11 v22
  let c512_i32_12 : BitVec 32 := 512#32
  let v26 : BitVec 32 := Scalar.addi v23 c512_i32_12
  let c16384_i32_9 : BitVec 32 := 16384#32
  let c8192_i32_10 : BitVec 32 := 8192#32
  let v24 : BitVec 32 := Scalar.select v1 c16384_i32_9 c8192_i32_10
  let v27 : BitVec 1 := Scalar.cmpi .eq v26 v24
  let c0_i32_24 : BitVec 32 := 0#32
  let c8_i32 : BitVec 32 := 8#32
  let v52 : BitVec 32 := Scalar.select v27 c0_i32_24 c8_i32
  let c0_i32_11 : BitVec 32 := 0#32
  let v25 : BitVec 1 := Scalar.cmpi .eq v23 c0_i32_11
  let c0_i32_23 : BitVec 32 := 0#32
  let c_m8_i32 : BitVec 32 := 4294967288#32
  let v51 : BitVec 32 := Scalar.select v25 c0_i32_23 c_m8_i32
  let v56 : BitVec 32 := Scalar.maxsi v51 c_m4_i32
  let v57 : BitVec 32 := Scalar.minsi v52 v56
  let v58 : BitVec 32 := Scalar.addi v50 v57
  let c64_i32_27 : BitVec 32 := 64#32
  let v61 : BitVec 32 := Scalar.muli v58 c64_i32_27
  let v62 : BitVec 32 := v61
  let v125 : Index := Scalar.indexCast v62
  let c384 : Index := 384#32
  ![v125.toNat, 384]
def k0_off7_at (r : Fin 8) : BitVec 32 :=
  if r.val < 4 then
    if r.val < 2 then
      if r.val < 1 then
        4294967292#32
      else
        4294967293#32
    else
      if r.val < 3 then
        4294967294#32
      else
        4294967295#32
  else
    if r.val < 6 then
      if r.val < 5 then
        0#32
      else
        1#32
    else
      if r.val < 7 then
        2#32
      else
        3#32
def k0_off8 (i : grid0.Coords) (c0_i32_26 : BitVec 32) (c_m4_i32 : BitVec 32) : Fin 3 → Nat :=
  let arg0 : BitVec 32 := BitVec.ofNat 32 (i 0).val
  let c512_i32_13 : BitVec 32 := 512#32
  let v28 : BitVec 32 := Scalar.muli arg0 c512_i32_13
  let c125_i32 : BitVec 32 := 125#32
  let c0_i32_15 : BitVec 32 := 0#32
  let c1_i32_14 : BitVec 32 := 1#32
  let v29 : BitVec 32 := Scalar.subi arg0 c1_i32_14
  let v30 : BitVec 32 := Scalar.maxsi c0_i32_15 v29
  let v31 : BitVec 32 := Scalar.minsi c125_i32 v30
  let c512_i32_16 : BitVec 32 := 512#32
  let v32 : BitVec 32 := Scalar.muli v31 c512_i32_16
  let v33 : BitVec 32 := Scalar.subi v28 v32
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c64_i32 : BitVec 32 := 64#32
  let c0_i32_19 : BitVec 32 := 0#32
  let v40 : BitVec 1 := Scalar.cmpi .sgt c64_i32 c0_i32_19
  let v41 : BitVec 32 := Scalar.extui v40
  let c0_i32_20 : BitVec 32 := 0#32
  let v42 : BitVec 1 := Scalar.cmpi .slt c64_i32 c0_i32_20
  let v43 : BitVec 32 := Scalar.extui v42
  let v44 : BitVec 32 := Scalar.subi v41 v43
  let v45 : BitVec 1 := Scalar.cmpi .ne v39 v44
  let v46 : BitVec 32 := Scalar.remsi v33 c64_i32
  let c0_i32_21 : BitVec 32 := 0#32
  let v47 : BitVec 1 := Scalar.cmpi .ne v46 c0_i32_21
  let v48 : BitVec 1 := Scalar.andi v45 v47
  let v34 : BitVec 32 := Scalar.divsi v33 c64_i32
  let c1_i32_22 : BitVec 32 := 1#32
  let v49 : BitVec 32 := Scalar.subi v34 c1_i32_22
  let v50 : BitVec 32 := Scalar.select v48 v49 v34
  let v59 : BitVec 32 := Scalar.addi v50 c0_i32_26
  let c512_i32 : BitVec 32 := 512#32
  let v0 : BitVec 32 := Scalar.muli arg0 c512_i32
  let c32768_i32 : BitVec 32 := 32768#32
  let v1 : BitVec 1 := Scalar.cmpi .slt v0 c32768_i32
  let c16384_i32 : BitVec 32 := 16384#32
  let c0_i32 : BitVec 32 := 0#32
  let v2 : BitVec 1 := Scalar.cmpi .eq c16384_i32 c0_i32
  let c1_i32 : BitVec 32 := 1#32
  let v3 : BitVec 32 := Scalar.select v2 c1_i32 c16384_i32
  let v4 : BitVec 32 := Scalar.remsi v0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c32768_i32_3 : BitVec 32 := 32768#32
  let v12 : BitVec 32 := Scalar.subi v0 c32768_i32_3
  let c8192_i32 : BitVec 32 := 8192#32
  let c0_i32_4 : BitVec 32 := 0#32
  let v13 : BitVec 1 := Scalar.cmpi .eq c8192_i32 c0_i32_4
  let c1_i32_5 : BitVec 32 := 1#32
  let v14 : BitVec 32 := Scalar.select v13 c1_i32_5 c8192_i32
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let v23 : BitVec 32 := Scalar.select v1 v11 v22
  let c512_i32_12 : BitVec 32 := 512#32
  let v26 : BitVec 32 := Scalar.addi v23 c512_i32_12
  let c16384_i32_9 : BitVec 32 := 16384#32
  let c8192_i32_10 : BitVec 32 := 8192#32
  let v24 : BitVec 32 := Scalar.select v1 c16384_i32_9 c8192_i32_10
  let v27 : BitVec 1 := Scalar.cmpi .eq v26 v24
  let c0_i32_24 : BitVec 32 := 0#32
  let c8_i32 : BitVec 32 := 8#32
  let v52 : BitVec 32 := Scalar.select v27 c0_i32_24 c8_i32
  let c0_i32_11 : BitVec 32 := 0#32
  let v25 : BitVec 1 := Scalar.cmpi .eq v23 c0_i32_11
  let c0_i32_23 : BitVec 32 := 0#32
  let c_m8_i32 : BitVec 32 := 4294967288#32
  let v51 : BitVec 32 := Scalar.select v25 c0_i32_23 c_m8_i32
  let v56 : BitVec 32 := Scalar.maxsi v51 c_m4_i32
  let v57 : BitVec 32 := Scalar.minsi v52 v56
  let v58 : BitVec 32 := Scalar.addi v50 v57
  let v60 : BitVec 32 := Scalar.subi v59 v58
  let v128 : Index := Scalar.indexCast v60
  let c384_57 : Index := 384#32
  let c0_58 : Index := 0#32
  ![v128.toNat, 384, 0]
def k0_off8_at (r : Fin 8) : BitVec 32 × BitVec 32 :=
  if r.val < 4 then
    if r.val < 2 then
      if r.val < 1 then
        (0#32, 4294967292#32)
      else
        (1#32, 4294967293#32)
    else
      if r.val < 3 then
        (2#32, 4294967294#32)
      else
        (3#32, 4294967295#32)
  else
    if r.val < 6 then
      if r.val < 5 then
        (4#32, 0#32)
      else
        (5#32, 1#32)
    else
      if r.val < 7 then
        (6#32, 2#32)
      else
        (7#32, 3#32)
def k0_mult2 (i : grid0.Coords) : BitVec 32 :=
  let arg0 : BitVec 32 := BitVec.ofNat 32 (i 0).val
  let c512_i32_13 : BitVec 32 := 512#32
  let v28 : BitVec 32 := Scalar.muli arg0 c512_i32_13
  let c125_i32 : BitVec 32 := 125#32
  let c0_i32_15 : BitVec 32 := 0#32
  let c1_i32_14 : BitVec 32 := 1#32
  let v29 : BitVec 32 := Scalar.subi arg0 c1_i32_14
  let v30 : BitVec 32 := Scalar.maxsi c0_i32_15 v29
  let v31 : BitVec 32 := Scalar.minsi c125_i32 v30
  let c512_i32_16 : BitVec 32 := 512#32
  let v32 : BitVec 32 := Scalar.muli v31 c512_i32_16
  let v33 : BitVec 32 := Scalar.subi v28 v32
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c64_i32 : BitVec 32 := 64#32
  let c0_i32_19 : BitVec 32 := 0#32
  let v40 : BitVec 1 := Scalar.cmpi .sgt c64_i32 c0_i32_19
  let v41 : BitVec 32 := Scalar.extui v40
  let c0_i32_20 : BitVec 32 := 0#32
  let v42 : BitVec 1 := Scalar.cmpi .slt c64_i32 c0_i32_20
  let v43 : BitVec 32 := Scalar.extui v42
  let v44 : BitVec 32 := Scalar.subi v41 v43
  let v45 : BitVec 1 := Scalar.cmpi .ne v39 v44
  let v46 : BitVec 32 := Scalar.remsi v33 c64_i32
  let c0_i32_21 : BitVec 32 := 0#32
  let v47 : BitVec 1 := Scalar.cmpi .ne v46 c0_i32_21
  let v48 : BitVec 1 := Scalar.andi v45 v47
  let v34 : BitVec 32 := Scalar.divsi v33 c64_i32
  let c1_i32_22 : BitVec 32 := 1#32
  let v49 : BitVec 32 := Scalar.subi v34 c1_i32_22
  let v50 : BitVec 32 := Scalar.select v48 v49 v34
  let c512_i32 : BitVec 32 := 512#32
  let v0 : BitVec 32 := Scalar.muli arg0 c512_i32
  let c32768_i32 : BitVec 32 := 32768#32
  let v1 : BitVec 1 := Scalar.cmpi .slt v0 c32768_i32
  let c16384_i32 : BitVec 32 := 16384#32
  let c0_i32 : BitVec 32 := 0#32
  let v2 : BitVec 1 := Scalar.cmpi .eq c16384_i32 c0_i32
  let c1_i32 : BitVec 32 := 1#32
  let v3 : BitVec 32 := Scalar.select v2 c1_i32 c16384_i32
  let v4 : BitVec 32 := Scalar.remsi v0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c32768_i32_3 : BitVec 32 := 32768#32
  let v12 : BitVec 32 := Scalar.subi v0 c32768_i32_3
  let c8192_i32 : BitVec 32 := 8192#32
  let c0_i32_4 : BitVec 32 := 0#32
  let v13 : BitVec 1 := Scalar.cmpi .eq c8192_i32 c0_i32_4
  let c1_i32_5 : BitVec 32 := 1#32
  let v14 : BitVec 32 := Scalar.select v13 c1_i32_5 c8192_i32
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let v23 : BitVec 32 := Scalar.select v1 v11 v22
  let c512_i32_12 : BitVec 32 := 512#32
  let v26 : BitVec 32 := Scalar.addi v23 c512_i32_12
  let c16384_i32_9 : BitVec 32 := 16384#32
  let c8192_i32_10 : BitVec 32 := 8192#32
  let v24 : BitVec 32 := Scalar.select v1 c16384_i32_9 c8192_i32_10
  let v27 : BitVec 1 := Scalar.cmpi .eq v26 v24
  let c0_i32_24 : BitVec 32 := 0#32
  let c8_i32 : BitVec 32 := 8#32
  let v52 : BitVec 32 := Scalar.select v27 c0_i32_24 c8_i32
  let c0_i32_11 : BitVec 32 := 0#32
  let v25 : BitVec 1 := Scalar.cmpi .eq v23 c0_i32_11
  let c0_i32_23 : BitVec 32 := 0#32
  let c_m8_i32 : BitVec 32 := 4294967288#32
  let v51 : BitVec 32 := Scalar.select v25 c0_i32_23 c_m8_i32
  let c_m3_i32 : BitVec 32 := 4294967293#32
  let v197 : BitVec 32 := Scalar.maxsi v51 c_m3_i32
  let v198 : BitVec 32 := Scalar.minsi v52 v197
  let v199 : BitVec 32 := Scalar.addi v50 v198
  let c64_i32_94 : BitVec 32 := 64#32
  let v202 : BitVec 32 := Scalar.muli v199 c64_i32_94
  v202
def k0_mult3 (i : grid0.Coords) : BitVec 32 :=
  let arg0 : BitVec 32 := BitVec.ofNat 32 (i 0).val
  let c512_i32_13 : BitVec 32 := 512#32
  let v28 : BitVec 32 := Scalar.muli arg0 c512_i32_13
  let c125_i32 : BitVec 32 := 125#32
  let c0_i32_15 : BitVec 32 := 0#32
  let c1_i32_14 : BitVec 32 := 1#32
  let v29 : BitVec 32 := Scalar.subi arg0 c1_i32_14
  let v30 : BitVec 32 := Scalar.maxsi c0_i32_15 v29
  let v31 : BitVec 32 := Scalar.minsi c125_i32 v30
  let c512_i32_16 : BitVec 32 := 512#32
  let v32 : BitVec 32 := Scalar.muli v31 c512_i32_16
  let v33 : BitVec 32 := Scalar.subi v28 v32
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c64_i32 : BitVec 32 := 64#32
  let c0_i32_19 : BitVec 32 := 0#32
  let v40 : BitVec 1 := Scalar.cmpi .sgt c64_i32 c0_i32_19
  let v41 : BitVec 32 := Scalar.extui v40
  let c0_i32_20 : BitVec 32 := 0#32
  let v42 : BitVec 1 := Scalar.cmpi .slt c64_i32 c0_i32_20
  let v43 : BitVec 32 := Scalar.extui v42
  let v44 : BitVec 32 := Scalar.subi v41 v43
  let v45 : BitVec 1 := Scalar.cmpi .ne v39 v44
  let v46 : BitVec 32 := Scalar.remsi v33 c64_i32
  let c0_i32_21 : BitVec 32 := 0#32
  let v47 : BitVec 1 := Scalar.cmpi .ne v46 c0_i32_21
  let v48 : BitVec 1 := Scalar.andi v45 v47
  let v34 : BitVec 32 := Scalar.divsi v33 c64_i32
  let c1_i32_22 : BitVec 32 := 1#32
  let v49 : BitVec 32 := Scalar.subi v34 c1_i32_22
  let v50 : BitVec 32 := Scalar.select v48 v49 v34
  let c512_i32 : BitVec 32 := 512#32
  let v0 : BitVec 32 := Scalar.muli arg0 c512_i32
  let c32768_i32 : BitVec 32 := 32768#32
  let v1 : BitVec 1 := Scalar.cmpi .slt v0 c32768_i32
  let c16384_i32 : BitVec 32 := 16384#32
  let c0_i32 : BitVec 32 := 0#32
  let v2 : BitVec 1 := Scalar.cmpi .eq c16384_i32 c0_i32
  let c1_i32 : BitVec 32 := 1#32
  let v3 : BitVec 32 := Scalar.select v2 c1_i32 c16384_i32
  let v4 : BitVec 32 := Scalar.remsi v0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c32768_i32_3 : BitVec 32 := 32768#32
  let v12 : BitVec 32 := Scalar.subi v0 c32768_i32_3
  let c8192_i32 : BitVec 32 := 8192#32
  let c0_i32_4 : BitVec 32 := 0#32
  let v13 : BitVec 1 := Scalar.cmpi .eq c8192_i32 c0_i32_4
  let c1_i32_5 : BitVec 32 := 1#32
  let v14 : BitVec 32 := Scalar.select v13 c1_i32_5 c8192_i32
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let v23 : BitVec 32 := Scalar.select v1 v11 v22
  let c512_i32_12 : BitVec 32 := 512#32
  let v26 : BitVec 32 := Scalar.addi v23 c512_i32_12
  let c16384_i32_9 : BitVec 32 := 16384#32
  let c8192_i32_10 : BitVec 32 := 8192#32
  let v24 : BitVec 32 := Scalar.select v1 c16384_i32_9 c8192_i32_10
  let v27 : BitVec 1 := Scalar.cmpi .eq v26 v24
  let c0_i32_24 : BitVec 32 := 0#32
  let c8_i32 : BitVec 32 := 8#32
  let v52 : BitVec 32 := Scalar.select v27 c0_i32_24 c8_i32
  let c0_i32_11 : BitVec 32 := 0#32
  let v25 : BitVec 1 := Scalar.cmpi .eq v23 c0_i32_11
  let c0_i32_23 : BitVec 32 := 0#32
  let c_m8_i32 : BitVec 32 := 4294967288#32
  let v51 : BitVec 32 := Scalar.select v25 c0_i32_23 c_m8_i32
  let c_m2_i32 : BitVec 32 := 4294967294#32
  let v338 : BitVec 32 := Scalar.maxsi v51 c_m2_i32
  let v339 : BitVec 32 := Scalar.minsi v52 v338
  let v340 : BitVec 32 := Scalar.addi v50 v339
  let c64_i32_163 : BitVec 32 := 64#32
  let v343 : BitVec 32 := Scalar.muli v340 c64_i32_163
  v343
def k0_mult4 (i : grid0.Coords) : BitVec 32 :=
  let arg0 : BitVec 32 := BitVec.ofNat 32 (i 0).val
  let c512_i32_13 : BitVec 32 := 512#32
  let v28 : BitVec 32 := Scalar.muli arg0 c512_i32_13
  let c125_i32 : BitVec 32 := 125#32
  let c0_i32_15 : BitVec 32 := 0#32
  let c1_i32_14 : BitVec 32 := 1#32
  let v29 : BitVec 32 := Scalar.subi arg0 c1_i32_14
  let v30 : BitVec 32 := Scalar.maxsi c0_i32_15 v29
  let v31 : BitVec 32 := Scalar.minsi c125_i32 v30
  let c512_i32_16 : BitVec 32 := 512#32
  let v32 : BitVec 32 := Scalar.muli v31 c512_i32_16
  let v33 : BitVec 32 := Scalar.subi v28 v32
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c64_i32 : BitVec 32 := 64#32
  let c0_i32_19 : BitVec 32 := 0#32
  let v40 : BitVec 1 := Scalar.cmpi .sgt c64_i32 c0_i32_19
  let v41 : BitVec 32 := Scalar.extui v40
  let c0_i32_20 : BitVec 32 := 0#32
  let v42 : BitVec 1 := Scalar.cmpi .slt c64_i32 c0_i32_20
  let v43 : BitVec 32 := Scalar.extui v42
  let v44 : BitVec 32 := Scalar.subi v41 v43
  let v45 : BitVec 1 := Scalar.cmpi .ne v39 v44
  let v46 : BitVec 32 := Scalar.remsi v33 c64_i32
  let c0_i32_21 : BitVec 32 := 0#32
  let v47 : BitVec 1 := Scalar.cmpi .ne v46 c0_i32_21
  let v48 : BitVec 1 := Scalar.andi v45 v47
  let v34 : BitVec 32 := Scalar.divsi v33 c64_i32
  let c1_i32_22 : BitVec 32 := 1#32
  let v49 : BitVec 32 := Scalar.subi v34 c1_i32_22
  let v50 : BitVec 32 := Scalar.select v48 v49 v34
  let c512_i32 : BitVec 32 := 512#32
  let v0 : BitVec 32 := Scalar.muli arg0 c512_i32
  let c32768_i32 : BitVec 32 := 32768#32
  let v1 : BitVec 1 := Scalar.cmpi .slt v0 c32768_i32
  let c16384_i32 : BitVec 32 := 16384#32
  let c0_i32 : BitVec 32 := 0#32
  let v2 : BitVec 1 := Scalar.cmpi .eq c16384_i32 c0_i32
  let c1_i32 : BitVec 32 := 1#32
  let v3 : BitVec 32 := Scalar.select v2 c1_i32 c16384_i32
  let v4 : BitVec 32 := Scalar.remsi v0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c32768_i32_3 : BitVec 32 := 32768#32
  let v12 : BitVec 32 := Scalar.subi v0 c32768_i32_3
  let c8192_i32 : BitVec 32 := 8192#32
  let c0_i32_4 : BitVec 32 := 0#32
  let v13 : BitVec 1 := Scalar.cmpi .eq c8192_i32 c0_i32_4
  let c1_i32_5 : BitVec 32 := 1#32
  let v14 : BitVec 32 := Scalar.select v13 c1_i32_5 c8192_i32
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let v23 : BitVec 32 := Scalar.select v1 v11 v22
  let c512_i32_12 : BitVec 32 := 512#32
  let v26 : BitVec 32 := Scalar.addi v23 c512_i32_12
  let c16384_i32_9 : BitVec 32 := 16384#32
  let c8192_i32_10 : BitVec 32 := 8192#32
  let v24 : BitVec 32 := Scalar.select v1 c16384_i32_9 c8192_i32_10
  let v27 : BitVec 1 := Scalar.cmpi .eq v26 v24
  let c0_i32_24 : BitVec 32 := 0#32
  let c8_i32 : BitVec 32 := 8#32
  let v52 : BitVec 32 := Scalar.select v27 c0_i32_24 c8_i32
  let c0_i32_11 : BitVec 32 := 0#32
  let v25 : BitVec 1 := Scalar.cmpi .eq v23 c0_i32_11
  let c0_i32_23 : BitVec 32 := 0#32
  let c_m8_i32 : BitVec 32 := 4294967288#32
  let v51 : BitVec 32 := Scalar.select v25 c0_i32_23 c_m8_i32
  let c_m1_i32 : BitVec 32 := 4294967295#32
  let v479 : BitVec 32 := Scalar.maxsi v51 c_m1_i32
  let v480 : BitVec 32 := Scalar.minsi v52 v479
  let v481 : BitVec 32 := Scalar.addi v50 v480
  let c64_i32_234 : BitVec 32 := 64#32
  let v484 : BitVec 32 := Scalar.muli v481 c64_i32_234
  v484
def k0_mult5 (i : grid0.Coords) : BitVec 32 :=
  let arg0 : BitVec 32 := BitVec.ofNat 32 (i 0).val
  let c512_i32_13 : BitVec 32 := 512#32
  let v28 : BitVec 32 := Scalar.muli arg0 c512_i32_13
  let c125_i32 : BitVec 32 := 125#32
  let c0_i32_15 : BitVec 32 := 0#32
  let c1_i32_14 : BitVec 32 := 1#32
  let v29 : BitVec 32 := Scalar.subi arg0 c1_i32_14
  let v30 : BitVec 32 := Scalar.maxsi c0_i32_15 v29
  let v31 : BitVec 32 := Scalar.minsi c125_i32 v30
  let c512_i32_16 : BitVec 32 := 512#32
  let v32 : BitVec 32 := Scalar.muli v31 c512_i32_16
  let v33 : BitVec 32 := Scalar.subi v28 v32
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c64_i32 : BitVec 32 := 64#32
  let c0_i32_19 : BitVec 32 := 0#32
  let v40 : BitVec 1 := Scalar.cmpi .sgt c64_i32 c0_i32_19
  let v41 : BitVec 32 := Scalar.extui v40
  let c0_i32_20 : BitVec 32 := 0#32
  let v42 : BitVec 1 := Scalar.cmpi .slt c64_i32 c0_i32_20
  let v43 : BitVec 32 := Scalar.extui v42
  let v44 : BitVec 32 := Scalar.subi v41 v43
  let v45 : BitVec 1 := Scalar.cmpi .ne v39 v44
  let v46 : BitVec 32 := Scalar.remsi v33 c64_i32
  let c0_i32_21 : BitVec 32 := 0#32
  let v47 : BitVec 1 := Scalar.cmpi .ne v46 c0_i32_21
  let v48 : BitVec 1 := Scalar.andi v45 v47
  let v34 : BitVec 32 := Scalar.divsi v33 c64_i32
  let c1_i32_22 : BitVec 32 := 1#32
  let v49 : BitVec 32 := Scalar.subi v34 c1_i32_22
  let v50 : BitVec 32 := Scalar.select v48 v49 v34
  let c512_i32 : BitVec 32 := 512#32
  let v0 : BitVec 32 := Scalar.muli arg0 c512_i32
  let c32768_i32 : BitVec 32 := 32768#32
  let v1 : BitVec 1 := Scalar.cmpi .slt v0 c32768_i32
  let c16384_i32 : BitVec 32 := 16384#32
  let c0_i32 : BitVec 32 := 0#32
  let v2 : BitVec 1 := Scalar.cmpi .eq c16384_i32 c0_i32
  let c1_i32 : BitVec 32 := 1#32
  let v3 : BitVec 32 := Scalar.select v2 c1_i32 c16384_i32
  let v4 : BitVec 32 := Scalar.remsi v0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c32768_i32_3 : BitVec 32 := 32768#32
  let v12 : BitVec 32 := Scalar.subi v0 c32768_i32_3
  let c8192_i32 : BitVec 32 := 8192#32
  let c0_i32_4 : BitVec 32 := 0#32
  let v13 : BitVec 1 := Scalar.cmpi .eq c8192_i32 c0_i32_4
  let c1_i32_5 : BitVec 32 := 1#32
  let v14 : BitVec 32 := Scalar.select v13 c1_i32_5 c8192_i32
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let v23 : BitVec 32 := Scalar.select v1 v11 v22
  let c512_i32_12 : BitVec 32 := 512#32
  let v26 : BitVec 32 := Scalar.addi v23 c512_i32_12
  let c16384_i32_9 : BitVec 32 := 16384#32
  let c8192_i32_10 : BitVec 32 := 8192#32
  let v24 : BitVec 32 := Scalar.select v1 c16384_i32_9 c8192_i32_10
  let v27 : BitVec 1 := Scalar.cmpi .eq v26 v24
  let c0_i32_24 : BitVec 32 := 0#32
  let c8_i32 : BitVec 32 := 8#32
  let v52 : BitVec 32 := Scalar.select v27 c0_i32_24 c8_i32
  let c0_i32_11 : BitVec 32 := 0#32
  let v25 : BitVec 1 := Scalar.cmpi .eq v23 c0_i32_11
  let c0_i32_23 : BitVec 32 := 0#32
  let c_m8_i32 : BitVec 32 := 4294967288#32
  let v51 : BitVec 32 := Scalar.select v25 c0_i32_23 c_m8_i32
  let c0_i32_304 : BitVec 32 := 0#32
  let v620 : BitVec 32 := Scalar.maxsi v51 c0_i32_304
  let v621 : BitVec 32 := Scalar.minsi v52 v620
  let v622 : BitVec 32 := Scalar.addi v50 v621
  let c64_i32_305 : BitVec 32 := 64#32
  let v625 : BitVec 32 := Scalar.muli v622 c64_i32_305
  v625
def k0_mult6 (i : grid0.Coords) : BitVec 32 :=
  let arg0 : BitVec 32 := BitVec.ofNat 32 (i 0).val
  let c512_i32_13 : BitVec 32 := 512#32
  let v28 : BitVec 32 := Scalar.muli arg0 c512_i32_13
  let c125_i32 : BitVec 32 := 125#32
  let c0_i32_15 : BitVec 32 := 0#32
  let c1_i32_14 : BitVec 32 := 1#32
  let v29 : BitVec 32 := Scalar.subi arg0 c1_i32_14
  let v30 : BitVec 32 := Scalar.maxsi c0_i32_15 v29
  let v31 : BitVec 32 := Scalar.minsi c125_i32 v30
  let c512_i32_16 : BitVec 32 := 512#32
  let v32 : BitVec 32 := Scalar.muli v31 c512_i32_16
  let v33 : BitVec 32 := Scalar.subi v28 v32
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c64_i32 : BitVec 32 := 64#32
  let c0_i32_19 : BitVec 32 := 0#32
  let v40 : BitVec 1 := Scalar.cmpi .sgt c64_i32 c0_i32_19
  let v41 : BitVec 32 := Scalar.extui v40
  let c0_i32_20 : BitVec 32 := 0#32
  let v42 : BitVec 1 := Scalar.cmpi .slt c64_i32 c0_i32_20
  let v43 : BitVec 32 := Scalar.extui v42
  let v44 : BitVec 32 := Scalar.subi v41 v43
  let v45 : BitVec 1 := Scalar.cmpi .ne v39 v44
  let v46 : BitVec 32 := Scalar.remsi v33 c64_i32
  let c0_i32_21 : BitVec 32 := 0#32
  let v47 : BitVec 1 := Scalar.cmpi .ne v46 c0_i32_21
  let v48 : BitVec 1 := Scalar.andi v45 v47
  let v34 : BitVec 32 := Scalar.divsi v33 c64_i32
  let c1_i32_22 : BitVec 32 := 1#32
  let v49 : BitVec 32 := Scalar.subi v34 c1_i32_22
  let v50 : BitVec 32 := Scalar.select v48 v49 v34
  let c512_i32 : BitVec 32 := 512#32
  let v0 : BitVec 32 := Scalar.muli arg0 c512_i32
  let c32768_i32 : BitVec 32 := 32768#32
  let v1 : BitVec 1 := Scalar.cmpi .slt v0 c32768_i32
  let c16384_i32 : BitVec 32 := 16384#32
  let c0_i32 : BitVec 32 := 0#32
  let v2 : BitVec 1 := Scalar.cmpi .eq c16384_i32 c0_i32
  let c1_i32 : BitVec 32 := 1#32
  let v3 : BitVec 32 := Scalar.select v2 c1_i32 c16384_i32
  let v4 : BitVec 32 := Scalar.remsi v0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c32768_i32_3 : BitVec 32 := 32768#32
  let v12 : BitVec 32 := Scalar.subi v0 c32768_i32_3
  let c8192_i32 : BitVec 32 := 8192#32
  let c0_i32_4 : BitVec 32 := 0#32
  let v13 : BitVec 1 := Scalar.cmpi .eq c8192_i32 c0_i32_4
  let c1_i32_5 : BitVec 32 := 1#32
  let v14 : BitVec 32 := Scalar.select v13 c1_i32_5 c8192_i32
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let v23 : BitVec 32 := Scalar.select v1 v11 v22
  let c512_i32_12 : BitVec 32 := 512#32
  let v26 : BitVec 32 := Scalar.addi v23 c512_i32_12
  let c16384_i32_9 : BitVec 32 := 16384#32
  let c8192_i32_10 : BitVec 32 := 8192#32
  let v24 : BitVec 32 := Scalar.select v1 c16384_i32_9 c8192_i32_10
  let v27 : BitVec 1 := Scalar.cmpi .eq v26 v24
  let c0_i32_24 : BitVec 32 := 0#32
  let c8_i32 : BitVec 32 := 8#32
  let v52 : BitVec 32 := Scalar.select v27 c0_i32_24 c8_i32
  let c0_i32_11 : BitVec 32 := 0#32
  let v25 : BitVec 1 := Scalar.cmpi .eq v23 c0_i32_11
  let c0_i32_23 : BitVec 32 := 0#32
  let c_m8_i32 : BitVec 32 := 4294967288#32
  let v51 : BitVec 32 := Scalar.select v25 c0_i32_23 c_m8_i32
  let c1_i32_376 : BitVec 32 := 1#32
  let v761 : BitVec 32 := Scalar.maxsi v51 c1_i32_376
  let v762 : BitVec 32 := Scalar.minsi v52 v761
  let v763 : BitVec 32 := Scalar.addi v50 v762
  let c64_i32_377 : BitVec 32 := 64#32
  let v766 : BitVec 32 := Scalar.muli v763 c64_i32_377
  v766
def k0_mult7 (i : grid0.Coords) : BitVec 32 :=
  let arg0 : BitVec 32 := BitVec.ofNat 32 (i 0).val
  let c512_i32_13 : BitVec 32 := 512#32
  let v28 : BitVec 32 := Scalar.muli arg0 c512_i32_13
  let c125_i32 : BitVec 32 := 125#32
  let c0_i32_15 : BitVec 32 := 0#32
  let c1_i32_14 : BitVec 32 := 1#32
  let v29 : BitVec 32 := Scalar.subi arg0 c1_i32_14
  let v30 : BitVec 32 := Scalar.maxsi c0_i32_15 v29
  let v31 : BitVec 32 := Scalar.minsi c125_i32 v30
  let c512_i32_16 : BitVec 32 := 512#32
  let v32 : BitVec 32 := Scalar.muli v31 c512_i32_16
  let v33 : BitVec 32 := Scalar.subi v28 v32
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c64_i32 : BitVec 32 := 64#32
  let c0_i32_19 : BitVec 32 := 0#32
  let v40 : BitVec 1 := Scalar.cmpi .sgt c64_i32 c0_i32_19
  let v41 : BitVec 32 := Scalar.extui v40
  let c0_i32_20 : BitVec 32 := 0#32
  let v42 : BitVec 1 := Scalar.cmpi .slt c64_i32 c0_i32_20
  let v43 : BitVec 32 := Scalar.extui v42
  let v44 : BitVec 32 := Scalar.subi v41 v43
  let v45 : BitVec 1 := Scalar.cmpi .ne v39 v44
  let v46 : BitVec 32 := Scalar.remsi v33 c64_i32
  let c0_i32_21 : BitVec 32 := 0#32
  let v47 : BitVec 1 := Scalar.cmpi .ne v46 c0_i32_21
  let v48 : BitVec 1 := Scalar.andi v45 v47
  let v34 : BitVec 32 := Scalar.divsi v33 c64_i32
  let c1_i32_22 : BitVec 32 := 1#32
  let v49 : BitVec 32 := Scalar.subi v34 c1_i32_22
  let v50 : BitVec 32 := Scalar.select v48 v49 v34
  let c512_i32 : BitVec 32 := 512#32
  let v0 : BitVec 32 := Scalar.muli arg0 c512_i32
  let c32768_i32 : BitVec 32 := 32768#32
  let v1 : BitVec 1 := Scalar.cmpi .slt v0 c32768_i32
  let c16384_i32 : BitVec 32 := 16384#32
  let c0_i32 : BitVec 32 := 0#32
  let v2 : BitVec 1 := Scalar.cmpi .eq c16384_i32 c0_i32
  let c1_i32 : BitVec 32 := 1#32
  let v3 : BitVec 32 := Scalar.select v2 c1_i32 c16384_i32
  let v4 : BitVec 32 := Scalar.remsi v0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c32768_i32_3 : BitVec 32 := 32768#32
  let v12 : BitVec 32 := Scalar.subi v0 c32768_i32_3
  let c8192_i32 : BitVec 32 := 8192#32
  let c0_i32_4 : BitVec 32 := 0#32
  let v13 : BitVec 1 := Scalar.cmpi .eq c8192_i32 c0_i32_4
  let c1_i32_5 : BitVec 32 := 1#32
  let v14 : BitVec 32 := Scalar.select v13 c1_i32_5 c8192_i32
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let v23 : BitVec 32 := Scalar.select v1 v11 v22
  let c512_i32_12 : BitVec 32 := 512#32
  let v26 : BitVec 32 := Scalar.addi v23 c512_i32_12
  let c16384_i32_9 : BitVec 32 := 16384#32
  let c8192_i32_10 : BitVec 32 := 8192#32
  let v24 : BitVec 32 := Scalar.select v1 c16384_i32_9 c8192_i32_10
  let v27 : BitVec 1 := Scalar.cmpi .eq v26 v24
  let c0_i32_24 : BitVec 32 := 0#32
  let c8_i32 : BitVec 32 := 8#32
  let v52 : BitVec 32 := Scalar.select v27 c0_i32_24 c8_i32
  let c0_i32_11 : BitVec 32 := 0#32
  let v25 : BitVec 1 := Scalar.cmpi .eq v23 c0_i32_11
  let c0_i32_23 : BitVec 32 := 0#32
  let c_m8_i32 : BitVec 32 := 4294967288#32
  let v51 : BitVec 32 := Scalar.select v25 c0_i32_23 c_m8_i32
  let c2_i32_447 : BitVec 32 := 2#32
  let v902 : BitVec 32 := Scalar.maxsi v51 c2_i32_447
  let v903 : BitVec 32 := Scalar.minsi v52 v902
  let v904 : BitVec 32 := Scalar.addi v50 v903
  let c64_i32_448 : BitVec 32 := 64#32
  let v907 : BitVec 32 := Scalar.muli v904 c64_i32_448
  v907
def k0_mult8 (i : grid0.Coords) : BitVec 32 :=
  let arg0 : BitVec 32 := BitVec.ofNat 32 (i 0).val
  let c512_i32_13 : BitVec 32 := 512#32
  let v28 : BitVec 32 := Scalar.muli arg0 c512_i32_13
  let c125_i32 : BitVec 32 := 125#32
  let c0_i32_15 : BitVec 32 := 0#32
  let c1_i32_14 : BitVec 32 := 1#32
  let v29 : BitVec 32 := Scalar.subi arg0 c1_i32_14
  let v30 : BitVec 32 := Scalar.maxsi c0_i32_15 v29
  let v31 : BitVec 32 := Scalar.minsi c125_i32 v30
  let c512_i32_16 : BitVec 32 := 512#32
  let v32 : BitVec 32 := Scalar.muli v31 c512_i32_16
  let v33 : BitVec 32 := Scalar.subi v28 v32
  let c0_i32_17 : BitVec 32 := 0#32
  let v35 : BitVec 1 := Scalar.cmpi .sgt v33 c0_i32_17
  let v36 : BitVec 32 := Scalar.extui v35
  let c0_i32_18 : BitVec 32 := 0#32
  let v37 : BitVec 1 := Scalar.cmpi .slt v33 c0_i32_18
  let v38 : BitVec 32 := Scalar.extui v37
  let v39 : BitVec 32 := Scalar.subi v36 v38
  let c64_i32 : BitVec 32 := 64#32
  let c0_i32_19 : BitVec 32 := 0#32
  let v40 : BitVec 1 := Scalar.cmpi .sgt c64_i32 c0_i32_19
  let v41 : BitVec 32 := Scalar.extui v40
  let c0_i32_20 : BitVec 32 := 0#32
  let v42 : BitVec 1 := Scalar.cmpi .slt c64_i32 c0_i32_20
  let v43 : BitVec 32 := Scalar.extui v42
  let v44 : BitVec 32 := Scalar.subi v41 v43
  let v45 : BitVec 1 := Scalar.cmpi .ne v39 v44
  let v46 : BitVec 32 := Scalar.remsi v33 c64_i32
  let c0_i32_21 : BitVec 32 := 0#32
  let v47 : BitVec 1 := Scalar.cmpi .ne v46 c0_i32_21
  let v48 : BitVec 1 := Scalar.andi v45 v47
  let v34 : BitVec 32 := Scalar.divsi v33 c64_i32
  let c1_i32_22 : BitVec 32 := 1#32
  let v49 : BitVec 32 := Scalar.subi v34 c1_i32_22
  let v50 : BitVec 32 := Scalar.select v48 v49 v34
  let c512_i32 : BitVec 32 := 512#32
  let v0 : BitVec 32 := Scalar.muli arg0 c512_i32
  let c32768_i32 : BitVec 32 := 32768#32
  let v1 : BitVec 1 := Scalar.cmpi .slt v0 c32768_i32
  let c16384_i32 : BitVec 32 := 16384#32
  let c0_i32 : BitVec 32 := 0#32
  let v2 : BitVec 1 := Scalar.cmpi .eq c16384_i32 c0_i32
  let c1_i32 : BitVec 32 := 1#32
  let v3 : BitVec 32 := Scalar.select v2 c1_i32 c16384_i32
  let v4 : BitVec 32 := Scalar.remsi v0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c32768_i32_3 : BitVec 32 := 32768#32
  let v12 : BitVec 32 := Scalar.subi v0 c32768_i32_3
  let c8192_i32 : BitVec 32 := 8192#32
  let c0_i32_4 : BitVec 32 := 0#32
  let v13 : BitVec 1 := Scalar.cmpi .eq c8192_i32 c0_i32_4
  let c1_i32_5 : BitVec 32 := 1#32
  let v14 : BitVec 32 := Scalar.select v13 c1_i32_5 c8192_i32
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let v23 : BitVec 32 := Scalar.select v1 v11 v22
  let c512_i32_12 : BitVec 32 := 512#32
  let v26 : BitVec 32 := Scalar.addi v23 c512_i32_12
  let c16384_i32_9 : BitVec 32 := 16384#32
  let c8192_i32_10 : BitVec 32 := 8192#32
  let v24 : BitVec 32 := Scalar.select v1 c16384_i32_9 c8192_i32_10
  let v27 : BitVec 1 := Scalar.cmpi .eq v26 v24
  let c0_i32_24 : BitVec 32 := 0#32
  let c8_i32 : BitVec 32 := 8#32
  let v52 : BitVec 32 := Scalar.select v27 c0_i32_24 c8_i32
  let c0_i32_11 : BitVec 32 := 0#32
  let v25 : BitVec 1 := Scalar.cmpi .eq v23 c0_i32_11
  let c0_i32_23 : BitVec 32 := 0#32
  let c_m8_i32 : BitVec 32 := 4294967288#32
  let v51 : BitVec 32 := Scalar.select v25 c0_i32_23 c_m8_i32
  let c3_i32_519 : BitVec 32 := 3#32
  let v1043 : BitVec 32 := Scalar.maxsi v51 c3_i32_519
  let v1044 : BitVec 32 := Scalar.minsi v52 v1043
  let v1045 : BitVec 32 := Scalar.addi v50 v1044
  let c64_i32_520 : BitVec 32 := 64#32
  let v1048 : BitVec 32 := Scalar.muli v1045 c64_i32_520
  v1048
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c125_i32 : BitVec 32 := 125#32
  let v1 : BitVec 32 := Scalar.maxsi c0_i32 v0
  let v2 : BitVec 32 := Scalar.minsi c125_i32 v1
  let c512_i32 : BitVec 32 := 512#32
  let v3 : BitVec 32 := Scalar.muli v2 c512_i32
  let c512_i32_0 : BitVec 32 := 512#32
  let c0_i32_1 : BitVec 32 := 0#32
  ![v3.toNat, c512_i32_0.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c125_i32 : BitVec 32 := 125#32
  let v1 : BitVec 32 := Scalar.maxsi c0_i32 v0
  let v2 : BitVec 32 := Scalar.minsi c125_i32 v1
  let c512_i32 : BitVec 32 := 512#32
  let v3 : BitVec 32 := Scalar.muli v2 c512_i32
  let c1024_i32 : BitVec 32 := 1024#32
  let c0_i32_0 : BitVec 32 := 0#32
  ![v3.toNat, c1024_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1536x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1536x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S65536x5888 : Shape := ⟨2, ![65536, 5888]⟩
abbrev S8x15x31 : Shape := ⟨3, ![8, 15, 31]⟩
abbrev S65536x1536 : Shape := ⟨2, ![65536, 1536]⟩
abbrev S65536x512 : Shape := ⟨2, ![65536, 512]⟩
abbrev S65536x8x64 : Shape := ⟨3, ![65536, 8, 64]⟩
abbrev S65536 : Shape := ⟨1, ![65536]⟩
abbrev S_ : Shape := ⟨0, ![]⟩
abbrev S128 : Shape := ⟨1, ![128]⟩
abbrev S65536x1 : Shape := ⟨2, ![65536, 1]⟩
abbrev S1x128 : Shape := ⟨2, ![1, 128]⟩
abbrev S65536x128 : Shape := ⟨2, ![65536, 128]⟩
abbrev S65536x128x1 : Shape := ⟨3, ![65536, 128, 1]⟩
abbrev S65536x128x8x64 : Shape := ⟨4, ![65536, 128, 8, 64]⟩
abbrev S8x65536x128 : Shape := ⟨3, ![8, 65536, 128]⟩
abbrev S65536x128x2 : Shape := ⟨3, ![65536, 128, 2]⟩
abbrev S8x65536 : Shape := ⟨2, ![8, 65536]⟩
abbrev S8x65536x1 : Shape := ⟨3, ![8, 65536, 1]⟩

abbrev nBuf : Space → Nat
  | .hbm => 223
  | .vmem => 0
  | .smem => 0
  | _ => 0

abbrev hbmTy0_0 (i : Nat) : BufTy := match i % 128 with
  | 0 => ⟨S65536x5888, .bf16⟩
  | 1 => ⟨S8x15x31, .f32⟩
  | 2 => ⟨S65536x1536, .bf16⟩
  | 3 => ⟨S65536x512, .bf16⟩
  | 4 => ⟨S65536x512, .bf16⟩
  | 5 => ⟨S65536x512, .bf16⟩
  | 6 => ⟨S65536x512, .f32⟩
  | 7 => ⟨S65536x8x64, .f32⟩
  | 8 => ⟨S65536x512, .f32⟩
  | 9 => ⟨S65536x8x64, .f32⟩
  | 10 => ⟨S65536x512, .f32⟩
  | 11 => ⟨S65536x8x64, .f32⟩
  | 12 => ⟨S65536, .i32⟩
  | 13 => ⟨S_, .i32⟩
  | 14 => ⟨S_, .i32⟩
  | 15 => ⟨S65536, .i32⟩
  | 16 => ⟨S65536, .i32⟩
  | 17 => ⟨S65536, .i32⟩
  | 18 => ⟨S_, .i32⟩
  | 19 => ⟨S65536, .i32⟩
  | 20 => ⟨S65536, .i1⟩
  | 21 => ⟨S65536, .i32⟩
  | 22 => ⟨S65536, .i32⟩
  | 23 => ⟨S_, .i32⟩
  | 24 => ⟨S65536, .i32⟩
  | 25 => ⟨S65536, .i1⟩
  | 26 => ⟨S65536, .i1⟩
  | 27 => ⟨S_, .i32⟩
  | 28 => ⟨S65536, .i32⟩
  | 29 => ⟨S65536, .i32⟩
  | 30 => ⟨S65536, .i32⟩
  | 31 => ⟨S_, .i32⟩
  | 32 => ⟨S_, .i32⟩
  | 33 => ⟨S_, .i32⟩
  | 34 => ⟨S_, .i1⟩
  | 35 => ⟨S_, .i32⟩
  | 36 => ⟨S_, .i32⟩
  | 37 => ⟨S65536, .i32⟩
  | 38 => ⟨S65536, .i32⟩
  | 39 => ⟨S_, .i32⟩
  | 40 => ⟨S65536, .i32⟩
  | 41 => ⟨S65536, .i1⟩
  | 42 => ⟨S_, .i32⟩
  | 43 => ⟨S65536, .i32⟩
  | 44 => ⟨S65536, .i1⟩
  | 45 => ⟨S_, .i32⟩
  | 46 => ⟨S_, .i1⟩
  | 47 => ⟨S65536, .i1⟩
  | 48 => ⟨S65536, .i1⟩
  | 49 => ⟨S65536, .i1⟩
  | 50 => ⟨S65536, .i32⟩
  | 51 => ⟨S65536, .i32⟩
  | 52 => ⟨S65536, .i32⟩
  | 53 => ⟨S_, .i32⟩
  | 54 => ⟨S65536, .i32⟩
  | 55 => ⟨S65536, .i1⟩
  | 56 => ⟨S_, .i32⟩
  | 57 => ⟨S_, .i32⟩
  | 58 => ⟨S65536, .i32⟩
  | 59 => ⟨S65536, .i32⟩
  | 60 => ⟨S65536, .i32⟩
  | 61 => ⟨S65536, .i32⟩
  | 62 => ⟨S65536, .i32⟩
  | 63 => ⟨S65536, .i32⟩
  | 64 => ⟨S65536, .i32⟩
  | 65 => ⟨S65536, .i1⟩
  | 66 => ⟨S65536, .i32⟩
  | 67 => ⟨S_, .i32⟩
  | 68 => ⟨S65536, .i32⟩
  | 69 => ⟨S65536, .i1⟩
  | 70 => ⟨S65536, .i1⟩
  | 71 => ⟨S_, .i32⟩
  | 72 => ⟨S65536, .i32⟩
  | 73 => ⟨S65536, .i32⟩
  | 74 => ⟨S65536, .i32⟩
  | 75 => ⟨S65536, .i32⟩
  | 76 => ⟨S65536, .i32⟩
  | 77 => ⟨S_, .i32⟩
  | 78 => ⟨S65536, .i32⟩
  | 79 => ⟨S65536, .i32⟩
  | 80 => ⟨S65536, .i32⟩
  | 81 => ⟨S65536, .i32⟩
  | 82 => ⟨S_, .i32⟩
  | 83 => ⟨S65536, .i32⟩
  | 84 => ⟨S65536, .i32⟩
  | 85 => ⟨S65536, .i32⟩
  | 86 => ⟨S65536, .i32⟩
  | 87 => ⟨S_, .i32⟩
  | 88 => ⟨S65536, .i32⟩
  | 89 => ⟨S65536, .i32⟩
  | 90 => ⟨S_, .i32⟩
  | 91 => ⟨S_, .i32⟩
  | 92 => ⟨S_, .i32⟩
  | 93 => ⟨S65536, .i32⟩
  | 94 => ⟨S65536, .i32⟩
  | 95 => ⟨S_, .i32⟩
  | 96 => ⟨S65536, .i32⟩
  | 97 => ⟨S65536, .i32⟩
  | 98 => ⟨S128, .i32⟩
  | 99 => ⟨S65536x1, .i32⟩
  | 100 => ⟨S_, .i32⟩
  | 101 => ⟨S_, .i32⟩
  | 102 => ⟨S128, .i32⟩
  | 103 => ⟨S128, .i32⟩
  | 104 => ⟨S128, .i32⟩
  | 105 => ⟨S_, .i32⟩
  | 106 => ⟨S128, .i32⟩
  | 107 => ⟨S128, .i1⟩
  | 108 => ⟨S128, .i32⟩
  | 109 => ⟨S128, .i32⟩
  | 110 => ⟨S_, .i32⟩
  | 111 => ⟨S128, .i32⟩
  | 112 => ⟨S128, .i1⟩
  | 113 => ⟨S128, .i1⟩
  | 114 => ⟨S_, .i32⟩
  | 115 => ⟨S128, .i32⟩
  | 116 => ⟨S128, .i32⟩
  | 117 => ⟨S128, .i32⟩
  | 118 => ⟨S1x128, .i32⟩
  | 119 => ⟨S65536x128, .i32⟩
  | 120 => ⟨S65536x128, .i32⟩
  | 121 => ⟨S65536x128, .i32⟩
  | 122 => ⟨S65536x1, .i32⟩
  | 123 => ⟨S_, .i32⟩
  | 124 => ⟨S_, .i32⟩
  | 125 => ⟨S_, .i32⟩
  | 126 => ⟨S_, .i1⟩
  | 127 => ⟨S_, .i32⟩
  | _ => ⟨S65536x5888, .bf16⟩

abbrev hbmTy0_1 (i : Nat) : BufTy := match i % 128 with
  | 0 => ⟨S_, .i32⟩
  | 1 => ⟨S128, .i32⟩
  | 2 => ⟨S128, .i32⟩
  | 3 => ⟨S_, .i32⟩
  | 4 => ⟨S128, .i32⟩
  | 5 => ⟨S128, .i1⟩
  | 6 => ⟨S_, .i32⟩
  | 7 => ⟨S128, .i32⟩
  | 8 => ⟨S128, .i1⟩
  | 9 => ⟨S_, .i32⟩
  | 10 => ⟨S_, .i1⟩
  | 11 => ⟨S128, .i1⟩
  | 12 => ⟨S128, .i1⟩
  | 13 => ⟨S128, .i1⟩
  | 14 => ⟨S128, .i32⟩
  | 15 => ⟨S128, .i32⟩
  | 16 => ⟨S128, .i32⟩
  | 17 => ⟨S1x128, .i32⟩
  | 18 => ⟨S65536x128, .i32⟩
  | 19 => ⟨S65536x128, .i32⟩
  | 20 => ⟨S65536x128, .i32⟩
  | 21 => ⟨S_, .i32⟩
  | 22 => ⟨S65536x128, .i32⟩
  | 23 => ⟨S65536x128, .i32⟩
  | 24 => ⟨S65536x128, .i32⟩
  | 25 => ⟨S_, .f32⟩
  | 26 => ⟨S65536x8x64, .f32⟩
  | 27 => ⟨S65536x8x64, .f32⟩
  | 28 => ⟨S_, .i32⟩
  | 29 => ⟨S65536x128, .i32⟩
  | 30 => ⟨S65536x128, .i1⟩
  | 31 => ⟨S_, .i32⟩
  | 32 => ⟨S65536x128, .i32⟩
  | 33 => ⟨S65536x128, .i32⟩
  | 34 => ⟨S65536x128, .i32⟩
  | 35 => ⟨S65536x128x1, .i32⟩
  | 36 => ⟨S65536x128x8x64, .f32⟩
  | 37 => ⟨S8x65536x128, .f32⟩
  | 38 => ⟨S65536x1, .i32⟩
  | 39 => ⟨S65536x128, .i32⟩
  | 40 => ⟨S65536x128, .i32⟩
  | 41 => ⟨S_, .i32⟩
  | 42 => ⟨S65536x128, .i32⟩
  | 43 => ⟨S65536x128, .i32⟩
  | 44 => ⟨S65536x1, .i32⟩
  | 45 => ⟨S65536x128, .i32⟩
  | 46 => ⟨S65536x128, .i32⟩
  | 47 => ⟨S_, .i32⟩
  | 48 => ⟨S65536x128, .i32⟩
  | 49 => ⟨S65536x128, .i32⟩
  | 50 => ⟨S_, .i32⟩
  | 51 => ⟨S65536x128, .i32⟩
  | 52 => ⟨S65536x128, .i1⟩
  | 53 => ⟨S_, .i32⟩
  | 54 => ⟨S65536x128, .i32⟩
  | 55 => ⟨S65536x128, .i32⟩
  | 56 => ⟨S65536x128, .i32⟩
  | 57 => ⟨S_, .i32⟩
  | 58 => ⟨S65536x128, .i32⟩
  | 59 => ⟨S65536x128, .i1⟩
  | 60 => ⟨S_, .i32⟩
  | 61 => ⟨S65536x128, .i32⟩
  | 62 => ⟨S65536x128, .i32⟩
  | 63 => ⟨S65536x128, .i32⟩
  | 64 => ⟨S65536x128x1, .i32⟩
  | 65 => ⟨S65536x128x1, .i32⟩
  | 66 => ⟨S65536x128x2, .i32⟩
  | 67 => ⟨S8x65536x128, .f32⟩
  | 68 => ⟨S8x65536x128, .f32⟩
  | 69 => ⟨S_, .f32⟩
  | 70 => ⟨S8x65536, .f32⟩
  | 71 => ⟨S_, .f32⟩
  | 72 => ⟨S8x65536, .f32⟩
  | 73 => ⟨S8x65536, .f32⟩
  | 74 => ⟨S8x65536x1, .f32⟩
  | 75 => ⟨S8x65536x128, .f32⟩
  | 76 => ⟨S8x65536x128, .f32⟩
  | 77 => ⟨S8x65536x128, .f32⟩
  | 78 => ⟨S_, .f32⟩
  | 79 => ⟨S8x65536, .f32⟩
  | 80 => ⟨S8x65536x1, .f32⟩
  | 81 => ⟨S8x65536x128, .f32⟩
  | 82 => ⟨S8x65536x128, .f32⟩
  | 83 => ⟨S_, .i32⟩
  | 84 => ⟨S65536x128, .i32⟩
  | 85 => ⟨S65536x128, .i1⟩
  | 86 => ⟨S_, .i32⟩
  | 87 => ⟨S65536x128, .i32⟩
  | 88 => ⟨S65536x128, .i32⟩
  | 89 => ⟨S65536x128, .i32⟩
  | 90 => ⟨S65536x128x1, .i32⟩
  | 91 => ⟨S65536x128x8x64, .f32⟩
  | 92 => ⟨S65536x8x64, .f32⟩
  | 93 => ⟨S65536x512, .f32⟩
  | 94 => ⟨S65536x512, .bf16⟩
  | _ => ⟨S65536x5888, .bf16⟩

abbrev hbmTy (i : Nat) : BufTy := match i / 128 with
  | 0 => hbmTy0_0 i
  | 1 => hbmTy0_1 i
  | _ => ⟨S65536x5888, .bf16⟩

abbrev bufTy : (tb : Table) → Fin (tcTables nBuf tb) → BufTy
  | .hbm, ⟨i, _⟩ => hbmTy i
  | _, _ => ⟨S65536x5888, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v11 : Ref sig .tc := ⟨.hbm, 30, rfl⟩
abbrev main_c_0 : Ref sig .tc := ⟨.hbm, 31, rfl⟩
abbrev main_call1_v0 : Ref sig .tc := ⟨.hbm, 32, rfl⟩
abbrev main_call1_c : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_c_1 : Ref sig .tc := ⟨.hbm, 39, rfl⟩
abbrev main_call1_v5 : Ref sig .tc := ⟨.hbm, 40, rfl⟩
abbrev main_call1_v6 : Ref sig .tc := ⟨.hbm, 41, rfl⟩
abbrev main_call1_c_2 : Ref sig .tc := ⟨.hbm, 42, rfl⟩
abbrev main_call1_v7 : Ref sig .tc := ⟨.hbm, 43, rfl⟩
abbrev main_call1_v8 : Ref sig .tc := ⟨.hbm, 44, rfl⟩
abbrev main_call1_c_3 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_v12 : Ref sig .tc := ⟨.hbm, 52, rfl⟩
abbrev main_c_1 : Ref sig .tc := ⟨.hbm, 53, rfl⟩
abbrev main_v13 : Ref sig .tc := ⟨.hbm, 54, rfl⟩
abbrev main_v14 : Ref sig .tc := ⟨.hbm, 55, rfl⟩
abbrev main_c_2 : Ref sig .tc := ⟨.hbm, 56, rfl⟩
abbrev main_c_3 : Ref sig .tc := ⟨.hbm, 57, rfl⟩
abbrev main_call2_v0 : Ref sig .tc := ⟨.hbm, 58, rfl⟩
abbrev main_call2_v1 : Ref sig .tc := ⟨.hbm, 59, rfl⟩
abbrev main_v15 : Ref sig .tc := ⟨.hbm, 60, rfl⟩
abbrev main_call3_v0 : Ref sig .tc := ⟨.hbm, 61, rfl⟩
abbrev main_call3_v1 : Ref sig .tc := ⟨.hbm, 62, rfl⟩
abbrev main_call3_v2 : Ref sig .tc := ⟨.hbm, 63, rfl⟩
abbrev main_call3_v3 : Ref sig .tc := ⟨.hbm, 64, rfl⟩
abbrev main_call3_v4 : Ref sig .tc := ⟨.hbm, 65, rfl⟩
abbrev main_call3_v5 : Ref sig .tc := ⟨.hbm, 66, rfl⟩
abbrev main_call3_c : Ref sig .tc := ⟨.hbm, 67, rfl⟩
abbrev main_call3_v6 : Ref sig .tc := ⟨.hbm, 68, rfl⟩
abbrev main_call3_v7 : Ref sig .tc := ⟨.hbm, 69, rfl⟩
abbrev main_call3_v8 : Ref sig .tc := ⟨.hbm, 70, rfl⟩
abbrev main_call3_c_0 : Ref sig .tc := ⟨.hbm, 71, rfl⟩
abbrev main_call3_v9 : Ref sig .tc := ⟨.hbm, 72, rfl⟩
abbrev main_call3_v10 : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩
abbrev main_c_4 : Ref sig .tc := ⟨.hbm, 77, rfl⟩
abbrev main_v19 : Ref sig .tc := ⟨.hbm, 78, rfl⟩
abbrev main_v20 : Ref sig .tc := ⟨.hbm, 79, rfl⟩
abbrev main_v21 : Ref sig .tc := ⟨.hbm, 80, rfl⟩
abbrev main_v22 : Ref sig .tc := ⟨.hbm, 81, rfl⟩
abbrev main_c_5 : Ref sig .tc := ⟨.hbm, 82, rfl⟩
abbrev main_v23 : Ref sig .tc := ⟨.hbm, 83, rfl⟩
abbrev main_v24 : Ref sig .tc := ⟨.hbm, 84, rfl⟩
abbrev main_call4_v0 : Ref sig .tc := ⟨.hbm, 85, rfl⟩
abbrev main_v25 : Ref sig .tc := ⟨.hbm, 86, rfl⟩
abbrev main_c_6 : Ref sig .tc := ⟨.hbm, 87, rfl⟩
abbrev main_v26 : Ref sig .tc := ⟨.hbm, 88, rfl⟩
abbrev main_v27 : Ref sig .tc := ⟨.hbm, 89, rfl⟩
abbrev main_c_7 : Ref sig .tc := ⟨.hbm, 90, rfl⟩
abbrev main_c_8 : Ref sig .tc := ⟨.hbm, 91, rfl⟩
abbrev main_call5_v0 : Ref sig .tc := ⟨.hbm, 92, rfl⟩
abbrev main_call5_v1 : Ref sig .tc := ⟨.hbm, 93, rfl⟩
abbrev main_call5_v2 : Ref sig .tc := ⟨.hbm, 94, rfl⟩
abbrev main_call5_v3 : Ref sig .tc := ⟨.hbm, 95, rfl⟩
abbrev main_call5_v4 : Ref sig .tc := ⟨.hbm, 96, rfl⟩
abbrev main_v28 : Ref sig .tc := ⟨.hbm, 97, rfl⟩
abbrev main_v29 : Ref sig .tc := ⟨.hbm, 98, rfl⟩
abbrev main_v30 : Ref sig .tc := ⟨.hbm, 99, rfl⟩
abbrev main_c_9 : Ref sig .tc := ⟨.hbm, 100, rfl⟩
abbrev main_call6_v0 : Ref sig .tc := ⟨.hbm, 101, rfl⟩
abbrev main_call6_v1 : Ref sig .tc := ⟨.hbm, 102, rfl⟩
abbrev main_call6_v2 : Ref sig .tc := ⟨.hbm, 103, rfl⟩
abbrev main_call6_v3 : Ref sig .tc := ⟨.hbm, 104, rfl⟩
abbrev main_call6_v4 : Ref sig .tc := ⟨.hbm, 105, rfl⟩
abbrev main_call6_v5 : Ref sig .tc := ⟨.hbm, 106, rfl⟩
abbrev main_call6_v6 : Ref sig .tc := ⟨.hbm, 107, rfl⟩
abbrev main_call6_v7 : Ref sig .tc := ⟨.hbm, 108, rfl⟩
abbrev main_call6_v8 : Ref sig .tc := ⟨.hbm, 109, rfl⟩
abbrev main_call6_c : Ref sig .tc := ⟨.hbm, 110, rfl⟩
abbrev main_call6_v9 : Ref sig .tc := ⟨.hbm, 111, rfl⟩
abbrev main_call6_v10 : Ref sig .tc := ⟨.hbm, 112, rfl⟩
abbrev main_call6_v11 : Ref sig .tc := ⟨.hbm, 113, rfl⟩
abbrev main_call6_c_0 : Ref sig .tc := ⟨.hbm, 114, rfl⟩
abbrev main_call6_v12 : Ref sig .tc := ⟨.hbm, 115, rfl⟩
abbrev main_call6_v13 : Ref sig .tc := ⟨.hbm, 116, rfl⟩
abbrev main_v31 : Ref sig .tc := ⟨.hbm, 117, rfl⟩
abbrev main_v32 : Ref sig .tc := ⟨.hbm, 118, rfl⟩
abbrev main_v33 : Ref sig .tc := ⟨.hbm, 119, rfl⟩
abbrev main_v34 : Ref sig .tc := ⟨.hbm, 120, rfl⟩
abbrev main_v35 : Ref sig .tc := ⟨.hbm, 121, rfl⟩
abbrev main_v36 : Ref sig .tc := ⟨.hbm, 122, rfl⟩
abbrev main_c_10 : Ref sig .tc := ⟨.hbm, 123, rfl⟩
abbrev main_call7_v0 : Ref sig .tc := ⟨.hbm, 124, rfl⟩
abbrev main_call7_c : Ref sig .tc := ⟨.hbm, 125, rfl⟩
abbrev main_call7_v1 : Ref sig .tc := ⟨.hbm, 126, rfl⟩
abbrev main_call7_c_0 : Ref sig .tc := ⟨.hbm, 127, rfl⟩
abbrev main_call7_v2 : Ref sig .tc := ⟨.hbm, 128, rfl⟩
abbrev main_call7_v3 : Ref sig .tc := ⟨.hbm, 129, rfl⟩
abbrev main_call7_v4 : Ref sig .tc := ⟨.hbm, 130, rfl⟩
abbrev main_call7_c_1 : Ref sig .tc := ⟨.hbm, 131, rfl⟩
abbrev main_call7_v5 : Ref sig .tc := ⟨.hbm, 132, rfl⟩
abbrev main_call7_v6 : Ref sig .tc := ⟨.hbm, 133, rfl⟩
abbrev main_call7_c_2 : Ref sig .tc := ⟨.hbm, 134, rfl⟩
abbrev main_call7_v7 : Ref sig .tc := ⟨.hbm, 135, rfl⟩
abbrev main_call7_v8 : Ref sig .tc := ⟨.hbm, 136, rfl⟩
abbrev main_call7_c_3 : Ref sig .tc := ⟨.hbm, 137, rfl⟩
abbrev main_call7_v9 : Ref sig .tc := ⟨.hbm, 138, rfl⟩
abbrev main_call7_v10 : Ref sig .tc := ⟨.hbm, 139, rfl⟩
abbrev main_call7_v11 : Ref sig .tc := ⟨.hbm, 140, rfl⟩
abbrev main_call7_v12 : Ref sig .tc := ⟨.hbm, 141, rfl⟩
abbrev main_call7_v13 : Ref sig .tc := ⟨.hbm, 142, rfl⟩
abbrev main_call7_v14 : Ref sig .tc := ⟨.hbm, 143, rfl⟩
abbrev main_v37 : Ref sig .tc := ⟨.hbm, 144, rfl⟩
abbrev main_v38 : Ref sig .tc := ⟨.hbm, 145, rfl⟩
abbrev main_v39 : Ref sig .tc := ⟨.hbm, 146, rfl⟩
abbrev main_v40 : Ref sig .tc := ⟨.hbm, 147, rfl⟩
abbrev main_v41 : Ref sig .tc := ⟨.hbm, 148, rfl⟩
abbrev main_c_11 : Ref sig .tc := ⟨.hbm, 149, rfl⟩
abbrev main_v42 : Ref sig .tc := ⟨.hbm, 150, rfl⟩
abbrev main_v43 : Ref sig .tc := ⟨.hbm, 151, rfl⟩
abbrev main_v44 : Ref sig .tc := ⟨.hbm, 152, rfl⟩
abbrev main_cst : Ref sig .tc := ⟨.hbm, 153, rfl⟩
abbrev main_v45 : Ref sig .tc := ⟨.hbm, 154, rfl⟩
abbrev main_v46 : Ref sig .tc := ⟨.hbm, 155, rfl⟩
abbrev main_c_12 : Ref sig .tc := ⟨.hbm, 156, rfl⟩
abbrev main_v47 : Ref sig .tc := ⟨.hbm, 157, rfl⟩
abbrev main_v48 : Ref sig .tc := ⟨.hbm, 158, rfl⟩
abbrev main_c_13 : Ref sig .tc := ⟨.hbm, 159, rfl⟩
abbrev main_v49 : Ref sig .tc := ⟨.hbm, 160, rfl⟩
abbrev main_v50 : Ref sig .tc := ⟨.hbm, 161, rfl⟩
abbrev main_v51 : Ref sig .tc := ⟨.hbm, 162, rfl⟩
abbrev main_v52 : Ref sig .tc := ⟨.hbm, 163, rfl⟩
abbrev main_v53 : Ref sig .tc := ⟨.hbm, 164, rfl⟩
abbrev main_v54 : Ref sig .tc := ⟨.hbm, 165, rfl⟩
abbrev main_v55 : Ref sig .tc := ⟨.hbm, 166, rfl⟩
abbrev main_v56 : Ref sig .tc := ⟨.hbm, 167, rfl⟩
abbrev main_v57 : Ref sig .tc := ⟨.hbm, 168, rfl⟩
abbrev main_c_14 : Ref sig .tc := ⟨.hbm, 169, rfl⟩
abbrev main_v58 : Ref sig .tc := ⟨.hbm, 170, rfl⟩
abbrev main_v59 : Ref sig .tc := ⟨.hbm, 171, rfl⟩
abbrev main_v60 : Ref sig .tc := ⟨.hbm, 172, rfl⟩
abbrev main_v61 : Ref sig .tc := ⟨.hbm, 173, rfl⟩
abbrev main_v62 : Ref sig .tc := ⟨.hbm, 174, rfl⟩
abbrev main_c_15 : Ref sig .tc := ⟨.hbm, 175, rfl⟩
abbrev main_v63 : Ref sig .tc := ⟨.hbm, 176, rfl⟩
abbrev main_v64 : Ref sig .tc := ⟨.hbm, 177, rfl⟩
abbrev main_c_16 : Ref sig .tc := ⟨.hbm, 178, rfl⟩
abbrev main_v65 : Ref sig .tc := ⟨.hbm, 179, rfl⟩
abbrev main_v66 : Ref sig .tc := ⟨.hbm, 180, rfl⟩
abbrev main_c_17 : Ref sig .tc := ⟨.hbm, 181, rfl⟩
abbrev main_v67 : Ref sig .tc := ⟨.hbm, 182, rfl⟩
abbrev main_v68 : Ref sig .tc := ⟨.hbm, 183, rfl⟩
abbrev main_v69 : Ref sig .tc := ⟨.hbm, 184, rfl⟩
abbrev main_c_18 : Ref sig .tc := ⟨.hbm, 185, rfl⟩
abbrev main_v70 : Ref sig .tc := ⟨.hbm, 186, rfl⟩
abbrev main_v71 : Ref sig .tc := ⟨.hbm, 187, rfl⟩
abbrev main_c_19 : Ref sig .tc := ⟨.hbm, 188, rfl⟩
abbrev main_v72 : Ref sig .tc := ⟨.hbm, 189, rfl⟩
abbrev main_v73 : Ref sig .tc := ⟨.hbm, 190, rfl⟩
abbrev main_v74 : Ref sig .tc := ⟨.hbm, 191, rfl⟩
abbrev main_v75 : Ref sig .tc := ⟨.hbm, 192, rfl⟩
abbrev main_v76 : Ref sig .tc := ⟨.hbm, 193, rfl⟩
abbrev main_v77 : Ref sig .tc := ⟨.hbm, 194, rfl⟩
abbrev main_v78 : Ref sig .tc := ⟨.hbm, 195, rfl⟩
abbrev main_v79 : Ref sig .tc := ⟨.hbm, 196, rfl⟩
abbrev main_cst_20 : Ref sig .tc := ⟨.hbm, 197, rfl⟩
abbrev main_v80 : Ref sig .tc := ⟨.hbm, 198, rfl⟩
abbrev main_cst_21 : Ref sig .tc := ⟨.hbm, 199, rfl⟩
abbrev main_v81 : Ref sig .tc := ⟨.hbm, 200, rfl⟩
abbrev main_v82 : Ref sig .tc := ⟨.hbm, 201, rfl⟩
abbrev main_v83 : Ref sig .tc := ⟨.hbm, 202, rfl⟩
abbrev main_v84 : Ref sig .tc := ⟨.hbm, 203, rfl⟩
abbrev main_v85 : Ref sig .tc := ⟨.hbm, 204, rfl⟩
abbrev main_v86 : Ref sig .tc := ⟨.hbm, 205, rfl⟩
abbrev main_cst_22 : Ref sig .tc := ⟨.hbm, 206, rfl⟩
abbrev main_v87 : Ref sig .tc := ⟨.hbm, 207, rfl⟩
abbrev main_v88 : Ref sig .tc := ⟨.hbm, 208, rfl⟩
abbrev main_v89 : Ref sig .tc := ⟨.hbm, 209, rfl⟩
abbrev main_v90 : Ref sig .tc := ⟨.hbm, 210, rfl⟩
abbrev main_c_23 : Ref sig .tc := ⟨.hbm, 211, rfl⟩
abbrev main_v91 : Ref sig .tc := ⟨.hbm, 212, rfl⟩
abbrev main_v92 : Ref sig .tc := ⟨.hbm, 213, rfl⟩
abbrev main_c_24 : Ref sig .tc := ⟨.hbm, 214, rfl⟩
abbrev main_v93 : Ref sig .tc := ⟨.hbm, 215, rfl⟩
abbrev main_v94 : Ref sig .tc := ⟨.hbm, 216, rfl⟩
abbrev main_v95 : Ref sig .tc := ⟨.hbm, 217, rfl⟩
abbrev main_v96 : Ref sig .tc := ⟨.hbm, 218, rfl⟩
abbrev main_v97 : Ref sig .tc := ⟨.hbm, 219, rfl⟩
abbrev main_v98 : Ref sig .tc := ⟨.hbm, 220, rfl⟩
abbrev main_v99 : Ref sig .tc := ⟨.hbm, 221, rfl⟩
abbrev main_v100 : Ref sig .tc := ⟨.hbm, 222, rfl⟩

abbrev nD : Nat := 1
abbrev τ : Topo := Topo.v7x

variable {F : FTy → Type} [FloatOps F]
-- ==== Kernel2.lean ====
abbrev S65536x1024 : Shape := ⟨2, ![65536, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x1024 : Shape := ⟨2, ![1, 1024]⟩
abbrev S1x5632 : Shape := ⟨2, ![1, 5632]⟩
abbrev S512x1024 : Shape := ⟨2, ![512, 1024]⟩
abbrev S8x1024 : Shape := ⟨2, ![8, 1024]⟩
abbrev S2x512x1024 : Shape := ⟨3, ![2, 512, 1024]⟩
abbrev S2x528x256 : Shape := ⟨3, ![2, 528, 256]⟩
abbrev S528x1024 : Shape := ⟨2, ![528, 1024]⟩
abbrev S528 : Shape := ⟨1, ![528]⟩
abbrev S528x1 : Shape := ⟨2, ![528, 1]⟩
abbrev S1024x256 : Shape := ⟨2, ![1024, 256]⟩
abbrev S528x256 : Shape := ⟨2, ![528, 256]⟩
abbrev S8x256 : Shape := ⟨2, ![8, 256]⟩
abbrev S1x8x256 : Shape := ⟨3, ![1, 8, 256]⟩
abbrev S512x256 : Shape := ⟨2, ![512, 256]⟩
abbrev S1x512x256 : Shape := ⟨3, ![1, 512, 256]⟩
abbrev S1x256 : Shape := ⟨2, ![1, 256]⟩
abbrev S1x512x1024 : Shape := ⟨3, ![1, 512, 1024]⟩
abbrev S1024x1024 : Shape := ⟨2, ![1024, 1024]⟩
abbrev S1x512x768 : Shape := ⟨3, ![1, 512, 768]⟩
abbrev S512x768 : Shape := ⟨2, ![512, 768]⟩
abbrev S768x1024 : Shape := ⟨2, ![768, 1024]⟩
abbrev S512 : Shape := ⟨1, ![512]⟩
abbrev S512x1 : Shape := ⟨2, ![512, 1]⟩

abbrev nBuf : Space → Nat
  | .hbm => 13
  | .vmem => 17
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S1x1024, .f32⟩
  | .hbm, ⟨8, _⟩ => ⟨S1024x5632, .bf16⟩
  | .hbm, ⟨9, _⟩ => ⟨S2816x1024, .bf16⟩
  | .hbm, ⟨10, _⟩ => ⟨S1x1024, .f32⟩
  | .hbm, ⟨11, _⟩ => ⟨S1x5632, .f32⟩
  | .hbm, ⟨12, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S1x1024, .f32⟩
  | .local _ .vmem, ⟨7, _⟩ => ⟨S1024x5632, .bf16⟩
  | .local _ .vmem, ⟨8, _⟩ => ⟨S3x5632, .f32⟩
  | .local _ .vmem, ⟨9, _⟩ => ⟨S1x5632, .f32⟩
  | .local _ .vmem, ⟨10, _⟩ => ⟨S2816x1024, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S2x512x1024, .bf16⟩
  | .local _ .vmem, ⟨15, _⟩ => ⟨S2x528x256, .f32⟩
  | .local _ .vmem, ⟨16, _⟩ => ⟨S2x528x256, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c8191_i32 : BitVec 32 := 8191#32
  let v2 : BitVec 32 := Scalar.minsi v1 c8191_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S65536x1024 : Shape := ⟨2, ![65536, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x5632 : Shape := ⟨2, ![65536, 5632]⟩
abbrev S65537x5632 : Shape := ⟨2, ![65537, 5632]⟩
abbrev S1x5632 : Shape := ⟨2, ![1, 5632]⟩
abbrev S65536x2816 : Shape := ⟨2, ![65536, 2816]⟩

abbrev nBuf : Space → Nat
  | .hbm => 140
  | .vmem => 0
  | .smem => 0
  | _ => 0

abbrev hbmTy0_0 (i : Nat) : BufTy := match i % 128 with
  | 0 => ⟨S65536x1024, .f32⟩
  | 1 => ⟨S1024, .f32⟩
  | 2 => ⟨S1024x5632, .f32⟩
  | 3 => ⟨S3x5632, .f32⟩
  | 4 => ⟨S5632, .f32⟩
  | 5 => ⟨S2816x1024, .f32⟩
  | 6 => ⟨S1024, .f32⟩
  | 7 => ⟨S65536x1024, .f32⟩
  | 8 => ⟨S_, .f32⟩
  | 9 => ⟨S65536, .f32⟩
  | 10 => ⟨S65536x1, .f32⟩
  | 11 => ⟨S_, .f32⟩
  | 12 => ⟨S65536x1, .f32⟩
  | 13 => ⟨S65536x1, .f32⟩
  | 14 => ⟨S_, .f32⟩
  | 15 => ⟨S65536x1, .f32⟩
  | 16 => ⟨S65536x1, .f32⟩
  | 17 => ⟨S65536x1, .f32⟩
  | 18 => ⟨S65536x1024, .f32⟩
  | 19 => ⟨S65536x1024, .f32⟩
  | 20 => ⟨S1x1024, .f32⟩
  | 21 => ⟨S65536x1024, .f32⟩
  | 22 => ⟨S65536x1024, .f32⟩
  | 23 => ⟨S65536x5632, .f32⟩
  | 24 => ⟨S65536, .i32⟩
  | 25 => ⟨S_, .i32⟩
  | 26 => ⟨S65536, .i32⟩
  | 27 => ⟨S65536, .i1⟩
  | 28 => ⟨S_, .i32⟩
  | 29 => ⟨S_, .i32⟩
  | 30 => ⟨S65536, .i32⟩
  | 31 => ⟨S65536, .i32⟩
  | 32 => ⟨S65536, .i32⟩
  | 33 => ⟨S65536, .i32⟩
  | 34 => ⟨S_, .i32⟩
  | 35 => ⟨S65536, .i32⟩
  | 36 => ⟨S65536, .i1⟩
  | 37 => ⟨S_, .i32⟩
  | 38 => ⟨S65536, .i32⟩
  | 39 => ⟨S65536, .i32⟩
  | 40 => ⟨S65536, .i32⟩
  | 41 => ⟨S_, .i32⟩
  | 42 => ⟨S65536, .i32⟩
  | 43 => ⟨S65536, .i1⟩
  | 44 => ⟨S_, .i32⟩
  | 45 => ⟨S65536, .i32⟩
  | 46 => ⟨S65536, .i1⟩
  | 47 => ⟨S_, .i32⟩
  | 48 => ⟨S65536, .i32⟩
  | 49 => ⟨S65536, .i1⟩
  | 50 => ⟨S65536, .i1⟩
  | 51 => ⟨S65536, .i1⟩
  | 52 => ⟨S65536, .i32⟩
  | 53 => ⟨S65536, .i32⟩
  | 54 => ⟨S_, .i32⟩
  | 55 => ⟨S65536, .i32⟩
  | 56 => ⟨S65536, .i1⟩
  | 57 => ⟨S65536x1, .i1⟩
  | 58 => ⟨S_, .i32⟩
  | 59 => ⟨S_, .f32⟩
  | 60 => ⟨S65537x5632, .f32⟩
  | 61 => ⟨S65536x5632, .f32⟩
  | 62 => ⟨S_, .f32⟩
  | 63 => ⟨S_, .f32⟩
  | 64 => ⟨S65536x5632, .i1⟩
  | 65 => ⟨S65536x5632, .f32⟩
  | 66 => ⟨S65536x5632, .f32⟩
  | 67 => ⟨S_, .i32⟩
  | 68 => ⟨S65536, .i32⟩
  | 69 => ⟨S65536, .i32⟩
  | 70 => ⟨S65536, .i32⟩
  | 71 => ⟨S65536, .i1⟩
  | 72 => ⟨S65536x1, .i1⟩
  | 73 => ⟨S_, .i32⟩
  | 74 => ⟨S_, .f32⟩
  | 75 => ⟨S65537x5632, .f32⟩
  | 76 => ⟨S65536x5632, .f32⟩
  | 77 => ⟨S_, .f32⟩
  | 78 => ⟨S_, .f32⟩
  | 79 => ⟨S65536x5632, .i1⟩
  | 80 => ⟨S65536x5632, .f32⟩
  | 81 => ⟨S65536x5632, .f32⟩
  | 82 => ⟨S1x5632, .f32⟩
  | 83 => ⟨S5632, .f32⟩
  | 84 => ⟨S1x5632, .f32⟩
  | 85 => ⟨S65536x5632, .f32⟩
  | 86 => ⟨S65536x5632, .f32⟩
  | 87 => ⟨S1x5632, .f32⟩
  | 88 => ⟨S5632, .f32⟩
  | 89 => ⟨S1x5632, .f32⟩
  | 90 => ⟨S65536x5632, .f32⟩
  | 91 => ⟨S65536x5632, .f32⟩
  | 92 => ⟨S65536x5632, .f32⟩
  | 93 => ⟨S1x5632, .f32⟩
  | 94 => ⟨S5632, .f32⟩
  | 95 => ⟨S1x5632, .f32⟩
  | 96 => ⟨S65536x5632, .f32⟩
  | 97 => ⟨S65536x5632, .f32⟩
  | 98 => ⟨S65536x5632, .f32⟩
  | 99 => ⟨S1x5632, .f32⟩
  | 100 => ⟨S65536x5632, .f32⟩
  | 101 => ⟨S65536x5632, .f32⟩
  | 102 => ⟨S65536x2816, .f32⟩
  | 103 => ⟨S65536x2816, .f32⟩
  | 104 => ⟨S65536x2816, .f32⟩
  | 105 => ⟨S65536x2816, .f32⟩
  | 106 => ⟨S_, .f32⟩
  | 107 => ⟨S65536x2816, .f32⟩
  | 108 => ⟨S65536x2816, .f32⟩
  | 109 => ⟨S65536x2816, .f32⟩
  | 110 => ⟨S_, .f32⟩
  | 111 => ⟨S65536x2816, .f32⟩
  | 112 => ⟨S65536x2816, .f32⟩
  | 113 => ⟨S65536x2816, .f32⟩
  | 114 => ⟨S_, .f32⟩
  | 115 => ⟨S65536x2816, .f32⟩
  | 116 => ⟨S65536x2816, .f32⟩
  | 117 => ⟨S_, .f32⟩
  | 118 => ⟨S65536x2816, .f32⟩
  | 119 => ⟨S65536x2816, .f32⟩
  | 120 => ⟨S65536x2816, .f32⟩
  | 121 => ⟨S65536x2816, .f32⟩
  | 122 => ⟨S65536x1024, .f32⟩
  | 123 => ⟨S65536x1024, .f32⟩
  | 124 => ⟨S65536x1024, .f32⟩
  | 125 => ⟨S_, .f32⟩
  | 126 => ⟨S65536, .f32⟩
  | 127 => ⟨S65536x1, .f32⟩
  | _ => ⟨S65536x1024, .f32⟩

abbrev hbmTy0_1 (i : Nat) : BufTy := match i % 128 with
  | 0 => ⟨S_, .f32⟩
  | 1 => ⟨S65536x1, .f32⟩
  | 2 => ⟨S65536x1, .f32⟩
  | 3 => ⟨S_, .f32⟩
  | 4 => ⟨S65536x1, .f32⟩
  | 5 => ⟨S65536x1, .f32⟩
  | 6 => ⟨S65536x1, .f32⟩
  | 7 => ⟨S65536x1024, .f32⟩
  | 8 => ⟨S65536x1024, .f32⟩
  | 9 => ⟨S1x1024, .f32⟩
  | 10 => ⟨S65536x1024, .f32⟩
  | 11 => ⟨S65536x1024, .f32⟩
  | _ => ⟨S65536x1024, .f32⟩

abbrev hbmTy (i : Nat) : BufTy := match i / 128 with
  | 0 => hbmTy0_0 i
  | 1 => hbmTy0_1 i
  | _ => ⟨S65536x1024, .f32⟩

abbrev bufTy : (tb : Table) → Fin (tcTables nBuf tb) → BufTy
  | .hbm, ⟨i, _⟩ => hbmTy i
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_c_3 : Ref sig .tc := ⟨.hbm, 29, rfl⟩
abbrev main_call0_v0 : Ref sig .tc := ⟨.hbm, 30, rfl⟩
abbrev main_call0_v1 : Ref sig .tc := ⟨.hbm, 31, rfl⟩
abbrev main_v17 : Ref sig .tc := ⟨.hbm, 32, rfl⟩
abbrev main_call1_v0 : Ref sig .tc := ⟨.hbm, 33, rfl⟩
abbrev main_call1_c : Ref sig .tc := ⟨.hbm, 34, rfl⟩
abbrev main_call1_v1 : Ref sig .tc := ⟨.hbm, 35, rfl⟩
abbrev main_call1_v2 : Ref sig .tc := ⟨.hbm, 36, rfl⟩
abbrev main_call1_c_0 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_v6 : Ref sig .tc := ⟨.hbm, 42, rfl⟩
abbrev main_call1_v7 : Ref sig .tc := ⟨.hbm, 43, rfl⟩
abbrev main_call1_c_2 : Ref sig .tc := ⟨.hbm, 44, rfl⟩
abbrev main_call1_v8 : Ref sig .tc := ⟨.hbm, 45, rfl⟩
abbrev main_call1_v9 : Ref sig .tc := ⟨.hbm, 46, rfl⟩
abbrev main_call1_c_3 : Ref sig .tc := ⟨.hbm, 47, rfl⟩
abbrev main_call1_v10 : Ref sig .tc := ⟨.hbm, 48, rfl⟩
abbrev main_call1_v11 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_v18 : Ref sig .tc := ⟨.hbm, 53, rfl⟩
abbrev main_c_4 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_c_5 : Ref sig .tc := ⟨.hbm, 58, rfl⟩
abbrev main_call2_v0 : Ref sig .tc := ⟨.hbm, 59, rfl⟩
abbrev main_v22 : Ref sig .tc := ⟨.hbm, 60, rfl⟩
abbrev main_v23 : Ref sig .tc := ⟨.hbm, 61, rfl⟩
abbrev main_cst_6 : Ref sig .tc := ⟨.hbm, 62, rfl⟩
abbrev main_call3_v0 : Ref sig .tc := ⟨.hbm, 63, rfl⟩
abbrev main_call3_v1 : Ref sig .tc := ⟨.hbm, 64, rfl⟩
abbrev main_call3_v2 : Ref sig .tc := ⟨.hbm, 65, rfl⟩
abbrev main_v24 : Ref sig .tc := ⟨.hbm, 66, rfl⟩
abbrev main_c_7 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_c_8 : Ref sig .tc := ⟨.hbm, 73, rfl⟩
abbrev main_call4_v0 : Ref sig .tc := ⟨.hbm, 74, rfl⟩
abbrev main_v30 : Ref sig .tc := ⟨.hbm, 75, rfl⟩
abbrev main_v31 : Ref sig .tc := ⟨.hbm, 76, rfl⟩
abbrev main_cst_9 : Ref sig .tc := ⟨.hbm, 77, rfl⟩
abbrev main_call5_v0 : Ref sig .tc := ⟨.hbm, 78, rfl⟩
abbrev main_call5_v1 : Ref sig .tc := ⟨.hbm, 79, rfl⟩
abbrev main_call5_v2 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_cst_10 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_cst_11 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_cst_12 : Ref sig .tc := ⟨.hbm, 114, rfl⟩
abbrev main_v63 : Ref sig .tc := ⟨.hbm, 115, rfl⟩
abbrev main_v64 : Ref sig .tc := ⟨.hbm, 116, rfl⟩
abbrev main_cst_13 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_cst_14 : Ref sig .tc := ⟨.hbm, 125, rfl⟩
abbrev main_v72 : Ref sig .tc := ⟨.hbm, 126, rfl⟩
abbrev main_v73 : Ref sig .tc := ⟨.hbm, 127, rfl⟩
abbrev main_cst_15 : Ref sig .tc := ⟨.hbm, 128, rfl⟩
abbrev main_v74 : Ref sig .tc := ⟨.hbm, 129, rfl⟩
abbrev main_v75 : Ref sig .tc := ⟨.hbm, 130, rfl⟩
abbrev main_cst_16 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩

abbrev nD : Nat := 1
abbrev τ : Topo := Topo.v7x

variable {F : FTy → Type} [FloatOps F]
-- ==== Kernel3.lean ====
abbrev S65536x1024 : Shape := ⟨2, ![65536, 1024]⟩
abbrev S1024 : Shape := ⟨1, ![1024]⟩
abbrev S1024x4096 : Shape := ⟨2, ![1024, 4096]⟩
abbrev S4x1024 : Shape := ⟨2, ![4, 1024]⟩
abbrev S65536x512 : Shape := ⟨2, ![65536, 512]⟩
abbrev S4x512x1024 : Shape := ⟨3, ![4, 512, 1024]⟩
abbrev S1024x1024 : Shape := ⟨2, ![1024, 1024]⟩
abbrev S1x1024 : Shape := ⟨2, ![1, 1024]⟩
abbrev S1x4096 : Shape := ⟨2, ![1, 4096]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1x512x1024 : Shape := ⟨3, ![1, 512, 1024]⟩

abbrev nBuf : Space → Nat
  | .hbm => 16
  | .vmem => 17
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x4096, .f32⟩
  | .hbm, ⟨3, _⟩ => ⟨S4x1024, .f32⟩
  | .hbm, ⟨4, _⟩ => ⟨S65536x512, .bf16⟩
  | .hbm, ⟨5, _⟩ => ⟨S65536x512, .bf16⟩
  | .hbm, ⟨6, _⟩ => ⟨S65536x512, .bf16⟩
  | .hbm, ⟨7, _⟩ => ⟨S65536x512, .bf16⟩
  | .hbm, ⟨8, _⟩ => ⟨S4x512x1024, .f32⟩
  | .hbm, ⟨9, _⟩ => ⟨S1024x1024, .f32⟩
  | .hbm, ⟨10, _⟩ => ⟨S1x1024, .f32⟩
  | .hbm, ⟨11, _⟩ => ⟨S1024x4096, .bf16⟩
  | .hbm, ⟨12, _⟩ => ⟨S1x4096, .f32⟩
  | .hbm, ⟨13, _⟩ => ⟨S4x512x1024, .bf16⟩
  | .hbm, ⟨14, _⟩ => ⟨S1024x1024, .bf16⟩
  | .hbm, ⟨15, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S1x4096, .f32⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S4x512x1024, .bf16⟩
  | .local _ .vmem, ⟨14, _⟩ => ⟨S1024x1024, .bf16⟩
  | .local _ .vmem, ⟨15, _⟩ => ⟨S512x1024, .f32⟩
  | .local _ .vmem, ⟨16, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S65536x1024 : Shape := ⟨2, ![65536, 1024]⟩
abbrev S1024 : Shape := ⟨1, ![1024]⟩
abbrev S1024x4096 : Shape := ⟨2, ![1024, 4096]⟩
abbrev S4x1024 : Shape := ⟨2, ![4, 1024]⟩
abbrev S65536x512 : Shape := ⟨2, ![65536, 512]⟩
abbrev S4x512x1024 : Shape := ⟨3, ![4, 512, 1024]⟩
abbrev S1024x1024 : Shape := ⟨2, ![1024, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x4096 : Shape := ⟨2, ![65536, 4096]⟩
abbrev S4096 : Shape := ⟨1, ![4096]⟩
abbrev S1x4096 : Shape := ⟨2, ![1, 4096]⟩
abbrev S65536x4x1024 : Shape := ⟨3, ![65536, 4, 1024]⟩
abbrev S65536x1x1024 : Shape := ⟨3, ![65536, 1, 1024]⟩
abbrev S1x512x1024 : Shape := ⟨3, ![1, 512, 1024]⟩
abbrev S512x1024 : Shape := ⟨2, ![512, 1024]⟩

abbrev nBuf : Space → Nat
  | .hbm => 73
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x4096, .f32⟩
  | .hbm, ⟨3, _⟩ => ⟨S4x1024, .f32⟩
  | .hbm, ⟨4, _⟩ => ⟨S65536x512, .bf16⟩
  | .hbm, ⟨5, _⟩ => ⟨S65536x512, .bf16⟩
  | .hbm, ⟨6, _⟩ => ⟨S65536x512, .bf16⟩
  | .hbm, ⟨7, _⟩ => ⟨S65536x512, .bf16⟩
  | .hbm, ⟨8, _⟩ => ⟨S4x512x1024, .f32⟩
  | .hbm, ⟨9, _⟩ => ⟨S1024x1024, .f32⟩
  | .hbm, ⟨10, _⟩ => ⟨S65536x1024, .f32⟩
  | .hbm, ⟨11, _⟩ => ⟨S_, .f32⟩
  | .hbm, ⟨12, _⟩ => ⟨S65536, .f32⟩
  | .hbm, ⟨13, _⟩ => ⟨S65536x1, .f32⟩
  | .hbm, ⟨14, _⟩ => ⟨S_, .f32⟩
  | .hbm, ⟨15, _⟩ => ⟨S65536x1, .f32⟩
  | .hbm, ⟨16, _⟩ => ⟨S65536x1, .f32⟩
  | .hbm, ⟨17, _⟩ => ⟨S_, .f32⟩
  | .hbm, ⟨18, _⟩ => ⟨S65536x1, .f32⟩
  | .hbm, ⟨19, _⟩ => ⟨S65536x1, .f32⟩
  | .hbm, ⟨20, _⟩ => ⟨S65536x1, .f32⟩
  | .hbm, ⟨21, _⟩ => ⟨S65536x1024, .f32⟩
  | .hbm, ⟨22, _⟩ => ⟨S65536x1024, .f32⟩
  | .hbm, ⟨23, _⟩ => ⟨S1x1024, .f32⟩
  | .hbm, ⟨24, _⟩ => ⟨S65536x1024, .f32⟩
  | .hbm, ⟨25, _⟩ => ⟨S65536x1024, .f32⟩
  | .hbm, ⟨26, _⟩ => ⟨S65536x4096, .f32⟩
  | .hbm, ⟨27, _⟩ => ⟨S4096, .f32⟩
  | .hbm, ⟨28, _⟩ => ⟨S1x4096, .f32⟩
  | .hbm, ⟨29, _⟩ => ⟨S65536x4096, .f32⟩
  | .hbm, ⟨30, _⟩ => ⟨S65536x4096, .f32⟩
  | .hbm, ⟨31, _⟩ => ⟨S65536x4096, .f32⟩
  | .hbm, ⟨32, _⟩ => ⟨S65536x4096, .f32⟩
  | .hbm, ⟨33, _⟩ => ⟨S_, .f32⟩
  | .hbm, ⟨34, _⟩ => ⟨S65536x4096, .f32⟩
  | .hbm, ⟨35, _⟩ => ⟨S65536x4096, .f32⟩
  | .hbm, ⟨36, _⟩ => ⟨S_, .f32⟩
  | .hbm, ⟨37, _⟩ => ⟨S65536x4096, .f32⟩
  | .hbm, ⟨38, _⟩ => ⟨S65536x4096, .f32⟩
  | .hbm, ⟨39, _⟩ => ⟨S65536x4x1024, .f32⟩
  | .hbm, ⟨40, _⟩ => ⟨S65536x1x1024, .f32⟩
  | .hbm, ⟨41, _⟩ => ⟨S65536x1024, .f32⟩
  | .hbm, ⟨42, _⟩ => ⟨S65536x512, .f32⟩
  | .hbm, ⟨43, _⟩ => ⟨S1x512x1024, .f32⟩
  | .hbm, ⟨44, _⟩ => ⟨S512x1024, .f32⟩
  | .hbm, ⟨45, _⟩ => ⟨S65536x1024, .f32⟩
  | .hbm, ⟨46, _⟩ => ⟨S65536x1024, .f32⟩
  | .hbm, ⟨47, _⟩ => ⟨S65536x1x1024, .f32⟩
  | .hbm, ⟨48, _⟩ => ⟨S65536x1024, .f32⟩
  | .hbm, ⟨49, _⟩ => ⟨S65536x512, .f32⟩
  | .hbm, ⟨50, _⟩ => ⟨S1x512x1024, .f32⟩
  | .hbm, ⟨51, _⟩ => ⟨S512x1024, .f32⟩
  | .hbm, ⟨52, _⟩ => ⟨S65536x1024, .f32⟩
  | .hbm, ⟨53, _⟩ => ⟨S65536x1024, .f32⟩
  | .hbm, ⟨54, _⟩ => ⟨S65536x1024, .f32⟩
  | .hbm, ⟨55, _⟩ => ⟨S65536x1x1024, .f32⟩
  | .hbm, ⟨56, _⟩ => ⟨S65536x1024, .f32⟩
  | .hbm, ⟨57, _⟩ => ⟨S65536x512, .f32⟩
  | .hbm, ⟨58, _⟩ => ⟨S1x512x1024, .f32⟩
  | .hbm, ⟨59, _⟩ => ⟨S512x1024, .f32⟩
  | .hbm, ⟨60, _⟩ => ⟨S65536x1024, .f32⟩
  | .hbm, ⟨61, _⟩ => ⟨S65536x1024, .f32⟩
  | .hbm, ⟨62, _⟩ => ⟨S65536x1024, .f32⟩
  | .hbm, ⟨63, _⟩ => ⟨S65536x1x1024, .f32⟩
  | .hbm, ⟨64, _⟩ => ⟨S65536x1024, .f32⟩
  | .hbm, ⟨65, _⟩ => ⟨S65536x512, .f32⟩
  | .hbm, ⟨66, _⟩ => ⟨S1x512x1024, .f32⟩
  | .hbm, ⟨67, _⟩ => ⟨S512x1024, .f32⟩
  | .hbm, ⟨68, _⟩ => ⟨S65536x1024, .f32⟩
  | .hbm, ⟨69, _⟩ => ⟨S65536x1024, .f32⟩
  | .hbm, ⟨70, _⟩ => ⟨S65536x1024, .f32⟩
  | .hbm, ⟨71, _⟩ => ⟨S65536x1024, .f32⟩
  | .hbm, ⟨72, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩

abbrev nD : Nat := 1
abbrev τ : Topo := Topo.v7x

variable {F : FTy → Type} [FloatOps F]
-- ==== Kernel4.lean ====
abbrev S65536x1024 : Shape := ⟨2, ![65536, 1024]⟩
abbrev S1024 : Shape := ⟨1, ![1024]⟩
abbrev S1024x5920 : Shape := ⟨2, ![1024, 5920]⟩
abbrev S1024x2560 : Shape := ⟨2, ![1024, 2560]⟩
abbrev S1024x2048 : Shape := ⟨2, ![1024, 2048]⟩
abbrev S1024x1024 : Shape := ⟨2, ![1024, 1024]⟩
abbrev S1024x256 : Shape := ⟨2, ![1024, 256]⟩
abbrev S1024x5888 : Shape := ⟨2, ![1024, 5888]⟩
abbrev S1024x16 : Shape := ⟨2, ![1024, 16]⟩
abbrev S_ : Shape := ⟨0, ![]⟩
abbrev S1024x96 : Shape := ⟨2, ![1024, 96]⟩
abbrev S1024x128 : Shape := ⟨2, ![1024, 128]⟩
abbrev S1x1024 : Shape := ⟨2, ![1, 1024]⟩
abbrev S65536x5888 : Shape := ⟨2, ![65536, 5888]⟩
abbrev S65536x128 : Shape := ⟨2, ![65536, 128]⟩
abbrev S512x1024 : Shape := ⟨2, ![512, 1024]⟩
abbrev S512x5888 : Shape := ⟨2, ![512, 5888]⟩
abbrev S512x128 : Shape := ⟨2, ![512, 128]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S512x256 : Shape := ⟨2, ![512, 256]⟩

abbrev nBuf : Space → Nat
  | .hbm => 18
  | .vmem => 9
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x5920, .f32⟩
  | .hbm, ⟨3, _⟩ => ⟨S1024x2560, .f32⟩
  | .hbm, ⟨4, _⟩ => ⟨S1024x2048, .f32⟩
  | .hbm, ⟨5, _⟩ => ⟨S1024x1024, .f32⟩
  | .hbm, ⟨6, _⟩ => ⟨S1024x256, .f32⟩
  | .hbm, ⟨7, _⟩ => ⟨S1024x5888, .f32⟩
  | .hbm, ⟨8, _⟩ => ⟨S1024x5888, .bf16⟩
  | .hbm, ⟨9, _⟩ => ⟨S1024x16, .f32⟩
  | .hbm, ⟨10, _⟩ => ⟨S1024x16, .f32⟩
  | .hbm, ⟨11, _⟩ => ⟨S_, .f32⟩
  | .hbm, ⟨12, _⟩ => ⟨S1024x96, .f32⟩
  | .hbm, ⟨13, _⟩ => ⟨S1024x128, .f32⟩
  | .hbm, ⟨14, _⟩ => ⟨S1024x128, .bf16⟩
  | .hbm, ⟨15, _⟩ => ⟨S1x1024, .f32⟩
  | .hbm, ⟨16, _⟩ => ⟨S65536x5888, .bf16⟩
  | .hbm, ⟨17, _⟩ => ⟨S65536x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5888, .bf16⟩
  | .local _ .vmem, ⟨4, _⟩ => ⟨S1024x128, .bf16⟩
  | .local _ .vmem, ⟨5, _⟩ => ⟨S512x5888, .bf16⟩
  | .local _ .vmem, ⟨6, _⟩ => ⟨S512x5888, .bf16⟩
  | .local _ .vmem, ⟨7, _⟩ => ⟨S512x128, .f32⟩
  | .local _ .vmem, ⟨8, _⟩ => ⟨S512x128, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12_0 : Ref sig .tc := ⟨.hbm, 16, rfl⟩
abbrev main_v12_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5888 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x5888 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S65536x1024 : Shape := ⟨2, ![65536, 1024]⟩
abbrev S1024 : Shape := ⟨1, ![1024]⟩
abbrev S1024x5920 : Shape := ⟨2, ![1024, 5920]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x5920 : Shape := ⟨2, ![65536, 5920]⟩
abbrev S65536x1536 : Shape := ⟨2, ![65536, 1536]⟩
abbrev S65536x256 : Shape := ⟨2, ![65536, 256]⟩
abbrev S65536x16 : Shape := ⟨2, ![65536, 16]⟩
abbrev S65536x2048 : Shape := ⟨2, ![65536, 2048]⟩
abbrev S65536x5888 : Shape := ⟨2, ![65536, 5888]⟩
abbrev S65536x32 : Shape := ⟨2, ![65536, 32]⟩
abbrev S65536x128 : Shape := ⟨2, ![65536, 128]⟩

abbrev nBuf : Space → Nat
  | .hbm => 33
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x5920, .f32⟩
  | .hbm, ⟨3, _⟩ => ⟨S65536x1024, .f32⟩
  | .hbm, ⟨4, _⟩ => ⟨S_, .f32⟩
  | .hbm, ⟨5, _⟩ => ⟨S65536, .f32⟩
  | .hbm, ⟨6, _⟩ => ⟨S65536x1, .f32⟩
  | .hbm, ⟨7, _⟩ => ⟨S_, .f32⟩
  | .hbm, ⟨8, _⟩ => ⟨S65536x1, .f32⟩
  | .hbm, ⟨9, _⟩ => ⟨S65536x1, .f32⟩
  | .hbm, ⟨10, _⟩ => ⟨S_, .f32⟩
  | .hbm, ⟨11, _⟩ => ⟨S65536x1, .f32⟩
  | .hbm, ⟨12, _⟩ => ⟨S65536x1, .f32⟩
  | .hbm, ⟨13, _⟩ => ⟨S65536x1, .f32⟩
  | .hbm, ⟨14, _⟩ => ⟨S65536x1024, .f32⟩
  | .hbm, ⟨15, _⟩ => ⟨S65536x1024, .f32⟩
  | .hbm, ⟨16, _⟩ => ⟨S1x1024, .f32⟩
  | .hbm, ⟨17, _⟩ => ⟨S65536x1024, .f32⟩
  | .hbm, ⟨18, _⟩ => ⟨S65536x1024, .f32⟩
  | .hbm, ⟨19, _⟩ => ⟨S65536x5920, .f32⟩
  | .hbm, ⟨20, _⟩ => ⟨S65536x1536, .f32⟩
  | .hbm, ⟨21, _⟩ => ⟨S65536x1024, .f32⟩
  | .hbm, ⟨22, _⟩ => ⟨S65536x256, .f32⟩
  | .hbm, ⟨23, _⟩ => ⟨S65536x16, .f32⟩
  | .hbm, ⟨24, _⟩ => ⟨S65536x2048, .f32⟩
  | .hbm, ⟨25, _⟩ => ⟨S65536x16, .f32⟩
  | .hbm, ⟨26, _⟩ => ⟨S65536x1024, .f32⟩
  | .hbm, ⟨27, _⟩ => ⟨S65536x5888, .f32⟩
  | .hbm, ⟨28, _⟩ => ⟨S65536x5888, .bf16⟩
  | .hbm, ⟨29, _⟩ => ⟨S65536x32, .f32⟩
  | .hbm, ⟨30, _⟩ => ⟨S_, .i32⟩
  | .hbm, ⟨31, _⟩ => ⟨S_, .f32⟩
  | .hbm, ⟨32, _⟩ => ⟨S65536x128, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_c : Ref sig .tc := ⟨.hbm, 30, rfl⟩
abbrev main_call0_v0 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Kernel5.lean ====
abbrev S65536x5888 : Shape := ⟨2, ![65536, 5888]⟩
abbrev S512 : Shape := ⟨1, ![512]⟩
abbrev S4x128x128 : Shape := ⟨3, ![4, 128, 128]⟩
abbrev S4x128 : Shape := ⟨2, ![4, 128]⟩
abbrev S_ : Shape := ⟨0, ![]⟩
abbrev S128x128 : Shape := ⟨2, ![128, 128]⟩
abbrev S128x4 : Shape := ⟨2, ![128, 4]⟩
abbrev S1 : Shape := ⟨1, ![1]⟩
abbrev S1x512 : Shape := ⟨2, ![1, 512]⟩
abbrev S65536x512 : Shape := ⟨2, ![65536, 512]⟩
abbrev S512x512 : Shape := ⟨2, ![512, 512]⟩
abbrev S512x1 : Shape := ⟨2, ![512, 1]⟩
abbrev S1x128x128 : Shape := ⟨3, ![1, 128, 128]⟩
abbrev S128x1 : Shape := ⟨2, ![128, 1]⟩
abbrev S128x512 : Shape := ⟨2, ![128, 512]⟩

abbrev nBuf : Space → Nat
  | .hbm => 13
  | .vmem => 9
  | .smem => 0
  | _ => 0

abbrev bufTy : (tb : Table) → Fin (tcTables nBuf tb) → BufTy
  | .hbm, ⟨0, _⟩ => ⟨S65536x5888, .bf16⟩
  | .hbm, ⟨1, _⟩ => ⟨S512, .f32⟩
  | .hbm, ⟨2, _⟩ => ⟨S4x128x128, .f32⟩
  | .hbm, ⟨3, _⟩ => ⟨S4x128, .f32⟩
  | .hbm, ⟨4, _⟩ => ⟨S_, .f32⟩
  | .hbm, ⟨5, _⟩ => ⟨S128x128, .f32⟩
  | .hbm, ⟨6, _⟩ => ⟨S128x4, .f32⟩
  | .hbm, ⟨7, _⟩ => ⟨S_, .i32⟩
  | .hbm, ⟨8, _⟩ => ⟨S1, .i32⟩
  | .hbm, ⟨9, _⟩ => ⟨S128x128, .f32⟩
  | .hbm, ⟨10, _⟩ => ⟨S1x512, .f32⟩
  | .hbm, ⟨11, _⟩ => ⟨S4x128x128, .bf16⟩
  | .hbm, ⟨12, _⟩ => ⟨S65536x512, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S1x512, .f32⟩
  | .local _ .vmem, ⟨5, _⟩ => ⟨S4x128x128, .bf16⟩
  | .local _ .vmem, ⟨6, _⟩ => ⟨S128x128, .f32⟩
  | .local _ .vmem, ⟨7, _⟩ => ⟨S512x512, .bf16⟩
  | .local _ .vmem, ⟨8, _⟩ => ⟨S512x512, .bf16⟩
  | _, _ => ⟨S65536x5888, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_1 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S65536x5888 : Shape := ⟨2, ![65536, 5888]⟩
abbrev S512 : Shape := ⟨1, ![512]⟩
abbrev S4x128x128 : Shape := ⟨3, ![4, 128, 128]⟩
abbrev S4x128 : Shape := ⟨2, ![4, 128]⟩
abbrev S65536x512 : Shape := ⟨2, ![65536, 512]⟩
abbrev S_ : Shape := ⟨0, ![]⟩
abbrev S65536 : Shape := ⟨1, ![65536]⟩
abbrev S65536x1 : Shape := ⟨2, ![65536, 1]⟩
abbrev S1x512 : Shape := ⟨2, ![1, 512]⟩
abbrev S512x128x4x128 : Shape := ⟨4, ![512, 128, 4, 128]⟩
abbrev S4x512x128x128 : Shape := ⟨4, ![4, 512, 128, 128]⟩
abbrev S128x4 : Shape := ⟨2, ![128, 4]⟩
abbrev S128x4x1 : Shape := ⟨3, ![128, 4, 1]⟩
abbrev S1x128x4x1 : Shape := ⟨4, ![1, 128, 4, 1]⟩

abbrev nBuf : Space → Nat
  | .hbm => 69
  | .vmem => 0
  | .smem => 0
  | _ => 0

abbrev bufTy : (tb : Table) → Fin (tcTables nBuf tb) → BufTy
  | .hbm, ⟨0, _⟩ => ⟨S65536x5888, .bf16⟩
  | .hbm, ⟨1, _⟩ => ⟨S512, .f32⟩
  | .hbm, ⟨2, _⟩ => ⟨S4x128x128, .f32⟩
  | .hbm, ⟨3, _⟩ => ⟨S4x128, .f32⟩
  | .hbm, ⟨4, _⟩ => ⟨S65536x512, .bf16⟩
  | .hbm, ⟨5, _⟩ => ⟨S65536x512, .f32⟩
  | .hbm, ⟨6, _⟩ => ⟨S65536x512, .bf16⟩
  | .hbm, ⟨7, _⟩ => ⟨S65536x512, .f32⟩
  | .hbm, ⟨8, _⟩ => ⟨S65536x512, .f32⟩
  | .hbm, ⟨9, _⟩ => ⟨S65536x512, .f32⟩
  | .hbm, ⟨10, _⟩ => ⟨S_, .f32⟩
  | .hbm, ⟨11, _⟩ => ⟨S65536x512, .f32⟩
  | .hbm, ⟨12, _⟩ => ⟨S65536x512, .f32⟩
  | .hbm, ⟨13, _⟩ => ⟨S65536x512, .f32⟩
  | .hbm, ⟨14, _⟩ => ⟨S_, .f32⟩
  | .hbm, ⟨15, _⟩ => ⟨S65536x512, .f32⟩
  | .hbm, ⟨16, _⟩ => ⟨S65536x512, .f32⟩
  | .hbm, ⟨17, _⟩ => ⟨S65536x512, .f32⟩
  | .hbm, ⟨18, _⟩ => ⟨S_, .f32⟩
  | .hbm, ⟨19, _⟩ => ⟨S65536x512, .f32⟩
  | .hbm, ⟨20, _⟩ => ⟨S65536x512, .f32⟩
  | .hbm, ⟨21, _⟩ => ⟨S_, .f32⟩
  | .hbm, ⟨22, _⟩ => ⟨S65536x512, .f32⟩
  | .hbm, ⟨23, _⟩ => ⟨S65536x512, .f32⟩
  | .hbm, ⟨24, _⟩ => ⟨S65536x512, .f32⟩
  | .hbm, ⟨25, _⟩ => ⟨S65536x512, .f32⟩
  | .hbm, ⟨26, _⟩ => ⟨S65536x512, .f32⟩
  | .hbm, ⟨27, _⟩ => ⟨S_, .f32⟩
  | .hbm, ⟨28, _⟩ => ⟨S65536x512, .f32⟩
  | .hbm, ⟨29, _⟩ => ⟨S65536x512, .f32⟩
  | .hbm, ⟨30, _⟩ => ⟨S65536x512, .f32⟩
  | .hbm, ⟨31, _⟩ => ⟨S_, .f32⟩
  | .hbm, ⟨32, _⟩ => ⟨S65536x512, .f32⟩
  | .hbm, ⟨33, _⟩ => ⟨S65536x512, .f32⟩
  | .hbm, ⟨34, _⟩ => ⟨S65536x512, .f32⟩
  | .hbm, ⟨35, _⟩ => ⟨S_, .f32⟩
  | .hbm, ⟨36, _⟩ => ⟨S65536x512, .f32⟩
  | .hbm, ⟨37, _⟩ => ⟨S65536x512, .f32⟩
  | .hbm, ⟨38, _⟩ => ⟨S_, .f32⟩
  | .hbm, ⟨39, _⟩ => ⟨S65536x512, .f32⟩
  | .hbm, ⟨40, _⟩ => ⟨S65536x512, .f32⟩
  | .hbm, ⟨41, _⟩ => ⟨S65536x512, .f32⟩
  | .hbm, ⟨42, _⟩ => ⟨S65536x512, .f32⟩
  | .hbm, ⟨43, _⟩ => ⟨S_, .f32⟩
  | .hbm, ⟨44, _⟩ => ⟨S65536, .f32⟩
  | .hbm, ⟨45, _⟩ => ⟨S65536x1, .f32⟩
  | .hbm, ⟨46, _⟩ => ⟨S_, .f32⟩
  | .hbm, ⟨47, _⟩ => ⟨S65536x1, .f32⟩
  | .hbm, ⟨48, _⟩ => ⟨S65536x1, .f32⟩
  | .hbm, ⟨49, _⟩ => ⟨S_, .f32⟩
  | .hbm, ⟨50, _⟩ => ⟨S65536x1, .f32⟩
  | .hbm, ⟨51, _⟩ => ⟨S65536x1, .f32⟩
  | .hbm, ⟨52, _⟩ => ⟨S65536x1, .f32⟩
  | .hbm, ⟨53, _⟩ => ⟨S65536x512, .f32⟩
  | .hbm, ⟨54, _⟩ => ⟨S65536x512, .f32⟩
  | .hbm, ⟨55, _⟩ => ⟨S1x512, .f32⟩
  | .hbm, ⟨56, _⟩ => ⟨S65536x512, .f32⟩
  | .hbm, ⟨57, _⟩ => ⟨S65536x512, .f32⟩
  | .hbm, ⟨58, _⟩ => ⟨S512x128x4x128, .f32⟩
  | .hbm, ⟨59, _⟩ => ⟨S4x512x128x128, .f32⟩
  | .hbm, ⟨60, _⟩ => ⟨S512x128x4x128, .f32⟩
  | .hbm, ⟨61, _⟩ => ⟨S128x4, .f32⟩
  | .hbm, ⟨62, _⟩ => ⟨S128x4x1, .f32⟩
  | .hbm, ⟨63, _⟩ => ⟨S1x128x4x1, .f32⟩
  | .hbm, ⟨64, _⟩ => ⟨S512x128x4x128, .f32⟩
  | .hbm, ⟨65, _⟩ => ⟨S512x128x4x128, .f32⟩
  | .hbm, ⟨66, _⟩ => ⟨S65536x512, .f32⟩
  | .hbm, ⟨67, _⟩ => ⟨S65536x512, .f32⟩
  | .hbm, ⟨68, _⟩ => ⟨S65536x512, .bf16⟩
  | _, _ => ⟨S65536x5888, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_cst_9 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩

abbrev nD : Nat := 1
abbrev τ : Topo := Topo.v7x

variable {F : FTy → Type} [FloatOps F]
-- ==== Kernel6.lean ====
abbrev S65536x5888 : Shape := ⟨2, ![65536, 5888]⟩
abbrev S5x768 : Shape := ⟨2, ![5, 768]⟩
abbrev S768 : Shape := ⟨1, ![768]⟩
abbrev S5x512 : Shape := ⟨2, ![5, 512]⟩
abbrev S512 : Shape := ⟨1, ![512]⟩
abbrev S1x512 : Shape := ⟨2, ![1, 512]⟩
abbrev S65536x512 : Shape := ⟨2, ![65536, 512]⟩
abbrev S512x512 : Shape := ⟨2, ![512, 512]⟩
abbrev S16x512 : Shape := ⟨2, ![16, 512]⟩
abbrev S528x512 : Shape := ⟨2, ![528, 512]⟩
abbrev S8x512 : Shape := ⟨2, ![8, 512]⟩

abbrev nBuf : Space → Nat
  | .hbm => 7
  | .vmem => 11
  | .smem => 0
  | _ => 0

abbrev bufTy : (tb : Table) → Fin (tcTables nBuf tb) → BufTy
  | .hbm, ⟨0, _⟩ => ⟨S65536x5888, .bf16⟩
  | .hbm, ⟨1, _⟩ => ⟨S5x768, .f32⟩
  | .hbm, ⟨2, _⟩ => ⟨S768, .f32⟩
  | .hbm, ⟨3, _⟩ => ⟨S5x512, .f32⟩
  | .hbm, ⟨4, _⟩ => ⟨S512, .f32⟩
  | .hbm, ⟨5, _⟩ => ⟨S1x512, .f32⟩
  | .hbm, ⟨6, _⟩ => ⟨S65536x512, .bf16⟩
  | .local _ .vmem, ⟨0, _⟩ => ⟨S512x512, .bf16⟩
  | .local _ .vmem, ⟨1, _⟩ => ⟨S512x512, .bf16⟩
  | .local _ .vmem, ⟨2, _⟩ => ⟨S16x512, .bf16⟩
  | .local _ .vmem, ⟨3, _⟩ => ⟨S16x512, .bf16⟩
  | .local _ .vmem, ⟨4, _⟩ => ⟨S16x512, .bf16⟩
  | .local _ .vmem, ⟨5, _⟩ => ⟨S16x512, .bf16⟩
  | .local _ .vmem, ⟨6, _⟩ => ⟨S5x512, .f32⟩
  | .local _ .vmem, ⟨7, _⟩ => ⟨S1x512, .f32⟩
  | .local _ .vmem, ⟨8, _⟩ => ⟨S512x512, .bf16⟩
  | .local _ .vmem, ⟨9, _⟩ => ⟨S512x512, .bf16⟩
  | .local _ .vmem, ⟨10, _⟩ => ⟨S528x512, .f32⟩
  | _, _ => ⟨S65536x5888, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c4095_i32 : BitVec 32 := 4095#32
  let v2 : BitVec 32 := Scalar.minsi v1 c4095_i32
  let c4_i32 : BitVec 32 := 4#32
  let c0_i32 : BitVec 32 := 0#32
  ![v2.toNat, c4_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S5x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S65536x5888 : Shape := ⟨2, ![65536, 5888]⟩
abbrev S5x768 : Shape := ⟨2, ![5, 768]⟩
abbrev S768 : Shape := ⟨1, ![768]⟩
abbrev S65536x512 : Shape := ⟨2, ![65536, 512]⟩
abbrev S5x512 : Shape := ⟨2, ![5, 512]⟩
abbrev S512 : Shape := ⟨1, ![512]⟩
abbrev S65536 : Shape := ⟨1, ![65536]⟩
abbrev S_ : Shape := ⟨0, ![]⟩
abbrev S65540x512 : Shape := ⟨2, ![65540, 512]⟩
abbrev S65536x1 : Shape := ⟨2, ![65536, 1]⟩
abbrev S1x512 : Shape := ⟨2, ![1, 512]⟩

abbrev nBuf : Space → Nat
  | .hbm => 192
  | .vmem => 0
  | .smem => 0
  | _ => 0

abbrev hbmTy0_0 (i : Nat) : BufTy := match i % 128 with
  | 0 => ⟨S65536x5888, .bf16⟩
  | 1 => ⟨S5x768, .f32⟩
  | 2 => ⟨S768, .f32⟩
  | 3 => ⟨S65536x512, .bf16⟩
  | 4 => ⟨S65536x512, .f32⟩
  | 5 => ⟨S5x512, .f32⟩
  | 6 => ⟨S512, .f32⟩
  | 7 => ⟨S65536, .i32⟩
  | 8 => ⟨S_, .i32⟩
  | 9 => ⟨S65536, .i32⟩
  | 10 => ⟨S65536, .i1⟩
  | 11 => ⟨S_, .i32⟩
  | 12 => ⟨S_, .i32⟩
  | 13 => ⟨S65536, .i32⟩
  | 14 => ⟨S65536, .i32⟩
  | 15 => ⟨S65536, .i32⟩
  | 16 => ⟨S65536, .i32⟩
  | 17 => ⟨S_, .i32⟩
  | 18 => ⟨S65536, .i32⟩
  | 19 => ⟨S65536, .i1⟩
  | 20 => ⟨S_, .i32⟩
  | 21 => ⟨S65536, .i32⟩
  | 22 => ⟨S65536, .i32⟩
  | 23 => ⟨S65536, .i32⟩
  | 24 => ⟨S_, .i32⟩
  | 25 => ⟨S65536, .i32⟩
  | 26 => ⟨S65536, .i1⟩
  | 27 => ⟨S_, .i32⟩
  | 28 => ⟨S65536, .i32⟩
  | 29 => ⟨S65536, .i1⟩
  | 30 => ⟨S_, .i32⟩
  | 31 => ⟨S65536, .i32⟩
  | 32 => ⟨S65536, .i1⟩
  | 33 => ⟨S65536, .i1⟩
  | 34 => ⟨S65536, .i1⟩
  | 35 => ⟨S65536, .i32⟩
  | 36 => ⟨S65536, .i32⟩
  | 37 => ⟨S_, .i32⟩
  | 38 => ⟨S_, .f32⟩
  | 39 => ⟨S65540x512, .f32⟩
  | 40 => ⟨S_, .i32⟩
  | 41 => ⟨S65536, .i32⟩
  | 42 => ⟨S65536, .i32⟩
  | 43 => ⟨S_, .i32⟩
  | 44 => ⟨S65536, .i32⟩
  | 45 => ⟨S65536, .i1⟩
  | 46 => ⟨S_, .i32⟩
  | 47 => ⟨S65536, .i32⟩
  | 48 => ⟨S65536, .i32⟩
  | 49 => ⟨S_, .i32⟩
  | 50 => ⟨S65536, .i32⟩
  | 51 => ⟨S65536, .i32⟩
  | 52 => ⟨S65536, .i32⟩
  | 53 => ⟨S65536, .i1⟩
  | 54 => ⟨S65536, .i1⟩
  | 55 => ⟨S65536x1, .i1⟩
  | 56 => ⟨S65536x512, .f32⟩
  | 57 => ⟨S_, .f32⟩
  | 58 => ⟨S_, .f32⟩
  | 59 => ⟨S65536x512, .i1⟩
  | 60 => ⟨S65536x512, .f32⟩
  | 61 => ⟨S65536x512, .f32⟩
  | 62 => ⟨S1x512, .f32⟩
  | 63 => ⟨S512, .f32⟩
  | 64 => ⟨S1x512, .f32⟩
  | 65 => ⟨S65536x512, .f32⟩
  | 66 => ⟨S65536x512, .f32⟩
  | 67 => ⟨S_, .i32⟩
  | 68 => ⟨S65536, .i32⟩
  | 69 => ⟨S65536, .i32⟩
  | 70 => ⟨S_, .i32⟩
  | 71 => ⟨S65536, .i32⟩
  | 72 => ⟨S65536, .i1⟩
  | 73 => ⟨S_, .i32⟩
  | 74 => ⟨S65536, .i32⟩
  | 75 => ⟨S65536, .i32⟩
  | 76 => ⟨S_, .i32⟩
  | 77 => ⟨S65536, .i32⟩
  | 78 => ⟨S65536, .i32⟩
  | 79 => ⟨S65536, .i32⟩
  | 80 => ⟨S65536, .i1⟩
  | 81 => ⟨S65536, .i1⟩
  | 82 => ⟨S65536x1, .i1⟩
  | 83 => ⟨S65536x512, .f32⟩
  | 84 => ⟨S_, .f32⟩
  | 85 => ⟨S_, .f32⟩
  | 86 => ⟨S65536x512, .i1⟩
  | 87 => ⟨S65536x512, .f32⟩
  | 88 => ⟨S65536x512, .f32⟩
  | 89 => ⟨S1x512, .f32⟩
  | 90 => ⟨S512, .f32⟩
  | 91 => ⟨S1x512, .f32⟩
  | 92 => ⟨S65536x512, .f32⟩
  | 93 => ⟨S65536x512, .f32⟩
  | 94 => ⟨S65536x512, .f32⟩
  | 95 => ⟨S_, .i32⟩
  | 96 => ⟨S65536, .i32⟩
  | 97 => ⟨S65536, .i32⟩
  | 98 => ⟨S_, .i32⟩
  | 99 => ⟨S65536, .i32⟩
  | 100 => ⟨S65536, .i1⟩
  | 101 => ⟨S_, .i32⟩
  | 102 => ⟨S65536, .i32⟩
  | 103 => ⟨S65536, .i32⟩
  | 104 => ⟨S_, .i32⟩
  | 105 => ⟨S65536, .i32⟩
  | 106 => ⟨S65536, .i32⟩
  | 107 => ⟨S65536, .i32⟩
  | 108 => ⟨S65536, .i1⟩
  | 109 => ⟨S65536, .i1⟩
  | 110 => ⟨S65536x1, .i1⟩
  | 111 => ⟨S65536x512, .f32⟩
  | 112 => ⟨S_, .f32⟩
  | 113 => ⟨S_, .f32⟩
  | 114 => ⟨S65536x512, .i1⟩
  | 115 => ⟨S65536x512, .f32⟩
  | 116 => ⟨S65536x512, .f32⟩
  | 117 => ⟨S1x512, .f32⟩
  | 118 => ⟨S512, .f32⟩
  | 119 => ⟨S1x512, .f32⟩
  | 120 => ⟨S65536x512, .f32⟩
  | 121 => ⟨S65536x512, .f32⟩
  | 122 => ⟨S65536x512, .f32⟩
  | 123 => ⟨S_, .i32⟩
  | 124 => ⟨S65536, .i32⟩
  | 125 => ⟨S65536, .i32⟩
  | 126 => ⟨S_, .i32⟩
  | 127 => ⟨S65536, .i32⟩
  | _ => ⟨S65536x5888, .bf16⟩

abbrev hbmTy0_1 (i : Nat) : BufTy := match i % 128 with
  | 0 => ⟨S65536, .i1⟩
  | 1 => ⟨S_, .i32⟩
  | 2 => ⟨S65536, .i32⟩
  | 3 => ⟨S65536, .i32⟩
  | 4 => ⟨S_, .i32⟩
  | 5 => ⟨S65536, .i32⟩
  | 6 => ⟨S65536, .i32⟩
  | 7 => ⟨S65536, .i32⟩
  | 8 => ⟨S65536, .i1⟩
  | 9 => ⟨S65536, .i1⟩
  | 10 => ⟨S65536x1, .i1⟩
  | 11 => ⟨S65536x512, .f32⟩
  | 12 => ⟨S_, .f32⟩
  | 13 => ⟨S_, .f32⟩
  | 14 => ⟨S65536x512, .i1⟩
  | 15 => ⟨S65536x512, .f32⟩
  | 16 => ⟨S65536x512, .f32⟩
  | 17 => ⟨S1x512, .f32⟩
  | 18 => ⟨S512, .f32⟩
  | 19 => ⟨S1x512, .f32⟩
  | 20 => ⟨S65536x512, .f32⟩
  | 21 => ⟨S65536x512, .f32⟩
  | 22 => ⟨S65536x512, .f32⟩
  | 23 => ⟨S_, .i32⟩
  | 24 => ⟨S65536, .i32⟩
  | 25 => ⟨S65536, .i32⟩
  | 26 => ⟨S_, .i32⟩
  | 27 => ⟨S65536, .i32⟩
  | 28 => ⟨S65536, .i1⟩
  | 29 => ⟨S_, .i32⟩
  | 30 => ⟨S65536, .i32⟩
  | 31 => ⟨S65536, .i32⟩
  | 32 => ⟨S_, .i32⟩
  | 33 => ⟨S65536, .i32⟩
  | 34 => ⟨S65536, .i32⟩
  | 35 => ⟨S65536, .i32⟩
  | 36 => ⟨S65536, .i1⟩
  | 37 => ⟨S65536, .i1⟩
  | 38 => ⟨S65536x1, .i1⟩
  | 39 => ⟨S65536x512, .f32⟩
  | 40 => ⟨S_, .f32⟩
  | 41 => ⟨S_, .f32⟩
  | 42 => ⟨S65536x512, .i1⟩
  | 43 => ⟨S65536x512, .f32⟩
  | 44 => ⟨S65536x512, .f32⟩
  | 45 => ⟨S1x512, .f32⟩
  | 46 => ⟨S512, .f32⟩
  | 47 => ⟨S1x512, .f32⟩
  | 48 => ⟨S65536x512, .f32⟩
  | 49 => ⟨S65536x512, .f32⟩
  | 50 => ⟨S65536x512, .f32⟩
  | 51 => ⟨S1x512, .f32⟩
  | 52 => ⟨S65536x512, .f32⟩
  | 53 => ⟨S65536x512, .f32⟩
  | 54 => ⟨S65536x512, .f32⟩
  | 55 => ⟨S65536x512, .f32⟩
  | 56 => ⟨S_, .f32⟩
  | 57 => ⟨S65536x512, .f32⟩
  | 58 => ⟨S65536x512, .f32⟩
  | 59 => ⟨S_, .f32⟩
  | 60 => ⟨S65536x512, .f32⟩
  | 61 => ⟨S65536x512, .f32⟩
  | 62 => ⟨S65536x512, .f32⟩
  | 63 => ⟨S65536x512, .bf16⟩
  | _ => ⟨S65536x5888, .bf16⟩

abbrev hbmTy (i : Nat) : BufTy := match i / 128 with
  | 0 => hbmTy0_0 i
  | 1 => hbmTy0_1 i
  | _ => ⟨S65536x5888, .bf16⟩

abbrev bufTy : (tb : Table) → Fin (tcTables nBuf tb) → BufTy
  | .hbm, ⟨i, _⟩ => hbmTy i
  | _, _ => ⟨S65536x5888, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_v7 : Ref sig .tc := ⟨.hbm, 15, rfl⟩
abbrev main_call1_v0 : Ref sig .tc := ⟨.hbm, 16, rfl⟩
abbrev main_call1_c : Ref sig .tc := ⟨.hbm, 17, rfl⟩
abbrev main_call1_v1 : Ref sig .tc := ⟨.hbm, 18, rfl⟩
abbrev main_call1_v2 : Ref sig .tc := ⟨.hbm, 19, rfl⟩
abbrev main_call1_c_0 : Ref sig .tc := ⟨.hbm, 20, rfl⟩
abbrev main_call1_v3 : Ref sig .tc := ⟨.hbm, 21, rfl⟩
abbrev main_call1_v4 : Ref sig .tc := ⟨.hbm, 22, rfl⟩
abbrev main_call1_v5 : Ref sig .tc := ⟨.hbm, 23, rfl⟩
abbrev main_call1_c_1 : Ref sig .tc := ⟨.hbm, 24, rfl⟩
abbrev main_call1_v6 : Ref sig .tc := ⟨.hbm, 25, rfl⟩
abbrev main_call1_v7 : Ref sig .tc := ⟨.hbm, 26, rfl⟩
abbrev main_call1_c_2 : Ref sig .tc := ⟨.hbm, 27, rfl⟩
abbrev main_call1_v8 : Ref sig .tc := ⟨.hbm, 28, rfl⟩
abbrev main_call1_v9 : Ref sig .tc := ⟨.hbm, 29, rfl⟩
abbrev main_call1_c_3 : Ref sig .tc := ⟨.hbm, 30, rfl⟩
abbrev main_call1_v10 : Ref sig .tc := ⟨.hbm, 31, rfl⟩
abbrev main_call1_v11 : Ref sig .tc := ⟨.hbm, 32, rfl⟩
abbrev main_call1_v12 : Ref sig .tc := ⟨.hbm, 33, rfl⟩
abbrev main_call1_v13 : Ref sig .tc := ⟨.hbm, 34, rfl⟩
abbrev main_call1_v14 : Ref sig .tc := ⟨.hbm, 35, rfl⟩
abbrev main_v8 : Ref sig .tc := ⟨.hbm, 36, rfl⟩
abbrev main_c_2 : Ref sig .tc := ⟨.hbm, 37, rfl⟩
abbrev main_call2_v0 : Ref sig .tc := ⟨.hbm, 38, rfl⟩
abbrev main_v9 : Ref sig .tc := ⟨.hbm, 39, rfl⟩
abbrev main_c_3 : Ref sig .tc := ⟨.hbm, 40, rfl⟩
abbrev main_v10 : Ref sig .tc := ⟨.hbm, 41, rfl⟩
abbrev main_v11 : Ref sig .tc := ⟨.hbm, 42, rfl⟩
abbrev main_c_4 : Ref sig .tc := ⟨.hbm, 43, rfl⟩
abbrev main_v12 : Ref sig .tc := ⟨.hbm, 44, rfl⟩
abbrev main_v13 : Ref sig .tc := ⟨.hbm, 45, rfl⟩
abbrev main_c_5 : Ref sig .tc := ⟨.hbm, 46, rfl⟩
abbrev main_v14 : Ref sig .tc := ⟨.hbm, 47, rfl⟩
abbrev main_v15 : Ref sig .tc := ⟨.hbm, 48, rfl⟩
abbrev main_c_6 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_cst : Ref sig .tc := ⟨.hbm, 57, rfl⟩
abbrev main_call3_v0 : Ref sig .tc := ⟨.hbm, 58, rfl⟩
abbrev main_call3_v1 : Ref sig .tc := ⟨.hbm, 59, rfl⟩
abbrev main_call3_v2 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_c_7 : Ref sig .tc := ⟨.hbm, 67, rfl⟩
abbrev main_v29 : Ref sig .tc := ⟨.hbm, 68, rfl⟩
abbrev main_v30 : Ref sig .tc := ⟨.hbm, 69, rfl⟩
abbrev main_c_8 : Ref sig .tc := ⟨.hbm, 70, rfl⟩
abbrev main_v31 : Ref sig .tc := ⟨.hbm, 71, rfl⟩
abbrev main_v32 : Ref sig .tc := ⟨.hbm, 72, rfl⟩
abbrev main_c_9 : Ref sig .tc := ⟨.hbm, 73, rfl⟩
abbrev main_v33 : Ref sig .tc := ⟨.hbm, 74, rfl⟩
abbrev main_v34 : Ref sig .tc := ⟨.hbm, 75, rfl⟩
abbrev main_c_10 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_cst_11 : Ref sig .tc := ⟨.hbm, 84, rfl⟩
abbrev main_call4_v0 : Ref sig .tc := ⟨.hbm, 85, rfl⟩
abbrev main_call4_v1 : Ref sig .tc := ⟨.hbm, 86, rfl⟩
abbrev main_call4_v2 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_c_12 : Ref sig .tc := ⟨.hbm, 95, rfl⟩
abbrev main_v49 : Ref sig .tc := ⟨.hbm, 96, rfl⟩
abbrev main_v50 : Ref sig .tc := ⟨.hbm, 97, rfl⟩
abbrev main_c_13 : Ref sig .tc := ⟨.hbm, 98, rfl⟩
abbrev main_v51 : Ref sig .tc := ⟨.hbm, 99, rfl⟩
abbrev main_v52 : Ref sig .tc := ⟨.hbm, 100, rfl⟩
abbrev main_c_14 : Ref sig .tc := ⟨.hbm, 101, rfl⟩
abbrev main_v53 : Ref sig .tc := ⟨.hbm, 102, rfl⟩
abbrev main_v54 : Ref sig .tc := ⟨.hbm, 103, rfl⟩
abbrev main_c_15 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_cst_16 : Ref sig .tc := ⟨.hbm, 112, rfl⟩
abbrev main_call5_v0 : Ref sig .tc := ⟨.hbm, 113, rfl⟩
abbrev main_call5_v1 : Ref sig .tc := ⟨.hbm, 114, rfl⟩
abbrev main_call5_v2 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_c_17 : Ref sig .tc := ⟨.hbm, 123, rfl⟩
abbrev main_v69 : Ref sig .tc := ⟨.hbm, 124, rfl⟩
abbrev main_v70 : Ref sig .tc := ⟨.hbm, 125, rfl⟩
abbrev main_c_18 : Ref sig .tc := ⟨.hbm, 126, rfl⟩
abbrev main_v71 : Ref sig .tc := ⟨.hbm, 127, rfl⟩
abbrev main_v72 : Ref sig .tc := ⟨.hbm, 128, rfl⟩
abbrev main_c_19 : Ref sig .tc := ⟨.hbm, 129, rfl⟩
abbrev main_v73 : Ref sig .tc := ⟨.hbm, 130, rfl⟩
abbrev main_v74 : Ref sig .tc := ⟨.hbm, 131, rfl⟩
abbrev main_c_20 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_cst_21 : Ref sig .tc := ⟨.hbm, 140, rfl⟩
abbrev main_call6_v0 : Ref sig .tc := ⟨.hbm, 141, rfl⟩
abbrev main_call6_v1 : Ref sig .tc := ⟨.hbm, 142, rfl⟩
abbrev main_call6_v2 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_c_22 : Ref sig .tc := ⟨.hbm, 151, rfl⟩
abbrev main_v89 : Ref sig .tc := ⟨.hbm, 152, rfl⟩
abbrev main_v90 : Ref sig .tc := ⟨.hbm, 153, rfl⟩
abbrev main_c_23 : Ref sig .tc := ⟨.hbm, 154, rfl⟩
abbrev main_v91 : Ref sig .tc := ⟨.hbm, 155, rfl⟩
abbrev main_v92 : Ref sig .tc := ⟨.hbm, 156, rfl⟩
abbrev main_c_24 : Ref sig .tc := ⟨.hbm, 157, rfl⟩
abbrev main_v93 : Ref sig .tc := ⟨.hbm, 158, rfl⟩
abbrev main_v94 : Ref sig .tc := ⟨.hbm, 159, rfl⟩
abbrev main_c_25 : Ref sig .tc := ⟨.hbm, 160, rfl⟩
abbrev main_v95 : Ref sig .tc := ⟨.hbm, 161, rfl⟩
abbrev main_v96 : Ref sig .tc := ⟨.hbm, 162, rfl⟩
abbrev main_v97 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_v101 : Ref sig .tc := ⟨.hbm, 167, rfl⟩
abbrev main_cst_26 : Ref sig .tc := ⟨.hbm, 168, rfl⟩
abbrev main_call7_v0 : Ref sig .tc := ⟨.hbm, 169, rfl⟩
abbrev main_call7_v1 : Ref sig .tc := ⟨.hbm, 170, rfl⟩
abbrev main_call7_v2 : Ref sig .tc := ⟨.hbm, 171, rfl⟩
abbrev main_v102 : Ref sig .tc := ⟨.hbm, 172, rfl⟩
abbrev main_v103 : Ref sig .tc := ⟨.hbm, 173, rfl⟩
abbrev main_v104 : Ref sig .tc := ⟨.hbm, 174, rfl⟩
abbrev main_v105 : Ref sig .tc := ⟨.hbm, 175, rfl⟩
abbrev main_v106 : Ref sig .tc := ⟨.hbm, 176, rfl⟩
abbrev main_v107 : Ref sig .tc := ⟨.hbm, 177, rfl⟩
abbrev main_v108 : Ref sig .tc := ⟨.hbm, 178, rfl⟩
abbrev main_v109 : Ref sig .tc := ⟨.hbm, 179, rfl⟩
abbrev main_v110 : Ref sig .tc := ⟨.hbm, 180, rfl⟩
abbrev main_v111 : Ref sig .tc := ⟨.hbm, 181, rfl⟩
abbrev main_call8_v0 : Ref sig .tc := ⟨.hbm, 182, rfl⟩
abbrev main_call8_v1 : Ref sig .tc := ⟨.hbm, 183, rfl⟩
abbrev main_call8_cst : Ref sig .tc := ⟨.hbm, 184, rfl⟩
abbrev main_call8_v2 : Ref sig .tc := ⟨.hbm, 185, rfl⟩
abbrev main_call8_v3 : Ref sig .tc := ⟨.hbm, 186, rfl⟩
abbrev main_call8_cst_0 : Ref sig .tc := ⟨.hbm, 187, rfl⟩
abbrev main_call8_v4 : Ref sig .tc := ⟨.hbm, 188, rfl⟩
abbrev main_call8_v5 : Ref sig .tc := ⟨.hbm, 189, rfl⟩
abbrev main_v112 : Ref sig .tc := ⟨.hbm, 190, rfl⟩
abbrev main_v113 : Ref sig .tc := ⟨.hbm, 191, rfl⟩

abbrev nD : Nat := 1
abbrev τ : Topo := Topo.v7x

variable {F : FTy → Type} [FloatOps F]
-- ==== Kernel7.lean ====
abbrev S65536x5888 : Shape := ⟨2, ![65536, 5888]⟩
abbrev S5x768 : Shape := ⟨2, ![5, 768]⟩
abbrev S768 : Shape := ⟨1, ![768]⟩
abbrev S5x256 : Shape := ⟨2, ![5, 256]⟩
abbrev S256 : Shape := ⟨1, ![256]⟩
abbrev S1x256 : Shape := ⟨2, ![1, 256]⟩
abbrev S65536x256 : Shape := ⟨2, ![65536, 256]⟩
abbrev S512x256 : Shape := ⟨2, ![512, 256]⟩
abbrev S16x256 : Shape := ⟨2, ![16, 256]⟩
abbrev S528x256 : Shape := ⟨2, ![528, 256]⟩
abbrev S8x256 : Shape := ⟨2, ![8, 256]⟩

abbrev nBuf : Space → Nat
  | .hbm => 7
  | .vmem => 11
  | .smem => 0
  | _ => 0

abbrev bufTy : (tb : Table) → Fin (tcTables nBuf tb) → BufTy
  | .hbm, ⟨0, _⟩ => ⟨S65536x5888, .bf16⟩
  | .hbm, ⟨1, _⟩ => ⟨S5x768, .f32⟩
  | .hbm, ⟨2, _⟩ => ⟨S768, .f32⟩
  | .hbm, ⟨3, _⟩ => ⟨S5x256, .f32⟩
  | .hbm, ⟨4, _⟩ => ⟨S256, .f32⟩
  | .hbm, ⟨5, _⟩ => ⟨S1x256, .f32⟩
  | .hbm, ⟨6, _⟩ => ⟨S65536x256, .bf16⟩
  | .local _ .vmem, ⟨0, _⟩ => ⟨S512x256, .bf16⟩
  | .local _ .vmem, ⟨1, _⟩ => ⟨S512x256, .bf16⟩
  | .local _ .vmem, ⟨2, _⟩ => ⟨S16x256, .bf16⟩
  | .local _ .vmem, ⟨3, _⟩ => ⟨S16x256, .bf16⟩
  | .local _ .vmem, ⟨4, _⟩ => ⟨S16x256, .bf16⟩
  | .local _ .vmem, ⟨5, _⟩ => ⟨S16x256, .bf16⟩
  | .local _ .vmem, ⟨6, _⟩ => ⟨S5x256, .f32⟩
  | .local _ .vmem, ⟨7, _⟩ => ⟨S1x256, .f32⟩
  | .local _ .vmem, ⟨8, _⟩ => ⟨S512x256, .bf16⟩
  | .local _ .vmem, ⟨9, _⟩ => ⟨S512x256, .bf16⟩
  | .local _ .vmem, ⟨10, _⟩ => ⟨S528x256, .f32⟩
  | _, _ => ⟨S65536x5888, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c22_i32 : BitVec 32 := 22#32
  let c0_i32 : BitVec 32 := 0#32
  ![arg0.toNat, c22_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c22_i32 : BitVec 32 := 22#32
  let c0_i32_0 : BitVec 32 := 0#32
  ![v2.toNat, c22_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c4095_i32 : BitVec 32 := 4095#32
  let v2 : BitVec 32 := Scalar.minsi v1 c4095_i32
  let c22_i32 : BitVec 32 := 22#32
  let c0_i32 : BitVec 32 := 0#32
  ![v2.toNat, c22_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S5x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S65536x5888 : Shape := ⟨2, ![65536, 5888]⟩
abbrev S5x768 : Shape := ⟨2, ![5, 768]⟩
abbrev S768 : Shape := ⟨1, ![768]⟩
abbrev S65536x256 : Shape := ⟨2, ![65536, 256]⟩
abbrev S5x256 : Shape := ⟨2, ![5, 256]⟩
abbrev S256 : Shape := ⟨1, ![256]⟩
abbrev S65536 : Shape := ⟨1, ![65536]⟩
abbrev S_ : Shape := ⟨0, ![]⟩
abbrev S65540x256 : Shape := ⟨2, ![65540, 256]⟩
abbrev S65536x1 : Shape := ⟨2, ![65536, 1]⟩
abbrev S1x256 : Shape := ⟨2, ![1, 256]⟩

abbrev nBuf : Space → Nat
  | .hbm => 192
  | .vmem => 0
  | .smem => 0
  | _ => 0

abbrev hbmTy0_0 (i : Nat) : BufTy := match i % 128 with
  | 0 => ⟨S65536x5888, .bf16⟩
  | 1 => ⟨S5x768, .f32⟩
  | 2 => ⟨S768, .f32⟩
  | 3 => ⟨S65536x256, .bf16⟩
  | 4 => ⟨S65536x256, .f32⟩
  | 5 => ⟨S5x256, .f32⟩
  | 6 => ⟨S256, .f32⟩
  | 7 => ⟨S65536, .i32⟩
  | 8 => ⟨S_, .i32⟩
  | 9 => ⟨S65536, .i32⟩
  | 10 => ⟨S65536, .i1⟩
  | 11 => ⟨S_, .i32⟩
  | 12 => ⟨S_, .i32⟩
  | 13 => ⟨S65536, .i32⟩
  | 14 => ⟨S65536, .i32⟩
  | 15 => ⟨S65536, .i32⟩
  | 16 => ⟨S65536, .i32⟩
  | 17 => ⟨S_, .i32⟩
  | 18 => ⟨S65536, .i32⟩
  | 19 => ⟨S65536, .i1⟩
  | 20 => ⟨S_, .i32⟩
  | 21 => ⟨S65536, .i32⟩
  | 22 => ⟨S65536, .i32⟩
  | 23 => ⟨S65536, .i32⟩
  | 24 => ⟨S_, .i32⟩
  | 25 => ⟨S65536, .i32⟩
  | 26 => ⟨S65536, .i1⟩
  | 27 => ⟨S_, .i32⟩
  | 28 => ⟨S65536, .i32⟩
  | 29 => ⟨S65536, .i1⟩
  | 30 => ⟨S_, .i32⟩
  | 31 => ⟨S65536, .i32⟩
  | 32 => ⟨S65536, .i1⟩
  | 33 => ⟨S65536, .i1⟩
  | 34 => ⟨S65536, .i1⟩
  | 35 => ⟨S65536, .i32⟩
  | 36 => ⟨S65536, .i32⟩
  | 37 => ⟨S_, .i32⟩
  | 38 => ⟨S_, .f32⟩
  | 39 => ⟨S65540x256, .f32⟩
  | 40 => ⟨S_, .i32⟩
  | 41 => ⟨S65536, .i32⟩
  | 42 => ⟨S65536, .i32⟩
  | 43 => ⟨S_, .i32⟩
  | 44 => ⟨S65536, .i32⟩
  | 45 => ⟨S65536, .i1⟩
  | 46 => ⟨S_, .i32⟩
  | 47 => ⟨S65536, .i32⟩
  | 48 => ⟨S65536, .i32⟩
  | 49 => ⟨S_, .i32⟩
  | 50 => ⟨S65536, .i32⟩
  | 51 => ⟨S65536, .i32⟩
  | 52 => ⟨S65536, .i32⟩
  | 53 => ⟨S65536, .i1⟩
  | 54 => ⟨S65536, .i1⟩
  | 55 => ⟨S65536x1, .i1⟩
  | 56 => ⟨S65536x256, .f32⟩
  | 57 => ⟨S_, .f32⟩
  | 58 => ⟨S_, .f32⟩
  | 59 => ⟨S65536x256, .i1⟩
  | 60 => ⟨S65536x256, .f32⟩
  | 61 => ⟨S65536x256, .f32⟩
  | 62 => ⟨S1x256, .f32⟩
  | 63 => ⟨S256, .f32⟩
  | 64 => ⟨S1x256, .f32⟩
  | 65 => ⟨S65536x256, .f32⟩
  | 66 => ⟨S65536x256, .f32⟩
  | 67 => ⟨S_, .i32⟩
  | 68 => ⟨S65536, .i32⟩
  | 69 => ⟨S65536, .i32⟩
  | 70 => ⟨S_, .i32⟩
  | 71 => ⟨S65536, .i32⟩
  | 72 => ⟨S65536, .i1⟩
  | 73 => ⟨S_, .i32⟩
  | 74 => ⟨S65536, .i32⟩
  | 75 => ⟨S65536, .i32⟩
  | 76 => ⟨S_, .i32⟩
  | 77 => ⟨S65536, .i32⟩
  | 78 => ⟨S65536, .i32⟩
  | 79 => ⟨S65536, .i32⟩
  | 80 => ⟨S65536, .i1⟩
  | 81 => ⟨S65536, .i1⟩
  | 82 => ⟨S65536x1, .i1⟩
  | 83 => ⟨S65536x256, .f32⟩
  | 84 => ⟨S_, .f32⟩
  | 85 => ⟨S_, .f32⟩
  | 86 => ⟨S65536x256, .i1⟩
  | 87 => ⟨S65536x256, .f32⟩
  | 88 => ⟨S65536x256, .f32⟩
  | 89 => ⟨S1x256, .f32⟩
  | 90 => ⟨S256, .f32⟩
  | 91 => ⟨S1x256, .f32⟩
  | 92 => ⟨S65536x256, .f32⟩
  | 93 => ⟨S65536x256, .f32⟩
  | 94 => ⟨S65536x256, .f32⟩
  | 95 => ⟨S_, .i32⟩
  | 96 => ⟨S65536, .i32⟩
  | 97 => ⟨S65536, .i32⟩
  | 98 => ⟨S_, .i32⟩
  | 99 => ⟨S65536, .i32⟩
  | 100 => ⟨S65536, .i1⟩
  | 101 => ⟨S_, .i32⟩
  | 102 => ⟨S65536, .i32⟩
  | 103 => ⟨S65536, .i32⟩
  | 104 => ⟨S_, .i32⟩
  | 105 => ⟨S65536, .i32⟩
  | 106 => ⟨S65536, .i32⟩
  | 107 => ⟨S65536, .i32⟩
  | 108 => ⟨S65536, .i1⟩
  | 109 => ⟨S65536, .i1⟩
  | 110 => ⟨S65536x1, .i1⟩
  | 111 => ⟨S65536x256, .f32⟩
  | 112 => ⟨S_, .f32⟩
  | 113 => ⟨S_, .f32⟩
  | 114 => ⟨S65536x256, .i1⟩
  | 115 => ⟨S65536x256, .f32⟩
  | 116 => ⟨S65536x256, .f32⟩
  | 117 => ⟨S1x256, .f32⟩
  | 118 => ⟨S256, .f32⟩
  | 119 => ⟨S1x256, .f32⟩
  | 120 => ⟨S65536x256, .f32⟩
  | 121 => ⟨S65536x256, .f32⟩
  | 122 => ⟨S65536x256, .f32⟩
  | 123 => ⟨S_, .i32⟩
  | 124 => ⟨S65536, .i32⟩
  | 125 => ⟨S65536, .i32⟩
  | 126 => ⟨S_, .i32⟩
  | 127 => ⟨S65536, .i32⟩
  | _ => ⟨S65536x5888, .bf16⟩

abbrev hbmTy0_1 (i : Nat) : BufTy := match i % 128 with
  | 0 => ⟨S65536, .i1⟩
  | 1 => ⟨S_, .i32⟩
  | 2 => ⟨S65536, .i32⟩
  | 3 => ⟨S65536, .i32⟩
  | 4 => ⟨S_, .i32⟩
  | 5 => ⟨S65536, .i32⟩
  | 6 => ⟨S65536, .i32⟩
  | 7 => ⟨S65536, .i32⟩
  | 8 => ⟨S65536, .i1⟩
  | 9 => ⟨S65536, .i1⟩
  | 10 => ⟨S65536x1, .i1⟩
  | 11 => ⟨S65536x256, .f32⟩
  | 12 => ⟨S_, .f32⟩
  | 13 => ⟨S_, .f32⟩
  | 14 => ⟨S65536x256, .i1⟩
  | 15 => ⟨S65536x256, .f32⟩
  | 16 => ⟨S65536x256, .f32⟩
  | 17 => ⟨S1x256, .f32⟩
  | 18 => ⟨S256, .f32⟩
  | 19 => ⟨S1x256, .f32⟩
  | 20 => ⟨S65536x256, .f32⟩
  | 21 => ⟨S65536x256, .f32⟩
  | 22 => ⟨S65536x256, .f32⟩
  | 23 => ⟨S_, .i32⟩
  | 24 => ⟨S65536, .i32⟩
  | 25 => ⟨S65536, .i32⟩
  | 26 => ⟨S_, .i32⟩
  | 27 => ⟨S65536, .i32⟩
  | 28 => ⟨S65536, .i1⟩
  | 29 => ⟨S_, .i32⟩
  | 30 => ⟨S65536, .i32⟩
  | 31 => ⟨S65536, .i32⟩
  | 32 => ⟨S_, .i32⟩
  | 33 => ⟨S65536, .i32⟩
  | 34 => ⟨S65536, .i32⟩
  | 35 => ⟨S65536, .i32⟩
  | 36 => ⟨S65536, .i1⟩
  | 37 => ⟨S65536, .i1⟩
  | 38 => ⟨S65536x1, .i1⟩
  | 39 => ⟨S65536x256, .f32⟩
  | 40 => ⟨S_, .f32⟩
  | 41 => ⟨S_, .f32⟩
  | 42 => ⟨S65536x256, .i1⟩
  | 43 => ⟨S65536x256, .f32⟩
  | 44 => ⟨S65536x256, .f32⟩
  | 45 => ⟨S1x256, .f32⟩
  | 46 => ⟨S256, .f32⟩
  | 47 => ⟨S1x256, .f32⟩
  | 48 => ⟨S65536x256, .f32⟩
  | 49 => ⟨S65536x256, .f32⟩
  | 50 => ⟨S65536x256, .f32⟩
  | 51 => ⟨S1x256, .f32⟩
  | 52 => ⟨S65536x256, .f32⟩
  | 53 => ⟨S65536x256, .f32⟩
  | 54 => ⟨S65536x256, .f32⟩
  | 55 => ⟨S65536x256, .f32⟩
  | 56 => ⟨S_, .f32⟩
  | 57 => ⟨S65536x256, .f32⟩
  | 58 => ⟨S65536x256, .f32⟩
  | 59 => ⟨S_, .f32⟩
  | 60 => ⟨S65536x256, .f32⟩
  | 61 => ⟨S65536x256, .f32⟩
  | 62 => ⟨S65536x256, .f32⟩
  | 63 => ⟨S65536x256, .bf16⟩
  | _ => ⟨S65536x5888, .bf16⟩

abbrev hbmTy (i : Nat) : BufTy := match i / 128 with
  | 0 => hbmTy0_0 i
  | 1 => hbmTy0_1 i
  | _ => ⟨S65536x5888, .bf16⟩

abbrev bufTy : (tb : Table) → Fin (tcTables nBuf tb) → BufTy
  | .hbm, ⟨i, _⟩ => hbmTy i
  | _, _ => ⟨S65536x5888, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_v7 : Ref sig .tc := ⟨.hbm, 15, rfl⟩
abbrev main_call1_v0 : Ref sig .tc := ⟨.hbm, 16, rfl⟩
abbrev main_call1_c : Ref sig .tc := ⟨.hbm, 17, rfl⟩
abbrev main_call1_v1 : Ref sig .tc := ⟨.hbm, 18, rfl⟩
abbrev main_call1_v2 : Ref sig .tc := ⟨.hbm, 19, rfl⟩
abbrev main_call1_c_0 : Ref sig .tc := ⟨.hbm, 20, rfl⟩
abbrev main_call1_v3 : Ref sig .tc := ⟨.hbm, 21, rfl⟩
abbrev main_call1_v4 : Ref sig .tc := ⟨.hbm, 22, rfl⟩
abbrev main_call1_v5 : Ref sig .tc := ⟨.hbm, 23, rfl⟩
abbrev main_call1_c_1 : Ref sig .tc := ⟨.hbm, 24, rfl⟩
abbrev main_call1_v6 : Ref sig .tc := ⟨.hbm, 25, rfl⟩
abbrev main_call1_v7 : Ref sig .tc := ⟨.hbm, 26, rfl⟩
abbrev main_call1_c_2 : Ref sig .tc := ⟨.hbm, 27, rfl⟩
abbrev main_call1_v8 : Ref sig .tc := ⟨.hbm, 28, rfl⟩
abbrev main_call1_v9 : Ref sig .tc := ⟨.hbm, 29, rfl⟩
abbrev main_call1_c_3 : Ref sig .tc := ⟨.hbm, 30, rfl⟩
abbrev main_call1_v10 : Ref sig .tc := ⟨.hbm, 31, rfl⟩
abbrev main_call1_v11 : Ref sig .tc := ⟨.hbm, 32, rfl⟩
abbrev main_call1_v12 : Ref sig .tc := ⟨.hbm, 33, rfl⟩
abbrev main_call1_v13 : Ref sig .tc := ⟨.hbm, 34, rfl⟩
abbrev main_call1_v14 : Ref sig .tc := ⟨.hbm, 35, rfl⟩
abbrev main_v8 : Ref sig .tc := ⟨.hbm, 36, rfl⟩
abbrev main_c_2 : Ref sig .tc := ⟨.hbm, 37, rfl⟩
abbrev main_call2_v0 : Ref sig .tc := ⟨.hbm, 38, rfl⟩
abbrev main_v9 : Ref sig .tc := ⟨.hbm, 39, rfl⟩
abbrev main_c_3 : Ref sig .tc := ⟨.hbm, 40, rfl⟩
abbrev main_v10 : Ref sig .tc := ⟨.hbm, 41, rfl⟩
abbrev main_v11 : Ref sig .tc := ⟨.hbm, 42, rfl⟩
abbrev main_c_4 : Ref sig .tc := ⟨.hbm, 43, rfl⟩
abbrev main_v12 : Ref sig .tc := ⟨.hbm, 44, rfl⟩
abbrev main_v13 : Ref sig .tc := ⟨.hbm, 45, rfl⟩
abbrev main_c_5 : Ref sig .tc := ⟨.hbm, 46, rfl⟩
abbrev main_v14 : Ref sig .tc := ⟨.hbm, 47, rfl⟩
abbrev main_v15 : Ref sig .tc := ⟨.hbm, 48, rfl⟩
abbrev main_c_6 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_cst : Ref sig .tc := ⟨.hbm, 57, rfl⟩
abbrev main_call3_v0 : Ref sig .tc := ⟨.hbm, 58, rfl⟩
abbrev main_call3_v1 : Ref sig .tc := ⟨.hbm, 59, rfl⟩
abbrev main_call3_v2 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_c_7 : Ref sig .tc := ⟨.hbm, 67, rfl⟩
abbrev main_v29 : Ref sig .tc := ⟨.hbm, 68, rfl⟩
abbrev main_v30 : Ref sig .tc := ⟨.hbm, 69, rfl⟩
abbrev main_c_8 : Ref sig .tc := ⟨.hbm, 70, rfl⟩
abbrev main_v31 : Ref sig .tc := ⟨.hbm, 71, rfl⟩
abbrev main_v32 : Ref sig .tc := ⟨.hbm, 72, rfl⟩
abbrev main_c_9 : Ref sig .tc := ⟨.hbm, 73, rfl⟩
abbrev main_v33 : Ref sig .tc := ⟨.hbm, 74, rfl⟩
abbrev main_v34 : Ref sig .tc := ⟨.hbm, 75, rfl⟩
abbrev main_c_10 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_cst_11 : Ref sig .tc := ⟨.hbm, 84, rfl⟩
abbrev main_call4_v0 : Ref sig .tc := ⟨.hbm, 85, rfl⟩
abbrev main_call4_v1 : Ref sig .tc := ⟨.hbm, 86, rfl⟩
abbrev main_call4_v2 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_c_12 : Ref sig .tc := ⟨.hbm, 95, rfl⟩
abbrev main_v49 : Ref sig .tc := ⟨.hbm, 96, rfl⟩
abbrev main_v50 : Ref sig .tc := ⟨.hbm, 97, rfl⟩
abbrev main_c_13 : Ref sig .tc := ⟨.hbm, 98, rfl⟩
abbrev main_v51 : Ref sig .tc := ⟨.hbm, 99, rfl⟩
abbrev main_v52 : Ref sig .tc := ⟨.hbm, 100, rfl⟩
abbrev main_c_14 : Ref sig .tc := ⟨.hbm, 101, rfl⟩
abbrev main_v53 : Ref sig .tc := ⟨.hbm, 102, rfl⟩
abbrev main_v54 : Ref sig .tc := ⟨.hbm, 103, rfl⟩
abbrev main_c_15 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_cst_16 : Ref sig .tc := ⟨.hbm, 112, rfl⟩
abbrev main_call5_v0 : Ref sig .tc := ⟨.hbm, 113, rfl⟩
abbrev main_call5_v1 : Ref sig .tc := ⟨.hbm, 114, rfl⟩
abbrev main_call5_v2 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_c_17 : Ref sig .tc := ⟨.hbm, 123, rfl⟩
abbrev main_v69 : Ref sig .tc := ⟨.hbm, 124, rfl⟩
abbrev main_v70 : Ref sig .tc := ⟨.hbm, 125, rfl⟩
abbrev main_c_18 : Ref sig .tc := ⟨.hbm, 126, rfl⟩
abbrev main_v71 : Ref sig .tc := ⟨.hbm, 127, rfl⟩
abbrev main_v72 : Ref sig .tc := ⟨.hbm, 128, rfl⟩
abbrev main_c_19 : Ref sig .tc := ⟨.hbm, 129, rfl⟩
abbrev main_v73 : Ref sig .tc := ⟨.hbm, 130, rfl⟩
abbrev main_v74 : Ref sig .tc := ⟨.hbm, 131, rfl⟩
abbrev main_c_20 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_cst_21 : Ref sig .tc := ⟨.hbm, 140, rfl⟩
abbrev main_call6_v0 : Ref sig .tc := ⟨.hbm, 141, rfl⟩
abbrev main_call6_v1 : Ref sig .tc := ⟨.hbm, 142, rfl⟩
abbrev main_call6_v2 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_c_22 : Ref sig .tc := ⟨.hbm, 151, rfl⟩
abbrev main_v89 : Ref sig .tc := ⟨.hbm, 152, rfl⟩
abbrev main_v90 : Ref sig .tc := ⟨.hbm, 153, rfl⟩
abbrev main_c_23 : Ref sig .tc := ⟨.hbm, 154, rfl⟩
abbrev main_v91 : Ref sig .tc := ⟨.hbm, 155, rfl⟩
abbrev main_v92 : Ref sig .tc := ⟨.hbm, 156, rfl⟩
abbrev main_c_24 : Ref sig .tc := ⟨.hbm, 157, rfl⟩
abbrev main_v93 : Ref sig .tc := ⟨.hbm, 158, rfl⟩
abbrev main_v94 : Ref sig .tc := ⟨.hbm, 159, rfl⟩
abbrev main_c_25 : Ref sig .tc := ⟨.hbm, 160, rfl⟩
abbrev main_v95 : Ref sig .tc := ⟨.hbm, 161, rfl⟩
abbrev main_v96 : Ref sig .tc := ⟨.hbm, 162, rfl⟩
abbrev main_v97 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_v101 : Ref sig .tc := ⟨.hbm, 167, rfl⟩
abbrev main_cst_26 : Ref sig .tc := ⟨.hbm, 168, rfl⟩
abbrev main_call7_v0 : Ref sig .tc := ⟨.hbm, 169, rfl⟩
abbrev main_call7_v1 : Ref sig .tc := ⟨.hbm, 170, rfl⟩
abbrev main_call7_v2 : Ref sig .tc := ⟨.hbm, 171, rfl⟩
abbrev main_v102 : Ref sig .tc := ⟨.hbm, 172, rfl⟩
abbrev main_v103 : Ref sig .tc := ⟨.hbm, 173, rfl⟩
abbrev main_v104 : Ref sig .tc := ⟨.hbm, 174, rfl⟩
abbrev main_v105 : Ref sig .tc := ⟨.hbm, 175, rfl⟩
abbrev main_v106 : Ref sig .tc := ⟨.hbm, 176, rfl⟩
abbrev main_v107 : Ref sig .tc := ⟨.hbm, 177, rfl⟩
abbrev main_v108 : Ref sig .tc := ⟨.hbm, 178, rfl⟩
abbrev main_v109 : Ref sig .tc := ⟨.hbm, 179, rfl⟩
abbrev main_v110 : Ref sig .tc := ⟨.hbm, 180, rfl⟩
abbrev main_v111 : Ref sig .tc := ⟨.hbm, 181, rfl⟩
abbrev main_call8_v0 : Ref sig .tc := ⟨.hbm, 182, rfl⟩
abbrev main_call8_v1 : Ref sig .tc := ⟨.hbm, 183, rfl⟩
abbrev main_call8_cst : Ref sig .tc := ⟨.hbm, 184, rfl⟩
abbrev main_call8_v2 : Ref sig .tc := ⟨.hbm, 185, rfl⟩
abbrev main_call8_v3 : Ref sig .tc := ⟨.hbm, 186, rfl⟩
abbrev main_call8_cst_0 : Ref sig .tc := ⟨.hbm, 187, rfl⟩
abbrev main_call8_v4 : Ref sig .tc := ⟨.hbm, 188, rfl⟩
abbrev main_call8_v5 : Ref sig .tc := ⟨.hbm, 189, rfl⟩
abbrev main_v112 : Ref sig .tc := ⟨.hbm, 190, rfl⟩
abbrev main_v113 : Ref sig .tc := ⟨.hbm, 191, rfl⟩

abbrev nD : Nat := 1
abbrev τ : Topo := Topo.v7x

variable {F : FTy → Type} [FloatOps F]
-- ==== Proof.Readback.lean ====
/- The two scratch buffers of the attention body, read back: the scores a grid row stores in four slabs, read whole, and
   a slab of the probabilities it stores whole. -/
module

public import proofs.«01_k».proof.Proof.Gen.KernelIdeal.Value
public import Idealize.ShloMosaic.Lib.Pipeline.ValueKit
public import Idealize.ShloMosaic.Lib.Pipeline.ReadBack
public import Idealize.ShloMosaic.Lib.Pointwise

@[expose] public section
set_option maxRecDepth 16384
noncomputable section
namespace Cert.KernelIdeal.Value
open Cert.KernelIdeal Cert.KernelIdeal.Gen Idealize.ShloMosaic Idealize.ShloMosaic.TcCoe Idealize.SL.Sem

/-- Four slabs of 128 rows, one below the other. -/
def stack4 {α : Type} (a0 a1 a2 a3 : S1x128x512.Idx → α) : S1x512x512.Idx → α := fun j =>
  if h0 : (j 1).val < 128 then a0 (ix3 0 ⟨(j 1).val, h0⟩ (j 2))
  else if h1 : (j 1).val < 256 then a1 (ix3 0 ⟨(j 1).val - 128, by omega⟩ (j 2))
  else if h2 : (j 1).val < 384 then a2 (ix3 0 ⟨(j 1).val - 256, by omega⟩ (j 2))
  else a3 (ix3 0 ⟨(j 1).val - 384, by have : (j 1).val < 512 := (j 1).isLt; omega⟩ (j 2))

/-- The slab of 128 rows from row `d` on. -/
def slab {α : Type} (d : ℕ) (hd : d + 128 ≤ 512) (a : S1x512x512.Idx → α) : S1x128x512.Idx → α := fun j =>
  a (ix3 0 ⟨d + (j 1).val, by have : (j 1).val < 128 := (j 1).isLt; omega⟩ (j 2))

variable {e : EltTy}

theorem emb3 {s d : ℕ} (h : ∀ a, (![s, d, 0] : Fin 3 → ℕ) a + (![1, 128, 512] : Fin 3 → ℕ) a ≤ S2x512x512.size a) (z : S1x128x512.Idx)
    (y : S2x512x512.Idx) (h0 : (y 0).val = s) (h1 : (y 1).val = d + (z 1).val) (h2 : (y 2).val = (z 2).val) :
    y = (Rect.unit (s := S2x512x512) ![s, d, 0] ![1, 128, 512] h).emb z := by
  have hz : (z 0).val < 1 := (z 0).isLt
  funext a
  apply Fin.ext
  match a with
  | ⟨0, _⟩ => show (y 0).val = s + 1 * (z 0).val; omega
  | ⟨1, _⟩ => show (y 1).val = d + 1 * (z 1).val; omega
  | ⟨2, _⟩ => show (y 2).val = 0 + 1 * (z 2).val; omega

theorem not_mem3 {s d : ℕ} (h : ∀ a, (![s, d, 0] : Fin 3 → ℕ) a + (![1, 128, 512] : Fin 3 → ℕ) a ≤ S2x512x512.size a) (y : S2x512x512.Idx)
    (h1 : (y 1).val < d ∨ d + 128 ≤ (y 1).val) : y ∉ (Rect.unit (s := S2x512x512) ![s, d, 0] ![1, 128, 512] h).set := by
  intro hm
  obtain ⟨j, hj, he⟩ := (LoadRect.mem_set _).mp hm 1
  have hj' : j < 128 := hj
  have he' : (y 1).val = d + 1 * j := he
  omega

/-- Where the last store's slab holds the index, the stored slab there; where it does not, the earlier stores. -/
theorem slab_hit {s d : ℕ} (h : ∀ a, (![s, d, 0] : Fin 3 → ℕ) a + (![1, 128, 512] : Fin 3 → ℕ) a ≤ S2x512x512.size a)
    (a : (Rect.unit (s := S2x512x512) ![s, d, 0] ![1, 128, 512] h).shape.Idx → Elt Ideal e) (L : List (View.Piece (Elt Ideal) S2x512x512 e))
    (y : S2x512x512.Idx) (z : S1x128x512.Idx) (h0 : (y 0).val = s) (h1 : (y 1).val = d + (z 1).val) (h2 : (y 2).val = (z 2).val) :
    View.canon (⟨Rect.unit ![s, d, 0] ![1, 128, 512] h, a⟩ :: L) y = a z := by
  rw [emb3 h z y h0 h1 h2, View.canon_cons_emb]

theorem slab_miss {s d : ℕ} (h : ∀ a, (![s, d, 0] : Fin 3 → ℕ) a + (![1, 128, 512] : Fin 3 → ℕ) a ≤ S2x512x512.size a)
    (a : (Rect.unit (s := S2x512x512) ![s, d, 0] ![1, 128, 512] h).shape.Idx → Elt Ideal e) (L : List (View.Piece (Elt Ideal) S2x512x512 e))
    (y : S2x512x512.Idx) (h1 : (y 1).val < d ∨ d + 128 ≤ (y 1).val) :
    View.canon (⟨Rect.unit ![s, d, 0] ![1, 128, 512] h, a⟩ :: L) y = View.canon L y :=
  View.canon_cons_of_not_mem _ _ (not_mem3 h y h1)

/-- Four slabs stored one after the other into a slot, read whole. -/
theorem readCov_stack4 (v : View sig .tc .vmem S2x512x512 e) (s : ℕ)
    (h3 : ∀ a, (![s, 384, 0] : Fin 3 → ℕ) a + (![1, 128, 512] : Fin 3 → ℕ) a ≤ S2x512x512.size a)
    (h2 : ∀ a, (![s, 256, 0] : Fin 3 → ℕ) a + (![1, 128, 512] : Fin 3 → ℕ) a ≤ S2x512x512.size a)
    (h1 : ∀ a, (![s, 128, 0] : Fin 3 → ℕ) a + (![1, 128, 512] : Fin 3 → ℕ) a ≤ S2x512x512.size a)
    (h0 : ∀ a, (![s, 0, 0] : Fin 3 → ℕ) a + (![1, 128, 512] : Fin 3 → ℕ) a ≤ S2x512x512.size a)
    (hr : ∀ a, (![s, 0, 0] : Fin 3 → ℕ) a + (![1, 512, 512] : Fin 3 → ℕ) a ≤ S2x512x512.size a)
    (a3 : (Rect.unit (s := S2x512x512) ![s, 384, 0] ![1, 128, 512] h3).shape.Idx → Elt Ideal e)
    (a2 : (Rect.unit (s := S2x512x512) ![s, 256, 0] ![1, 128, 512] h2).shape.Idx → Elt Ideal e)
    (a1 : (Rect.unit (s := S2x512x512) ![s, 128, 0] ![1, 128, 512] h1).shape.Idx → Elt Ideal e)
    (a0 : (Rect.unit (s := S2x512x512) ![s, 0, 0] ![1, 128, 512] h0).shape.Idx → Elt Ideal e)
    (L : List (View.Piece (Elt Ideal) S2x512x512 e)) :
    v.readCov (⟨Rect.unit ![s, 384, 0] ![1, 128, 512] h3, a3⟩ :: ⟨Rect.unit ![s, 256, 0] ![1, 128, 512] h2, a2⟩ ::
        ⟨Rect.unit ![s, 128, 0] ![1, 128, 512] h1, a1⟩ :: ⟨Rect.unit ![s, 0, 0] ![1, 128, 512] h0, a0⟩ :: L)
      (Rect.unit ![s, 0, 0] ![1, 512, 512] hr).toLoadRect = stack4 a0 a1 a2 a3 := by
  rw [View.readCov_eq_canon']
  funext j
  have y0 : ((Rect.unit (s := S2x512x512) ![s, 0, 0] ![1, 512, 512] hr).toLoadRect.idx j 0).val = s := by
    have : (j 0).val < 1 := (j 0).isLt
    show s + 1 * (j 0).val = s
    omega
  have y1 : ((Rect.unit (s := S2x512x512) ![s, 0, 0] ![1, 512, 512] hr).toLoadRect.idx j 1).val = (j 1).val := by
    show 0 + 1 * (j 1).val = (j 1).val
    omega
  have y2 : ((Rect.unit (s := S2x512x512) ![s, 0, 0] ![1, 512, 512] hr).toLoadRect.idx j 2).val = (j 2).val := by
    show 0 + 1 * (j 2).val = (j 2).val
    omega
  beta_reduce
  generalize (Rect.unit (s := S2x512x512) ![s, 0, 0] ![1, 512, 512] hr).toLoadRect.idx j = y at y0 y1 y2 ⊢
  have hj : (j 1).val < 512 := (j 1).isLt
  by_cases c0 : (j 1).val < 128
  · refine (slab_miss h3 _ _ y (by omega)).trans ((slab_miss h2 _ _ y (by omega)).trans ((slab_miss h1 _ _ y (by omega)).trans
      ((slab_hit h0 _ _ y (ix3 0 ⟨(j 1).val, c0⟩ (j 2)) y0 (by rw [y1]; exact (Nat.zero_add _).symm) y2).trans ?_)))
    unfold stack4
    rw [dif_pos c0]
  by_cases c1 : (j 1).val < 256
  · refine (slab_miss h3 _ _ y (by omega)).trans ((slab_miss h2 _ _ y (by omega)).trans
      ((slab_hit h1 _ _ y (ix3 0 ⟨(j 1).val - 128, by omega⟩ (j 2)) y0 (by show _ = 128 + ((j 1).val - 128); omega) y2).trans ?_))
    unfold stack4
    rw [dif_neg c0, dif_pos c1]
  by_cases c2 : (j 1).val < 384
  · refine (slab_miss h3 _ _ y (by omega)).trans
      ((slab_hit h2 _ _ y (ix3 0 ⟨(j 1).val - 256, by omega⟩ (j 2)) y0 (by show _ = 256 + ((j 1).val - 256); omega) y2).trans ?_)
    unfold stack4
    rw [dif_neg c0, dif_neg c1, dif_pos c2]
  · refine (slab_hit h3 _ _ y (ix3 0 ⟨(j 1).val - 384, by omega⟩ (j 2)) y0 (by show _ = 384 + ((j 1).val - 384); omega) y2).trans ?_
    unfold stack4
    rw [dif_neg c0, dif_neg c1, dif_neg c2]

/-- A slot stored whole, read in a slab. -/
theorem readCov_slab (v : View sig .tc .vmem S2x512x512 e) (s d : ℕ)
    (hw : ∀ a, (![s, 0, 0] : Fin 3 → ℕ) a + (![1, 512, 512] : Fin 3 → ℕ) a ≤ S2x512x512.size a)
    (hr : ∀ a, (![s, d, 0] : Fin 3 → ℕ) a + (![1, 128, 512] : Fin 3 → ℕ) a ≤ S2x512x512.size a)
    (a : (Rect.unit (s := S2x512x512) ![s, 0, 0] ![1, 512, 512] hw).shape.Idx → Elt Ideal e)
    (L : List (View.Piece (Elt Ideal) S2x512x512 e)) :
    v.readCov (⟨Rect.unit ![s, 0, 0] ![1, 512, 512] hw, a⟩ :: L) (Rect.unit ![s, d, 0] ![1, 128, 512] hr).toLoadRect
      = slab d (hr 1) a := by
  rw [View.readCov_eq_canon']
  funext j
  have hj0 : (j 0).val < 1 := (j 0).isLt
  have hj1 : (j 1).val < 128 := (j 1).isLt
  have hd : d + 128 ≤ 512 := hr 1
  have : (Rect.unit (s := S2x512x512) ![s, d, 0] ![1, 128, 512] hr).toLoadRect.idx j
      = (Rect.unit (s := S2x512x512) ![s, 0, 0] ![1, 512, 512] hw).emb (ix3 0 ⟨d + (j 1).val, by omega⟩ (j 2)) := by
    funext b
    apply Fin.ext
    match b with
    | ⟨0, _⟩ => show s + 1 * (j 0).val = s + 1 * 0; omega
    | ⟨1, _⟩ => show d + 1 * (j 1).val = 0 + 1 * (d + (j 1).val); omega
    | ⟨2, _⟩ => show 0 + 1 * (j 2).val = 0 + 1 * (j 2).val; rfl
  rw [this, View.canon_cons_emb]
  rfl

/-- One grid row of the attention: the scores of the four pairs of heads, their softmax numerators, the sums' inverses,
    and the weighted sums of the values, from the queries, keys, position biases and values of the row. -/
def rowF (xq : Vec Ideal S64x512 .bf16) (k0 k1 k2 k3 : Vec Ideal S512x128 .bf16) (b0 b1 b2 b3 : Vec Ideal S1x128x512 .f32)
    (v0 v1 v2 v3 : Vec Ideal S512x128 .bf16) : FVec Ideal S64x512 .bf16 :=
  let S : FVec Ideal S1x512x512 .f32 := stack4 (k0_pay5 (k0_pay4 xq) k0 b0) (k0_pay6 k0_pay2 (k0_pay3 xq) k1 b1) (k0_pay8 (k0_pay7 k0_pay2 (k0_pay3 xq) k2) b2)
    (k0_pay9 k0_pay2 (k0_pay3 xq) k3 b3)
  let p : FVec Ideal S1x512x512 .bf16 := k0_pay13 (k0_pay12 S)
  k0_pay18 k0_pay2 (k0_pay11 S) (k0_pay14 k0_pay2 (k0_pay11 S) (slab 0 (by omega) p) v0)
    (k0_pay15 k0_pay2 (k0_pay11 S) (slab 128 (by omega) p) v1) (k0_pay16 k0_pay2 (k0_pay11 S) (slab 256 (by omega) p) v2)
    (k0_pay17 (F := Ideal) (slab 384 (by omega) p)) v3 (constant S128x128 .f32 0x00000000#32)

end Cert.KernelIdeal.Value
end
-- ==== Proof.Row.lean ====
/- One grid row of the attention, read at an index: the two heads of a pair share the lanes of one product, each row of
   which is zero on the other head's lanes. -/
module

public import proofs.«01_k».proof.Proof.Readback

@[expose] public section
set_option maxRecDepth 16384
noncomputable section
namespace Cert.KernelIdeal.Value
open Cert.KernelIdeal Cert.KernelIdeal.Gen Idealize.ShloMosaic Idealize.ShloMosaic.TcCoe Idealize.SL.Sem

/-- The factor the queries are scaled by. -/
def scale : EReal := Ideal.ofBits .f32 0x3E000000#32

theorem lane_low : ∀ x : Fin 128, IntOp.cmpi CmpIPredicate.slt (BitVec.ofNat 32 x.val) 64#32 = if x.val < 64 then 1#1 else 0#1 := by
  decide +kernel

theorem select_low (x : Fin 128) (a b : EReal) :
    Scalar.select (IntOp.cmpi CmpIPredicate.slt (BitVec.ofNat 32 x.val) 64#32) a b = if x.val < 64 then a else b := by
  rw [lane_low x]
  split <;> rfl

/-- The row of the stacked pair of heads for head `half` and query `c`. -/
def prow (half : Fin 2) (c : Fin 64) : Fin 128 := ⟨64 * half.val + c.val, by omega⟩

theorem pair_sum (g : Fin 64 → Fin 128 → EReal) (k : Fin 128 → EReal) (half : Fin 2) (c : Fin 64) :
    (∑ x : Fin 128, (if h : (prow half c).val < 64 then
        Scalar.select (IntOp.cmpi CmpIPredicate.slt (BitVec.ofNat 32 x.val) 64#32) (g ⟨(prow half c).val, h⟩ x) 0
      else Scalar.select (IntOp.cmpi CmpIPredicate.slt (BitVec.ofNat 32 x.val) 64#32) 0
        (g ⟨(prow half c).val - 64, by have := (prow half c).isLt; omega⟩ x)) * k x)
      = ∑ d : Fin 64, g c (prow half d) * k (prow half d) := by
  have hc := c.isLt
  simp only [select_low]
  rw [Fin.sum_univ_two_halves 64 64 rfl]
  match half with
  | ⟨0, _⟩ =>
    have h0 : (prow 0 c).val < 64 := by show 64 * 0 + c.val < 64; omega
    have e0 : (⟨(prow 0 c).val, h0⟩ : Fin 64) = c := Fin.ext (by show 64 * 0 + c.val = c.val; omega)
    simp only [Fin.zero_eta, dif_pos h0, e0]
    have z : ∀ d : Fin 64, (if (⟨64 + d.val, by omega⟩ : Fin 128).val < 64 then g c ⟨64 + d.val, by omega⟩ else 0) * k ⟨64 + d.val, by omega⟩ = 0 := by
      intro d
      rw [if_neg (by show ¬ 64 + d.val < 64; omega), zero_mul]
    rw [Finset.sum_eq_zero (fun d _ => z d), add_zero]
    refine Finset.sum_congr rfl fun d _ => ?_
    have e1 : prow 0 d = ⟨d.val, by omega⟩ := Fin.ext (by show 64 * 0 + d.val = d.val; omega)
    rw [e1, if_pos d.isLt]
  | ⟨1, _⟩ =>
    have h0 : ¬ (prow 1 c).val < 64 := by show ¬ 64 * 1 + c.val < 64; omega
    have e0 : (⟨(prow 1 c).val - 64, by have := (prow 1 c).isLt; omega⟩ : Fin 64) = c :=
      Fin.ext (by show 64 * 1 + c.val - 64 = c.val; omega)
    simp only [Fin.mk_one, dif_neg h0, e0]
    have z : ∀ d : Fin 64, (if (⟨d.val, by omega⟩ : Fin 128).val < 64 then 0 else g c ⟨d.val, by omega⟩) * k ⟨d.val, by omega⟩ = 0 := by
      intro d
      rw [if_pos d.isLt, zero_mul]
    rw [Finset.sum_eq_zero (fun d _ => z d), zero_add]
    refine Finset.sum_congr rfl fun d _ => ?_
    have e1 : prow 1 d = ⟨64 + d.val, by omega⟩ := Fin.ext (by show 64 * 1 + d.val = 64 + d.val; omega)
    rw [e1, if_neg (by show ¬ 64 + d.val < 64; omega)]

/-- The score of one query `c` of head `half` of the pair whose lanes begin at `128 * hp`, against key `w` of the window. -/
def score (xq : Vec Ideal S64x512 .bf16) (k : Vec Ideal S512x128 .bf16) (b : Vec Ideal S1x128x512 .f32) (hp : Fin 4) (half : Fin 2) (c : Fin 64)
    (w : Fin 512) : EReal :=
  (∑ d : Fin 64, ((xq (ix2 c ⟨128 * hp.val + (prow half d).val, by omega⟩) : EReal) * scale) * (k (ix2 w (prow half d)) : EReal))
    + (b (ix3 0 (prow half c) w) : EReal)

theorem score0 (xq : Vec Ideal S64x512 .bf16) (k : Vec Ideal S512x128 .bf16) (b : Vec Ideal S1x128x512 .f32) (half : Fin 2) (c : Fin 64) (w : Fin 512) :
    k0_pay5 (k0_pay4 xq) k b (ix3 0 (prow half c) w) = score xq k b 0 half c w := by
  pointwise [k0_pay5, k0_pay4, k0_pay3, k0_pay2]
  refine congrArg (· + (b (ix3 0 (prow half c) w) : EReal)) ?_
  refine (pair_sum (fun r x => (xq (ix2 r ⟨x.val, by omega⟩) : EReal) * scale) (fun x => k (ix2 w x)) half c).trans ?_
  refine Finset.sum_congr rfl fun d _ => ?_
  have : (⟨(prow half d).val, by omega⟩ : Fin 512) = ⟨128 * (0 : Fin 4).val + (prow half d).val, by show 128 * 0 + _ < 512; omega⟩ :=
    Fin.ext (by show (prow half d).val = 128 * 0 + (prow half d).val; omega)
  beta_reduce
  rw [this]

theorem score1 (xq : Vec Ideal S64x512 .bf16) (k : Vec Ideal S512x128 .bf16) (b : Vec Ideal S1x128x512 .f32) (half : Fin 2) (c : Fin 64) (w : Fin 512) :
    k0_pay6 k0_pay2 (k0_pay3 xq) k b (ix3 0 (prow half c) w) = score xq k b 1 half c w := by
  pointwise [k0_pay6, k0_pay3, k0_pay2]
  refine congrArg (· + (b (ix3 0 (prow half c) w) : EReal)) ?_
  exact pair_sum (fun r x => (xq (ix2 r ⟨128 + x.val, by omega⟩) : EReal) * scale) (fun x => k (ix2 w x)) half c

theorem score2 (xq : Vec Ideal S64x512 .bf16) (k : Vec Ideal S512x128 .bf16) (b : Vec Ideal S1x128x512 .f32) (half : Fin 2) (c : Fin 64) (w : Fin 512) :
    k0_pay8 (k0_pay7 k0_pay2 (k0_pay3 xq) k) b (ix3 0 (prow half c) w) = score xq k b 2 half c w := by
  pointwise [k0_pay8, k0_pay7, k0_pay3, k0_pay2]
  refine congrArg (· + (b (ix3 0 (prow half c) w) : EReal)) ?_
  exact pair_sum (fun r x => (xq (ix2 r ⟨256 + x.val, by omega⟩) : EReal) * scale) (fun x => k (ix2 w x)) half c

theorem score3 (xq : Vec Ideal S64x512 .bf16) (k : Vec Ideal S512x128 .bf16) (b : Vec Ideal S1x128x512 .f32) (half : Fin 2) (c : Fin 64) (w : Fin 512) :
    k0_pay9 k0_pay2 (k0_pay3 xq) k b (ix3 0 (prow half c) w) = score xq k b 3 half c w := by
  pointwise [k0_pay9, k0_pay3, k0_pay2]
  refine congrArg (· + (b (ix3 0 (prow half c) w) : EReal)) ?_
  exact pair_sum (fun r x => (xq (ix2 r ⟨384 + x.val, by omega⟩) : EReal) * scale) (fun x => k (ix2 w x)) half c

theorem neg_inf : Ideal.ofBits .f32 0xFF800000#32 = (⊥ : EReal) := by
  simp [Ideal.ofBits, Ideal.ieee]

/-- The scores of a pair of heads in the stack of the four. -/
theorem stack4_at {α : Type} (a : Fin 4 → S1x128x512.Idx → α) (hp : Fin 4) (r : Fin 128) (w : Fin 512) :
    stack4 (a 0) (a 1) (a 2) (a 3) (ix3 0 ⟨128 * hp.val + r.val, by omega⟩ w) = a hp (ix3 0 r w) := by
  have hr := r.isLt
  unfold stack4
  match hp with
  | ⟨0, _⟩ =>
    rw [dif_pos (by show 128 * 0 + r.val < 128; omega)]
    exact congrArg (fun r => a 0 (ix3 0 r w)) (Fin.ext (by show 128 * 0 + r.val = r.val; omega))
  | ⟨1, _⟩ =>
    rw [dif_neg (by show ¬ 128 * 1 + r.val < 128; omega), dif_pos (by show 128 * 1 + r.val < 256; omega)]
    exact congrArg (fun r => a 1 (ix3 0 r w)) (Fin.ext (by show 128 * 1 + r.val - 128 = r.val; omega))
  | ⟨2, _⟩ =>
    rw [dif_neg (by show ¬ 128 * 2 + r.val < 128; omega), dif_neg (by show ¬ 128 * 2 + r.val < 256; omega),
      dif_pos (by show 128 * 2 + r.val < 384; omega)]
    exact congrArg (fun r => a 2 (ix3 0 r w)) (Fin.ext (by show 128 * 2 + r.val - 256 = r.val; omega))
  | ⟨3, _⟩ =>
    rw [dif_neg (by show ¬ 128 * 3 + r.val < 128; omega), dif_neg (by show ¬ 128 * 3 + r.val < 256; omega),
      dif_neg (by show ¬ 128 * 3 + r.val < 384; omega)]
    exact congrArg (fun r => a 3 (ix3 0 r w)) (Fin.ext (by show 128 * 3 + r.val - 384 = r.val; omega))

/-- A weighted mean by softmax, as the body computes it: the numerators, then one product with the sum's inverse. -/
def soft {A : Type} [Fintype A] (s v : A → EReal) : EReal :=
  (∑ w, Ideal.exp (s w - Finset.univ.sup s) * v w) * Ideal.div 1 (∑ w, Ideal.exp (s w - Finset.univ.sup s))

theorem pay10_at (S : FVec Ideal S1x512x512 .f32) (R w : Fin 512) :
    k0_pay10 (F := Ideal) S (ix2 R w) = Ideal.exp ((S (ix3 0 R w) : EReal) - Finset.univ.sup fun x => (S (ix3 0 R x) : EReal)) := by
  pointwise [k0_pay10]
  rw [neg_inf]
  rfl

theorem pay11_at (S : FVec Ideal S1x512x512 .f32) (R : Fin 512) :
    k0_pay11 (F := Ideal) S (ix2 R 0) = Ideal.div 1 (∑ w, Ideal.exp ((S (ix3 0 R w) : EReal) - Finset.univ.sup fun x => (S (ix3 0 R x) : EReal))) := by
  pointwise [k0_pay11]
  simp only [pay10_at]

theorem pay13_at (S : FVec Ideal S1x512x512 .f32) (R w : Fin 512) :
    k0_pay13 (F := Ideal) (k0_pay12 S) (ix3 0 R w) = Ideal.exp ((S (ix3 0 R w) : EReal) - Finset.univ.sup fun x => (S (ix3 0 R x) : EReal)) := by
  rw [← pay10_at]
  pointwise [k0_pay13, k0_pay12]

/-- The half of a pair's product a lane takes. -/
theorem take_half (f : Fin 128 → EReal) (half : Fin 2) (d : Fin 64) (c : Fin 64) :
    Scalar.select (IntOp.cmpi CmpIPredicate.slt (BitVec.ofNat 32 (prow half d).val) 64#32) (f ⟨c.val, by omega⟩) (f ⟨64 + c.val, by omega⟩)
      = f (prow half c) := by
  rw [select_low]
  match half with
  | ⟨0, _⟩ =>
    rw [if_pos (by show 64 * 0 + d.val < 64; omega)]
    exact congrArg f (Fin.ext (by show c.val = 64 * 0 + c.val; omega))
  | ⟨1, _⟩ =>
    rw [if_neg (by show ¬ 64 * 1 + d.val < 64; omega)]
    rfl

/-- One product of a pair of heads, scaled by the inverse sums, at query `c` and value lane `d` of head `half`. -/
def attn (p : FVec Ideal S1x512x512 .bf16) (inv : FVec Ideal S512x1 .f32) (v : Vec Ideal S512x128 .bf16) (hp : Fin 4) (half : Fin 2) (c d : Fin 64) : EReal :=
  (∑ w : Fin 512, (p (ix3 0 ⟨128 * hp.val + (prow half c).val, by omega⟩ w) : EReal) * (v (ix2 w (prow half d)) : EReal)) *
    (inv (ix2 ⟨128 * hp.val + (prow half c).val, by omega⟩ 0) : EReal)

theorem out0_at (p : FVec Ideal S1x512x512 .bf16) (inv : FVec Ideal S512x1 .f32) (v : Vec Ideal S512x128 .bf16) (half : Fin 2) (c d : Fin 64) :
    k0_pay14 k0_pay2 inv (slab 0 (by omega) p) v (ix2 c (prow half d)) = attn p inv v 0 half c d := by
  unfold attn
  rw [← take_half (fun r => (∑ w : Fin 512, (p (ix3 0 ⟨128 * (0 : Fin 4).val + r.val, by show 128 * 0 + r.val < 512; omega⟩ w) : EReal) * (v (ix2 w (prow half d)) : EReal)) *
    (inv (ix2 ⟨128 * (0 : Fin 4).val + r.val, by show 128 * 0 + r.val < 512; omega⟩ 0) : EReal)) half d c]
  pointwise [k0_pay14, k0_pay2, slab]

theorem out1_at (p : FVec Ideal S1x512x512 .bf16) (inv : FVec Ideal S512x1 .f32) (v : Vec Ideal S512x128 .bf16) (half : Fin 2) (c d : Fin 64) :
    k0_pay15 k0_pay2 inv (slab 128 (by omega) p) v (ix2 c (prow half d)) = attn p inv v 1 half c d := by
  unfold attn
  rw [← take_half (fun r => (∑ w : Fin 512, (p (ix3 0 ⟨128 * (1 : Fin 4).val + r.val, by show 128 * 1 + r.val < 512; omega⟩ w) : EReal) * (v (ix2 w (prow half d)) : EReal)) *
    (inv (ix2 ⟨128 * (1 : Fin 4).val + r.val, by show 128 * 1 + r.val < 512; omega⟩ 0) : EReal)) half d c]
  pointwise [k0_pay15, k0_pay2, slab]

theorem out2_at (p : FVec Ideal S1x512x512 .bf16) (inv : FVec Ideal S512x1 .f32) (v : Vec Ideal S512x128 .bf16) (half : Fin 2) (c d : Fin 64) :
    k0_pay16 k0_pay2 inv (slab 256 (by omega) p) v (ix2 c (prow half d)) = attn p inv v 2 half c d := by
  unfold attn
  rw [← take_half (fun r => (∑ w : Fin 512, (p (ix3 0 ⟨128 * (2 : Fin 4).val + r.val, by show 128 * 2 + r.val < 512; omega⟩ w) : EReal) * (v (ix2 w (prow half d)) : EReal)) *
    (inv (ix2 ⟨128 * (2 : Fin 4).val + r.val, by show 128 * 2 + r.val < 512; omega⟩ 0) : EReal)) half d c]
  pointwise [k0_pay16, k0_pay2, slab]

/-- The four pairs' outputs side by side. -/
theorem out3_at (p : FVec Ideal S1x512x512 .bf16) (inv : FVec Ideal S512x1 .f32) (o : Fin 3 → FVec Ideal S64x128 .f32) (v : Vec Ideal S512x128 .bf16)
    (half : Fin 2) (c d : Fin 64) :
    k0_pay18 k0_pay2 inv (o 0) (o 1) (o 2) (k0_pay17 (F := Ideal) (slab 384 (by omega) p)) v (constant S128x128 .f32 0x00000000#32)
        (ix2 c ⟨384 + (prow half d).val, by omega⟩) = attn p inv v 3 half c d := by
  unfold attn
  rw [← take_half (fun r => (∑ w : Fin 512, (p (ix3 0 ⟨128 * (3 : Fin 4).val + r.val, by show 128 * 3 + r.val < 512; omega⟩ w) : EReal) * (v (ix2 w (prow half d)) : EReal)) *
    (inv (ix2 ⟨128 * (3 : Fin 4).val + r.val, by show 128 * 3 + r.val < 512; omega⟩ 0) : EReal)) half d c]
  have hl := (prow half d).isLt
  have h0 : ¬ 384 + (prow half d).val < 128 := by omega
  have h1 : ¬ 384 + (prow half d).val - 128 < 128 := by omega
  have h2 : ¬ 384 + (prow half d).val - 128 - 128 < 128 := by omega
  have h3 : 384 + (prow half d).val - 128 - 128 - 128 = (prow half d).val := by omega
  pointwise [k0_pay18, k0_pay17, k0_pay2, slab]
  simp only [dif_neg h0, dif_neg h1, dif_neg h2, h3]

theorem out_at (p : FVec Ideal S1x512x512 .bf16) (inv : FVec Ideal S512x1 .f32) (o : Fin 3 → FVec Ideal S64x128 .f32) (v : Vec Ideal S512x128 .bf16)
    (hp : Fin 3) (c : Fin 64) (l : Fin 128) :
    k0_pay18 k0_pay2 inv (o 0) (o 1) (o 2) (k0_pay17 (F := Ideal) (slab 384 (by omega) p)) v (constant S128x128 .f32 0x00000000#32)
        (ix2 c ⟨128 * hp.val + l.val, by omega⟩) = o hp (ix2 c l) := by
  have hl := l.isLt
  pointwise [k0_pay18, k0_pay17, k0_pay2, slab]
  match hp with
  | ⟨0, _⟩ =>
    rw [dif_pos (by show 128 * 0 + l.val < 128; omega)]
    exact congrArg (fun r => o 0 (ix2 c r)) (Fin.ext (by show 128 * 0 + l.val = l.val; omega))
  | ⟨1, _⟩ =>
    rw [dif_neg (by show ¬ 128 * 1 + l.val < 128; omega), dif_pos (by show 128 * 1 + l.val - 128 < 128; omega)]
    exact congrArg (fun r => o 1 (ix2 c r)) (Fin.ext (by show 128 * 1 + l.val - 128 = l.val; omega))
  | ⟨2, _⟩ =>
    rw [dif_neg (by show ¬ 128 * 2 + l.val < 128; omega), dif_neg (by show ¬ 128 * 2 + l.val - 128 < 128; omega),
      dif_pos (by show 128 * 2 + l.val - 128 - 128 < 128; omega)]
    exact congrArg (fun r => o 2 (ix2 c r)) (Fin.ext (by show 128 * 2 + l.val - 128 - 128 = l.val; omega))

/-- A row's output at query `c` and value lane `d` of head `half` of pair `hp`. -/
theorem rowF_at (xq : Vec Ideal S64x512 .bf16) (k : Fin 4 → Vec Ideal S512x128 .bf16) (b : Fin 4 → Vec Ideal S1x128x512 .f32)
    (v : Fin 4 → Vec Ideal S512x128 .bf16) (hp : Fin 4) (half : Fin 2) (c d : Fin 64) :
    rowF xq (k 0) (k 1) (k 2) (k 3) (b 0) (b 1) (b 2) (b 3) (v 0) (v 1) (v 2) (v 3) (ix2 c ⟨128 * hp.val + (prow half d).val, by omega⟩)
      = soft (score xq (k hp) (b hp) hp half c) (fun w => v hp (ix2 w (prow half d))) := by
  have hS : ∀ (hp : Fin 4) (w : Fin 512), stack4 (k0_pay5 (k0_pay4 xq) (k 0) (b 0)) (k0_pay6 k0_pay2 (k0_pay3 xq) (k 1) (b 1))
      (k0_pay8 (k0_pay7 k0_pay2 (k0_pay3 xq) (k 2)) (b 2)) (k0_pay9 k0_pay2 (k0_pay3 xq) (k 3) (b 3))
      (ix3 0 ⟨128 * hp.val + (prow half c).val, by omega⟩ w) = score xq (k hp) (b hp) hp half c w := by
    intro hp w
    refine (stack4_at ![k0_pay5 (k0_pay4 xq) (k 0) (b 0), k0_pay6 k0_pay2 (k0_pay3 xq) (k 1) (b 1),
      k0_pay8 (k0_pay7 k0_pay2 (k0_pay3 xq) (k 2)) (b 2), k0_pay9 k0_pay2 (k0_pay3 xq) (k 3) (b 3)] hp (prow half c) w).trans ?_
    match hp with
    | ⟨0, _⟩ => exact score0 xq (k 0) (b 0) half c w
    | ⟨1, _⟩ => exact score1 xq (k 1) (b 1) half c w
    | ⟨2, _⟩ => exact score2 xq (k 2) (b 2) half c w
    | ⟨3, _⟩ => exact score3 xq (k 3) (b 3) half c w
  unfold rowF
  generalize stack4 (k0_pay5 (k0_pay4 xq) (k 0) (b 0)) (k0_pay6 k0_pay2 (k0_pay3 xq) (k 1) (b 1))
      (k0_pay8 (k0_pay7 k0_pay2 (k0_pay3 xq) (k 2)) (b 2)) (k0_pay9 k0_pay2 (k0_pay3 xq) (k 3) (b 3)) = S at hS
  have hA : ∀ hp : Fin 4, attn (k0_pay13 (k0_pay12 S)) (k0_pay11 S) (v hp) hp half c d
      = soft (score xq (k hp) (b hp) hp half c) (fun w => v hp (ix2 w (prow half d))) := by
    intro hp
    unfold attn soft
    rw [pay11_at]
    simp only [pay13_at, hS]
  have hO := out_at (k0_pay13 (F := Ideal) (k0_pay12 S)) (k0_pay11 S) ![k0_pay14 k0_pay2 (k0_pay11 S) (slab 0 (by omega) (k0_pay13 (F := Ideal) (k0_pay12 S))) (v 0),
    k0_pay15 k0_pay2 (k0_pay11 S) (slab 128 (by omega) (k0_pay13 (F := Ideal) (k0_pay12 S))) (v 1),
    k0_pay16 k0_pay2 (k0_pay11 S) (slab 256 (by omega) (k0_pay13 (F := Ideal) (k0_pay12 S))) (v 2)] (v 3)
  match hp with
  | ⟨0, _⟩ => exact (hO 0 c (prow half d)).trans ((out0_at _ _ _ half c d).trans (hA 0))
  | ⟨1, _⟩ => exact (hO 1 c (prow half d)).trans ((out1_at _ _ _ half c d).trans (hA 1))
  | ⟨2, _⟩ => exact (hO 2 c (prow half d)).trans ((out2_at _ _ _ half c d).trans (hA 2))
  | ⟨3, _⟩ =>
    exact (out3_at (k0_pay13 (F := Ideal) (k0_pay12 S)) (k0_pay11 S) ![k0_pay14 k0_pay2 (k0_pay11 S) (slab 0 (by omega) (k0_pay13 (F := Ideal) (k0_pay12 S))) (v 0),
      k0_pay15 k0_pay2 (k0_pay11 S) (slab 128 (by omega) (k0_pay13 (F := Ideal) (k0_pay12 S))) (v 1),
      k0_pay16 k0_pay2 (k0_pay11 S) (slab 256 (by omega) (k0_pay13 (F := Ideal) (k0_pay12 S))) (v 2)] (v 3) half c d).trans (hA 3)

end Cert.KernelIdeal.Value
end
-- ==== Proof.Window.lean ====
/- The window of a grid row: the clamped eight rows of its own sequence, and where the body finds them in its blocks. -/
module

public import proofs.«01_k».proof.Proof.Gen.KernelIdeal.Value

@[expose] public section
set_option maxRecDepth 16384
noncomputable section
namespace Cert.KernelIdeal.Value
open Cert.KernelIdeal Cert.KernelIdeal.Gen Idealize.ShloMosaic Idealize.ShloMosaic.TcCoe Idealize.SL.Sem
open Idealize.ShloMosaic.Pipeline (Dat)

/-! ### The window of a grid row -/

/-- The number of grid rows of the sequence that grid row `r` belongs to, and that sequence's first grid row. -/
def segRows (r : ℕ) : ℕ := if r < 512 then 256 else 128
def segFirst (r : ℕ) : ℕ := r / segRows r * segRows r
/-- The first grid row of the window of grid row `r`. -/
def winRow (r : ℕ) : ℕ := max (segFirst r) (min (r - 4) (segFirst r + segRows r - 8))
/-- The first grid row of the three blocks staged at grid point `i`. -/
def baseRow (i : ℕ) : ℕ := min (i - 1) 125 * 8
/-- Where the window of row `j` of grid point `i` begins among the staged rows, and its distance from the row. -/
def startRow (i j : ℕ) : ℕ := winRow (8 * i + j) - baseRow i
def offRow (i j : ℕ) : ℕ := 8 * i + j - winRow (8 * i + j)

theorem startRow_le : ∀ (i : Fin 128) (j : Fin 8), startRow i.val j.val ≤ 16 := by decide +kernel
theorem offRow_lt : ∀ (i : Fin 128) (j : Fin 8), offRow i.val j.val < 8 := by decide +kernel

theorem off1_eq : ∀ (i : grid0.Coords) (r : Fin 8), k0_off1 i (k0_off1_at r) = ![64 * startRow (i 0).val r.val, 0] := by decide +kernel
theorem off3_eq : ∀ (i : grid0.Coords) (r : Fin 8), k0_off3 i (k0_off3_at r) = ![64 * startRow (i 0).val r.val, 128] := by decide +kernel
theorem off5_eq : ∀ (i : grid0.Coords) (r : Fin 8), k0_off5 i (k0_off5_at r) = ![64 * startRow (i 0).val r.val, 256] := by decide +kernel
theorem off7_eq : ∀ (i : grid0.Coords) (r : Fin 8), k0_off7 i (k0_off7_at r) = ![64 * startRow (i 0).val r.val, 384] := by decide +kernel
theorem off2_eq : ∀ (i : grid0.Coords) (r : Fin 8), k0_off2 i (k0_off2_at r).1 (k0_off2_at r).2 = ![offRow (i 0).val r.val, 0, 0] := by decide +kernel
theorem off4_eq : ∀ (i : grid0.Coords) (r : Fin 8), k0_off4 i (k0_off4_at r).1 (k0_off4_at r).2 = ![offRow (i 0).val r.val, 128, 0] := by decide +kernel
theorem off6_eq : ∀ (i : grid0.Coords) (r : Fin 8), k0_off6 i (k0_off6_at r).1 (k0_off6_at r).2 = ![offRow (i 0).val r.val, 256, 0] := by decide +kernel
theorem off8_eq : ∀ (i : grid0.Coords) (r : Fin 8), k0_off8 i (k0_off8_at r).1 (k0_off8_at r).2 = ![offRow (i 0).val r.val, 384, 0] := by decide +kernel

end Cert.KernelIdeal.Value
end
-- ==== Proof.Body.lean ====
/- What the attention body writes at a grid point, as one function of the point's four blocks: eight grid rows, each read
   by Row.lean. -/
module

public import proofs.«01_k».proof.Proof.Row
public import proofs.«01_k».proof.Proof.Window

@[expose] public section
set_option maxRecDepth 16384
noncomputable section
namespace Cert.KernelIdeal.Value
open Cert.KernelIdeal Cert.KernelIdeal.Gen Idealize.ShloMosaic Idealize.ShloMosaic.TcCoe Idealize.SL.Sem
open Idealize.ShloMosaic.Pipeline (Dat)

/-! ### The loads, read at an index -/

theorem ld_k (x : Vec Ideal S1536x512 .bf16) (off : Fin 2 → ℕ) (inb : ∀ a, off a + (![512, 128] : Fin 2 → ℕ) a ≤ S1536x512.size a) (s q : ℕ) (h : off = ![s, q])
    (hs : s ≤ 1024) (hq : q ≤ 384) (w : Fin 512) (l : Fin 128) :
    View.ld (Val := Elt Ideal) (e' := .bf16) x (Rect.unit (s := S1536x512) off ![512, 128] inb) (ix2 w l) = x (ix2 ⟨s + w.val, by omega⟩ ⟨q + l.val, by omega⟩) := by
  subst h
  pointwise

theorem ld_q (x : Vec Ideal S512x512 .bf16) (s : ℕ) (inb : ∀ a, (![s, 0] : Fin 2 → ℕ) a + (![64, 512] : Fin 2 → ℕ) a ≤ S512x512.size a)
    (hs : s ≤ 448) (c : Fin 64) (l : Fin 512) :
    View.ld (Val := Elt Ideal) (e' := .bf16) x (Rect.unit (s := S512x512) ![s, 0] ![64, 512] inb) (ix2 c l) = x (ix2 ⟨s + c.val, by omega⟩ l) := by
  pointwise

theorem ld_b (x : Vec Ideal S8x512x512 .f32) (off : Fin 3 → ℕ) (inb : ∀ a, off a + (![1, 128, 512] : Fin 3 → ℕ) a ≤ S8x512x512.size a) (s q : ℕ) (h : off = ![s, q, 0])
    (hs : s < 8) (hq : q ≤ 384) (r : Fin 128) (w : Fin 512) :
    View.ld (Val := Elt Ideal) (e' := .f32) x (Rect.unit (s := S8x512x512) off ![1, 128, 512] inb) (ix3 0 r w) = x (ix3 ⟨s, hs⟩ ⟨q + r.val, by omega⟩ w) := by
  subst h
  pointwise

/-- The body's output at row `r` and column `col` of a grid point. -/
def attnOut (i : Fin 128) (x0 : Vec Ideal S512x512 .bf16) (x1 x2 : Vec Ideal S1536x512 .bf16) (x3 : Vec Ideal S8x512x512 .f32) (r col : Fin 512) : EReal :=
  soft (fun w : Fin 512 => (∑ d : Fin 64, ((x0 (ix2 r ⟨64 * (col.val / 64) + d.val, by omega⟩) : EReal) * scale) *
        (x1 (ix2 ⟨64 * startRow i.val (r.val / 64) + w.val, by have := startRow_le i ⟨r.val / 64, by omega⟩; dsimp only at this; omega⟩
          ⟨64 * (col.val / 64) + d.val, by omega⟩) : EReal))
      + (x3 (ix3 ⟨offRow i.val (r.val / 64), offRow_lt i ⟨r.val / 64, by omega⟩⟩ ⟨64 * (col.val / 64) + r.val % 64, by omega⟩ w) : EReal))
    (fun w => (x2 (ix2 ⟨64 * startRow i.val (r.val / 64) + w.val, by have := startRow_le i ⟨r.val / 64, by omega⟩; dsimp only at this; omega⟩ col) : EReal))

theorem tile (i : Fin 128) (x0 : Vec Ideal S512x512 .bf16) (x1 x2 : Vec Ideal S1536x512 .bf16) (x3 : Vec Ideal S8x512x512 .f32) (j : Fin 8)
    (xq : Vec Ideal S64x512 .bf16) (k : Fin 4 → Vec Ideal S512x128 .bf16) (b : Fin 4 → Vec Ideal S1x128x512 .f32) (v : Fin 4 → Vec Ideal S512x128 .bf16)
    (hxq : ∀ (c : Fin 64) (l : Fin 512), xq (ix2 c l) = x0 (ix2 ⟨64 * j.val + c.val, by omega⟩ l))
    (hk : ∀ (hp : Fin 4) (w : Fin 512) (l : Fin 128), k hp (ix2 w l) = x1 (ix2 ⟨64 * startRow i.val j.val + w.val, by have := startRow_le i j; omega⟩ ⟨128 * hp.val + l.val, by omega⟩))
    (hb : ∀ (hp : Fin 4) (r : Fin 128) (w : Fin 512), b hp (ix3 0 r w) = x3 (ix3 ⟨offRow i.val j.val, offRow_lt i j⟩ ⟨128 * hp.val + r.val, by omega⟩ w))
    (hv : ∀ (hp : Fin 4) (w : Fin 512) (l : Fin 128), v hp (ix2 w l) = x2 (ix2 ⟨64 * startRow i.val j.val + w.val, by have := startRow_le i j; omega⟩ ⟨128 * hp.val + l.val, by omega⟩))
    (c : Fin 64) (l : Fin 512) (r col : Fin 512) (h0 : r.val = 64 * j.val + c.val) (h1 : col.val = l.val) :
    rowF xq (k 0) (k 1) (k 2) (k 3) (b 0) (b 1) (b 2) (b 3) (v 0) (v 1) (v 2) (v 3) (ix2 c l) = attnOut i x0 x1 x2 x3 r col := by
  obtain rfl : col = l := Fin.ext h1
  have hl : col = (⟨128 * (⟨col.val / 128, by omega⟩ : Fin 4).val + (prow ⟨col.val / 64 % 2, by omega⟩ ⟨col.val % 64, by omega⟩).val, by
      show 128 * (col.val / 128) + (64 * (col.val / 64 % 2) + col.val % 64) < 512; omega⟩ : Fin 512) :=
    Fin.ext (by show col.val = 128 * (col.val / 128) + (64 * (col.val / 64 % 2) + col.val % 64); omega)
  rw [show ix2 c col = ix2 c _ from congrArg (ix2 c) hl, rowF_at]
  have hj : r.val / 64 = j.val := by omega
  have hc : r.val % 64 = c.val := by omega
  have hr : (⟨64 * j.val + c.val, by omega⟩ : Fin 512) = r := Fin.ext h0.symm
  have ec : ∀ d : ℕ, 128 * (col.val / 128) + (64 * (col.val / 64 % 2) + d) = 64 * (col.val / 64) + d := by intro d; omega
  unfold attnOut score
  simp only [hxq, hk, hb, hv, hr, hj, hc, prow, ec]
  congr 1
  funext w
  congr 4
  omega

set_option maxHeartbeats 4000000 in
theorem out_eq (c : Dev nD) (i : grid0.Coords) (arg1 : Memref sig .tc .vmem S512x512 .bf16) (harg1 : arg1.IsWhole) (arg2 : Memref sig .tc .vmem S1536x512 .bf16) (harg2 : arg2.IsWhole) (arg3 : Memref sig .tc .vmem S1536x512 .bf16) (harg3 : arg3.IsWhole) (arg4 : Memref sig .tc .vmem S8x512x512 .f32) (harg4 : arg4.IsWhole) (arg5 : Memref sig .tc .vmem S512x512 .bf16) (harg5 : arg5.IsWhole) (arg6 : Memref sig .tc .vmem S2x512x512 .f32) (harg6 : arg6.IsWhole) (arg7 : Memref sig .tc .vmem S2x512x512 .bf16) (harg7 : arg7.IsWhole)
    (x0 : Vec Ideal S512x512 .bf16) (x1 : Vec Ideal S1536x512 .bf16) (x2 : Vec Ideal S1536x512 .bf16) (x3 : Vec Ideal S8x512x512 .f32) (y : S512x512.Idx) :
    out0_A_4 c i arg1 harg1 arg2 harg2 arg3 harg3 arg4 harg4 arg5 harg5 arg6 harg6 arg7 harg7 x0 x1 x2 x3 y = attnOut (i 0) x0 x1 x2 x3 (y 0) (y 1) := by
  frame_open
  simp (disch := decide) only [↓ View.readCov_skip, ↓ View.readCov_cons_toLoadRect, ↓ View.readCov_fill]
  frame_out
  simp only [readCov_stack4, readCov_slab]
  canon_tiles x h
  · refine Eq.trans ?_ (tile (i 0) x0 x1 x2 x3 7 (View.ld (Val := Elt Ideal) (e' := .bf16) x0 (Rect.unit (s := S512x512) ![448, 0] ![64, 512] inb_S512x512_S64x512_448_0))
      ![View.ld (Val := Elt Ideal) (e' := .bf16) x1 (Rect.unit (s := S1536x512) (k0_off1 i 3#32) ![512, 128] (k0_off1_inb i 7)), View.ld (Val := Elt Ideal) (e' := .bf16) x1 (Rect.unit (s := S1536x512) (k0_off3 i 3#32) ![512, 128] (k0_off3_inb i 7)), View.ld (Val := Elt Ideal) (e' := .bf16) x1 (Rect.unit (s := S1536x512) (k0_off5 i 3#32) ![512, 128] (k0_off5_inb i 7)), View.ld (Val := Elt Ideal) (e' := .bf16) x1 (Rect.unit (s := S1536x512) (k0_off7 i 3#32) ![512, 128] (k0_off7_inb i 7))]
      ![View.ld (Val := Elt Ideal) (e' := .f32) x3 (Rect.unit (s := S8x512x512) (k0_off2 i 7#32 3#32) ![1, 128, 512] (k0_off2_inb i 7)), View.ld (Val := Elt Ideal) (e' := .f32) x3 (Rect.unit (s := S8x512x512) (k0_off4 i 7#32 3#32) ![1, 128, 512] (k0_off4_inb i 7)), View.ld (Val := Elt Ideal) (e' := .f32) x3 (Rect.unit (s := S8x512x512) (k0_off6 i 7#32 3#32) ![1, 128, 512] (k0_off6_inb i 7)), View.ld (Val := Elt Ideal) (e' := .f32) x3 (Rect.unit (s := S8x512x512) (k0_off8 i 7#32 3#32) ![1, 128, 512] (k0_off8_inb i 7))]
      ![View.ld (Val := Elt Ideal) (e' := .bf16) x2 (Rect.unit (s := S1536x512) (k0_off1 i 3#32) ![512, 128] (k0_off1_inb i 7)), View.ld (Val := Elt Ideal) (e' := .bf16) x2 (Rect.unit (s := S1536x512) (k0_off3 i 3#32) ![512, 128] (k0_off3_inb i 7)), View.ld (Val := Elt Ideal) (e' := .bf16) x2 (Rect.unit (s := S1536x512) (k0_off5 i 3#32) ![512, 128] (k0_off5_inb i 7)), View.ld (Val := Elt Ideal) (e' := .bf16) x2 (Rect.unit (s := S1536x512) (k0_off7 i 3#32) ![512, 128] (k0_off7_inb i 7))]
      (fun c l => ld_q x0 448 _ (by omega) c l)
      (fun hp w l => by
        match hp with
        | ⟨0, _⟩ => exact ld_k x1 _ _ _ 0 (off1_eq i 7) (by have := startRow_le (i 0) 7; omega) (by omega) w l
        | ⟨1, _⟩ => exact ld_k x1 _ _ _ 128 (off3_eq i 7) (by have := startRow_le (i 0) 7; omega) (by omega) w l
        | ⟨2, _⟩ => exact ld_k x1 _ _ _ 256 (off5_eq i 7) (by have := startRow_le (i 0) 7; omega) (by omega) w l
        | ⟨3, _⟩ => exact ld_k x1 _ _ _ 384 (off7_eq i 7) (by have := startRow_le (i 0) 7; omega) (by omega) w l)
      (fun hp r w => by
        match hp with
        | ⟨0, _⟩ => exact ld_b x3 _ _ _ 0 (off2_eq i 7) (offRow_lt (i 0) 7) (by omega) r w
        | ⟨1, _⟩ => exact ld_b x3 _ _ _ 128 (off4_eq i 7) (offRow_lt (i 0) 7) (by omega) r w
        | ⟨2, _⟩ => exact ld_b x3 _ _ _ 256 (off6_eq i 7) (offRow_lt (i 0) 7) (by omega) r w
        | ⟨3, _⟩ => exact ld_b x3 _ _ _ 384 (off8_eq i 7) (offRow_lt (i 0) 7) (by omega) r w)
      (fun hp w l => by
        match hp with
        | ⟨0, _⟩ => exact ld_k x2 _ _ _ 0 (off1_eq i 7) (by have := startRow_le (i 0) 7; omega) (by omega) w l
        | ⟨1, _⟩ => exact ld_k x2 _ _ _ 128 (off3_eq i 7) (by have := startRow_le (i 0) 7; omega) (by omega) w l
        | ⟨2, _⟩ => exact ld_k x2 _ _ _ 256 (off5_eq i 7) (by have := startRow_le (i 0) 7; omega) (by omega) w l
        | ⟨3, _⟩ => exact ld_k x2 _ _ _ 384 (off7_eq i 7) (by have := startRow_le (i 0) 7; omega) (by omega) w l)
      (x 0) (x 1) (y 0) (y 1) h0 h1)
    rw [ix2_eta x]
    rfl
  · refine Eq.trans ?_ (tile (i 0) x0 x1 x2 x3 6 (View.ld (Val := Elt Ideal) (e' := .bf16) x0 (Rect.unit (s := S512x512) ![384, 0] ![64, 512] inb_S512x512_S64x512_384_0))
      ![View.ld (Val := Elt Ideal) (e' := .bf16) x1 (Rect.unit (s := S1536x512) (k0_off1 i 2#32) ![512, 128] (k0_off1_inb i 6)), View.ld (Val := Elt Ideal) (e' := .bf16) x1 (Rect.unit (s := S1536x512) (k0_off3 i 2#32) ![512, 128] (k0_off3_inb i 6)), View.ld (Val := Elt Ideal) (e' := .bf16) x1 (Rect.unit (s := S1536x512) (k0_off5 i 2#32) ![512, 128] (k0_off5_inb i 6)), View.ld (Val := Elt Ideal) (e' := .bf16) x1 (Rect.unit (s := S1536x512) (k0_off7 i 2#32) ![512, 128] (k0_off7_inb i 6))]
      ![View.ld (Val := Elt Ideal) (e' := .f32) x3 (Rect.unit (s := S8x512x512) (k0_off2 i 6#32 2#32) ![1, 128, 512] (k0_off2_inb i 6)), View.ld (Val := Elt Ideal) (e' := .f32) x3 (Rect.unit (s := S8x512x512) (k0_off4 i 6#32 2#32) ![1, 128, 512] (k0_off4_inb i 6)), View.ld (Val := Elt Ideal) (e' := .f32) x3 (Rect.unit (s := S8x512x512) (k0_off6 i 6#32 2#32) ![1, 128, 512] (k0_off6_inb i 6)), View.ld (Val := Elt Ideal) (e' := .f32) x3 (Rect.unit (s := S8x512x512) (k0_off8 i 6#32 2#32) ![1, 128, 512] (k0_off8_inb i 6))]
      ![View.ld (Val := Elt Ideal) (e' := .bf16) x2 (Rect.unit (s := S1536x512) (k0_off1 i 2#32) ![512, 128] (k0_off1_inb i 6)), View.ld (Val := Elt Ideal) (e' := .bf16) x2 (Rect.unit (s := S1536x512) (k0_off3 i 2#32) ![512, 128] (k0_off3_inb i 6)), View.ld (Val := Elt Ideal) (e' := .bf16) x2 (Rect.unit (s := S1536x512) (k0_off5 i 2#32) ![512, 128] (k0_off5_inb i 6)), View.ld (Val := Elt Ideal) (e' := .bf16) x2 (Rect.unit (s := S1536x512) (k0_off7 i 2#32) ![512, 128] (k0_off7_inb i 6))]
      (fun c l => ld_q x0 384 _ (by omega) c l)
      (fun hp w l => by
        match hp with
        | ⟨0, _⟩ => exact ld_k x1 _ _ _ 0 (off1_eq i 6) (by have := startRow_le (i 0) 6; omega) (by omega) w l
        | ⟨1, _⟩ => exact ld_k x1 _ _ _ 128 (off3_eq i 6) (by have := startRow_le (i 0) 6; omega) (by omega) w l
        | ⟨2, _⟩ => exact ld_k x1 _ _ _ 256 (off5_eq i 6) (by have := startRow_le (i 0) 6; omega) (by omega) w l
        | ⟨3, _⟩ => exact ld_k x1 _ _ _ 384 (off7_eq i 6) (by have := startRow_le (i 0) 6; omega) (by omega) w l)
      (fun hp r w => by
        match hp with
        | ⟨0, _⟩ => exact ld_b x3 _ _ _ 0 (off2_eq i 6) (offRow_lt (i 0) 6) (by omega) r w
        | ⟨1, _⟩ => exact ld_b x3 _ _ _ 128 (off4_eq i 6) (offRow_lt (i 0) 6) (by omega) r w
        | ⟨2, _⟩ => exact ld_b x3 _ _ _ 256 (off6_eq i 6) (offRow_lt (i 0) 6) (by omega) r w
        | ⟨3, _⟩ => exact ld_b x3 _ _ _ 384 (off8_eq i 6) (offRow_lt (i 0) 6) (by omega) r w)
      (fun hp w l => by
        match hp with
        | ⟨0, _⟩ => exact ld_k x2 _ _ _ 0 (off1_eq i 6) (by have := startRow_le (i 0) 6; omega) (by omega) w l
        | ⟨1, _⟩ => exact ld_k x2 _ _ _ 128 (off3_eq i 6) (by have := startRow_le (i 0) 6; omega) (by omega) w l
        | ⟨2, _⟩ => exact ld_k x2 _ _ _ 256 (off5_eq i 6) (by have := startRow_le (i 0) 6; omega) (by omega) w l
        | ⟨3, _⟩ => exact ld_k x2 _ _ _ 384 (off7_eq i 6) (by have := startRow_le (i 0) 6; omega) (by omega) w l)
      (x 0) (x 1) (y 0) (y 1) h0 h1)
    rw [ix2_eta x]
    rfl
  · refine Eq.trans ?_ (tile (i 0) x0 x1 x2 x3 5 (View.ld (Val := Elt Ideal) (e' := .bf16) x0 (Rect.unit (s := S512x512) ![320, 0] ![64, 512] inb_S512x512_S64x512_320_0))
      ![View.ld (Val := Elt Ideal) (e' := .bf16) x1 (Rect.unit (s := S1536x512) (k0_off1 i 1#32) ![512, 128] (k0_off1_inb i 5)), View.ld (Val := Elt Ideal) (e' := .bf16) x1 (Rect.unit (s := S1536x512) (k0_off3 i 1#32) ![512, 128] (k0_off3_inb i 5)), View.ld (Val := Elt Ideal) (e' := .bf16) x1 (Rect.unit (s := S1536x512) (k0_off5 i 1#32) ![512, 128] (k0_off5_inb i 5)), View.ld (Val := Elt Ideal) (e' := .bf16) x1 (Rect.unit (s := S1536x512) (k0_off7 i 1#32) ![512, 128] (k0_off7_inb i 5))]
      ![View.ld (Val := Elt Ideal) (e' := .f32) x3 (Rect.unit (s := S8x512x512) (k0_off2 i 5#32 1#32) ![1, 128, 512] (k0_off2_inb i 5)), View.ld (Val := Elt Ideal) (e' := .f32) x3 (Rect.unit (s := S8x512x512) (k0_off4 i 5#32 1#32) ![1, 128, 512] (k0_off4_inb i 5)), View.ld (Val := Elt Ideal) (e' := .f32) x3 (Rect.unit (s := S8x512x512) (k0_off6 i 5#32 1#32) ![1, 128, 512] (k0_off6_inb i 5)), View.ld (Val := Elt Ideal) (e' := .f32) x3 (Rect.unit (s := S8x512x512) (k0_off8 i 5#32 1#32) ![1, 128, 512] (k0_off8_inb i 5))]
      ![View.ld (Val := Elt Ideal) (e' := .bf16) x2 (Rect.unit (s := S1536x512) (k0_off1 i 1#32) ![512, 128] (k0_off1_inb i 5)), View.ld (Val := Elt Ideal) (e' := .bf16) x2 (Rect.unit (s := S1536x512) (k0_off3 i 1#32) ![512, 128] (k0_off3_inb i 5)), View.ld (Val := Elt Ideal) (e' := .bf16) x2 (Rect.unit (s := S1536x512) (k0_off5 i 1#32) ![512, 128] (k0_off5_inb i 5)), View.ld (Val := Elt Ideal) (e' := .bf16) x2 (Rect.unit (s := S1536x512) (k0_off7 i 1#32) ![512, 128] (k0_off7_inb i 5))]
      (fun c l => ld_q x0 320 _ (by omega) c l)
      (fun hp w l => by
        match hp with
        | ⟨0, _⟩ => exact ld_k x1 _ _ _ 0 (off1_eq i 5) (by have := startRow_le (i 0) 5; omega) (by omega) w l
        | ⟨1, _⟩ => exact ld_k x1 _ _ _ 128 (off3_eq i 5) (by have := startRow_le (i 0) 5; omega) (by omega) w l
        | ⟨2, _⟩ => exact ld_k x1 _ _ _ 256 (off5_eq i 5) (by have := startRow_le (i 0) 5; omega) (by omega) w l
        | ⟨3, _⟩ => exact ld_k x1 _ _ _ 384 (off7_eq i 5) (by have := startRow_le (i 0) 5; omega) (by omega) w l)
      (fun hp r w => by
        match hp with
        | ⟨0, _⟩ => exact ld_b x3 _ _ _ 0 (off2_eq i 5) (offRow_lt (i 0) 5) (by omega) r w
        | ⟨1, _⟩ => exact ld_b x3 _ _ _ 128 (off4_eq i 5) (offRow_lt (i 0) 5) (by omega) r w
        | ⟨2, _⟩ => exact ld_b x3 _ _ _ 256 (off6_eq i 5) (offRow_lt (i 0) 5) (by omega) r w
        | ⟨3, _⟩ => exact ld_b x3 _ _ _ 384 (off8_eq i 5) (offRow_lt (i 0) 5) (by omega) r w)
      (fun hp w l => by
        match hp with
        | ⟨0, _⟩ => exact ld_k x2 _ _ _ 0 (off1_eq i 5) (by have := startRow_le (i 0) 5; omega) (by omega) w l
        | ⟨1, _⟩ => exact ld_k x2 _ _ _ 128 (off3_eq i 5) (by have := startRow_le (i 0) 5; omega) (by omega) w l
        | ⟨2, _⟩ => exact ld_k x2 _ _ _ 256 (off5_eq i 5) (by have := startRow_le (i 0) 5; omega) (by omega) w l
        | ⟨3, _⟩ => exact ld_k x2 _ _ _ 384 (off7_eq i 5) (by have := startRow_le (i 0) 5; omega) (by omega) w l)
      (x 0) (x 1) (y 0) (y 1) h0 h1)
    rw [ix2_eta x]
    rfl
  · refine Eq.trans ?_ (tile (i 0) x0 x1 x2 x3 4 (View.ld (Val := Elt Ideal) (e' := .bf16) x0 (Rect.unit (s := S512x512) ![256, 0] ![64, 512] inb_S512x512_S64x512_256_0))
      ![View.ld (Val := Elt Ideal) (e' := .bf16) x1 (Rect.unit (s := S1536x512) (k0_off1 i 0#32) ![512, 128] (k0_off1_inb i 4)), View.ld (Val := Elt Ideal) (e' := .bf16) x1 (Rect.unit (s := S1536x512) (k0_off3 i 0#32) ![512, 128] (k0_off3_inb i 4)), View.ld (Val := Elt Ideal) (e' := .bf16) x1 (Rect.unit (s := S1536x512) (k0_off5 i 0#32) ![512, 128] (k0_off5_inb i 4)), View.ld (Val := Elt Ideal) (e' := .bf16) x1 (Rect.unit (s := S1536x512) (k0_off7 i 0#32) ![512, 128] (k0_off7_inb i 4))]
      ![View.ld (Val := Elt Ideal) (e' := .f32) x3 (Rect.unit (s := S8x512x512) (k0_off2 i 4#32 0#32) ![1, 128, 512] (k0_off2_inb i 4)), View.ld (Val := Elt Ideal) (e' := .f32) x3 (Rect.unit (s := S8x512x512) (k0_off4 i 4#32 0#32) ![1, 128, 512] (k0_off4_inb i 4)), View.ld (Val := Elt Ideal) (e' := .f32) x3 (Rect.unit (s := S8x512x512) (k0_off6 i 4#32 0#32) ![1, 128, 512] (k0_off6_inb i 4)), View.ld (Val := Elt Ideal) (e' := .f32) x3 (Rect.unit (s := S8x512x512) (k0_off8 i 4#32 0#32) ![1, 128, 512] (k0_off8_inb i 4))]
      ![View.ld (Val := Elt Ideal) (e' := .bf16) x2 (Rect.unit (s := S1536x512) (k0_off1 i 0#32) ![512, 128] (k0_off1_inb i 4)), View.ld (Val := Elt Ideal) (e' := .bf16) x2 (Rect.unit (s := S1536x512) (k0_off3 i 0#32) ![512, 128] (k0_off3_inb i 4)), View.ld (Val := Elt Ideal) (e' := .bf16) x2 (Rect.unit (s := S1536x512) (k0_off5 i 0#32) ![512, 128] (k0_off5_inb i 4)), View.ld (Val := Elt Ideal) (e' := .bf16) x2 (Rect.unit (s := S1536x512) (k0_off7 i 0#32) ![512, 128] (k0_off7_inb i 4))]
      (fun c l => ld_q x0 256 _ (by omega) c l)
      (fun hp w l => by
        match hp with
        | ⟨0, _⟩ => exact ld_k x1 _ _ _ 0 (off1_eq i 4) (by have := startRow_le (i 0) 4; omega) (by omega) w l
        | ⟨1, _⟩ => exact ld_k x1 _ _ _ 128 (off3_eq i 4) (by have := startRow_le (i 0) 4; omega) (by omega) w l
        | ⟨2, _⟩ => exact ld_k x1 _ _ _ 256 (off5_eq i 4) (by have := startRow_le (i 0) 4; omega) (by omega) w l
        | ⟨3, _⟩ => exact ld_k x1 _ _ _ 384 (off7_eq i 4) (by have := startRow_le (i 0) 4; omega) (by omega) w l)
      (fun hp r w => by
        match hp with
        | ⟨0, _⟩ => exact ld_b x3 _ _ _ 0 (off2_eq i 4) (offRow_lt (i 0) 4) (by omega) r w
        | ⟨1, _⟩ => exact ld_b x3 _ _ _ 128 (off4_eq i 4) (offRow_lt (i 0) 4) (by omega) r w
        | ⟨2, _⟩ => exact ld_b x3 _ _ _ 256 (off6_eq i 4) (offRow_lt (i 0) 4) (by omega) r w
        | ⟨3, _⟩ => exact ld_b x3 _ _ _ 384 (off8_eq i 4) (offRow_lt (i 0) 4) (by omega) r w)
      (fun hp w l => by
        match hp with
        | ⟨0, _⟩ => exact ld_k x2 _ _ _ 0 (off1_eq i 4) (by have := startRow_le (i 0) 4; omega) (by omega) w l
        | ⟨1, _⟩ => exact ld_k x2 _ _ _ 128 (off3_eq i 4) (by have := startRow_le (i 0) 4; omega) (by omega) w l
        | ⟨2, _⟩ => exact ld_k x2 _ _ _ 256 (off5_eq i 4) (by have := startRow_le (i 0) 4; omega) (by omega) w l
        | ⟨3, _⟩ => exact ld_k x2 _ _ _ 384 (off7_eq i 4) (by have := startRow_le (i 0) 4; omega) (by omega) w l)
      (x 0) (x 1) (y 0) (y 1) h0 h1)
    rw [ix2_eta x]
    rfl
  · refine Eq.trans ?_ (tile (i 0) x0 x1 x2 x3 3 (View.ld (Val := Elt Ideal) (e' := .bf16) x0 (Rect.unit (s := S512x512) ![192, 0] ![64, 512] inb_S512x512_S64x512_192_0))
      ![View.ld (Val := Elt Ideal) (e' := .bf16) x1 (Rect.unit (s := S1536x512) (k0_off1 i 4294967295#32) ![512, 128] (k0_off1_inb i 3)), View.ld (Val := Elt Ideal) (e' := .bf16) x1 (Rect.unit (s := S1536x512) (k0_off3 i 4294967295#32) ![512, 128] (k0_off3_inb i 3)), View.ld (Val := Elt Ideal) (e' := .bf16) x1 (Rect.unit (s := S1536x512) (k0_off5 i 4294967295#32) ![512, 128] (k0_off5_inb i 3)), View.ld (Val := Elt Ideal) (e' := .bf16) x1 (Rect.unit (s := S1536x512) (k0_off7 i 4294967295#32) ![512, 128] (k0_off7_inb i 3))]
      ![View.ld (Val := Elt Ideal) (e' := .f32) x3 (Rect.unit (s := S8x512x512) (k0_off2 i 3#32 4294967295#32) ![1, 128, 512] (k0_off2_inb i 3)), View.ld (Val := Elt Ideal) (e' := .f32) x3 (Rect.unit (s := S8x512x512) (k0_off4 i 3#32 4294967295#32) ![1, 128, 512] (k0_off4_inb i 3)), View.ld (Val := Elt Ideal) (e' := .f32) x3 (Rect.unit (s := S8x512x512) (k0_off6 i 3#32 4294967295#32) ![1, 128, 512] (k0_off6_inb i 3)), View.ld (Val := Elt Ideal) (e' := .f32) x3 (Rect.unit (s := S8x512x512) (k0_off8 i 3#32 4294967295#32) ![1, 128, 512] (k0_off8_inb i 3))]
      ![View.ld (Val := Elt Ideal) (e' := .bf16) x2 (Rect.unit (s := S1536x512) (k0_off1 i 4294967295#32) ![512, 128] (k0_off1_inb i 3)), View.ld (Val := Elt Ideal) (e' := .bf16) x2 (Rect.unit (s := S1536x512) (k0_off3 i 4294967295#32) ![512, 128] (k0_off3_inb i 3)), View.ld (Val := Elt Ideal) (e' := .bf16) x2 (Rect.unit (s := S1536x512) (k0_off5 i 4294967295#32) ![512, 128] (k0_off5_inb i 3)), View.ld (Val := Elt Ideal) (e' := .bf16) x2 (Rect.unit (s := S1536x512) (k0_off7 i 4294967295#32) ![512, 128] (k0_off7_inb i 3))]
      (fun c l => ld_q x0 192 _ (by omega) c l)
      (fun hp w l => by
        match hp with
        | ⟨0, _⟩ => exact ld_k x1 _ _ _ 0 (off1_eq i 3) (by have := startRow_le (i 0) 3; omega) (by omega) w l
        | ⟨1, _⟩ => exact ld_k x1 _ _ _ 128 (off3_eq i 3) (by have := startRow_le (i 0) 3; omega) (by omega) w l
        | ⟨2, _⟩ => exact ld_k x1 _ _ _ 256 (off5_eq i 3) (by have := startRow_le (i 0) 3; omega) (by omega) w l
        | ⟨3, _⟩ => exact ld_k x1 _ _ _ 384 (off7_eq i 3) (by have := startRow_le (i 0) 3; omega) (by omega) w l)
      (fun hp r w => by
        match hp with
        | ⟨0, _⟩ => exact ld_b x3 _ _ _ 0 (off2_eq i 3) (offRow_lt (i 0) 3) (by omega) r w
        | ⟨1, _⟩ => exact ld_b x3 _ _ _ 128 (off4_eq i 3) (offRow_lt (i 0) 3) (by omega) r w
        | ⟨2, _⟩ => exact ld_b x3 _ _ _ 256 (off6_eq i 3) (offRow_lt (i 0) 3) (by omega) r w
        | ⟨3, _⟩ => exact ld_b x3 _ _ _ 384 (off8_eq i 3) (offRow_lt (i 0) 3) (by omega) r w)
      (fun hp w l => by
        match hp with
        | ⟨0, _⟩ => exact ld_k x2 _ _ _ 0 (off1_eq i 3) (by have := startRow_le (i 0) 3; omega) (by omega) w l
        | ⟨1, _⟩ => exact ld_k x2 _ _ _ 128 (off3_eq i 3) (by have := startRow_le (i 0) 3; omega) (by omega) w l
        | ⟨2, _⟩ => exact ld_k x2 _ _ _ 256 (off5_eq i 3) (by have := startRow_le (i 0) 3; omega) (by omega) w l
        | ⟨3, _⟩ => exact ld_k x2 _ _ _ 384 (off7_eq i 3) (by have := startRow_le (i 0) 3; omega) (by omega) w l)
      (x 0) (x 1) (y 0) (y 1) h0 h1)
    rw [ix2_eta x]
    rfl
  · refine Eq.trans ?_ (tile (i 0) x0 x1 x2 x3 2 (View.ld (Val := Elt Ideal) (e' := .bf16) x0 (Rect.unit (s := S512x512) ![128, 0] ![64, 512] inb_S512x512_S64x512_128_0))
      ![View.ld (Val := Elt Ideal) (e' := .bf16) x1 (Rect.unit (s := S1536x512) (k0_off1 i 4294967294#32) ![512, 128] (k0_off1_inb i 2)), View.ld (Val := Elt Ideal) (e' := .bf16) x1 (Rect.unit (s := S1536x512) (k0_off3 i 4294967294#32) ![512, 128] (k0_off3_inb i 2)), View.ld (Val := Elt Ideal) (e' := .bf16) x1 (Rect.unit (s := S1536x512) (k0_off5 i 4294967294#32) ![512, 128] (k0_off5_inb i 2)), View.ld (Val := Elt Ideal) (e' := .bf16) x1 (Rect.unit (s := S1536x512) (k0_off7 i 4294967294#32) ![512, 128] (k0_off7_inb i 2))]
      ![View.ld (Val := Elt Ideal) (e' := .f32) x3 (Rect.unit (s := S8x512x512) (k0_off2 i 2#32 4294967294#32) ![1, 128, 512] (k0_off2_inb i 2)), View.ld (Val := Elt Ideal) (e' := .f32) x3 (Rect.unit (s := S8x512x512) (k0_off4 i 2#32 4294967294#32) ![1, 128, 512] (k0_off4_inb i 2)), View.ld (Val := Elt Ideal) (e' := .f32) x3 (Rect.unit (s := S8x512x512) (k0_off6 i 2#32 4294967294#32) ![1, 128, 512] (k0_off6_inb i 2)), View.ld (Val := Elt Ideal) (e' := .f32) x3 (Rect.unit (s := S8x512x512) (k0_off8 i 2#32 4294967294#32) ![1, 128, 512] (k0_off8_inb i 2))]
      ![View.ld (Val := Elt Ideal) (e' := .bf16) x2 (Rect.unit (s := S1536x512) (k0_off1 i 4294967294#32) ![512, 128] (k0_off1_inb i 2)), View.ld (Val := Elt Ideal) (e' := .bf16) x2 (Rect.unit (s := S1536x512) (k0_off3 i 4294967294#32) ![512, 128] (k0_off3_inb i 2)), View.ld (Val := Elt Ideal) (e' := .bf16) x2 (Rect.unit (s := S1536x512) (k0_off5 i 4294967294#32) ![512, 128] (k0_off5_inb i 2)), View.ld (Val := Elt Ideal) (e' := .bf16) x2 (Rect.unit (s := S1536x512) (k0_off7 i 4294967294#32) ![512, 128] (k0_off7_inb i 2))]
      (fun c l => ld_q x0 128 _ (by omega) c l)
      (fun hp w l => by
        match hp with
        | ⟨0, _⟩ => exact ld_k x1 _ _ _ 0 (off1_eq i 2) (by have := startRow_le (i 0) 2; omega) (by omega) w l
        | ⟨1, _⟩ => exact ld_k x1 _ _ _ 128 (off3_eq i 2) (by have := startRow_le (i 0) 2; omega) (by omega) w l
        | ⟨2, _⟩ => exact ld_k x1 _ _ _ 256 (off5_eq i 2) (by have := startRow_le (i 0) 2; omega) (by omega) w l
        | ⟨3, _⟩ => exact ld_k x1 _ _ _ 384 (off7_eq i 2) (by have := startRow_le (i 0) 2; omega) (by omega) w l)
      (fun hp r w => by
        match hp with
        | ⟨0, _⟩ => exact ld_b x3 _ _ _ 0 (off2_eq i 2) (offRow_lt (i 0) 2) (by omega) r w
        | ⟨1, _⟩ => exact ld_b x3 _ _ _ 128 (off4_eq i 2) (offRow_lt (i 0) 2) (by omega) r w
        | ⟨2, _⟩ => exact ld_b x3 _ _ _ 256 (off6_eq i 2) (offRow_lt (i 0) 2) (by omega) r w
        | ⟨3, _⟩ => exact ld_b x3 _ _ _ 384 (off8_eq i 2) (offRow_lt (i 0) 2) (by omega) r w)
      (fun hp w l => by
        match hp with
        | ⟨0, _⟩ => exact ld_k x2 _ _ _ 0 (off1_eq i 2) (by have := startRow_le (i 0) 2; omega) (by omega) w l
        | ⟨1, _⟩ => exact ld_k x2 _ _ _ 128 (off3_eq i 2) (by have := startRow_le (i 0) 2; omega) (by omega) w l
        | ⟨2, _⟩ => exact ld_k x2 _ _ _ 256 (off5_eq i 2) (by have := startRow_le (i 0) 2; omega) (by omega) w l
        | ⟨3, _⟩ => exact ld_k x2 _ _ _ 384 (off7_eq i 2) (by have := startRow_le (i 0) 2; omega) (by omega) w l)
      (x 0) (x 1) (y 0) (y 1) h0 h1)
    rw [ix2_eta x]
    rfl
  · refine Eq.trans ?_ (tile (i 0) x0 x1 x2 x3 1 (View.ld (Val := Elt Ideal) (e' := .bf16) x0 (Rect.unit (s := S512x512) ![64, 0] ![64, 512] inb_S512x512_S64x512_64_0))
      ![View.ld (Val := Elt Ideal) (e' := .bf16) x1 (Rect.unit (s := S1536x512) (k0_off1 i 4294967293#32) ![512, 128] (k0_off1_inb i 1)), View.ld (Val := Elt Ideal) (e' := .bf16) x1 (Rect.unit (s := S1536x512) (k0_off3 i 4294967293#32) ![512, 128] (k0_off3_inb i 1)), View.ld (Val := Elt Ideal) (e' := .bf16) x1 (Rect.unit (s := S1536x512) (k0_off5 i 4294967293#32) ![512, 128] (k0_off5_inb i 1)), View.ld (Val := Elt Ideal) (e' := .bf16) x1 (Rect.unit (s := S1536x512) (k0_off7 i 4294967293#32) ![512, 128] (k0_off7_inb i 1))]
      ![View.ld (Val := Elt Ideal) (e' := .f32) x3 (Rect.unit (s := S8x512x512) (k0_off2 i 1#32 4294967293#32) ![1, 128, 512] (k0_off2_inb i 1)), View.ld (Val := Elt Ideal) (e' := .f32) x3 (Rect.unit (s := S8x512x512) (k0_off4 i 1#32 4294967293#32) ![1, 128, 512] (k0_off4_inb i 1)), View.ld (Val := Elt Ideal) (e' := .f32) x3 (Rect.unit (s := S8x512x512) (k0_off6 i 1#32 4294967293#32) ![1, 128, 512] (k0_off6_inb i 1)), View.ld (Val := Elt Ideal) (e' := .f32) x3 (Rect.unit (s := S8x512x512) (k0_off8 i 1#32 4294967293#32) ![1, 128, 512] (k0_off8_inb i 1))]
      ![View.ld (Val := Elt Ideal) (e' := .bf16) x2 (Rect.unit (s := S1536x512) (k0_off1 i 4294967293#32) ![512, 128] (k0_off1_inb i 1)), View.ld (Val := Elt Ideal) (e' := .bf16) x2 (Rect.unit (s := S1536x512) (k0_off3 i 4294967293#32) ![512, 128] (k0_off3_inb i 1)), View.ld (Val := Elt Ideal) (e' := .bf16) x2 (Rect.unit (s := S1536x512) (k0_off5 i 4294967293#32) ![512, 128] (k0_off5_inb i 1)), View.ld (Val := Elt Ideal) (e' := .bf16) x2 (Rect.unit (s := S1536x512) (k0_off7 i 4294967293#32) ![512, 128] (k0_off7_inb i 1))]
      (fun c l => ld_q x0 64 _ (by omega) c l)
      (fun hp w l => by
        match hp with
        | ⟨0, _⟩ => exact ld_k x1 _ _ _ 0 (off1_eq i 1) (by have := startRow_le (i 0) 1; omega) (by omega) w l
        | ⟨1, _⟩ => exact ld_k x1 _ _ _ 128 (off3_eq i 1) (by have := startRow_le (i 0) 1; omega) (by omega) w l
        | ⟨2, _⟩ => exact ld_k x1 _ _ _ 256 (off5_eq i 1) (by have := startRow_le (i 0) 1; omega) (by omega) w l
        | ⟨3, _⟩ => exact ld_k x1 _ _ _ 384 (off7_eq i 1) (by have := startRow_le (i 0) 1; omega) (by omega) w l)
      (fun hp r w => by
        match hp with
        | ⟨0, _⟩ => exact ld_b x3 _ _ _ 0 (off2_eq i 1) (offRow_lt (i 0) 1) (by omega) r w
        | ⟨1, _⟩ => exact ld_b x3 _ _ _ 128 (off4_eq i 1) (offRow_lt (i 0) 1) (by omega) r w
        | ⟨2, _⟩ => exact ld_b x3 _ _ _ 256 (off6_eq i 1) (offRow_lt (i 0) 1) (by omega) r w
        | ⟨3, _⟩ => exact ld_b x3 _ _ _ 384 (off8_eq i 1) (offRow_lt (i 0) 1) (by omega) r w)
      (fun hp w l => by
        match hp with
        | ⟨0, _⟩ => exact ld_k x2 _ _ _ 0 (off1_eq i 1) (by have := startRow_le (i 0) 1; omega) (by omega) w l
        | ⟨1, _⟩ => exact ld_k x2 _ _ _ 128 (off3_eq i 1) (by have := startRow_le (i 0) 1; omega) (by omega) w l
        | ⟨2, _⟩ => exact ld_k x2 _ _ _ 256 (off5_eq i 1) (by have := startRow_le (i 0) 1; omega) (by omega) w l
        | ⟨3, _⟩ => exact ld_k x2 _ _ _ 384 (off7_eq i 1) (by have := startRow_le (i 0) 1; omega) (by omega) w l)
      (x 0) (x 1) (y 0) (y 1) h0 h1)
    rw [ix2_eta x]
    rfl
  · refine Eq.trans ?_ (tile (i 0) x0 x1 x2 x3 0 (View.ld (Val := Elt Ideal) (e' := .bf16) x0 (Rect.unit (s := S512x512) ![0, 0] ![64, 512] inb_S512x512_S64x512_0_0))
      ![View.ld (Val := Elt Ideal) (e' := .bf16) x1 (Rect.unit (s := S1536x512) (k0_off1 i 4294967292#32) ![512, 128] (k0_off1_inb i 0)), View.ld (Val := Elt Ideal) (e' := .bf16) x1 (Rect.unit (s := S1536x512) (k0_off3 i 4294967292#32) ![512, 128] (k0_off3_inb i 0)), View.ld (Val := Elt Ideal) (e' := .bf16) x1 (Rect.unit (s := S1536x512) (k0_off5 i 4294967292#32) ![512, 128] (k0_off5_inb i 0)), View.ld (Val := Elt Ideal) (e' := .bf16) x1 (Rect.unit (s := S1536x512) (k0_off7 i 4294967292#32) ![512, 128] (k0_off7_inb i 0))]
      ![View.ld (Val := Elt Ideal) (e' := .f32) x3 (Rect.unit (s := S8x512x512) (k0_off2 i 0#32 4294967292#32) ![1, 128, 512] (k0_off2_inb i 0)), View.ld (Val := Elt Ideal) (e' := .f32) x3 (Rect.unit (s := S8x512x512) (k0_off4 i 0#32 4294967292#32) ![1, 128, 512] (k0_off4_inb i 0)), View.ld (Val := Elt Ideal) (e' := .f32) x3 (Rect.unit (s := S8x512x512) (k0_off6 i 0#32 4294967292#32) ![1, 128, 512] (k0_off6_inb i 0)), View.ld (Val := Elt Ideal) (e' := .f32) x3 (Rect.unit (s := S8x512x512) (k0_off8 i 0#32 4294967292#32) ![1, 128, 512] (k0_off8_inb i 0))]
      ![View.ld (Val := Elt Ideal) (e' := .bf16) x2 (Rect.unit (s := S1536x512) (k0_off1 i 4294967292#32) ![512, 128] (k0_off1_inb i 0)), View.ld (Val := Elt Ideal) (e' := .bf16) x2 (Rect.unit (s := S1536x512) (k0_off3 i 4294967292#32) ![512, 128] (k0_off3_inb i 0)), View.ld (Val := Elt Ideal) (e' := .bf16) x2 (Rect.unit (s := S1536x512) (k0_off5 i 4294967292#32) ![512, 128] (k0_off5_inb i 0)), View.ld (Val := Elt Ideal) (e' := .bf16) x2 (Rect.unit (s := S1536x512) (k0_off7 i 4294967292#32) ![512, 128] (k0_off7_inb i 0))]
      (fun c l => ld_q x0 0 _ (by omega) c l)
      (fun hp w l => by
        match hp with
        | ⟨0, _⟩ => exact ld_k x1 _ _ _ 0 (off1_eq i 0) (by have := startRow_le (i 0) 0; omega) (by omega) w l
        | ⟨1, _⟩ => exact ld_k x1 _ _ _ 128 (off3_eq i 0) (by have := startRow_le (i 0) 0; omega) (by omega) w l
        | ⟨2, _⟩ => exact ld_k x1 _ _ _ 256 (off5_eq i 0) (by have := startRow_le (i 0) 0; omega) (by omega) w l
        | ⟨3, _⟩ => exact ld_k x1 _ _ _ 384 (off7_eq i 0) (by have := startRow_le (i 0) 0; omega) (by omega) w l)
      (fun hp r w => by
        match hp with
        | ⟨0, _⟩ => exact ld_b x3 _ _ _ 0 (off2_eq i 0) (offRow_lt (i 0) 0) (by omega) r w
        | ⟨1, _⟩ => exact ld_b x3 _ _ _ 128 (off4_eq i 0) (offRow_lt (i 0) 0) (by omega) r w
        | ⟨2, _⟩ => exact ld_b x3 _ _ _ 256 (off6_eq i 0) (offRow_lt (i 0) 0) (by omega) r w
        | ⟨3, _⟩ => exact ld_b x3 _ _ _ 384 (off8_eq i 0) (offRow_lt (i 0) 0) (by omega) r w)
      (fun hp w l => by
        match hp with
        | ⟨0, _⟩ => exact ld_k x2 _ _ _ 0 (off1_eq i 0) (by have := startRow_le (i 0) 0; omega) (by omega) w l
        | ⟨1, _⟩ => exact ld_k x2 _ _ _ 128 (off3_eq i 0) (by have := startRow_le (i 0) 0; omega) (by omega) w l
        | ⟨2, _⟩ => exact ld_k x2 _ _ _ 256 (off5_eq i 0) (by have := startRow_le (i 0) 0; omega) (by omega) w l
        | ⟨3, _⟩ => exact ld_k x2 _ _ _ 384 (off7_eq i 0) (by have := startRow_le (i 0) 0; omega) (by omega) w l)
      (x 0) (x 1) (y 0) (y 1) (h0.trans (Nat.zero_add _).symm) h1)
    rw [ix2_eta x]
    rfl

end Cert.KernelIdeal.Value
end
-- ==== Proof.Blocks.lean ====
/- The four blocks staged at a grid point, read at an index of the arrays they come from. -/
module
public import proofs.«01_k».proof.Proof.Body
public import Idealize.ShloMosaic.Lib.StableHlo.ReadAt
@[expose] public section
set_option maxRecDepth 16384
noncomputable section
namespace Cert.KernelIdeal.Value
open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

theorem index1 : ∀ t : Fin cfg0.N, win0_1.index t = ![64 * baseRow (grid0.coords t 0), 512] := by decide +kernel
theorem index2 : ∀ t : Fin cfg0.N, win0_2.index t = ![64 * baseRow (grid0.coords t 0), 1024] := by decide +kernel
theorem index0 : ∀ t : Fin cfg0.N, win0_0.index t = ![(grid0.coords t 0 : ℕ), 0] := by decide +kernel
theorem index3 : ∀ t : Fin cfg0.N, win0_3.index t = ![0, 0, 0] := by decide +kernel
theorem index4 : ∀ t : Fin cfg0.N, win0_4.index t = ![(grid0.coords t 0 : ℕ), 0] := by decide +kernel
theorem coord_lt (t : Fin cfg0.N) : (grid0.coords t 0 : ℕ) < 128 := (grid0.coords t 0).isLt
theorem baseRow_le (i : ℕ) : baseRow i ≤ 1000 := by unfold baseRow; omega
theorem b0 (c : Dev nD) (t : Fin cfg0.N) (r l : Fin 512) : (X0_0 m c t (ix2 r l) : EReal) = m (c, main_arg0) (ix2 ⟨512 * grid0.coords t 0 + r, by have := coord_lt t; omega⟩ ⟨l.val, by omega⟩) := by
  unfold X0_0 iblk Pipeline.Window.fill
  rw [dif_pos (moved0_0 t _)]
  blk_simp
  rw [V_main_arg0]
  refine congrArg _ ?_
  blk_ext [index0 t]
theorem b1 (c : Dev nD) (t : Fin cfg0.N) (r : Fin 1536) (l : Fin 512) : (iblk m c 1 t (ix2 r l) : EReal) = m (c, main_arg0) (ix2 ⟨64 * baseRow (grid0.coords t 0) + r, by have := baseRow_le (grid0.coords t 0); omega⟩ ⟨512 + l.val, by omega⟩) := by
  unfold iblk
  blk_simp
  rw [V_main_arg0]
  refine congrArg _ (funext fun a => Fin.ext ?_)
  refine (Pipeline.Window.rect_emb_val_off win0_1 t (ix2 r l) a).trans ?_
  rw [index1 t]
  match a with
  | ⟨0, _⟩ => rfl
  | ⟨1, _⟩ => rfl
theorem b2 (c : Dev nD) (t : Fin cfg0.N) (r : Fin 1536) (l : Fin 512) : (iblk m c 2 t (ix2 r l) : EReal) = m (c, main_arg0) (ix2 ⟨64 * baseRow (grid0.coords t 0) + r, by have := baseRow_le (grid0.coords t 0); omega⟩ ⟨1024 + l.val, by omega⟩) := by
  unfold iblk
  blk_simp
  rw [V_main_arg0]
  refine congrArg _ (funext fun a => Fin.ext ?_)
  refine (Pipeline.Window.rect_emb_val_off win0_2 t (ix2 r l) a).trans ?_
  rw [index2 t]
  match a with
  | ⟨0, _⟩ => rfl
  | ⟨1, _⟩ => rfl
theorem b3 (c : Dev nD) (t : Fin cfg0.N) (r : Fin 8) (l k : Fin 512) : (iblk m c 3 t (ix3 r l k) : EReal) = V m c main_v13 (ix3 r l k) := by
  unfold iblk
  blk_simp
  refine congrArg (V m c main_v13) ?_
  blk_ext [index3 t]
end Cert.KernelIdeal.Value
-- ==== Proof.Bias.lean ====
/- The bias table of the attention, read at an index of the position biases it is gathered from. -/
module
public import proofs.«01_k».proof.Proof.Body
public import Idealize.ShloMosaic.Lib.StableHlo.ReadAt
@[expose] public section
set_option maxRecDepth 16384
noncomputable section
namespace Cert.KernelIdeal.Value
open Cert.KernelIdeal Cert.KernelIdeal.Gen Idealize.ShloMosaic Idealize.ShloMosaic.TcCoe Idealize.SL.Sem
open Idealize.ShloMosaic.Pipeline (Dat)
open Idealize.ShloMosaic.StableHlo

variable (m : (ℓ : Loc nD τ sig) → Buf (Elt Ideal) ℓ)

theorem gather_dr {α : Type} (x : S8x15x31.Idx → α) (idx : IVec S8x8x1 32) (a b e : Fin 8) (f : Fin 31) :
    Host.gather gather_S8x15x31_S8x8x1_S8x8x8x31_03_1_n_n_1_2_8131 x idx (ix4 a b e f)
      = x (ix3 a ⟨min (idx (ix3 b e (0 : Fin 1))).toInt.toNat 14, by omega⟩ f) := by
  unfold Host.gather
  refine congrArg x (funext fun i => Fin.ext ?_)
  generalize hd : gather_S8x15x31_S8x8x1_S8x8x8x31_03_1_n_n_1_2_8131 = d
  have hb : ∀ i, d.batchCoord (ix4 a b e f) i = 0 := fun i => d.batchCoord_eq_zero _ _ (by subst hd; exact List.not_mem_nil)
  show d.start (ix4 a b e f) idx i + d.batchCoord (ix4 a b e f) i + d.offCoord (ix4 a b e f) i = _
  rw [hb]
  subst hd
  match i with
  | ⟨0, _⟩ =>
    unfold GatherDims.start GatherDims.offCoord
    rw [dif_neg (by decide +revert), dif_pos (by decide +revert)]
    simp only [Nat.zero_add]
    rfl
  | ⟨1, _⟩ =>
    unfold GatherDims.start GatherDims.offCoord
    rw [dif_pos (by decide +revert), dif_neg (by decide +revert)]
    have hsi : ∀ k, gather_S8x15x31_S8x8x1_S8x8x8x31_03_1_n_n_1_2_8131.siIdx (ix4 a b e f) k = ix3 b e (0 : Fin 1) := by
      intro k
      funext j; refine Fin.ext ?_
      match j with
      | ⟨0, _⟩ => rfl
      | ⟨1, _⟩ => rfl
      | ⟨2, _⟩ => simp [GatherDims.siIdx]
    rw [hsi]
    rfl
  | ⟨2, _⟩ =>
    unfold GatherDims.start GatherDims.offCoord
    rw [dif_neg (by decide +revert), dif_pos (by decide +revert)]
    simp only [Nat.zero_add]
    rfl
theorem gather_dc {α : Type} (x : S8x8x8x31.Idx → α) (idx : IVec S64x64x1 32) (a b e : Fin 8) (f g : Fin 64) :
    Host.gather gather_S8x8x8x31_S64x64x1_S8x8x8x64x64_012_3_n_n_3_2_8881 x idx (ix5 a b e f g)
      = x (ix4 a b e ⟨min (idx (ix3 f g (0 : Fin 1))).toInt.toNat 30, by omega⟩) := by
  unfold Host.gather
  refine congrArg x (funext fun i => Fin.ext ?_)
  generalize hd : gather_S8x8x8x31_S64x64x1_S8x8x8x64x64_012_3_n_n_3_2_8881 = d
  have hb : ∀ i, d.batchCoord (ix5 a b e f g) i = 0 := fun i => d.batchCoord_eq_zero _ _ (by subst hd; exact List.not_mem_nil)
  show d.start (ix5 a b e f g) idx i + d.batchCoord (ix5 a b e f g) i + d.offCoord (ix5 a b e f g) i = _
  rw [hb]
  subst hd
  match i with
  | ⟨0, _⟩ =>
    unfold GatherDims.start GatherDims.offCoord
    rw [dif_neg (by decide +revert), dif_pos (by decide +revert)]
    simp only [Nat.zero_add]
    rfl
  | ⟨1, _⟩ =>
    unfold GatherDims.start GatherDims.offCoord
    rw [dif_neg (by decide +revert), dif_pos (by decide +revert)]
    simp only [Nat.zero_add]
    rfl
  | ⟨2, _⟩ =>
    unfold GatherDims.start GatherDims.offCoord
    rw [dif_neg (by decide +revert), dif_pos (by decide +revert)]
    simp only [Nat.zero_add]
    rfl
  | ⟨3, _⟩ =>
    unfold GatherDims.start GatherDims.offCoord
    rw [dif_pos (by decide +revert), dif_neg (by decide +revert)]
    have hsi : ∀ k, gather_S8x8x8x31_S64x64x1_S8x8x8x64x64_012_3_n_n_3_2_8881.siIdx (ix5 a b e f g) k = ix3 f g (0 : Fin 1) := by
      intro k
      funext j; refine Fin.ext ?_
      match j with
      | ⟨0, _⟩ => rfl
      | ⟨1, _⟩ => rfl
      | ⟨2, _⟩ => simp [GatherDims.siIdx]
    rw [hsi]
    rfl

/-- Where the sixteen columns that column `a` attends to begin. -/
def colStart (a : ℕ) : ℕ := min (a - 8) 48

theorem table_row : ∀ o e : Fin 8, (lit0 (S8x8.rowMajor (ix2 o e))).toInt.toNat = 7 - o.val + e.val := by decide +kernel
theorem table_col : ∀ a b : Fin 64, (lit1 (S64x64.rowMajor (ix2 a b))).toInt.toNat = min (b.val + 15 - a.val) 30 := by decide +kernel
theorem table_valid : ∀ a b : Fin 64, lit2 (S64x64.rowMajor (ix2 a b)) = if colStart a.val ≤ b.val ∧ b.val < colStart a.val + 16 then 1#1 else 0#1 := by
  decide +kernel

theorem bias_entry (X : S8x15x31.Idx → EReal) (a : Fin 8) (v : BitVec 1) (r k : ℕ) (P : Prop) [Decidable P] (r' k' : ℕ)
    (hv : v = if P then 1#1 else 0#1) (hr : r = r') (hk : k = min k' 30) :
    Scalar.select v (X (ix3 a ⟨min r 14, by omega⟩ ⟨min k 30, by omega⟩)) (id (constant (F := Ideal) S_ FTy.f32 4286578688#32) ix0)
      = if P then X (ix3 a ⟨min r' 14, by omega⟩ ⟨min k' 30, by omega⟩) else (⊥ : EReal) := by
  subst hr hk
  subst hv
  simp only [min_assoc, min_self]
  split
  · rfl
  · exact neg_inf

theorem bias_at (c : Dev nD) (o : Fin 8) (a w : Fin 512) :
    V m c main_v13 (ix3 o a w : S8x512x512.Idx)
      = if colStart (a.val % 64) ≤ w.val % 64 ∧ w.val % 64 < colStart (a.val % 64) + 16 then
          m (c, main_arg1) (ix3 ⟨a.val / 64, by omega⟩ ⟨min (7 - o.val + w.val / 64) 14, by omega⟩ ⟨min (w.val % 64 + 15 - a.val % 64) 30, by omega⟩)
        else (⊥ : EReal) := by
  unfold V hostOps0 hostOps0_1 hostOps0_2
  after_reads_at
  simp only [gather_dc, gather_dr]
  pointwise
  refine bias_entry _ _ _ _ _ _ _ _ ?_ ?_ ?_
  · exact table_valid _ _
  · exact table_row _ _
  · exact table_col _ _

end Cert.KernelIdeal.Value
-- ==== Proof.Softmax.lean ====
/- Softmax over a window of keys: 512 keys of which all but 128 are masked, against the 128 keys alone. -/
module

public import Idealize.ShloMosaic.PureOps.Ideal
public import Idealize.ShloMosaic.Lib.IdealHost

@[expose] public section

namespace Cert.Proof

open Idealize.ShloMosaic
open scoped BigOperators

/-- A factor that is a nonnegative real distributes over a finite sum of extended reals. -/
theorem sum_mul_real {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

/-- The exponential of a difference whose first term is minus infinity is zero. -/
theorem exp_bot_sub (M : EReal) : Ideal.exp (⊥ - M) = 0 := by
  rw [sub_eq_add_neg, EReal.bot_add]; rfl

/-- Masked softmax: keys outside the range of `e` score minus infinity; those inside score reals. The weighted sum of
    the values, divided at the end, is the weighted sum with normalised weights over the keys of the range. -/
theorem softmax_masked {A B : Type} [Fintype A] [Fintype B] [Nonempty B] (s v : A → EReal) (s' : B → EReal)
    (e : B → A) (he : Function.Injective e) (hs : ∀ m, s (e m) = s' m) (hout : ∀ w, (∀ m, e m ≠ w) → s w = ⊥)
    (hfin : ∀ m, s' m ≠ ⊤ ∧ s' m ≠ ⊥) :
    (∑ w, Ideal.exp (s w - Finset.univ.sup s) * v w) * Ideal.div 1 (∑ w, Ideal.exp (s w - Finset.univ.sup s))
      = ∑ m, Ideal.div (Ideal.exp (s' m - Finset.univ.sup s')) (∑ m, Ideal.exp (s' m - Finset.univ.sup s')) * v (e m) := by
  classical
  have hM : Finset.univ.sup s = Finset.univ.sup s' := by
    apply le_antisymm
    · refine Finset.sup_le fun w _ => ?_
      by_cases h : ∃ m, e m = w
      · obtain ⟨m, rfl⟩ := h
        rw [hs]; exact Finset.le_sup (f := s') (Finset.mem_univ m)
      · rw [hout w (fun m hm => h ⟨m, hm⟩)]; exact bot_le
    · refine Finset.sup_le fun m _ => ?_
      rw [← hs]; exact Finset.le_sup (f := s) (Finset.mem_univ (e m))
  rw [hM]
  obtain ⟨m0, -, hm0⟩ := Finset.exists_mem_eq_sup (Finset.univ : Finset B) Finset.univ_nonempty s'
  rw [hm0]
  choose r hr using fun m => (⟨(s' m).toReal, (EReal.coe_toReal (hfin m).1 (hfin m).2).symm⟩ : ∃ r : ℝ, s' m = r)
  have hp : ∀ m, Ideal.exp (s' m - s' m0) = ((Real.exp (r m - r m0) : ℝ) : EReal) := fun m => by
    rw [hr, hr, ← EReal.coe_sub]; rfl
  have hsum : ∀ g : A → EReal, (∀ w, (∀ m, e m ≠ w) → g w = 0) → ∑ w, g w = ∑ m, g (e m) := fun g hg => by
    rw [← Finset.sum_image (s := Finset.univ) (g := e) (f := g) (fun a _ b _ h => he h)]
    refine (Finset.sum_subset (Finset.subset_univ _) fun w _ hw => hg w fun m hm => hw ?_).symm
    exact Finset.mem_image.2 ⟨m, Finset.mem_univ m, hm⟩
  rw [hsum (fun w => Ideal.exp (s w - s' m0) * v w) fun w hw => by rw [hout w hw, exp_bot_sub, zero_mul],
    hsum (fun w => Ideal.exp (s w - s' m0)) fun w hw => by rw [hout w hw, exp_bot_sub]]
  simp only [hs, hp]
  have hl : (∑ m, ((Real.exp (r m - r m0) : ℝ) : EReal)) = ((∑ m, Real.exp (r m - r m0) : ℝ) : EReal) := by
    exact (map_sum (⟨⟨((↑) : ℝ → EReal), rfl⟩, EReal.coe_add⟩ : ℝ →+ EReal) (fun m => Real.exp (r m - r m0)) Finset.univ).symm
  have hpos : 0 < ∑ m, Real.exp (r m - r m0) := Finset.sum_pos (fun m _ => Real.exp_pos _) Finset.univ_nonempty
  rw [hl, Ideal.div_coe hpos.ne', one_mul, sum_mul_real _ _ _ (by positivity)]
  refine Finset.sum_congr rfl fun m _ => ?_
  rw [Ideal.div_coe hpos.ne', mul_right_comm]

end Cert.Proof

end
-- ==== Proof.Spec.lean ====
/- Neighbourhood attention of one token and one feature, as the kernel lays it out (a window of eight whole grid rows,
   columns outside the neighbourhood scored ⊥) and as the mathematics has it (the 128 tokens of the neighbourhood). -/
module

public import proofs.«01_k».proof.Proof.Bias
public import proofs.«01_k».proof.Proof.Softmax

@[expose] public section
set_option maxRecDepth 16384
noncomputable section
namespace Cert.KernelIdeal.Value
open Cert.KernelIdeal Cert.KernelIdeal.Gen Idealize.ShloMosaic Idealize.ShloMosaic.TcCoe Idealize.SL.Sem
open Cert.Proof (softmax_masked)

theorem winRow_le : ∀ r : Fin 1024, winRow r.val ≤ 1016 := by decide +kernel
theorem winRow_base : ∀ r : Fin 1024, baseRow (r.val / 8) ≤ winRow r.val := by decide +kernel
theorem winRow_near : ∀ r : Fin 1024, winRow r.val ≤ r.val ∧ r.val ≤ winRow r.val + 7 := by decide +kernel
theorem colStart_near : ∀ c : Fin 64, colStart c.val ≤ 48 ∧ colStart c.val ≤ c.val ∧ c.val ≤ colStart c.val + 15 := by decide +kernel

theorem win_lt (T : Fin 65536) : winRow (T.val / 64) ≤ 1016 := winRow_le ⟨T.val / 64, by omega⟩

/-- The kernel's layout: the window's 512 tokens, those outside the neighbourhood scored ⊥. -/
def windowed (P : Fin 65536 → Fin 5888 → EReal) (B : Fin 8 → Fin 15 → Fin 31 → EReal) (T : Fin 65536) (col : Fin 512) : EReal :=
  soft (fun w : Fin 512 =>
      (∑ d : Fin 64, (P T ⟨64 * (col.val / 64) + d.val, by omega⟩ * scale)
          * P ⟨64 * winRow (T.val / 64) + w.val, by have := win_lt T; omega⟩ ⟨512 + (64 * (col.val / 64) + d.val), by omega⟩)
        + if colStart (T.val % 64) ≤ w.val % 64 ∧ w.val % 64 < colStart (T.val % 64) + 16 then
            B ⟨col.val / 64, by omega⟩ ⟨min (7 - (T.val / 64 - winRow (T.val / 64)) + w.val / 64) 14, by omega⟩
              ⟨min (w.val % 64 + 15 - T.val % 64) 30, by omega⟩
          else (⊥ : EReal))
    (fun w => P ⟨64 * winRow (T.val / 64) + w.val, by have := win_lt T; omega⟩ ⟨1024 + col.val, by omega⟩)

theorem tok_lt (T : Fin 65536) (m : Fin 128) :
    (winRow (T.val / 64) + m.val / 16) * 64 + (colStart (T.val % 64) + m.val % 16) < 65536 := by
  have := win_lt T; have := (colStart_near ⟨T.val % 64, by omega⟩).1; simp only at this; omega

/-- The token of the neighbourhood of `T` at place `m`: row `m / 16`, column `m % 16` of the 8 × 16 window. -/
def tok (T : Fin 65536) (m : Fin 128) : Fin 65536 :=
  ⟨(winRow (T.val / 64) + m.val / 16) * 64 + (colStart (T.val % 64) + m.val % 16), tok_lt T m⟩

/-- The score of that token: the scaled product of query and key, plus the position bias. -/
def nscore (P : Fin 65536 → Fin 5888 → EReal) (B : Fin 8 → Fin 15 → Fin 31 → EReal) (T : Fin 65536) (h : Fin 8) (m : Fin 128) : EReal :=
  (∑ d : Fin 64, (P T ⟨64 * h.val + d.val, by omega⟩ * scale) * P (tok T m) ⟨512 + (64 * h.val + d.val), by omega⟩)
    + B h ⟨winRow (T.val / 64) + m.val / 16 + 7 - T.val / 64, by have := (winRow_near ⟨T.val / 64, by omega⟩).1; simp only at this; omega⟩
        ⟨colStart (T.val % 64) + m.val % 16 + 15 - T.val % 64, by have := (colStart_near ⟨T.val % 64, by omega⟩).2.1; simp only at this; omega⟩

/-- Neighbourhood attention: the softmax of the scores, weighting the values. -/
def neighbourhood (P : Fin 65536 → Fin 5888 → EReal) (B : Fin 8 → Fin 15 → Fin 31 → EReal) (T : Fin 65536) (col : Fin 512) : EReal :=
  ∑ m : Fin 128, Ideal.div (Ideal.exp (nscore P B T ⟨col.val / 64, by omega⟩ m - Finset.univ.sup (nscore P B T ⟨col.val / 64, by omega⟩)))
      (∑ m, Ideal.exp (nscore P B T ⟨col.val / 64, by omega⟩ m - Finset.univ.sup (nscore P B T ⟨col.val / 64, by omega⟩)))
    * P (tok T m) ⟨1024 + col.val, by omega⟩

theorem windowed_eq (P : Fin 65536 → Fin 5888 → EReal) (B : Fin 8 → Fin 15 → Fin 31 → EReal) (T : Fin 65536) (col : Fin 512)
    (hfin : ∀ m, nscore P B T ⟨col.val / 64, by omega⟩ m ≠ ⊤ ∧ nscore P B T ⟨col.val / 64, by omega⟩ m ≠ ⊥) :
    windowed P B T col = neighbourhood P B T col := by
  have hc := colStart_near ⟨T.val % 64, by omega⟩
  have hw := winRow_near ⟨T.val / 64, by omega⟩
  simp only at hc hw
  have hk : ∀ m : Fin 128, (⟨64 * winRow (T.val / 64) + (m.val / 16 * 64 + (colStart (T.val % 64) + m.val % 16)), by have := win_lt T; omega⟩ : Fin 65536) = tok T m :=
    fun m => Fin.ext (by show 64 * winRow (T.val / 64) + (m.val / 16 * 64 + (colStart (T.val % 64) + m.val % 16)) = (winRow (T.val / 64) + m.val / 16) * 64 + (colStart (T.val % 64) + m.val % 16); omega)
  have key := softmax_masked
    (fun w : Fin 512 =>
      (∑ d : Fin 64, (P T ⟨64 * (col.val / 64) + d.val, by omega⟩ * scale)
          * P ⟨64 * winRow (T.val / 64) + w.val, by have := win_lt T; omega⟩ ⟨512 + (64 * (col.val / 64) + d.val), by omega⟩)
        + if colStart (T.val % 64) ≤ w.val % 64 ∧ w.val % 64 < colStart (T.val % 64) + 16 then
            B ⟨col.val / 64, by omega⟩ ⟨min (7 - (T.val / 64 - winRow (T.val / 64)) + w.val / 64) 14, by omega⟩
              ⟨min (w.val % 64 + 15 - T.val % 64) 30, by omega⟩
          else (⊥ : EReal))
    (fun w => P ⟨64 * winRow (T.val / 64) + w.val, by have := win_lt T; omega⟩ ⟨1024 + col.val, by omega⟩)
    (nscore P B T ⟨col.val / 64, by omega⟩)
    (fun m : Fin 128 => ⟨m.val / 16 * 64 + (colStart (T.val % 64) + m.val % 16), by omega⟩)
    (fun a b h => by have := Fin.mk.inj h; exact Fin.ext (by omega))
    (fun m => by
      unfold nscore
      simp only [hk]
      rw [if_pos (by omega)]
      refine congrArg₂ (· + ·) rfl ?_
      congr 1 <;> exact Fin.ext (by simp only; omega))
    (fun w hout => by
      rw [if_neg (fun hv => hout ⟨w.val / 64 * 16 + (w.val % 64 - colStart (T.val % 64)), by omega⟩ (Fin.ext (by simp only; omega))), EReal.add_bot])
    hfin
  unfold windowed soft neighbourhood
  rw [key]
  simp only [hk]

end Cert.KernelIdeal.Value
-- ==== Proof.Out.lean ====
/- The kernel's result, read at every token and feature: the windowed attention of Spec.lean. -/
module

public import proofs.«01_k».proof.Proof.Blocks
public import proofs.«01_k».proof.Proof.Spec

@[expose] public section
set_option maxRecDepth 16384
noncomputable section
namespace Cert.KernelIdeal.Value
open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The projections and the position biases as launched, by their coordinates. -/
def proj (c : Dev nD) : Fin 65536 → Fin 5888 → EReal := fun t l => m (c, main_arg0) (ix2 t l)
def rpb (c : Dev nD) : Fin 8 → Fin 15 → Fin 31 → EReal := fun h a b => m (c, main_arg1) (ix3 h a b)

theorem attn_point (c : Dev nD) (t : Fin cfg0.N) (r col : Fin 512) :
    attnOut (grid0.coords t 0) (X0_0 m c t) (iblk m c 1 t) (iblk m c 2 t) (iblk m c 3 t) r col
      = windowed (proj m c) (rpb m c) ⟨512 * (grid0.coords t 0 : ℕ) + r.val, by have := coord_lt t; omega⟩ col := by
  have hi := coord_lt t
  obtain ⟨i, hi'⟩ : ∃ i : ℕ, i = (grid0.coords t 0 : ℕ) := ⟨_, rfl⟩
  have hrow : (512 * (grid0.coords t 0 : ℕ) + r.val) / 64 = 8 * (grid0.coords t 0 : ℕ) + r.val / 64 := by omega
  have hcol : (512 * (grid0.coords t 0 : ℕ) + r.val) % 64 = r.val % 64 := by omega
  have hb := winRow_base ⟨8 * (grid0.coords t 0 : ℕ) + r.val / 64, by omega⟩
  simp only at hb
  rw [show (8 * (grid0.coords t 0 : ℕ) + r.val / 64) / 8 = (grid0.coords t 0 : ℕ) by omega] at hb
  have hk : ∀ w : Fin 512, 64 * baseRow (grid0.coords t 0) + (64 * startRow (grid0.coords t 0).val (r.val / 64) + w.val)
      = 64 * winRow ((512 * (grid0.coords t 0 : ℕ) + r.val) / 64) + w.val := fun w => by
    rw [hrow]; unfold startRow; omega
  unfold attnOut windowed
  refine congrArg₂ soft (funext fun w => congrArg₂ (· + ·) (Finset.sum_congr rfl fun d _ => ?_) ?_) (funext fun w => ?_)
  · rw [b0, b1]
    refine congrArg₂ (· * ·) (congrArg (· * scale) ?_) ?_
    · rfl
    · exact congrArg (fun x => m (c, main_arg0) (ix2 x _)) (Fin.ext (hk w))
  · rw [b3, bias_at]
    have e1 : (64 * (col.val / 64) + r.val % 64) % 64 = (512 * (grid0.coords t 0 : ℕ) + r.val) % 64 := by omega
    have e2 : (64 * (col.val / 64) + r.val % 64) / 64 = col.val / 64 := by omega
    have e3 : offRow (grid0.coords t 0).val (r.val / 64) = (512 * (grid0.coords t 0 : ℕ) + r.val) / 64 - winRow ((512 * (grid0.coords t 0 : ℕ) + r.val) / 64) := by
      rw [hrow]; rfl
    simp only [e1, e2, e3]
    rfl
  · rw [b2]
    exact congrArg (fun x => m (c, main_arg0) (ix2 x _)) (Fin.ext (hk w))

/-- The kernel's result. -/
def result (c : Dev nD) : S65536x512.Idx → EReal := fun y => windowed (proj m c) (rpb m c) (y 0) (y 1)

theorem arr_eq (c : Dev nD) : (dats m 0 c).arrAt 4 cfg0.N = result m c := by
  refine (dats m 0 c).arrAt_eq_of_covers 4 _ (by decide +kernel) fun t hf y => ?_
  have hA := congrFun (flushed4_A m c t) y
  have hout := out_eq c (grid0.coords t) (ms0_0 t) (hs0_0 t) (ms0_1 t) (hs0_1 t) (ms0_2 t) (hs0_2 t) (ms0_3 t) (hs0_3 t) (ms0_4 t) (hs0_4 t)
    scM0_0 (Memref.isWhole_whole _) scM0_1 (Memref.isWhole_whole _) (X0_0 m c t) (iblk m c 1 t) (iblk m c 2 t) (iblk m c 3 t) y
  refine (hA.trans (hout.trans (attn_point m c t _ _))).trans ?_
  unfold result
  congr 1
  · refine Fin.ext ?_
    blk_simp [index4 t]
    exact congrArg (· + (y 0 : ℕ)) (Nat.mul_comm _ _)
  · refine Fin.ext ?_
    blk_simp [index4 t]

end Cert.KernelIdeal.Value
-- ==== Proof.Finite.lean ====
/- The scores are finite under the precondition, which makes the windowed attention the neighbourhood's. -/
module

public import proofs.«01_k».proof.Pre_scores_finite
public import proofs.«01_k».proof.Proof.Out

@[expose] public section
set_option maxRecDepth 16384
noncomputable section
namespace Cert.KernelIdeal.Value
open Cert.KernelIdeal Cert.KernelIdeal.Gen Idealize.ShloMosaic Idealize.ShloMosaic.TcCoe Idealize.SL.Sem

/-- A value is finite: neither of the two infinities. -/
def IsFin (x : EReal) : Prop := x ≠ ⊤ ∧ x ≠ ⊥

theorem fin_coe (x : ℝ) : IsFin (x : EReal) := ⟨EReal.coe_ne_top _, EReal.coe_ne_bot _⟩

theorem fin_mul {x y : EReal} (hx : IsFin x) (hy : IsFin y) : IsFin (x * y) := by
  lift x to ℝ using hx
  lift y to ℝ using hy
  rw [← EReal.coe_mul]
  exact fin_coe _

theorem fin_add {x y : EReal} (hx : IsFin x) (hy : IsFin y) : IsFin (x + y) := by
  lift x to ℝ using hx
  lift y to ℝ using hy
  rw [← EReal.coe_add]
  exact fin_coe _

theorem fin_sum {ι : Type} (s : Finset ι) (f : ι → EReal) (hf : ∀ i, IsFin (f i)) : IsFin (∑ i ∈ s, f i) :=
  Finset.sum_induction f IsFin (fun _ _ hx hy => fin_add hx hy) (by simpa using fin_coe 0) (fun i _ => hf i)

theorem fin_scale : IsFin scale := by
  have h : scale = ((1 / 8 : ℝ) : EReal) := by
    unfold scale
    simp [Ideal.ofBits, Ideal.ieee, -EReal.coe_mul]
    norm_num
  rw [h]
  exact fin_coe _

/-- A magnitude below infinity is a finite value. -/
theorem fin_of_abs {x y : EReal} (hy : y = ⊤) (h : Ideal.cmp .olt (max x (-x)) y = 1#1) : IsFin x := by
  subst hy
  have h' : max x (-x) < ⊤ := by
    by_contra hn
    have : Ideal.cmp .olt (max x (-x)) ⊤ = 0#1 := by
      unfold Ideal.cmp
      simp only [hn, decide_false]
      rfl
    rw [this] at h
    exact absurd h (by decide)
  rw [max_lt_iff] at h'
  refine ⟨h'.1.ne, fun hb => ?_⟩
  rw [hb, EReal.neg_bot] at h'
  exact absurd h'.2 (lt_irrefl _)

theorem inf_f32 : Ideal.ofBits .f32 0x7F800000#32 = ⊤ := by
  simp [Ideal.ofBits, Ideal.ieee]

theorem inf_bf16 : Ideal.ofBits .bf16 0x7F80#16 = ⊤ := by
  simp [Ideal.ofBits, Ideal.ieee]

theorem fin_nscore (P : Fin 65536 → Fin 5888 → EReal) (B : Fin 8 → Fin 15 → Fin 31 → EReal)
    (hP : ∀ t (l : Fin 5888), l.val < 1024 → IsFin (P t l)) (hB : ∀ h a b, IsFin (B h a b)) (T : Fin 65536) (h : Fin 8) (k : Fin 128) :
    IsFin (nscore P B T h k) :=
  fin_add (fin_sum _ _ fun d => fin_mul (fin_mul (hP _ _ (by dsimp only; omega)) fin_scale) (hP _ _ (by dsimp only; omega))) (hB _ _ _)

variable (m : (ℓ : Loc nD τ sig) → Buf (Elt Ideal) ℓ)

theorem result_eq [Cert.Pre_scores_finite.Facts] (c : Dev nD)
    (h1 : (Cert.Pre_scores_finite.fn (F := Ideal) (m ((c.tc : Thread nD τ).loc main_arg0)) (m ((c.tc : Thread nD τ).loc main_arg1))).1 = (fun _ => 1#1))
    (h2 : (Cert.Pre_scores_finite.fn (F := Ideal) (m ((c.tc : Thread nD τ).loc main_arg0)) (m ((c.tc : Thread nD τ).loc main_arg1))).2 = (fun _ => 1#1))
    (T : Fin 65536) (col : Fin 512) : windowed (proj m c) (rpb m c) T col = neighbourhood (proj m c) (rpb m c) T col := by
  refine windowed_eq _ _ _ _ fun k => fin_nscore _ _ (fun t l hl => ?_) (fun h a b => ?_) _ _ _
  · have e := congrFun h1 (ix2 t (⟨l.val, hl⟩ : Fin 1024))
    refine fin_of_abs inf_bf16 (Eq.trans ?_ e)
    unfold Cert.Pre_scores_finite.fn
    dsimp only
    pointwise
    rfl
  · have e := congrFun h2 (ix3 h a b)
    exact fin_of_abs inf_f32 e

end Cert.KernelIdeal.Value

end
-- ==== Proof.RefWords.lean ====
/- The index words of the attention's reference, read at a token and a place of its neighbourhood. -/
module
public import proofs.«01_k».proof.Proof.Gen.ReferenceIdeal.Run
public import Idealize.ShloMosaic.Lib.StableHlo.ReadAt
public import Idealize.ShloMosaic.Lib.Routing.OpsSearch
public import proofs.«01_k».proof.Proof.Spec
@[expose] public section
set_option maxRecDepth 16384
noncomputable section
namespace Cert.ReferenceIdeal.Value
open Cert.ReferenceIdeal Cert.ReferenceIdeal.Gen Idealize.ShloMosaic Idealize.ShloMosaic.TcCoe Idealize.SL.Sem
open Idealize.ShloMosaic.Pipeline (Dat)
open Idealize.ShloMosaic.StableHlo Idealize.ShloMosaic.Routing Idealize.ShloMosaic.WordCmp
open Cert.KernelIdeal.Value (segRows segFirst winRow colStart winRow_le winRow_near colStart_near)

variable (V0 : Valuation τ sig (Elt Ideal))

theorem v11_at (T : Fin 65536) : res_main_v11 V0 (ix1 T) = BitVec.ofNat 32 (T.val / 64) :=
  (pyDiv_ap bcast_S_S65536 (iotaInDim S65536 32 0) (constantI S_ 32 64#32) (ix1 T) (a := T.val) (b := 64) rfl rfl (by omega) (by decide) (by decide))

theorem v12_at (T : Fin 65536) : res_main_v12 V0 (ix1 T) = BitVec.ofNat 32 (T.val % 64) :=
  (pyRem_ap bcast_S_S65536 (iotaInDim S65536 32 0) (constantI S_ 32 64#32) (ix1 T) (a := T.val) (b := 64) rfl rfl (by omega) (by decide) (by decide))

theorem v15_at (T : Fin 65536) : res_main_v15 V0 (ix1 T) = BitVec.ofNat 32 (segRows (T.val / 64)) := by
  unfold segRows
  show Scalar.select (IntOp.cmpi .slt (BitVec.ofNat 32 T.val) (BitVec.ofNat 32 32768)) 256#32 128#32 = _
  rw [cmpi_slt_ofNat (w := 32) (by omega) (by decide), select_decide]
  by_cases h : T.val < 32768
  · rw [if_pos h, if_pos (by omega)]
  · rw [if_neg h, if_neg (by omega)]

theorem segRows_pos (r : ℕ) : 0 < segRows r ∧ segRows r ≤ 256 := by unfold segRows; split <;> decide

theorem v18_at (T : Fin 65536) : res_main_v18 V0 (ix1 T) = BitVec.ofNat 32 (segFirst (T.val / 64)) := by
  have h := segRows_pos (T.val / 64)
  have hd := pyDiv_ap (s := shape0) (by decide) (fun _ => res_main_v11 V0 (ix1 T)) (fun _ => res_main_v15 V0 (ix1 T)) ix0
    (a := T.val / 64) (b := segRows (T.val / 64)) (v11_at V0 T) (v15_at V0 T) (by omega) h.1 (by omega)
  refine (congrArg (· * res_main_v15 V0 (ix1 T)) hd).trans ?_
  rw [v15_at]
  exact BitVec.ofNat_mul_ofNat ..

/-- The word of the first row of a token's window. -/
def rowWord (T : Fin 65536) : BitVec 32 :=
  IntOp.minsi (IntOp.subi (IntOp.addi (res_main_v18 V0 (ix1 T)) (res_main_v15 V0 (ix1 T))) 8#32) (IntOp.maxsi (res_main_v18 V0 (ix1 T)) (IntOp.subi (res_main_v11 V0 (ix1 T)) 4#32))

/-- The word of the first column of a token's window. -/
def colWord (T : Fin 65536) : BitVec 32 :=
  IntOp.minsi 48#32 (IntOp.maxsi 0#32 (IntOp.subi (res_main_v12 V0 (ix1 T)) 8#32))

theorem rowWord_eq (T : Fin 65536) : rowWord V0 T = BitVec.ofNat 32 (winRow (T.val / 64)) := by
  unfold rowWord
  rw [v18_at, v15_at, v11_at]
  exact (show ∀ r : Fin 1024, IntOp.minsi (IntOp.subi (IntOp.addi (BitVec.ofNat 32 (segFirst r.val)) (BitVec.ofNat 32 (segRows r.val))) 8#32)
    (IntOp.maxsi (BitVec.ofNat 32 (segFirst r.val)) (IntOp.subi (BitVec.ofNat 32 r.val) 4#32)) = BitVec.ofNat 32 (winRow r.val) by decide +kernel) ⟨T.val / 64, by omega⟩

theorem colWord_eq (T : Fin 65536) : colWord V0 T = BitVec.ofNat 32 (colStart (T.val % 64)) := by
  unfold colWord
  rw [v12_at]
  exact (show ∀ r : Fin 64, IntOp.minsi 48#32 (IntOp.maxsi 0#32 (IntOp.subi (BitVec.ofNat 32 r.val) 8#32)) = BitVec.ofNat 32 (colStart r.val) by decide +kernel) ⟨T.val % 64, by omega⟩

theorem v35_at (T : Fin 65536) (k : Fin 128) : res_main_v35 V0 (ix2 T k) = BitVec.ofNat 32 (winRow (T.val / 64) + k.val / 16) := by
  have hd := pyDiv_ap bcast_S_S128 (iotaInDim S128 32 0) (constantI S_ 32 16#32) (ix1 k) (a := k.val) (b := 16) rfl rfl (by omega) (by decide) (by decide)
  refine (show res_main_v35 V0 (ix2 T k) = rowWord V0 T + pyDiv bcast_S_S128 (iotaInDim S128 32 0) (constantI S_ 32 16#32) (ix1 k) from rfl).trans ?_
  rw [rowWord_eq, hd, BitVec.ofNat_add]

theorem v41_at (T : Fin 65536) (k : Fin 128) : res_main_v41 V0 (ix2 T k) = BitVec.ofNat 32 (colStart (T.val % 64) + k.val % 16) := by
  have hd := pyRem_ap bcast_S_S128 (iotaInDim S128 32 0) (constantI S_ 32 16#32) (ix1 k) (a := k.val) (b := 16) rfl rfl (by omega) (by decide) (by decide)
  refine (show res_main_v41 V0 (ix2 T k) = colWord V0 T + pyRem bcast_S_S128 (iotaInDim S128 32 0) (constantI S_ 32 16#32) (ix1 k) from rfl).trans ?_
  rw [colWord_eq, hd, BitVec.ofNat_add]

theorem v44_at (T : Fin 65536) (k : Fin 128) :
    res_main_v44 V0 (ix2 T k) = BitVec.ofNat 32 ((winRow (T.val / 64) + k.val / 16) * 64 + (colStart (T.val % 64) + k.val % 16)) := by
  refine (show res_main_v44 V0 (ix2 T k) = IntOp.addi (IntOp.muli (res_main_v35 V0 (ix2 T k)) 64#32) (res_main_v41 V0 (ix2 T k)) from rfl).trans ?_
  rw [v35_at, v41_at, BitVec.ofNat_add _ (colStart _ + _), BitVec.ofNat_mul]
  rfl

theorem v59_at (T : Fin 65536) (k : Fin 128) : res_main_v59 V0 (ix2 T k) = BitVec.ofNat 32 (winRow (T.val / 64) + k.val / 16 + 7 - T.val / 64) := by
  have h := winRow_near ⟨T.val / 64, by omega⟩
  simp only at h
  refine (show res_main_v59 V0 (ix2 T k) = IntOp.addi (IntOp.subi (res_main_v35 V0 (ix2 T k)) (res_main_v11 V0 (ix1 T))) 7#32 from rfl).trans ?_
  rw [v35_at, v11_at, ← ofNat32_sub (by omega), BitVec.ofNat_add (winRow (T.val / 64) + k.val / 16) 7]
  exact sub_add_eq_add_sub (BitVec.ofNat 32 _) (BitVec.ofNat 32 _) (BitVec.ofNat 32 7)

theorem v64_at (T : Fin 65536) (k : Fin 128) : res_main_v64 V0 (ix2 T k) = BitVec.ofNat 32 (colStart (T.val % 64) + k.val % 16 + 15 - T.val % 64) := by
  have h := colStart_near ⟨T.val % 64, by omega⟩
  simp only at h
  refine (show res_main_v64 V0 (ix2 T k) = IntOp.addi (IntOp.subi (res_main_v41 V0 (ix2 T k)) (res_main_v12 V0 (ix1 T))) 15#32 from rfl).trans ?_
  rw [v41_at, v12_at, ← ofNat32_sub (by omega), BitVec.ofNat_add (colStart (T.val % 64) + k.val % 16) 15]
  exact sub_add_eq_add_sub (BitVec.ofNat 32 _) (BitVec.ofNat 32 _) (BitVec.ofNat 32 15)

end Cert.ReferenceIdeal.Value

end
-- ==== Proof.RefGather.lean ====
/- The gathers of the attention's reference, read at an index. -/
module
public import proofs.«01_k».proof.Proof.Gen.ReferenceIdeal.Run
public import Idealize.ShloMosaic.Lib.StableHlo.ReadAt
public import Idealize.ShloMosaic.Lib.Routing.OpsSearch
public import proofs.«01_k».proof.Proof.Spec
@[expose] public section
set_option maxRecDepth 16384
noncomputable section
namespace Cert.ReferenceIdeal.Value
open Cert.ReferenceIdeal Cert.ReferenceIdeal.Gen Idealize.ShloMosaic Idealize.ShloMosaic.TcCoe Idealize.SL.Sem
open Idealize.ShloMosaic.Pipeline (Dat)
open Idealize.ShloMosaic.StableHlo Idealize.ShloMosaic.Routing Idealize.ShloMosaic.WordCmp
open Cert.KernelIdeal.Value (segRows segFirst winRow colStart winRow_le winRow_near colStart_near)

theorem gather_tok {α : Type} (x : S65536x8x64.Idx → α) (idx : IVec S65536x128x1 32) (T : Fin 65536) (k : Fin 128) (h : Fin 8) (d : Fin 64) :
    Host.gather gather_S65536x8x64_S65536x128x1_S65536x128x8x64_23_0_n_n_0_2_1864 x idx (ix4 T k h d)
      = x (ix3 ⟨min (idx (ix3 T k (0 : Fin 1))).toInt.toNat 65535, by omega⟩ h d) := by
  unfold Host.gather
  refine congrArg x (funext fun i => Fin.ext ?_)
  generalize hd : gather_S65536x8x64_S65536x128x1_S65536x128x8x64_23_0_n_n_0_2_1864 = g
  have hb : ∀ i, g.batchCoord (ix4 T k h d) i = 0 := fun i => g.batchCoord_eq_zero _ _ (by subst hd; exact List.not_mem_nil)
  show g.start (ix4 T k h d) idx i + g.batchCoord (ix4 T k h d) i + g.offCoord (ix4 T k h d) i = _
  rw [hb]
  subst hd
  match i with
  | ⟨0, _⟩ =>
    unfold GatherDims.start GatherDims.offCoord
    rw [dif_pos (by decide +revert), dif_neg (by decide +revert)]
    have hsi : ∀ j, gather_S65536x8x64_S65536x128x1_S65536x128x8x64_23_0_n_n_0_2_1864.siIdx (ix4 T k h d) j = ix3 T k (0 : Fin 1) := by
      intro j
      funext a; refine Fin.ext ?_
      match a with
      | ⟨0, _⟩ => rfl
      | ⟨1, _⟩ => rfl
      | ⟨2, _⟩ => simp [GatherDims.siIdx]
    rw [hsi]
    rfl
  | ⟨1, _⟩ =>
    unfold GatherDims.start GatherDims.offCoord
    rw [dif_neg (by decide +revert), dif_pos (by decide +revert)]
    simp only [Nat.zero_add]
    rfl
  | ⟨2, _⟩ =>
    unfold GatherDims.start GatherDims.offCoord
    rw [dif_neg (by decide +revert), dif_pos (by decide +revert)]
    simp only [Nat.zero_add]
    rfl

theorem gather_rpb {α : Type} (x : S8x15x31.Idx → α) (idx : IVec S65536x128x2 32) (h : Fin 8) (T : Fin 65536) (k : Fin 128) :
    Host.gather gather_S8x15x31_S65536x128x2_S8x65536x128_0_12_n_n_12_2_811 x idx (ix3 h T k)
      = x (ix3 h ⟨min (idx (ix3 T k (0 : Fin 2))).toInt.toNat 14, by omega⟩ ⟨min (idx (ix3 T k (1 : Fin 2))).toInt.toNat 30, by omega⟩) := by
  unfold Host.gather
  refine congrArg x (funext fun i => Fin.ext ?_)
  generalize hd : gather_S8x15x31_S65536x128x2_S8x65536x128_0_12_n_n_12_2_811 = g
  have hb : ∀ i, g.batchCoord (ix3 h T k) i = 0 := fun i => g.batchCoord_eq_zero _ _ (by subst hd; exact List.not_mem_nil)
  show g.start (ix3 h T k) idx i + g.batchCoord (ix3 h T k) i + g.offCoord (ix3 h T k) i = _
  rw [hb]
  subst hd
  match i with
  | ⟨0, _⟩ =>
    unfold GatherDims.start GatherDims.offCoord
    rw [dif_neg (by decide +revert), dif_pos (by decide +revert)]
    simp only [Nat.zero_add]
    rfl
  | ⟨1, _⟩ =>
    unfold GatherDims.start GatherDims.offCoord
    rw [dif_pos (by decide +revert), dif_neg (by decide +revert)]
    have hsi : ∀ hj, gather_S8x15x31_S65536x128x2_S8x65536x128_0_12_n_n_12_2_811.siIdx (ix3 h T k) ⟨List.idxOf (1 : Fin 3) gather_S8x15x31_S65536x128x2_S8x65536x128_0_12_n_n_12_2_811.startIndexMap, hj⟩ = ix3 T k (0 : Fin 2) := by
      intro hj
      funext a; refine Fin.ext ?_
      match a with
      | ⟨0, _⟩ => rfl
      | ⟨1, _⟩ => rfl
      | ⟨2, _⟩ => rfl
    refine congrArg (fun z : BitVec 32 => min z.toInt.toNat 14) (congrArg idx (hsi _))
  | ⟨2, _⟩ =>
    unfold GatherDims.start GatherDims.offCoord
    rw [dif_pos (by decide +revert), dif_neg (by decide +revert)]
    have hsi : ∀ hj, gather_S8x15x31_S65536x128x2_S8x65536x128_0_12_n_n_12_2_811.siIdx (ix3 h T k) ⟨List.idxOf (2 : Fin 3) gather_S8x15x31_S65536x128x2_S8x65536x128_0_12_n_n_12_2_811.startIndexMap, hj⟩ = ix3 T k (1 : Fin 2) := by
      intro hj
      funext a; refine Fin.ext ?_
      match a with
      | ⟨0, _⟩ => rfl
      | ⟨1, _⟩ => rfl
      | ⟨2, _⟩ => rfl
    refine congrArg (fun z : BitVec 32 => min z.toInt.toNat 30) (congrArg idx (hsi _))

end Cert.ReferenceIdeal.Value

end
-- ==== Proof.RefRead.lean ====
/- The attention's reference, read at an index. -/
module
public import proofs.«01_k».proof.Proof.Gen.ReferenceIdeal.Run
public import Idealize.ShloMosaic.Lib.StableHlo.ReadAt
public import Idealize.ShloMosaic.Lib.Routing.OpsSearch
public import proofs.«01_k».proof.Proof.RefWords
public import proofs.«01_k».proof.Proof.RefGather
@[expose] public section
set_option maxRecDepth 16384
noncomputable section
namespace Cert.ReferenceIdeal.Value
open Cert.ReferenceIdeal Cert.ReferenceIdeal.Gen Idealize.ShloMosaic Idealize.ShloMosaic.TcCoe Idealize.SL.Sem
open Idealize.ShloMosaic.Pipeline (Dat)
open Idealize.ShloMosaic.StableHlo Idealize.ShloMosaic.Routing Idealize.ShloMosaic.WordCmp
open Cert.KernelIdeal.Value (segRows segFirst winRow colStart winRow_le winRow_near colStart_near nscore neighbourhood)

variable (V0 : Valuation τ sig (Elt Ideal))

def aproj (a : Fin 65536) (b : Fin 5888) : EReal := V0 (Proc.devRef .tc main_arg0) (ix2 a b)
def arpb (h : Fin 8) (a : Fin 15) (b : Fin 31) : EReal := V0 (Proc.devRef .tc main_arg1) (ix3 h a b)

theorem wrap_word (n : ℕ) (hn : n < 2 ^ 31) (w : BitVec 32) :
    Scalar.select (IntOp.cmpi .slt (BitVec.ofNat 32 n) 0#32) w (BitVec.ofNat 32 n) = BitVec.ofNat 32 n := by
  rw [show (0#32) = BitVec.ofNat 32 0 from rfl, cmpi_slt_ofNat (w := 32) hn (by decide), select_decide, if_neg (by omega)]

theorem word_nat (n b : ℕ) (hn : n ≤ b) (hb : b < 2 ^ 31) : min (BitVec.ofNat 32 n).toInt.toNat b = n := by
  rw [BitVec.toInt_eq_toNat_of_lt (by rw [BitVec.toNat_ofNat]; omega), BitVec.toNat_ofNat]; omega

/-- The gather of a head's rows at the tokens of the neighbourhood. -/
theorem gather_at (x : S65536x8x64.Idx → EReal) (T : Fin 65536) (k : Fin 128) (h : Fin 8) (d : Fin 64) :
    Host.gather gather_S65536x8x64_S65536x128x1_S65536x128x8x64_23_0_n_n_0_2_1864 x (broadcastInDim S65536x128x1 ![0, 1] bcast_S65536x128_S65536x128x1_0_1 (select (cmpi .slt (res_main_v44 V0) (broadcastInDim S65536x128 ![] bcast_S_S65536x128 (constantI S_ 32 0#32))) (addi (res_main_v44 V0) (broadcastInDim S65536x128 ![] bcast_S_S65536x128 (constantI S_ 32 65536#32))) (res_main_v44 V0))) (ix4 T k h d)
      = x (ix3 (Cert.KernelIdeal.Value.tok T k) h d) := by
  rw [gather_tok]
  refine congrArg x (congrArg (fun t => ix3 t h d) (Fin.ext ?_))
  show min (BitVec.toInt (Scalar.select (IntOp.cmpi .slt (res_main_v44 V0 (ix2 T k)) 0#32) (IntOp.addi (res_main_v44 V0 (ix2 T k)) 65536#32) (res_main_v44 V0 (ix2 T k)))).toNat 65535 = _
  have hl := (Cert.KernelIdeal.Value.tok T k).isLt
  unfold Cert.KernelIdeal.Value.tok at hl ⊢
  simp only at hl ⊢
  rw [v44_at, wrap_word _ (by omega), word_nat _ _ (by omega) (by decide)]

theorem bias_at (h : Fin 8) (T : Fin 65536) (k : Fin 128) :
    Host.gather gather_S8x15x31_S65536x128x2_S8x65536x128_0_12_n_n_12_2_811 (V0 (Proc.devRef .tc main_arg1)) (concatenate S65536x128x2 2 [⟨S65536x128x1, (broadcastInDim S65536x128x1 ![0, 1] bcast_S65536x128_S65536x128x1_0_1 (select (cmpi .slt (res_main_v59 V0) (broadcastInDim S65536x128 ![] bcast_S_S65536x128 (constantI S_ 32 0#32))) (addi (res_main_v59 V0) (broadcastInDim S65536x128 ![] bcast_S_S65536x128 (constantI S_ 32 15#32))) (res_main_v59 V0)))⟩, ⟨S65536x128x1, (broadcastInDim S65536x128x1 ![0, 1] bcast_S65536x128_S65536x128x1_0_1 (select (cmpi .slt (res_main_v64 V0) (broadcastInDim S65536x128 ![] bcast_S_S65536x128 (constantI S_ 32 0#32))) (addi (res_main_v64 V0) (broadcastInDim S65536x128 ![] bcast_S_S65536x128 (constantI S_ 32 31#32))) (res_main_v64 V0)))⟩] concatenates_S65536x128x1_S65536x128x1_S65536x128x2_d2) (ix3 h T k)
      = arpb V0 h ⟨winRow (T.val / 64) + k.val / 16 + 7 - T.val / 64, by have := (winRow_near ⟨T.val / 64, by omega⟩).1; simp only at this; omega⟩
        ⟨colStart (T.val % 64) + k.val % 16 + 15 - T.val % 64, by have := (colStart_near ⟨T.val % 64, by omega⟩).2.1; simp only at this; omega⟩ := by
  rw [gather_rpb]
  unfold arpb
  have h1 := (winRow_near ⟨T.val / 64, by omega⟩).1
  have h2 := (colStart_near ⟨T.val % 64, by omega⟩).2.1
  simp only at h1 h2
  refine congrArg (V0 (Proc.devRef .tc main_arg1)) (congrArg₂ (fun a b => ix3 h a b) (Fin.ext ?_) (Fin.ext ?_))
  · show min (BitVec.toInt (Scalar.select (IntOp.cmpi .slt (res_main_v59 V0 (ix2 T k)) 0#32) (IntOp.addi (res_main_v59 V0 (ix2 T k)) 15#32) (res_main_v59 V0 (ix2 T k)))).toNat 14 = _
    rw [v59_at, wrap_word _ (by omega), word_nat _ _ (by omega) (by decide)]
  · show min (BitVec.toInt (Scalar.select (IntOp.cmpi .slt (res_main_v64 V0 (ix2 T k)) 0#32) (IntOp.addi (res_main_v64 V0 (ix2 T k)) 31#32) (res_main_v64 V0 (ix2 T k)))).toNat 30 = _
    rw [v64_at, wrap_word _ (by omega), word_nat _ _ (by omega) (by decide)]

theorem dot_qk (a : FVec Ideal S65536x8x64 .f32) (b : FVec Ideal S65536x128x8x64 .f32) (h : Fin 8) (T : Fin 65536) (k : Fin 128) :
    Host.dotGeneral dot_S65536x8x64_S65536x128x8x64_S8x65536x128_2_3_n_1_10_20 none a b (ix3 h T k)
      = (∑ d : Fin 64, a (ix3 T h d) * b (ix4 T k h d) : EReal) := by
  pointwise

theorem dot_pv (a : FVec Ideal S8x65536x128 .f32) (b : FVec Ideal S65536x128x8x64 .f32) (T : Fin 65536) (h : Fin 8) (d : Fin 64) :
    Host.dotGeneral dot_S8x65536x128_S65536x128x8x64_S65536x8x64_2_1_n_3_10_02 none a b (ix3 T h d)
      = (∑ k : Fin 128, a (ix3 h T k) * b (ix4 T k h d) : EReal) := by
  pointwise

theorem q_at (T : Fin 65536) (h : Fin 8) (d : Fin 64) :
    (shapeCast S65536x8x64 (extf .f32 (extractStridedSlice S65536x512 ![0, 0] (res_main_v0 V0) slices_S65536x1536_S65536x512_0_0) bitsLt_bf16_f32) shapeCasts_S65536x512_S65536x8x64 : FVec Ideal S65536x8x64 .f32) (ix3 T h d)
      = aproj V0 T ⟨64 * h.val + d.val, by omega⟩ := by
  pointwise [res_main_v0]
  exact congrArg (V0 (Proc.devRef .tc main_arg0)) (congrArg (ix2 T) (Fin.ext (by dsimp only; omega)))

/-- The head's entries of the sliced projection. -/
theorem k_at (T : Fin 65536) (h : Fin 8) (d : Fin 64) :
    (shapeCast S65536x8x64 (extf .f32 (extractStridedSlice S65536x512 ![0, 512] (res_main_v0 V0) slices_S65536x1536_S65536x512_0_512) bitsLt_bf16_f32) shapeCasts_S65536x512_S65536x8x64 : FVec Ideal S65536x8x64 .f32) (ix3 T h d)
      = aproj V0 T ⟨512 + (64 * h.val + d.val), by omega⟩ := by
  pointwise [res_main_v0]
  exact congrArg (V0 (Proc.devRef .tc main_arg0)) (congrArg (ix2 T) (Fin.ext (by dsimp only; omega)))

theorem v_at (T : Fin 65536) (h : Fin 8) (d : Fin 64) :
    (shapeCast S65536x8x64 (extf .f32 (extractStridedSlice S65536x512 ![0, 1024] (res_main_v0 V0) slices_S65536x1536_S65536x512_0_1024) bitsLt_bf16_f32) shapeCasts_S65536x512_S65536x8x64 : FVec Ideal S65536x8x64 .f32) (ix3 T h d)
      = aproj V0 T ⟨1024 + (64 * h.val + d.val), by omega⟩ := by
  pointwise [res_main_v0]
  exact congrArg (V0 (Proc.devRef .tc main_arg0)) (congrArg (ix2 T) (Fin.ext (by dsimp only; omega)))

theorem v79_at (h : Fin 8) (T : Fin 65536) (k : Fin 128) : res_main_v79 V0 (ix3 h T k) = nscore (aproj V0) (arpb V0) T h k := by
  unfold res_main_v79 nscore
  refine congrArg₂ (fun a b : EReal => a + b) ((dot_qk _ _ h T k).trans (Finset.sum_congr rfl fun d _ => ?_)) (bias_at V0 h T k)
  rw [gather_at]
  exact congrArg₂ (fun a b : EReal => a * b) (congrArg (fun a : EReal => a * _) (q_at V0 T h d)) (k_at V0 _ h d)

end Cert.ReferenceIdeal.Value

end
-- ==== Proof.RefValue.lean ====
/- The attention's reference, read at an index: maximum, softmax and weighted sum. -/
module
public import proofs.«01_k».proof.Proof.Gen.ReferenceIdeal.Run
public import Idealize.ShloMosaic.Lib.StableHlo.ReadAt
public import Idealize.ShloMosaic.Lib.Routing.OpsSearch
public import proofs.«01_k».proof.Proof.RefRead
@[expose] public section
set_option maxRecDepth 16384
noncomputable section
namespace Cert.ReferenceIdeal.Value
open Cert.ReferenceIdeal Cert.ReferenceIdeal.Gen Idealize.ShloMosaic Idealize.ShloMosaic.TcCoe Idealize.SL.Sem
open Idealize.ShloMosaic.Pipeline (Dat)
open Idealize.ShloMosaic.StableHlo Idealize.ShloMosaic.Routing Idealize.ShloMosaic.WordCmp
open Cert.KernelIdeal.Value (segRows segFirst winRow colStart winRow_le winRow_near colStart_near nscore neighbourhood neg_inf)

variable (V0 : Valuation τ sig (Elt Ideal))

theorem red_at (x : FVec Ideal S8x65536x128 .f32) (h : Fin 8) (T : Fin 65536) :
    Host.reduce (α := Ideal .f32) FloatOps.maximumf x (constant S_ .f32 0xFF800000#32) reducesTo_S8x65536x128_S8x65536_d2 h_S_ (ix2 h T)
      = Finset.univ.fold max (Ideal.ofBits .f32 0xFF800000#32) (fun j : Fin 128 => x (ix3 h T j)) := by
  have hr : S8x65536x128.Reduces [2] S8x65536 := by decide +kernel
  rw [Host.reduce_eq_fold_single (α := Ideal .f32) FloatOps.maximumf x _ reducesTo_S8x65536x128_S8x65536_d2 hr h_S_]
  refine congrArg (Finset.univ.fold max (Ideal.ofBits .f32 0xFF800000#32)) (funext fun j => congrArg x ?_)
  funext a
  refine Fin.ext ?_
  match a with
  | ⟨0, _⟩ => rfl
  | ⟨1, _⟩ => rfl
  | ⟨2, _⟩ => rfl

theorem fold_sup (f : Fin 128 → EReal) : max ⊥ (Finset.univ.fold max ⊥ f) = Finset.univ.sup f := by
  rw [max_eq_right bot_le]
  rfl

theorem bcast_at (y : FVec Ideal S8x65536 .f32) (h : Fin 8) (T : Fin 65536) (k : Fin 128) :
    (broadcastInDim S8x65536x128 ![0, 1, 2] bcast_S8x65536x1_S8x65536x128_0_1_2 (broadcastInDim S8x65536x1 ![0, 1] bcast_S8x65536_S8x65536x1_0_1 y) : FVec Ideal S8x65536x128 .f32) (ix3 h T k) = y (ix2 h T) := by
  pointwise

theorem maxf_at (y : FVec Ideal S8x65536 .f32) (h : Fin 8) (T : Fin 65536) :
    (maximumf (broadcastInDim S8x65536 ![] bcast_S_S8x65536 (constant S_ .f32 0xFF800000#32)) y : FVec Ideal S8x65536 .f32) (ix2 h T)
      = max (Ideal.ofBits .f32 0xFF800000#32) (y (ix2 h T)) := rfl

theorem max_at (x : FVec Ideal S8x65536x128 .f32) (h : Fin 8) (T : Fin 65536) (k : Fin 128) :
    (broadcastInDim S8x65536x128 ![0, 1, 2] bcast_S8x65536x1_S8x65536x128_0_1_2 (broadcastInDim S8x65536x1 ![0, 1] bcast_S8x65536_S8x65536x1_0_1 (maximumf (broadcastInDim S8x65536 ![] bcast_S_S8x65536 (constant S_ .f32 0xFF800000#32)) (Host.reduce FloatOps.maximumf x (constant S_ .f32 0xFF800000#32) reducesTo_S8x65536x128_S8x65536_d2 h_S_))) : FVec Ideal S8x65536x128 .f32) (ix3 h T k)
      = (Finset.univ.sup fun j : Fin 128 => x (ix3 h T j) : EReal) := by
  rw [bcast_at, maxf_at, red_at, neg_inf]
  exact fold_sup _

theorem sum_at (x : FVec Ideal S8x65536x128 .f32) (h : Fin 8) (T : Fin 65536) (k : Fin 128) :
    (broadcastInDim S8x65536x128 ![0, 1, 2] bcast_S8x65536x1_S8x65536x128_0_1_2 (broadcastInDim S8x65536x1 ![0, 1] bcast_S8x65536_S8x65536x1_0_1 (Host.reduceAdd x (constant S_ .f32 0x00000000#32) reducesTo_S8x65536x128_S8x65536_d2 h_S_)) : FVec Ideal S8x65536x128 .f32) (ix3 h T k)
      = (∑ j : Fin 128, x (ix3 h T j) : EReal) := by
  pointwise

theorem v86_at (h : Fin 8) (T : Fin 65536) (k : Fin 128) :
    res_main_v86 V0 (ix3 h T k) = Ideal.exp (nscore (aproj V0) (arpb V0) T h k - Finset.univ.sup (nscore (aproj V0) (arpb V0) T h)) := by
  unfold res_main_v86
  refine congrArg Ideal.exp (congrArg₂ (fun a b : EReal => a - b) (v79_at V0 h T k) ((max_at _ h T k).trans ?_))
  exact congrArg (Finset.univ.sup) (funext fun j => v79_at V0 h T j)

theorem divf_at (a b : FVec Ideal S8x65536x128 .f32) (h : Fin 8) (T : Fin 65536) (k : Fin 128) :
    (Host.divf a b : FVec Ideal S8x65536x128 .f32) (ix3 h T k) = Ideal.div (a (ix3 h T k)) (b (ix3 h T k)) := rfl

theorem cast_at (x : FVec Ideal S65536x8x64 .f32) (T : Fin 65536) (col : Fin 512) :
    (truncf .bf16 (shapeCast S65536x512 x shapeCasts_S65536x8x64_S65536x512) bitsLt_bf16_f32 : FVec Ideal S65536x512 .bf16) (ix2 T col)
      = x (ix3 T ⟨col.val / 64, by omega⟩ ⟨col.val % 64, by omega⟩) := by
  pointwise

/-- The result of the reference as one term of its arguments. -/
def refOut : FVec Ideal S65536x512 .bf16 :=
  truncf .bf16 (shapeCast _ (Host.dotGeneral dot_S8x65536x128_S65536x128x8x64_S65536x8x64_2_1_n_3_10_02 none (Host.divf (res_main_v86 V0) (broadcastInDim S8x65536x128 ![0, 1, 2] bcast_S8x65536x1_S8x65536x128_0_1_2 (broadcastInDim S8x65536x1 ![0, 1] bcast_S8x65536_S8x65536x1_0_1 (Host.reduceAdd (res_main_v86 V0) (constant S_ .f32 0x00000000#32) reducesTo_S8x65536x128_S8x65536_d2 h_S_)))) (Host.gather gather_S65536x8x64_S65536x128x1_S65536x128x8x64_23_0_n_n_0_2_1864 (shapeCast _ (extf .f32 (extractStridedSlice S65536x512 ![0, 1024] (res_main_v0 V0) slices_S65536x1536_S65536x512_0_1024) bitsLt_bf16_f32) shapeCasts_S65536x512_S65536x8x64) (broadcastInDim S65536x128x1 ![0, 1] bcast_S65536x128_S65536x128x1_0_1 (select (cmpi .slt (res_main_v44 V0) (broadcastInDim S65536x128 ![] bcast_S_S65536x128 (constantI S_ 32 0#32))) (addi (res_main_v44 V0) (broadcastInDim S65536x128 ![] bcast_S_S65536x128 (constantI S_ 32 65536#32))) (res_main_v44 V0))))) shapeCasts_S65536x8x64_S65536x512) bitsLt_bf16_f32

/-- The reference is neighbourhood attention. -/
theorem refOut_at (T : Fin 65536) (col : Fin 512) : refOut V0 (ix2 T col) = neighbourhood (aproj V0) (arpb V0) T col := by
  unfold refOut neighbourhood
  rw [cast_at, dot_pv]
  refine Finset.sum_congr rfl fun k _ => ?_
  rw [gather_at, v_at, divf_at, v86_at, sum_at]
  refine congrArg₂ (fun a b : EReal => a * b) (congrArg (Ideal.div _) ?_) ?_
  · exact Finset.sum_congr rfl fun j _ => v86_at V0 _ T j
  · exact congrArg (aproj V0 _) (Fin.ext (by dsimp only; omega))

end Cert.ReferenceIdeal.Value

end
-- ==== Proof.Rows.lean ====
/- What the three row-wise calls have in common: the norm of one token's row, with its two constants. -/
module

public import Idealize.ShloMosaic.Lib.Pointwise

@[expose] public section
noncomputable section
namespace Cert.Rows
open Idealize.ShloMosaic

/-- The root-mean-square norm of a row of 1024 features, times its gain: the mean of the squares, the small constant
    added, one over the root. -/
def norm (x g : Fin 1024 → EReal) (k : Fin 1024) : EReal :=
  x k * Ideal.rsqrt (Ideal.div (∑ j, x j * x j) (Ideal.ofBits FTy.f32 0x44800000#32) + Ideal.ofBits FTy.f32 0x358637BD#32) * g k

/-- The logistic gate of one row's product with one column of the gates' weights, with its bias. -/
def gate (h : Fin 1024 → EReal) (w : Fin 1024 → EReal) (b : EReal) : EReal :=
  Ideal.div 1 (1 + Ideal.exp (-((∑ j, h j * w j) + b)))

/-- A token's row of the merge: the four branches' projections, each times its gate, summed from the first on. -/
def merged (h : Fin 1024 → EReal) (wg : Fin 4 → Fin 1024 → Fin 1024 → EReal) (bg : Fin 4 → Fin 1024 → EReal) (y : Fin 4 → Fin 512 → EReal)
    (wb : Fin 4 → Fin 512 → Fin 1024 → EReal) (k : Fin 1024) : EReal :=
  gate h (fun j => wg 0 j k) (bg 0 k) * (∑ j, y 0 j * wb 0 j k) + gate h (fun j => wg 1 j k) (bg 1 k) * (∑ j, y 1 j * wb 1 j k)
    + gate h (fun j => wg 2 j k) (bg 2 k) * (∑ j, y 2 j * wb 2 j k) + gate h (fun j => wg 3 j k) (bg 3 k) * (∑ j, y 3 j * wb 3 j k)

/-- … and the residual stream after it. -/
def mergeRow (x g : Fin 1024 → EReal) (wg : Fin 4 → Fin 1024 → Fin 1024 → EReal) (bg : Fin 4 → Fin 1024 → EReal) (y : Fin 4 → Fin 512 → EReal)
    (wb : Fin 4 → Fin 512 → Fin 1024 → EReal) (wo : Fin 1024 → Fin 1024 → EReal) (k : Fin 1024) : EReal :=
  x k + ∑ j, merged (norm x g) wg bg y wb j * wo j k

/-- One column of a projection of the normed row. -/
def proj (x g : Fin 1024 → EReal) (w : Fin 1024 → EReal) : EReal := ∑ j, norm x g j * w j

/-- The column of the projections' weights that column `k` of the main result takes: the queries, keys, values, gate
    and input of the first two branches, then the third branch's, the fourth's, and the state space's two small maps. -/
def column (k : Fin 5888) : Fin 5920 :=
  if h : k.val < 2560 then ⟨k.val, by omega⟩ else if h' : k.val < 4608 then ⟨k.val + 272, by omega⟩
  else if h'' : k.val < 5632 then ⟨k.val + 288, by omega⟩ else ⟨k.val - 3072, by omega⟩

theorem column_val (k : Fin 5888) :
    (column k).val = if k.val < 2560 then k.val else if k.val < 4608 then k.val + 272 else if k.val < 5632 then k.val + 288 else k.val - 3072 := by
  unfold column
  split_ifs <;> rfl

/-- Column `k` of the small result: the sixteen step sizes, the sixteen gates, and zero beyond them. -/
def smallCol (x g : Fin 1024 → EReal) (w : Fin 1024 → Fin 5920 → EReal) (k : Fin 128) : EReal :=
  if h : k.val < 16 then proj x g (fun j => w j ⟨2816 + k.val, by omega⟩)
  else if h' : k.val < 32 then proj x g (fun j => w j ⟨4864 + k.val, by omega⟩) else 0

/-- The small columns' weights: the columns of the step sizes and of the gates, and zeros beyond them. -/
def smallW (w : Fin 1024 → Fin 5920 → EReal) (j : Fin 1024) (k : Fin 128) : EReal :=
  if h : k.val < 16 then w j ⟨2816 + k.val, by omega⟩ else if h' : k.val < 32 then w j ⟨4864 + k.val, by omega⟩ else 0

theorem proj_smallW (x g : Fin 1024 → EReal) (w : Fin 1024 → Fin 5920 → EReal) (k : Fin 128) :
    proj x g (fun j => smallW w j k) = smallCol x g w k := by
  unfold smallCol smallW proj
  split_ifs
  · rfl
  · rfl
  · exact Finset.sum_eq_zero fun j _ => mul_zero _

end Cert.Rows
end
-- ==== Proof.FfnRows.lean ====
/- The feed-forward part of one token, as formulas over the extended reals: what its kernel and its reference are both
   compared to. -/
module

public import proofs.«01_k».proof.Proof.Rows

@[expose] public section
noncomputable section
namespace Cert.Rows
open Idealize.ShloMosaic

/-- The gaussian unit by its hyperbolic tangent, with the float words of its constants. -/
def gelu (a : EReal) : EReal :=
  Ideal.ofBits FTy.f32 0x3F000000#32 * a * (1 + Ideal.tanh (Ideal.ofBits FTy.f32 0x3F4C422A#32 * (a + Ideal.ofBits FTy.f32 0x3D372713#32 * (a * a * a))))

/-- One channel of the convolution of width three, from the token before, the token and the token after. -/
def conv3 (p c n : EReal) (w : Fin 3 → EReal) (b : EReal) : EReal := b + w 0 * p + w 1 * c + w 2 * n

/-- The gated activation `f`: the first half of the channels through the unit, times the second half. -/
def act (p c n : Fin 5632 → EReal) (w : Fin 3 → Fin 5632 → EReal) (b : Fin 5632 → EReal) (f : Fin 2816) : EReal :=
  gelu (conv3 (p ⟨f.val, by omega⟩) (c ⟨f.val, by omega⟩) (n ⟨f.val, by omega⟩) (fun i => w i ⟨f.val, by omega⟩) (b ⟨f.val, by omega⟩))
    * conv3 (p ⟨2816 + f.val, by omega⟩) (c ⟨2816 + f.val, by omega⟩) (n ⟨2816 + f.val, by omega⟩) (fun i => w i ⟨2816 + f.val, by omega⟩) (b ⟨2816 + f.val, by omega⟩)

/-- The token's result: the activations projected down and added to the residual stream, then the final norm. -/
def ffnRow (x : Fin 1024 → EReal) (a : Fin 2816 → EReal) (wd : Fin 2816 → Fin 1024 → EReal) (gf : Fin 1024 → EReal) (k : Fin 1024) : EReal :=
  norm (fun j => x j + ∑ f, a f * wd f j) gf k

/-- The length of the sequence that token `t` lies in: two long ones, then four short ones. -/
def seqLen (t : ℕ) : ℕ := if t < 32768 then 16384 else 8192

/-- The up-projections of a token, of the token before it and of the token after it; zero beyond its sequence's ends. -/
def up (x : Fin 65536 → Fin 1024 → EReal) (g : Fin 1024 → EReal) (w : Fin 1024 → Fin 5632 → EReal) (t : Fin 65536) (f : Fin 5632) : EReal :=
  proj (x t) g (fun j => w j f)

def upPrev (x : Fin 65536 → Fin 1024 → EReal) (g : Fin 1024 → EReal) (w : Fin 1024 → Fin 5632 → EReal) (t : Fin 65536) (f : Fin 5632) : EReal :=
  if t.val % seqLen t.val = 0 then 0 else up x g w ⟨t.val - 1, by omega⟩ f

def upNext (x : Fin 65536 → Fin 1024 → EReal) (g : Fin 1024 → EReal) (w : Fin 1024 → Fin 5632 → EReal) (t : Fin 65536) (f : Fin 5632) : EReal :=
  if (t.val + 1) % seqLen t.val = 0 then 0 else up x g w ⟨(t.val + 1) % 65536, by omega⟩ f

/-- The feed-forward part at token `t` and feature `k`. -/
def ffn (x : Fin 65536 → Fin 1024 → EReal) (g : Fin 1024 → EReal) (w : Fin 1024 → Fin 5632 → EReal) (cw : Fin 3 → Fin 5632 → EReal) (cb : Fin 5632 → EReal)
    (wd : Fin 2816 → Fin 1024 → EReal) (gf : Fin 1024 → EReal) (t : Fin 65536) (k : Fin 1024) : EReal :=
  ffnRow (x t) (act (upPrev x g w t) (up x g w t) (upNext x g w t) cw cb) wd gf k

/-- A sum over the activations, in the three groups that the kernel adds one after the other. -/
theorem sum_groups (x : EReal) (f : Fin 2816 → EReal) :
    x + (∑ j : Fin 1024, f ⟨j.val, by omega⟩) + (∑ j : Fin 1024, f ⟨1024 + j.val, by omega⟩) + (∑ j : Fin 768, f ⟨2048 + j.val, by omega⟩)
      = x + ∑ j, f j := by
  have e : (∑ j, f j) = (∑ j : Fin 1024, f ⟨j.val, by omega⟩) + ((∑ j : Fin 1024, f ⟨1024 + j.val, by omega⟩) + (∑ j : Fin 768, f ⟨2048 + j.val, by omega⟩)) := by
    rw [show (∑ j, f j) = ∑ j : Fin (1024 + (1024 + 768)), f (Fin.cast (by norm_num) j) from rfl, Fin.sum_univ_add, Fin.sum_univ_add]
    refine congrArg₂ _ rfl (congrArg₂ _ rfl (Finset.sum_congr rfl fun j _ => congrArg f (Fin.ext ?_)))
    show 1024 + (1024 + j.val) = 2048 + j.val
    omega
  rw [e, add_assoc, add_assoc]

/-- The unit as the reference groups its factors. -/
theorem gelu_eq (a : EReal) : a * (Ideal.ofBits FTy.f32 0x3F000000#32 * (1 + Ideal.tanh (Ideal.ofBits FTy.f32 0x3F4C422A#32
    * (a + Ideal.ofBits FTy.f32 0x3D372713#32 * (a * a * a))))) = gelu a := by
  unfold gelu
  rw [← mul_assoc, mul_comm a]

/-- The convolution as the reference orders its terms. -/
theorem conv3_eq (p c n w0 w1 w2 b : EReal) : p * w0 + c * w1 + n * w2 + b = conv3 p c n ![w0, w1, w2] b := by
  show _ = b + w0 * p + w1 * c + w2 * n
  rw [mul_comm p, mul_comm c, mul_comm n, add_comm _ b, ← add_assoc, ← add_assoc]

end Cert.Rows
end
-- ==== Proof.FfnBody.lean ====
/- The feed-forward body's scratch buffers, read back, and one chunk of 256 activations of a block of tokens. -/
module

public import proofs.«01_k».proof.Proof.Gen.Kernel2Ideal.Value
public import proofs.«01_k».proof.Proof.FfnRows
public import Idealize.ShloMosaic.Lib.Pipeline.ValueKit
public import Idealize.ShloMosaic.Lib.Pipeline.ReadBack
public import Idealize.ShloMosaic.Lib.StableHlo.ReadAt

@[expose] public section
set_option maxRecDepth 16384
noncomputable section
namespace Cert.Kernel2Ideal.Value
open Cert.Kernel2Ideal Cert.Kernel2Ideal.Gen Idealize.ShloMosaic Idealize.ShloMosaic.TcCoe Idealize.SL.Sem
open Idealize.ShloMosaic.Pipeline (Dat)

/-! ### The scratch buffers -/

section Readback
variable {α : Type} {e : EltTy}

/-- The rows before those of a block of 512: the last of eight rows above it, then the block's own. -/
def before (a : S1x8x256.Idx → α) (b : S1x512x256.Idx → α) : S1x512x256.Idx → α := fun j =>
  if h : (j 1).val = 0 then a (ix3 0 7 (j 2)) else b (ix3 0 ⟨(j 1).val - 1, by have : (j 1).val < 512 := (j 1).isLt; omega⟩ (j 2))

/-- The rows after: the block's own, then the first of eight rows below it. -/
def after (b : S1x512x256.Idx → α) (a : S1x8x256.Idx → α) : S1x512x256.Idx → α := fun j =>
  if h : (j 1).val < 511 then b (ix3 0 ⟨(j 1).val + 1, by omega⟩ (j 2)) else a (ix3 0 0 (j 2))

/-- Chunks of 256 columns side by side. -/
def side4 (a : Fin 4 → S1x512x256.Idx → α) : S1x512x1024.Idx → α := fun j =>
  a ⟨(j 2).val / 256, by have : (j 2).val < 1024 := (j 2).isLt; omega⟩ (ix3 0 (j 1) ⟨(j 2).val % 256, by omega⟩)

def side3 (a : Fin 3 → S1x512x256.Idx → α) : S1x512x768.Idx → α := fun j =>
  a ⟨(j 2).val / 256, by have : (j 2).val < 768 := (j 2).isLt; omega⟩ (ix3 0 (j 1) ⟨(j 2).val % 256, by omega⟩)

/-- Where the last store's rectangle holds the index, the stored value there. -/
theorem hit {S : Shape} {off sz : Fin S.rank → ℕ} (h : ∀ a, off a + sz a ≤ S.size a)
    (a : (Rect.unit (s := S) off sz h).shape.Idx → Elt Ideal e) (L : List (View.Piece (Elt Ideal) S e))
    (y : S.Idx) (z : (Rect.unit (s := S) off sz h).shape.Idx) (hz : ∀ b, (y b).val = off b + (z b).val) :
    View.canon (⟨Rect.unit off sz h, a⟩ :: L) y = a z := by
  have : y = (Rect.unit (s := S) off sz h).emb z := by
    funext b
    apply Fin.ext
    show (y b).val = off b + 1 * (z b).val
    rw [hz b, one_mul]
  rw [this, View.canon_cons_emb]

/-- Where it does not, the earlier stores. -/
theorem miss {S : Shape} {off sz : Fin S.rank → ℕ} (h : ∀ a, off a + sz a ≤ S.size a)
    (a : (Rect.unit (s := S) off sz h).shape.Idx → Elt Ideal e) (L : List (View.Piece (Elt Ideal) S e))
    (y : S.Idx) (b : Fin S.rank) (hb : (y b).val < off b ∨ off b + sz b ≤ (y b).val) :
    View.canon (⟨Rect.unit off sz h, a⟩ :: L) y = View.canon L y := by
  refine View.canon_cons_of_not_mem _ _ fun hm => ?_
  obtain ⟨j, hj, he⟩ := (LoadRect.mem_set _).mp hm b
  have hj' : j < sz b := hj
  have he' : (y b).val = off b + 1 * j := he
  omega

theorem readCov_before (v : View sig .tc .vmem S2x528x256 e) (s : ℕ)
    (h8 : ∀ a, (![s, 8, 0] : Fin 3 → ℕ) a + (![1, 512, 256] : Fin 3 → ℕ) a ≤ S2x528x256.size a)
    (h0 : ∀ a, (![s, 0, 0] : Fin 3 → ℕ) a + (![1, 8, 256] : Fin 3 → ℕ) a ≤ S2x528x256.size a)
    (hr : ∀ a, (![s, 7, 0] : Fin 3 → ℕ) a + (![1, 512, 256] : Fin 3 → ℕ) a ≤ S2x528x256.size a)
    (b : (Rect.unit (s := S2x528x256) ![s, 8, 0] ![1, 512, 256] h8).shape.Idx → Elt Ideal e)
    (a : (Rect.unit (s := S2x528x256) ![s, 0, 0] ![1, 8, 256] h0).shape.Idx → Elt Ideal e)
    (L : List (View.Piece (Elt Ideal) S2x528x256 e)) :
    v.readCov (⟨Rect.unit ![s, 8, 0] ![1, 512, 256] h8, b⟩ :: ⟨Rect.unit ![s, 0, 0] ![1, 8, 256] h0, a⟩ :: L)
      (Rect.unit ![s, 7, 0] ![1, 512, 256] hr).toLoadRect = before a b := by
  rw [View.readCov_eq_canon']
  funext j
  have hj0 : (j 0).val < 1 := (j 0).isLt
  have hj1 : (j 1).val < 512 := (j 1).isLt
  have y0 : ((Rect.unit (s := S2x528x256) ![s, 7, 0] ![1, 512, 256] hr).toLoadRect.idx j 0).val = s + 1 * (j 0).val := rfl
  have y1 : ((Rect.unit (s := S2x528x256) ![s, 7, 0] ![1, 512, 256] hr).toLoadRect.idx j 1).val = 7 + 1 * (j 1).val := rfl
  have y2 : ((Rect.unit (s := S2x528x256) ![s, 7, 0] ![1, 512, 256] hr).toLoadRect.idx j 2).val = 0 + 1 * (j 2).val := rfl
  beta_reduce
  generalize (Rect.unit (s := S2x528x256) ![s, 7, 0] ![1, 512, 256] hr).toLoadRect.idx j = y at y0 y1 y2 ⊢
  unfold before
  split_ifs with c
  · refine (miss h8 _ _ y 1 (Or.inl (show (y 1).val < 8 by omega))).trans (hit h0 _ _ y (ix3 0 7 (j 2)) fun b => ?_)
    match b with
    | ⟨0, _⟩ => show (y 0).val = s + 0; omega
    | ⟨1, _⟩ => show (y 1).val = 0 + 7; omega
    | ⟨2, _⟩ => show (y 2).val = 0 + (j 2).val; omega
  · refine hit h8 _ _ y (ix3 0 ⟨(j 1).val - 1, by omega⟩ (j 2)) fun b => ?_
    match b with
    | ⟨0, _⟩ => show (y 0).val = s + 0; omega
    | ⟨1, _⟩ => show (y 1).val = 8 + ((j 1).val - 1); omega
    | ⟨2, _⟩ => show (y 2).val = 0 + (j 2).val; omega

theorem readCov_after (v : View sig .tc .vmem S2x528x256 e) (s : ℕ)
    (h5 : ∀ a, (![s, 520, 0] : Fin 3 → ℕ) a + (![1, 8, 256] : Fin 3 → ℕ) a ≤ S2x528x256.size a)
    (h8 : ∀ a, (![s, 8, 0] : Fin 3 → ℕ) a + (![1, 512, 256] : Fin 3 → ℕ) a ≤ S2x528x256.size a)
    (hr : ∀ a, (![s, 9, 0] : Fin 3 → ℕ) a + (![1, 512, 256] : Fin 3 → ℕ) a ≤ S2x528x256.size a)
    (a : (Rect.unit (s := S2x528x256) ![s, 520, 0] ![1, 8, 256] h5).shape.Idx → Elt Ideal e)
    (b : (Rect.unit (s := S2x528x256) ![s, 8, 0] ![1, 512, 256] h8).shape.Idx → Elt Ideal e)
    (L : List (View.Piece (Elt Ideal) S2x528x256 e)) :
    v.readCov (⟨Rect.unit ![s, 520, 0] ![1, 8, 256] h5, a⟩ :: ⟨Rect.unit ![s, 8, 0] ![1, 512, 256] h8, b⟩ :: L)
      (Rect.unit ![s, 9, 0] ![1, 512, 256] hr).toLoadRect = after b a := by
  rw [View.readCov_eq_canon']
  funext j
  have hj0 : (j 0).val < 1 := (j 0).isLt
  have hj1 : (j 1).val < 512 := (j 1).isLt
  have y0 : ((Rect.unit (s := S2x528x256) ![s, 9, 0] ![1, 512, 256] hr).toLoadRect.idx j 0).val = s + 1 * (j 0).val := rfl
  have y1 : ((Rect.unit (s := S2x528x256) ![s, 9, 0] ![1, 512, 256] hr).toLoadRect.idx j 1).val = 9 + 1 * (j 1).val := rfl
  have y2 : ((Rect.unit (s := S2x528x256) ![s, 9, 0] ![1, 512, 256] hr).toLoadRect.idx j 2).val = 0 + 1 * (j 2).val := rfl
  beta_reduce
  generalize (Rect.unit (s := S2x528x256) ![s, 9, 0] ![1, 512, 256] hr).toLoadRect.idx j = y at y0 y1 y2 ⊢
  unfold after
  split_ifs with c
  · refine (miss h5 _ _ y 1 (Or.inl (show (y 1).val < 520 by omega))).trans (hit h8 _ _ y (ix3 0 ⟨(j 1).val + 1, by omega⟩ (j 2)) fun b => ?_)
    match b with
    | ⟨0, _⟩ => show (y 0).val = s + 0; omega
    | ⟨1, _⟩ => show (y 1).val = 8 + ((j 1).val + 1); omega
    | ⟨2, _⟩ => show (y 2).val = 0 + (j 2).val; omega
  · refine hit h5 _ _ y (ix3 0 0 (j 2)) fun b => ?_
    match b with
    | ⟨0, _⟩ => show (y 0).val = s + 0; omega
    | ⟨1, _⟩ => show (y 1).val = 520 + 0; omega
    | ⟨2, _⟩ => show (y 2).val = 0 + (j 2).val; omega

/-- One chunk of the stored activations: the column's chunk is the store's, or the earlier stores hold it. -/
theorem act_hit (s d : ℕ) (h : ∀ a, (![s, 0, d] : Fin 3 → ℕ) a + (![1, 512, 256] : Fin 3 → ℕ) a ≤ S2x512x1024.size a)
    (a : (Rect.unit (s := S2x512x1024) ![s, 0, d] ![1, 512, 256] h).shape.Idx → Elt Ideal e) (L : List (View.Piece (Elt Ideal) S2x512x1024 e))
    (y : S2x512x1024.Idx) (r : Fin 512) (k : Fin 256) (y0 : (y 0).val = s) (y1 : (y 1).val = r.val) (y2 : (y 2).val = d + k.val) :
    View.canon (⟨Rect.unit ![s, 0, d] ![1, 512, 256] h, a⟩ :: L) y = a (ix3 0 r k) := by
  refine hit h _ _ y (ix3 0 r k) fun b => ?_
  match b with
  | ⟨0, _⟩ => show (y 0).val = s + 0; omega
  | ⟨1, _⟩ => show (y 1).val = 0 + r.val; omega
  | ⟨2, _⟩ => show (y 2).val = d + k.val; omega

theorem act_miss (s d : ℕ) (h : ∀ a, (![s, 0, d] : Fin 3 → ℕ) a + (![1, 512, 256] : Fin 3 → ℕ) a ≤ S2x512x1024.size a)
    (a : (Rect.unit (s := S2x512x1024) ![s, 0, d] ![1, 512, 256] h).shape.Idx → Elt Ideal e) (L : List (View.Piece (Elt Ideal) S2x512x1024 e))
    (y : S2x512x1024.Idx) (y2 : (y 2).val < d) : View.canon (⟨Rect.unit ![s, 0, d] ![1, 512, 256] h, a⟩ :: L) y = View.canon L y :=
  miss h _ _ y 2 (Or.inl y2)

theorem readCov_side3 (v : View sig .tc .vmem S2x512x1024 e) (s : ℕ)
    (h2 : ∀ a, (![s, 0, 512] : Fin 3 → ℕ) a + (![1, 512, 256] : Fin 3 → ℕ) a ≤ S2x512x1024.size a)
    (h1 : ∀ a, (![s, 0, 256] : Fin 3 → ℕ) a + (![1, 512, 256] : Fin 3 → ℕ) a ≤ S2x512x1024.size a)
    (h0 : ∀ a, (![s, 0, 0] : Fin 3 → ℕ) a + (![1, 512, 256] : Fin 3 → ℕ) a ≤ S2x512x1024.size a)
    (hr : ∀ a, (![s, 0, 0] : Fin 3 → ℕ) a + (![1, 512, 768] : Fin 3 → ℕ) a ≤ S2x512x1024.size a)
    (a2 : (Rect.unit (s := S2x512x1024) ![s, 0, 512] ![1, 512, 256] h2).shape.Idx → Elt Ideal e)
    (a1 : (Rect.unit (s := S2x512x1024) ![s, 0, 256] ![1, 512, 256] h1).shape.Idx → Elt Ideal e)
    (a0 : (Rect.unit (s := S2x512x1024) ![s, 0, 0] ![1, 512, 256] h0).shape.Idx → Elt Ideal e)
    (L : List (View.Piece (Elt Ideal) S2x512x1024 e)) :
    v.readCov (⟨Rect.unit ![s, 0, 512] ![1, 512, 256] h2, a2⟩ :: ⟨Rect.unit ![s, 0, 256] ![1, 512, 256] h1, a1⟩ ::
        ⟨Rect.unit ![s, 0, 0] ![1, 512, 256] h0, a0⟩ :: L)
      (Rect.unit ![s, 0, 0] ![1, 512, 768] hr).toLoadRect = side3 ![a0, a1, a2] := by
  rw [View.readCov_eq_canon']
  funext j
  have hj0 : (j 0).val < 1 := (j 0).isLt
  have hj2 : (j 2).val < 768 := (j 2).isLt
  have y0 : ((Rect.unit (s := S2x512x1024) ![s, 0, 0] ![1, 512, 768] hr).toLoadRect.idx j 0).val = s + 1 * (j 0).val := rfl
  have y1 : ((Rect.unit (s := S2x512x1024) ![s, 0, 0] ![1, 512, 768] hr).toLoadRect.idx j 1).val = 0 + 1 * (j 1).val := rfl
  have y2 : ((Rect.unit (s := S2x512x1024) ![s, 0, 0] ![1, 512, 768] hr).toLoadRect.idx j 2).val = 0 + 1 * (j 2).val := rfl
  beta_reduce
  generalize (Rect.unit (s := S2x512x1024) ![s, 0, 0] ![1, 512, 768] hr).toLoadRect.idx j = y at y0 y1 y2 ⊢
  have hq : (j 2).val / 256 < 3 := by omega
  have key : ∀ q : Fin 3, (j 2).val / 256 = q.val → side3 ![a0, a1, a2] j = ![a0, a1, a2] q (ix3 0 (j 1) ⟨(j 2).val % 256, by omega⟩) := by
    intro q h
    unfold side3
    rw [show (⟨(j 2).val / 256, hq⟩ : Fin 3) = q from Fin.ext h]
  obtain h | h | h : (j 2).val / 256 = 0 ∨ (j 2).val / 256 = 1 ∨ (j 2).val / 256 = 2 := by omega
  · rw [key 0 h]
    exact (act_miss s 512 h2 _ _ y (by omega)).trans ((act_miss s 256 h1 _ _ y (by omega)).trans
      (act_hit s 0 h0 _ _ y (j 1) ⟨(j 2).val % 256, by omega⟩ (by omega) (by omega) (by dsimp only; omega)))
  · rw [key 1 h]
    exact (act_miss s 512 h2 _ _ y (by omega)).trans
      (act_hit s 256 h1 _ _ y (j 1) ⟨(j 2).val % 256, by omega⟩ (by omega) (by omega) (by dsimp only; omega))
  · rw [key 2 h]
    exact act_hit s 512 h2 _ _ y (j 1) ⟨(j 2).val % 256, by omega⟩ (by omega) (by omega) (by dsimp only; omega)

theorem readCov_side4 (v : View sig .tc .vmem S2x512x1024 e) (s : ℕ)
    (h3 : ∀ a, (![s, 0, 768] : Fin 3 → ℕ) a + (![1, 512, 256] : Fin 3 → ℕ) a ≤ S2x512x1024.size a)
    (h2 : ∀ a, (![s, 0, 512] : Fin 3 → ℕ) a + (![1, 512, 256] : Fin 3 → ℕ) a ≤ S2x512x1024.size a)
    (h1 : ∀ a, (![s, 0, 256] : Fin 3 → ℕ) a + (![1, 512, 256] : Fin 3 → ℕ) a ≤ S2x512x1024.size a)
    (h0 : ∀ a, (![s, 0, 0] : Fin 3 → ℕ) a + (![1, 512, 256] : Fin 3 → ℕ) a ≤ S2x512x1024.size a)
    (hr : ∀ a, (![s, 0, 0] : Fin 3 → ℕ) a + (![1, 512, 1024] : Fin 3 → ℕ) a ≤ S2x512x1024.size a)
    (a3 : (Rect.unit (s := S2x512x1024) ![s, 0, 768] ![1, 512, 256] h3).shape.Idx → Elt Ideal e)
    (a2 : (Rect.unit (s := S2x512x1024) ![s, 0, 512] ![1, 512, 256] h2).shape.Idx → Elt Ideal e)
    (a1 : (Rect.unit (s := S2x512x1024) ![s, 0, 256] ![1, 512, 256] h1).shape.Idx → Elt Ideal e)
    (a0 : (Rect.unit (s := S2x512x1024) ![s, 0, 0] ![1, 512, 256] h0).shape.Idx → Elt Ideal e)
    (L : List (View.Piece (Elt Ideal) S2x512x1024 e)) :
    v.readCov (⟨Rect.unit ![s, 0, 768] ![1, 512, 256] h3, a3⟩ :: ⟨Rect.unit ![s, 0, 512] ![1, 512, 256] h2, a2⟩ :: ⟨Rect.unit ![s, 0, 256] ![1, 512, 256] h1, a1⟩ ::
        ⟨Rect.unit ![s, 0, 0] ![1, 512, 256] h0, a0⟩ :: L)
      (Rect.unit ![s, 0, 0] ![1, 512, 1024] hr).toLoadRect = side4 ![a0, a1, a2, a3] := by
  rw [View.readCov_eq_canon']
  funext j
  have hj0 : (j 0).val < 1 := (j 0).isLt
  have hj2 : (j 2).val < 1024 := (j 2).isLt
  have y0 : ((Rect.unit (s := S2x512x1024) ![s, 0, 0] ![1, 512, 1024] hr).toLoadRect.idx j 0).val = s + 1 * (j 0).val := rfl
  have y1 : ((Rect.unit (s := S2x512x1024) ![s, 0, 0] ![1, 512, 1024] hr).toLoadRect.idx j 1).val = 0 + 1 * (j 1).val := rfl
  have y2 : ((Rect.unit (s := S2x512x1024) ![s, 0, 0] ![1, 512, 1024] hr).toLoadRect.idx j 2).val = 0 + 1 * (j 2).val := rfl
  beta_reduce
  generalize (Rect.unit (s := S2x512x1024) ![s, 0, 0] ![1, 512, 1024] hr).toLoadRect.idx j = y at y0 y1 y2 ⊢
  have hq : (j 2).val / 256 < 4 := by omega
  have key : ∀ q : Fin 4, (j 2).val / 256 = q.val → side4 ![a0, a1, a2, a3] j = ![a0, a1, a2, a3] q (ix3 0 (j 1) ⟨(j 2).val % 256, by omega⟩) := by
    intro q h
    unfold side4
    rw [show (⟨(j 2).val / 256, hq⟩ : Fin 4) = q from Fin.ext h]
  obtain h | h | h | h : (j 2).val / 256 = 0 ∨ (j 2).val / 256 = 1 ∨ (j 2).val / 256 = 2 ∨ (j 2).val / 256 = 3 := by omega
  · rw [key 0 h]
    exact (act_miss s 768 h3 _ _ y (by omega)).trans ((act_miss s 512 h2 _ _ y (by omega)).trans ((act_miss s 256 h1 _ _ y (by omega)).trans
      (act_hit s 0 h0 _ _ y (j 1) ⟨(j 2).val % 256, by omega⟩ (by omega) (by omega) (by dsimp only; omega))))
  · rw [key 1 h]
    exact (act_miss s 768 h3 _ _ y (by omega)).trans ((act_miss s 512 h2 _ _ y (by omega)).trans
      (act_hit s 256 h1 _ _ y (j 1) ⟨(j 2).val % 256, by omega⟩ (by omega) (by omega) (by dsimp only; omega)))
  · rw [key 2 h]
    exact (act_miss s 768 h3 _ _ y (by omega)).trans
      (act_hit s 512 h2 _ _ y (j 1) ⟨(j 2).val % 256, by omega⟩ (by omega) (by omega) (by dsimp only; omega))
  · rw [key 3 h]
    exact act_hit s 768 h3 _ _ y (j 1) ⟨(j 2).val % 256, by omega⟩ (by omega) (by omega) (by dsimp only; omega)

end Readback

/-! ### The body as a function of its blocks -/

def ldw (x : Vec Ideal S1024x5632 .bf16) (d : ℕ) (hd : d + 256 ≤ 5632) : Vec Ideal S1024x256 .bf16 :=
  View.ld (Val := Elt Ideal) (e' := .bf16) x (Rect.unit (s := S1024x5632) ![0, d] ![1024, 256] (Fin.forall_fin_two.mpr ⟨le_refl 1024, hd⟩))

def ldc (x : Vec Ideal S3x5632 .f32) (i d : ℕ) (hi : i + 1 ≤ 3) (hd : d + 256 ≤ 5632) : Vec Ideal S1x256 .f32 :=
  View.ld (Val := Elt Ideal) (e' := .f32) x (Rect.unit (s := S3x5632) ![i, d] ![1, 256] (Fin.forall_fin_two.mpr ⟨hi, hd⟩))

def ldb (x : Vec Ideal S1x5632 .f32) (d : ℕ) (hd : d + 256 ≤ 5632) : Vec Ideal S1x256 .f32 :=
  View.ld (Val := Elt Ideal) (e' := .f32) x (Rect.unit (s := S1x5632) ![0, d] ![1, 256] (Fin.forall_fin_two.mpr ⟨le_refl 1, hd⟩))

/-- The 256 activations from column `d` on, of a block of 512 tokens, from the normed rows of the block and its halo. -/
def chunk (first last : BitVec 1) (h : FVec Ideal S528x1024 .bf16) (x4 : Vec Ideal S1024x5632 .bf16) (x5 : Vec Ideal S3x5632 .f32) (x6 : Vec Ideal S1x5632 .f32)
    (d : ℕ) (hd : d + 256 ≤ 2816) : FVec Ideal S1x512x256 .bf16 :=
  k0_pay28
    (k0_pay24 (k0_pay22 (ldb x6 d (by omega)))
      (k0_pay23 (ldc x5 0 d (by omega) (by omega)) (before (k0_pay10 first h (ldw x4 d (by omega))) (k0_pay11 h (ldw x4 d (by omega)))))
      (ldc x5 1 d (by omega) (by omega)) (k0_pay11 h (ldw x4 d (by omega)))
      (ldc x5 2 d (by omega) (by omega)) (after (k0_pay11 h (ldw x4 d (by omega))) (k0_pay12 last h (ldw x4 d (by omega)))))
    (k0_pay25 (ldb x6 (2816 + d) (by omega))
      (ldc x5 0 (2816 + d) (by omega) (by omega)) (before (k0_pay10 first h (ldw x4 (2816 + d) (by omega))) (k0_pay11 h (ldw x4 (2816 + d) (by omega))))
      (ldc x5 1 (2816 + d) (by omega) (by omega)) (k0_pay11 h (ldw x4 (2816 + d) (by omega))))
    (k0_pay26 (after (k0_pay11 h (ldw x4 (2816 + d) (by omega))) (k0_pay12 last h (ldw x4 (2816 + d) (by omega)))))
    (k0_pay27 (ldc x5 2 (2816 + d) (by omega) (by omega)))

end Cert.Kernel2Ideal.Value
end
-- ==== Proof.FfnChunk.lean ====
/- One chunk of activations of a block of tokens, at a row and a column: the convolution over the three neighbouring rows
   of the up-projection, through the gated unit. -/
module

public import proofs.«01_k».proof.Proof.FfnBody

@[expose] public section
set_option maxRecDepth 16384
noncomputable section
namespace Cert.Kernel2Ideal.Value
open Cert.Kernel2Ideal Cert.Kernel2Ideal.Gen Idealize.ShloMosaic Idealize.ShloMosaic.TcCoe Idealize.SL.Sem

theorem ldw_at (x : Vec Ideal S1024x5632 .bf16) (d : ℕ) (hd : d + 256 ≤ 5632) (j : Fin 1024) (k : Fin 256) :
    ldw x d hd (ix2 j k) = x (ix2 j ⟨d + k.val, by omega⟩) := by
  unfold ldw
  pointwise

theorem ldc_at (x : Vec Ideal S3x5632 .f32) (i d : ℕ) (hi : i + 1 ≤ 3) (hd : d + 256 ≤ 5632) (k : Fin 256) :
    ldc x i d hi hd (ix2 0 k) = x (ix2 ⟨i, hi⟩ ⟨d + k.val, by omega⟩) := by
  unfold ldc
  pointwise

theorem ldb_at (x : Vec Ideal S1x5632 .f32) (d : ℕ) (hd : d + 256 ≤ 5632) (k : Fin 256) :
    ldb x d hd (ix2 0 k) = x (ix2 0 ⟨d + k.val, by omega⟩) := by
  unfold ldb
  pointwise

/-- The up-projection of row `ρ` of the block with its halo. -/
def upAt (h : FVec Ideal S528x1024 .bf16) (x4 : Vec Ideal S1024x5632 .bf16) (ρ : Fin 528) (f : Fin 5632) : EReal :=
  ∑ j : Fin 1024, (h (ix2 ρ j) : EReal) * (x4 (ix2 j f) : EReal)

theorem top_at (first : BitVec 1) (h : FVec Ideal S528x1024 .bf16) (w : Vec Ideal S1024x256 .bf16) (r : Fin 8) (k : Fin 256) :
    (k0_pay10 first h w (ix3 0 r k) : EReal) = if first = 1#1 then 0 else ∑ j : Fin 1024, (h (ix2 ⟨r.val, by omega⟩ j) : EReal) * (w (ix2 j k) : EReal) := by
  pointwise [k0_pay10, k0_pay9]
  rfl

theorem mid_at (h : FVec Ideal S528x1024 .bf16) (w : Vec Ideal S1024x256 .bf16) (r : Fin 512) (k : Fin 256) :
    (k0_pay11 h w (ix3 0 r k) : EReal) = ∑ j : Fin 1024, (h (ix2 ⟨8 + r.val, by omega⟩ j) : EReal) * (w (ix2 j k) : EReal) := by
  pointwise [k0_pay11, k0_pay9]

theorem bottom_at (last : BitVec 1) (h : FVec Ideal S528x1024 .bf16) (w : Vec Ideal S1024x256 .bf16) (r : Fin 8) (k : Fin 256) :
    (k0_pay12 last h w (ix3 0 r k) : EReal) = if last = 1#1 then 0 else ∑ j : Fin 1024, (h (ix2 ⟨520 + r.val, by omega⟩ j) : EReal) * (w (ix2 j k) : EReal) := by
  pointwise [k0_pay12, k0_pay9]
  rfl

theorem first_half_at (b w0 w1 w2 : Vec Ideal S1x256 .f32) (p c n : Vec Ideal S1x512x256 .f32) (r : Fin 512) (k : Fin 256) :
    (k0_pay24 (k0_pay22 b) (k0_pay23 w0 p) w1 c w2 n (ix2 r k) : EReal)
      = Rows.conv3 (p (ix3 0 r k)) (c (ix3 0 r k)) (n (ix3 0 r k)) ![w0 (ix2 0 k), w1 (ix2 0 k), w2 (ix2 0 k)] (b (ix2 0 k)) := by
  pointwise [k0_pay24, k0_pay22, k0_pay23]
  rfl

theorem second_half_at (b w0 w1 w2 : Vec Ideal S1x256 .f32) (p c n : Vec Ideal S1x512x256 .f32) (a : FVec Ideal S512x256 .f32) (r : Fin 512) (k : Fin 256) :
    (k0_pay28 a (k0_pay25 b w0 p w1 c) (k0_pay26 n) (k0_pay27 w2) (ix3 0 r k) : EReal)
      = Rows.gelu (a (ix2 r k)) * Rows.conv3 (p (ix3 0 r k)) (c (ix3 0 r k)) (n (ix3 0 r k)) ![w0 (ix2 0 k), w1 (ix2 0 k), w2 (ix2 0 k)] (b (ix2 0 k)) := by
  pointwise [k0_pay25, k0_pay26, k0_pay27, k0_pay28]
  rfl

/-- The up-projections of the row before row `r` of the block and of the row after it; zero beyond the sequence's end. -/
def prevAt (first : BitVec 1) (h : FVec Ideal S528x1024 .bf16) (x4 : Vec Ideal S1024x5632 .bf16) (r : Fin 512) (f : Fin 5632) : EReal :=
  if r.val = 0 ∧ first = 1#1 then 0 else upAt h x4 ⟨r.val + 7, by omega⟩ f

def nextAt (last : BitVec 1) (h : FVec Ideal S528x1024 .bf16) (x4 : Vec Ideal S1024x5632 .bf16) (r : Fin 512) (f : Fin 5632) : EReal :=
  if r.val = 511 ∧ last = 1#1 then 0 else upAt h x4 ⟨r.val + 9, by omega⟩ f

theorem up_at (h : FVec Ideal S528x1024 .bf16) (x4 : Vec Ideal S1024x5632 .bf16) (d : ℕ) (hd : d + 256 ≤ 5632) (ρ σ : Fin 528) (e : ρ = σ) (k : Fin 256) :
    (∑ j : Fin 1024, (h (ix2 ρ j) : EReal) * (ldw x4 d hd (ix2 j k) : EReal)) = upAt h x4 σ ⟨d + k.val, by omega⟩ := by
  subst e
  exact Finset.sum_congr rfl fun j _ => congrArg _ (ldw_at x4 d hd j k)

theorem before_at (first : BitVec 1) (h : FVec Ideal S528x1024 .bf16) (x4 : Vec Ideal S1024x5632 .bf16) (d : ℕ) (hd : d + 256 ≤ 5632) (r : Fin 512) (k : Fin 256) :
    (before (k0_pay10 first h (ldw x4 d hd)) (k0_pay11 h (ldw x4 d hd)) (ix3 0 r k) : EReal) = prevAt first h x4 r ⟨d + k.val, by omega⟩ := by
  show (if h0 : r.val = 0 then k0_pay10 first h (ldw x4 d hd) (ix3 0 7 k) else k0_pay11 h (ldw x4 d hd) (ix3 0 ⟨r.val - 1, _⟩ k)) = _
  unfold prevAt
  split_ifs with h0 h1 h1
  · rw [top_at, if_pos h1.2]
  · rw [top_at, if_neg fun e => h1 ⟨h0, e⟩]
    exact up_at h x4 d hd _ _ (Fin.ext (by show 7 = r.val + 7; omega)) k
  · exact absurd h1.1 h0
  · rw [mid_at]
    exact up_at h x4 d hd _ _ (Fin.ext (by show 8 + (r.val - 1) = r.val + 7; omega)) k

theorem after_at (last : BitVec 1) (h : FVec Ideal S528x1024 .bf16) (x4 : Vec Ideal S1024x5632 .bf16) (d : ℕ) (hd : d + 256 ≤ 5632) (r : Fin 512) (k : Fin 256) :
    (after (k0_pay11 h (ldw x4 d hd)) (k0_pay12 last h (ldw x4 d hd)) (ix3 0 r k) : EReal) = nextAt last h x4 r ⟨d + k.val, by omega⟩ := by
  show (if h0 : r.val < 511 then k0_pay11 h (ldw x4 d hd) (ix3 0 ⟨r.val + 1, _⟩ k) else k0_pay12 last h (ldw x4 d hd) (ix3 0 0 k)) = _
  unfold nextAt
  split_ifs with h0 h1 h1
  · omega
  · rw [mid_at]
    exact up_at h x4 d hd _ _ (Fin.ext (by show 8 + (r.val + 1) = r.val + 9; omega)) k
  · rw [bottom_at, if_pos h1.2]
  · have hr : r.val = 511 := by omega
    rw [bottom_at, if_neg fun e => h1 ⟨hr, e⟩]
    exact up_at h x4 d hd _ _ (Fin.ext (by show 520 + 0 = r.val + 9; omega)) k

theorem at_at (h : FVec Ideal S528x1024 .bf16) (x4 : Vec Ideal S1024x5632 .bf16) (d : ℕ) (hd : d + 256 ≤ 5632) (r : Fin 512) (k : Fin 256) :
    (k0_pay11 h (ldw x4 d hd) (ix3 0 r k) : EReal) = upAt h x4 ⟨8 + r.val, by omega⟩ ⟨d + k.val, by omega⟩ := by
  rw [mid_at]
  exact up_at h x4 d hd _ _ rfl k

theorem chunk_at (first last : BitVec 1) (h : FVec Ideal S528x1024 .bf16) (x4 : Vec Ideal S1024x5632 .bf16) (x5 : Vec Ideal S3x5632 .f32) (x6 : Vec Ideal S1x5632 .f32)
    (d : ℕ) (hd : d + 256 ≤ 2816) (r : Fin 512) (k : Fin 256) :
    (chunk first last h x4 x5 x6 d hd (ix3 0 r k) : EReal) = Rows.act (prevAt first h x4 r) (upAt h x4 ⟨8 + r.val, by omega⟩) (nextAt last h x4 r)
      (fun i f => x5 (ix2 i f)) (fun f => x6 (ix2 0 f)) ⟨d + k.val, by omega⟩ := by
  unfold chunk
  rw [second_half_at, first_half_at]
  simp only [before_at, after_at, at_at, ldc_at, ldb_at]
  unfold Rows.act
  simp only [Nat.add_assoc]
  rfl

end Cert.Kernel2Ideal.Value
end
-- ==== Proof.FfnTerm.lean ====
/- What the feed-forward body writes at a grid point, as one function of the point's blocks. -/
module

public import proofs.«01_k».proof.Proof.FfnBody

@[expose] public section
set_option maxRecDepth 16384
noncomputable section
namespace Cert.Kernel2Ideal.Value
open Cert.Kernel2Ideal Cert.Kernel2Ideal.Gen Idealize.ShloMosaic Idealize.ShloMosaic.TcCoe Idealize.SL.Sem
open Idealize.ShloMosaic.Pipeline (Dat)

/-- Where the block of point `t` begins in its sequence, and whether it is its sequence's first or its last, in the
    words that the body computes. -/
def placeWord (t : ℕ) : BitVec 32 :=
  let q : BitVec 32 := Scalar.muli (BitVec.ofNat 32 t) 512#32
  let a := Scalar.remsi q 16384#32
  let b := Scalar.remsi (Scalar.subi q 32768#32) 8192#32
  Scalar.select (Scalar.cmpi .slt q 32768#32)
    (Scalar.select (Scalar.andi (Scalar.xori (Scalar.cmpi .slt a 0#32) 0#1) (Scalar.cmpi .ne a 0#32)) (Scalar.addi a 16384#32) a)
    (Scalar.select (Scalar.andi (Scalar.xori (Scalar.cmpi .slt b 0#32) 0#1) (Scalar.cmpi .ne b 0#32)) (Scalar.addi b 8192#32) b)

def firstWord (t : ℕ) : BitVec 1 := Scalar.cmpi .eq (placeWord t) 0#32

def lastWord (t : ℕ) : BitVec 1 :=
  Scalar.cmpi .eq (Scalar.addi (placeWord t) 512#32)
    (Scalar.select (Scalar.cmpi .slt (Scalar.muli (BitVec.ofNat 32 t) 512#32) 32768#32) 16384#32 8192#32)

theorem placeWord_eq (t : ℕ) :
    (let q : BitVec 32 := Scalar.muli (BitVec.ofNat 32 t) 512#32
     let a := Scalar.remsi q 16384#32
     let b := Scalar.remsi (Scalar.subi q 32768#32) 8192#32
     Scalar.select (Scalar.cmpi .slt q 32768#32)
      (Scalar.select (Scalar.andi (Scalar.xori (Scalar.cmpi .slt a 0#32) 0#1) (Scalar.cmpi .ne a 0#32)) (Scalar.addi a 16384#32) a)
      (Scalar.select (Scalar.andi (Scalar.xori (Scalar.cmpi .slt b 0#32) 0#1) (Scalar.cmpi .ne b 0#32)) (Scalar.addi b 8192#32) b)) = placeWord t := rfl

theorem firstWord_eq (t : ℕ) : Scalar.cmpi .eq (placeWord t) 0#32 = firstWord t := rfl

theorem lastWord_eq (t : ℕ) :
    Scalar.cmpi .eq (Scalar.addi (placeWord t) 512#32)
      (Scalar.select (Scalar.cmpi .slt (Scalar.muli (BitVec.ofNat 32 t) 512#32) 32768#32) 16384#32 8192#32) = lastWord t := rfl

theorem firstWord_iff : ∀ t : Fin 128, firstWord t.val = 1#1 ↔ t.val % (if t.val < 64 then 32 else 16) = 0 := by decide +kernel

theorem lastWord_iff : ∀ t : Fin 128, lastWord t.val = 1#1 ↔ (t.val + 1) % (if t.val < 64 then 32 else 16) = 0 := by decide +kernel

/-- The normed rows of the block and of the eight rows on either side of it. -/
def rows (x0 : Vec Ideal S512x1024 .f32) (x1 x2 : Vec Ideal S8x1024 .f32) (x3 : Vec Ideal S1x1024 .f32) : FVec Ideal S528x1024 .bf16 :=
  k0_pay4 (k0_pay2 x0 x1 x2) (k0_pay3 x0 x1 x2) x3

/-- The block's residual stream after the three groups of activations are projected down. -/
def summed (x0 : Vec Ideal S512x1024 .f32) (a0 a1 : FVec Ideal S1x512x1024 .bf16) (a2 : FVec Ideal S1x512x768 .bf16) (x7 : Vec Ideal S2816x1024 .bf16) :
    FVec Ideal S512x1024 .f32 :=
  k0_pay167 (k0_pay166 (k0_pay74 (k0_pay74 x0 a0 (View.ld (Val := Elt Ideal) (e' := .bf16) x7 (Rect.unit (s := S2816x1024) ![0, 0] ![1024, 1024] inb_S2816x1024_S1024x1024_0_0)))
      a1 (View.ld (Val := Elt Ideal) (e' := .bf16) x7 (Rect.unit (s := S2816x1024) ![1024, 0] ![1024, 1024] inb_S2816x1024_S1024x1024_1024_0))))
    a2 (View.ld (Val := Elt Ideal) (e' := .bf16) x7 (Rect.unit (s := S2816x1024) ![2048, 0] ![768, 1024] inb_S2816x1024_S768x1024_2048_0))

def body (first last : BitVec 1) (x0 : Vec Ideal S512x1024 .f32) (x1 x2 : Vec Ideal S8x1024 .f32) (x3 : Vec Ideal S1x1024 .f32) (x4 : Vec Ideal S1024x5632 .bf16)
    (x5 : Vec Ideal S3x5632 .f32) (x6 : Vec Ideal S1x5632 .f32) (x7 : Vec Ideal S2816x1024 .bf16) (x8 : Vec Ideal S1x1024 .f32) : FVec Ideal S512x1024 .f32 :=
  let f := chunk first last (rows x0 x1 x2 x3) x4 x5 x6
  let o := summed x0 (side4 ![f 0 (by omega), f 256 (by omega), f 512 (by omega), f 768 (by omega)])
    (side4 ![f 1024 (by omega), f 1280 (by omega), f 1536 (by omega), f 1792 (by omega)]) (side3 ![f 2048 (by omega), f 2304 (by omega), f 2560 (by omega)]) x7
  k0_pay1 (k0_pay168 o) (k0_pay169 o) k0_pay170 x8

set_option maxHeartbeats 1000000 in
theorem term_eq (c : Dev nD) (i : grid0.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S3x5632 .f32) (harg6 : arg6.IsWhole) (arg7 : Memref sig .tc .vmem S1x5632 .f32) (harg7 : arg7.IsWhole) (arg8 : Memref sig .tc .vmem S2816x1024 .bf16) (harg8 : arg8.IsWhole) (arg9 : Memref sig .tc .vmem S1x1024 .f32) (harg9 : arg9.IsWhole) (arg10 : Memref sig .tc .vmem S512x1024 .f32) (harg10 : arg10.IsWhole) (arg11 : Memref sig .tc .vmem S2x512x1024 .bf16) (harg11 : arg11.IsWhole) (arg12 : Memref sig .tc .vmem S2x528x256 .f32) (harg12 : arg12.IsWhole) (arg13 : Memref sig .tc .vmem S2x528x256 .f32) (harg13 : arg13.IsWhole)
    (x0 : Vec Ideal S512x1024 .f32) (x1 : Vec Ideal S8x1024 .f32) (x2 : Vec Ideal S8x1024 .f32) (x3 : Vec Ideal S1x1024 .f32) (x4 : Vec Ideal S1024x5632 .bf16) (x5 : Vec Ideal S3x5632 .f32) (x6 : Vec Ideal S1x5632 .f32) (x7 : Vec Ideal S2816x1024 .bf16) (x8 : Vec Ideal S1x1024 .f32) (y : S512x1024.Idx) :
    out0_A_9 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 y
      = body (firstWord (i 0).val) (lastWord (i 0).val) x0 x1 x2 x3 x4 x5 x6 x7 x8 y := by
  frame_open
  simp (disch := decide) only [↓ View.readCov_skip, ↓ View.readCov_cons_toLoadRect, ↓ View.readCov_fill]
  frame_out
  simp only [readCov_before, readCov_after, readCov_side4, readCov_side3, placeWord_eq, firstWord_eq, lastWord_eq]
  generalize firstWord _ = first, lastWord _ = last
  rfl

end Cert.Kernel2Ideal.Value
end
-- ==== Proof.FfnPoint.lean ====
/- What the feed-forward body writes, at a row and a feature of its block of tokens. -/
module

public import proofs.«01_k».proof.Proof.FfnChunk
public import proofs.«01_k».proof.Proof.FfnTerm

@[expose] public section
set_option maxRecDepth 16384
noncomputable section
namespace Cert.Kernel2Ideal.Value
open Cert.Kernel2Ideal Cert.Kernel2Ideal.Gen Idealize.ShloMosaic Idealize.ShloMosaic.TcCoe Idealize.SL.Sem

/-- Row `ρ` of the block with its halo: eight rows before it, its own 512, eight rows after it. -/
def haloRow (x0 : Vec Ideal S512x1024 .f32) (x1 x2 : Vec Ideal S8x1024 .f32) (ρ : Fin 528) (j : Fin 1024) : EReal :=
  if h : ρ.val < 8 then x1 (ix2 ⟨ρ.val, h⟩ j)
  else if h' : ρ.val < 520 then x0 (ix2 ⟨ρ.val - 8, by omega⟩ j) else x2 (ix2 ⟨ρ.val - 520, by omega⟩ j)

theorem halo_at (x0 : Vec Ideal S512x1024 .f32) (x1 x2 : Vec Ideal S8x1024 .f32) (ρ : Fin 528) (j : Fin 1024) :
    (k0_pay2 x0 x1 x2 (ix2 ρ j) : EReal) = haloRow x0 x1 x2 ρ j := by
  pointwise [k0_pay2]
  unfold haloRow
  split_ifs
  all_goals first
    | rfl
    | omega
    | rw [dif_pos (by omega)]
    | rw [dif_neg (by omega)]
      exact congrArg x2 (congrArg (fun ρ => ix2 ρ j) (Fin.ext (by show ρ.val - 8 - 512 = ρ.val - 520; omega)))

theorem normed_at (x : FVec Ideal S528x1024 .f32) (g : Vec Ideal S1x1024 .f32) (ρ : Fin 528) (j : Fin 1024) :
    (k0_pay4 x (mulf x x) g (ix2 ρ j) : EReal) = Rows.norm (fun j => x (ix2 ρ j)) (fun j => g (ix2 0 j)) j := by
  pointwise [k0_pay4]
  rfl

theorem rows_at (x0 : Vec Ideal S512x1024 .f32) (x1 x2 : Vec Ideal S8x1024 .f32) (x3 : Vec Ideal S1x1024 .f32) (ρ : Fin 528) (j : Fin 1024) :
    (rows x0 x1 x2 x3 (ix2 ρ j) : EReal) = Rows.norm (haloRow x0 x1 x2 ρ) (fun j => x3 (ix2 0 j)) j :=
  (normed_at (k0_pay2 x0 x1 x2) x3 ρ j).trans (congrArg (fun x => Rows.norm x _ j) (funext fun j => halo_at x0 x1 x2 ρ j))

theorem down_at (x : Vec Ideal S512x1024 .f32) (a : FVec Ideal S1x512x1024 .bf16) (w : Vec Ideal S1024x1024 .bf16) (r : Fin 512) (k : Fin 1024) :
    (k0_pay74 x a w (ix2 r k) : EReal) = (x (ix2 r k) : EReal) + ∑ j : Fin 1024, (a (ix3 0 r j) : EReal) * (w (ix2 j k) : EReal) := by
  pointwise [k0_pay74]

theorem down_last_at (x : Vec Ideal S512x1024 .f32) (a : FVec Ideal S1x512x768 .bf16) (w : Vec Ideal S768x1024 .bf16) (r : Fin 512) (k : Fin 1024) :
    (k0_pay167 (k0_pay166 x) a w (ix2 r k) : EReal) = (x (ix2 r k) : EReal) + ∑ j : Fin 768, (a (ix3 0 r j) : EReal) * (w (ix2 j k) : EReal) := by
  pointwise [k0_pay167, k0_pay166]

theorem final_at (x : FVec Ideal S512x1024 .f32) (g : Vec Ideal S1x1024 .f32) (r : Fin 512) (k : Fin 1024) :
    (k0_pay1 (k0_pay168 x) (k0_pay169 x) k0_pay170 g (ix2 r k) : EReal) = Rows.norm (fun j => x (ix2 r j)) (fun j => g (ix2 0 j)) k := by
  pointwise [k0_pay1, k0_pay168, k0_pay169, k0_pay170]
  rfl

theorem ld_rows (x : Vec Ideal S2816x1024 .bf16) (d n : ℕ) (hd : d + n ≤ 2816) (inb : ∀ a, (![d, 0] : Fin 2 → ℕ) a + (![n, 1024] : Fin 2 → ℕ) a ≤ S2816x1024.size a)
    (j : Fin n) (k : Fin 1024) :
    View.ld (Val := Elt Ideal) (e' := .bf16) x (Rect.unit (s := S2816x1024) ![d, 0] ![n, 1024] inb) (ix2 j k) = x (ix2 ⟨d + j.val, by omega⟩ k) := by
  refine congrArg x (funext fun a => Fin.ext ?_)
  match a with
  | ⟨0, _⟩ => show d + 1 * j.val = d + j.val; omega
  | ⟨1, _⟩ => show 0 + 1 * k.val = k.val; omega

/-- The activations of row `r` of the block. -/
def acts (first last : BitVec 1) (h : FVec Ideal S528x1024 .bf16) (x4 : Vec Ideal S1024x5632 .bf16) (x5 : Vec Ideal S3x5632 .f32) (x6 : Vec Ideal S1x5632 .f32)
    (r : Fin 512) : Fin 2816 → EReal :=
  Rows.act (prevAt first h x4 r) (upAt h x4 ⟨8 + r.val, by omega⟩) (nextAt last h x4 r) (fun i f => x5 (ix2 i f)) (fun f => x6 (ix2 0 f))

theorem piece_at (first last : BitVec 1) (h : FVec Ideal S528x1024 .bf16) (x4 : Vec Ideal S1024x5632 .bf16) (x5 : Vec Ideal S3x5632 .f32) (x6 : Vec Ideal S1x5632 .f32)
    (n b : ℕ) (hb : b + 256 * n ≤ 2816) (a : Fin n → S1x512x256.Idx → EReal) (ha : ∀ i : Fin n, a i = chunk first last h x4 x5 x6 (b + 256 * i.val) (by omega))
    (r : Fin 512) (j : Fin (256 * n)) :
    a ⟨j.val / 256, by omega⟩ (ix3 0 r ⟨j.val % 256, by omega⟩) = acts first last h x4 x5 x6 r ⟨b + j.val, by omega⟩ := by
  rw [ha, chunk_at]
  exact congrArg (acts first last h x4 x5 x6 r) (Fin.ext (by show b + 256 * (j.val / 256) + j.val % 256 = b + j.val; omega))

theorem body_at (first last : BitVec 1) (x0 : Vec Ideal S512x1024 .f32) (x1 x2 : Vec Ideal S8x1024 .f32) (x3 : Vec Ideal S1x1024 .f32)
    (x4 : Vec Ideal S1024x5632 .bf16) (x5 : Vec Ideal S3x5632 .f32) (x6 : Vec Ideal S1x5632 .f32) (x7 : Vec Ideal S2816x1024 .bf16) (x8 : Vec Ideal S1x1024 .f32)
    (r : Fin 512) (k : Fin 1024) :
    (body first last x0 x1 x2 x3 x4 x5 x6 x7 x8 (ix2 r k) : EReal) = Rows.ffnRow (fun j => x0 (ix2 r j)) (acts first last (rows x0 x1 x2 x3) x4 x5 x6 r)
      (fun f j => x7 (ix2 f j)) (fun j => x8 (ix2 0 j)) k := by
  unfold body Rows.ffnRow
  rw [final_at]
  refine congrArg (fun y => Rows.norm y _ k) (funext fun j => ?_)
  unfold summed
  rw [down_last_at, down_at, down_at]
  rw [← Rows.sum_groups]
  refine congrArg₂ (· + ·) (congrArg₂ (· + ·) (congrArg₂ (· + ·) rfl (Finset.sum_congr rfl fun f _ => congrArg₂ (· * ·) ?_ ?_))
    (Finset.sum_congr rfl fun f _ => congrArg₂ (· * ·) ?_ ?_)) (Finset.sum_congr rfl fun f _ => congrArg₂ (· * ·) ?_ ?_)
  · refine (piece_at first last (rows x0 x1 x2 x3) x4 x5 x6 4 0 (by omega) _ (fun i => ?_) r f).trans (congrArg _ (Fin.ext (Nat.zero_add f.val)))
    match i with
    | 0 | 1 | 2 | 3 => rfl
  · exact (ld_rows x7 0 1024 (by omega) _ f j).trans (congrArg (fun f => x7 (ix2 f j)) (Fin.ext (Nat.zero_add f.val)))
  · refine piece_at first last (rows x0 x1 x2 x3) x4 x5 x6 4 1024 (by omega) _ (fun i => ?_) r f
    match i with
    | 0 | 1 | 2 | 3 => rfl
  · exact ld_rows x7 1024 1024 (by omega) _ f j
  · refine piece_at first last (rows x0 x1 x2 x3) x4 x5 x6 3 2048 (by omega) _ (fun i => ?_) r f
    match i with
    | 0 | 1 | 2 => rfl
  · exact ld_rows x7 2048 768 (by omega) _ f j

end Cert.Kernel2Ideal.Value
end
-- ==== Proof.FfnOut.lean ====
/- The feed-forward part's result, read at every token and feature, as a function of the arrays it is launched on. -/
module

public import proofs.«01_k».proof.Proof.FfnPoint

@[expose] public section
set_option maxRecDepth 16384
noncomputable section
namespace Cert.Kernel2Ideal.Value
open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

theorem index0 : ∀ t : Fin cfg0.N, win0_0.index t = ![(grid0.coords t 0 : ℕ), 0] := by decide +kernel
theorem index1 : ∀ t : Fin cfg0.N, win0_1.index t = ![64 * (grid0.coords t 0 : ℕ) - 1, 0] := by decide +kernel
theorem index2 : ∀ t : Fin cfg0.N, win0_2.index t = ![min (64 * (grid0.coords t 0 : ℕ) + 64) 8191, 0] := by decide +kernel
theorem index3 : ∀ t : Fin cfg0.N, win0_3.index t = ![0, 0] := by decide +kernel
theorem index4 : ∀ t : Fin cfg0.N, win0_4.index t = ![0, 0] := by decide +kernel
theorem index5 : ∀ t : Fin cfg0.N, win0_5.index t = ![0, 0] := by decide +kernel
theorem index6 : ∀ t : Fin cfg0.N, win0_6.index t = ![0, 0] := by decide +kernel
theorem index7 : ∀ t : Fin cfg0.N, win0_7.index t = ![0, 0] := by decide +kernel
theorem index8 : ∀ t : Fin cfg0.N, win0_8.index t = ![0, 0] := by decide +kernel
theorem index9 : ∀ t : Fin cfg0.N, win0_9.index t = ![(grid0.coords t 0 : ℕ), 0] := by decide +kernel
theorem coord_lt (t : Fin cfg0.N) : (grid0.coords t 0 : ℕ) < 128 := (grid0.coords t 0).isLt

/-- The token of row `r` of the block of grid point `t`, and those of row `r` of the eight rows before the block and of
    the eight rows after it. -/
def token (t : Fin cfg0.N) (r : Fin 512) : Fin 65536 := ⟨(grid0.coords t 0 : ℕ) * 512 + r.val, by have := coord_lt t; omega⟩
def tokenBefore (t : Fin cfg0.N) (r : Fin 8) : Fin 65536 := ⟨(64 * (grid0.coords t 0 : ℕ) - 1) * 8 + r.val, by have := coord_lt t; omega⟩
def tokenAfter (t : Fin cfg0.N) (r : Fin 8) : Fin 65536 := ⟨min (64 * (grid0.coords t 0 : ℕ) + 64) 8191 * 8 + r.val, by omega⟩

theorem b0 (c : Dev nD) (t : Fin cfg0.N) (r : Fin 512) (k : Fin 1024) : (iblk m c 0 t (ix2 r k) : EReal) = m (c, main_arg0) (ix2 (token t r) k) := by
  unfold iblk
  blk_simp
  rw [V_main_arg0]
  refine congrArg _ ?_
  blk_ext [index0 t]
  rfl
theorem b1 (c : Dev nD) (t : Fin cfg0.N) (r : Fin 8) (k : Fin 1024) : (iblk m c 1 t (ix2 r k) : EReal) = m (c, main_arg0) (ix2 (tokenBefore t r) k) := by
  unfold iblk
  blk_simp
  rw [V_main_arg0]
  refine congrArg _ ?_
  blk_ext [index1 t]
  rfl
theorem b2 (c : Dev nD) (t : Fin cfg0.N) (r : Fin 8) (k : Fin 1024) : (iblk m c 2 t (ix2 r k) : EReal) = m (c, main_arg0) (ix2 (tokenAfter t r) k) := by
  unfold iblk
  blk_simp
  rw [V_main_arg0]
  refine congrArg _ ?_
  blk_ext [index2 t]
  rfl
theorem b3 (c : Dev nD) (t : Fin cfg0.N) (k : Fin 1024) : (iblk m c 3 t (ix2 0 k) : EReal) = m (c, main_arg1) (ix1 k) := by
  have h : (iblk m c 3 t (ix2 0 k) : EReal) = V m c main_v0 (ix2 0 k) := by
    unfold iblk
    blk_simp
    refine congrArg (V m c main_v0) ?_
    blk_ext [index3 t]
  rw [h]
  unfold V hostOps0
  after_reads_at
theorem b4 (c : Dev nD) (t : Fin cfg0.N) (j : Fin 1024) (k : Fin 5632) : (iblk m c 4 t (ix2 j k) : EReal) = m (c, main_arg2) (ix2 j k) := by
  have h : (iblk m c 4 t (ix2 j k) : EReal) = V m c main_v1 (ix2 j k) := by
    unfold iblk
    blk_simp
    refine congrArg (V m c main_v1) ?_
    blk_ext [index4 t]
  rw [h]
  unfold V hostOps0
  after_reads_at
theorem b5 (c : Dev nD) (t : Fin cfg0.N) (i : Fin 3) (k : Fin 5632) : (iblk m c 5 t (ix2 i k) : EReal) = m (c, main_arg3) (ix2 i k) := by
  unfold iblk
  blk_simp
  rw [V_main_arg3]
  refine congrArg _ ?_
  blk_ext [index5 t]
theorem b6 (c : Dev nD) (t : Fin cfg0.N) (k : Fin 5632) : (iblk m c 6 t (ix2 0 k) : EReal) = m (c, main_arg4) (ix1 k) := by
  have h : (iblk m c 6 t (ix2 0 k) : EReal) = V m c main_v4 (ix2 0 k) := by
    unfold iblk
    blk_simp
    refine congrArg (V m c main_v4) ?_
    blk_ext [index6 t]
  rw [h]
  unfold V hostOps0
  after_reads_at
theorem b7 (c : Dev nD) (t : Fin cfg0.N) (j : Fin 2816) (k : Fin 1024) : (iblk m c 7 t (ix2 j k) : EReal) = m (c, main_arg5) (ix2 j k) := by
  have h : (iblk m c 7 t (ix2 j k) : EReal) = V m c main_v2 (ix2 j k) := by
    unfold iblk
    blk_simp
    refine congrArg (V m c main_v2) ?_
    blk_ext [index7 t]
  rw [h]
  unfold V hostOps0
  after_reads_at
theorem b8 (c : Dev nD) (t : Fin cfg0.N) (k : Fin 1024) : (iblk m c 8 t (ix2 0 k) : EReal) = m (c, main_arg6) (ix1 k) := by
  have h : (iblk m c 8 t (ix2 0 k) : EReal) = V m c main_v3 (ix2 0 k) := by
    unfold iblk
    blk_simp
    refine congrArg (V m c main_v3) ?_
    blk_ext [index8 t]
  rw [h]
  unfold V hostOps0
  after_reads_at

/-- A block's row is its sequence's first, or its last, where the body's words say so. -/
theorem first_iff (t : Fin cfg0.N) (r : Fin 512) :
    (r.val = 0 ∧ firstWord (grid0.coords t 0).val = 1#1) ↔ (token t r).val % Rows.seqLen (token t r).val = 0 := by
  have ht := coord_lt t
  rw [firstWord_iff (grid0.coords t 0)]
  unfold token Rows.seqLen
  dsimp only
  split_ifs <;> omega
theorem last_iff (t : Fin cfg0.N) (r : Fin 512) :
    (r.val = 511 ∧ lastWord (grid0.coords t 0).val = 1#1) ↔ ((token t r).val + 1) % Rows.seqLen (token t r).val = 0 := by
  have ht := coord_lt t
  rw [lastWord_iff (grid0.coords t 0)]
  unfold token Rows.seqLen
  dsimp only
  split_ifs <;> omega

/-- The residual stream and the weights as launched, by their coordinates. -/
def stream (c : Dev nD) : Fin 65536 → Fin 1024 → EReal := fun t j => m (c, main_arg0) (ix2 t j)
def gain (c : Dev nD) : Fin 1024 → EReal := fun j => m (c, main_arg1) (ix1 j)
def wUp (c : Dev nD) : Fin 1024 → Fin 5632 → EReal := fun j f => m (c, main_arg2) (ix2 j f)

/-- The block with its halo, where it lies inside the array. -/
theorem halo_own (c : Dev nD) (t : Fin cfg0.N) (ρ : Fin 528) (T : Fin 65536) (h : T.val + 8 = (grid0.coords t 0 : ℕ) * 512 + ρ.val) :
    haloRow (iblk m c 0 t) (iblk m c 1 t) (iblk m c 2 t) ρ = stream m c T := by
  funext j
  have ht := coord_lt t
  unfold haloRow stream
  split_ifs with h1 h2
  · rw [b1]
    exact congrArg (fun T => m (c, main_arg0) (ix2 T j)) (Fin.ext (by show (64 * (grid0.coords t 0 : ℕ) - 1) * 8 + ρ.val = T.val; omega))
  · rw [b0]
    exact congrArg (fun T => m (c, main_arg0) (ix2 T j)) (Fin.ext (by show (grid0.coords t 0 : ℕ) * 512 + (ρ.val - 8) = T.val; omega))
  · rw [b2]
    exact congrArg (fun T => m (c, main_arg0) (ix2 T j)) (Fin.ext (by show min (64 * (grid0.coords t 0 : ℕ) + 64) 8191 * 8 + (ρ.val - 520) = T.val; omega))

theorem up_own (c : Dev nD) (t : Fin cfg0.N) (ρ : Fin 528) (T : Fin 65536) (h : T.val + 8 = (grid0.coords t 0 : ℕ) * 512 + ρ.val) (f : Fin 5632) :
    upAt (rows (iblk m c 0 t) (iblk m c 1 t) (iblk m c 2 t) (iblk m c 3 t)) (iblk m c 4 t) ρ f = Rows.up (stream m c) (gain m c) (wUp m c) T f := by
  unfold upAt Rows.up Rows.proj
  refine Finset.sum_congr rfl fun j _ => congrArg₂ (· * ·) ?_ (b4 m c t j f)
  rw [rows_at, halo_own m c t ρ T h]
  exact congrArg (fun g => Rows.norm _ g j) (funext fun j => b3 m c t j)

theorem acts_own (c : Dev nD) (t : Fin cfg0.N) (r : Fin 512) :
    acts (firstWord (grid0.coords t 0).val) (lastWord (grid0.coords t 0).val) (rows (iblk m c 0 t) (iblk m c 1 t) (iblk m c 2 t) (iblk m c 3 t))
        (iblk m c 4 t) (iblk m c 5 t) (iblk m c 6 t) r
      = Rows.act (Rows.upPrev (stream m c) (gain m c) (wUp m c) (token t r)) (Rows.up (stream m c) (gain m c) (wUp m c) (token t r))
        (Rows.upNext (stream m c) (gain m c) (wUp m c) (token t r)) (fun i f => m (c, main_arg3) (ix2 i f)) (fun f => m (c, main_arg4) (ix1 f)) := by
  have ht := coord_lt t
  have hT : (token t r).val = (grid0.coords t 0 : ℕ) * 512 + r.val := rfl
  have hp : prevAt (firstWord (grid0.coords t 0).val) (rows (iblk m c 0 t) (iblk m c 1 t) (iblk m c 2 t) (iblk m c 3 t)) (iblk m c 4 t) r
      = Rows.upPrev (stream m c) (gain m c) (wUp m c) (token t r) := by
    funext f
    unfold prevAt Rows.upPrev
    rw [if_congr (first_iff t r) rfl rfl]
    split_ifs with h
    · rfl
    · have h0 : (token t r).val ≠ 0 := fun e => h (by rw [e]; exact Nat.zero_mod _)
      exact up_own m c t _ _ (by show (token t r).val - 1 + 8 = (grid0.coords t 0 : ℕ) * 512 + (r.val + 7); omega) f
  have hn : nextAt (lastWord (grid0.coords t 0).val) (rows (iblk m c 0 t) (iblk m c 1 t) (iblk m c 2 t) (iblk m c 3 t)) (iblk m c 4 t) r
      = Rows.upNext (stream m c) (gain m c) (wUp m c) (token t r) := by
    funext f
    unfold nextAt Rows.upNext
    rw [if_congr (last_iff t r) rfl rfl]
    split_ifs with h
    · rfl
    · have h0 : (token t r).val ≠ 65535 := fun e => h (by rw [e]; decide)
      exact up_own m c t _ _ (by show ((token t r).val + 1) % 65536 + 8 = (grid0.coords t 0 : ℕ) * 512 + (r.val + 9); omega) f
  have hc : upAt (rows (iblk m c 0 t) (iblk m c 1 t) (iblk m c 2 t) (iblk m c 3 t)) (iblk m c 4 t) ⟨8 + r.val, by omega⟩
      = Rows.up (stream m c) (gain m c) (wUp m c) (token t r) :=
    funext fun f => up_own m c t _ _ (by show (token t r).val + 8 = (grid0.coords t 0 : ℕ) * 512 + (8 + r.val); omega) f
  unfold acts
  rw [hp, hn, hc]
  simp only [b5, b6]

/-- The kernel's result. -/
def result (c : Dev nD) : S65536x1024.Idx → EReal := fun y => Rows.ffn (stream m c) (gain m c) (wUp m c) (fun i f => m (c, main_arg3) (ix2 i f))
  (fun f => m (c, main_arg4) (ix1 f)) (fun f j => m (c, main_arg5) (ix2 f j)) (fun j => m (c, main_arg6) (ix1 j)) (y 0) (y 1)

theorem body_own (c : Dev nD) (t : Fin cfg0.N) (r : Fin 512) (k : Fin 1024) :
    (body (firstWord (grid0.coords t 0).val) (lastWord (grid0.coords t 0).val) (iblk m c 0 t) (iblk m c 1 t) (iblk m c 2 t) (iblk m c 3 t) (iblk m c 4 t)
      (iblk m c 5 t) (iblk m c 6 t) (iblk m c 7 t) (iblk m c 8 t) (ix2 r k) : EReal) = result m c (ix2 (token t r) k) := by
  rw [body_at, acts_own]
  simp only [b0, b7, b8]
  rfl

theorem arr_eq (c : Dev nD) : (dats m 0 c).arrAt 9 cfg0.N = result m c := by
  refine (dats m 0 c).arrAt_eq_of_covers 9 _ (by decide +kernel) fun t hf y => ?_
  have hA := congrFun (flushed9_A m c t) y
  obtain ⟨r, k, rfl⟩ : ∃ (r : Fin 512) (k : Fin 1024), y = ix2 r k := ⟨y 0, y 1, (ix2_eta y).symm⟩
  have hout := term_eq c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (ms0_8 t) (hs0_8 t) (ms0_9 t) (hs0_9 t)
    scM0_0 (Memref.isWhole_whole _) scM0_1 (Memref.isWhole_whole _) scM0_2 (Memref.isWhole_whole _)
    (iblk m c 0 t) (iblk m c 1 t) (iblk m c 2 t) (iblk m c 3 t) (iblk m c 4 t) (iblk m c 5 t) (iblk m c 6 t) (iblk m c 7 t) (iblk m c 8 t) (ix2 r k)
  refine (hA.trans (hout.trans (body_own m c t r k))).trans ?_
  refine congrArg (result m c) (a₁ := ix2 (token t r) k) ?_
  funext a
  refine Fin.ext ?_
  match a with
  | ⟨0, _⟩ => blk_simp [index9 t]; rfl
  | ⟨1, _⟩ => blk_simp [index9 t]

end Cert.Kernel2Ideal.Value
end
-- ==== Proof.FfnRef.lean ====
/- The feed-forward part's reference, read at every token and feature. -/
module

public import proofs.«01_k».proof.Proof.Gen.Reference2Ideal.Run
public import Idealize.ShloMosaic.Lib.StableHlo.ReadAt
public import Idealize.ShloMosaic.Lib.Routing.OpsSearch
public import proofs.«01_k».proof.Proof.FfnRows

@[expose] public section
set_option maxRecDepth 16384
noncomputable section
namespace Cert.Reference2Ideal.Value
open Cert.Reference2Ideal Cert.Reference2Ideal.Gen Idealize.ShloMosaic Idealize.ShloMosaic.TcCoe Idealize.SL.Sem
open Idealize.ShloMosaic.StableHlo Idealize.ShloMosaic.Routing Idealize.ShloMosaic.WordCmp

theorem norm_at (x : FVec Ideal S65536x1024 .f32) (g : FVec Ideal S1024 .f32) (t : Fin 65536) (k : Fin 1024) :
    (mulf (mulf x (broadcastInDim S65536x1024 ![0, 1] bcast_S65536x1_S65536x1024_0_1 (Host.rsqrt (addf (Host.divf (broadcastInDim S65536x1 ![0] bcast_S65536_S65536x1_0 (Host.reduceAdd (mulf x x) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 g)) : FVec Ideal S65536x1024 .f32) (ix2 t k)
      = Rows.norm (fun j => x (ix2 t j)) (fun j => g (ix1 j)) k := by
  pointwise
  rfl

theorem dot_up (a : FVec Ideal S65536x1024 .f32) (b : FVec Ideal S1024x5632 .f32) (t : Fin 65536) (f : Fin 5632) :
    (Host.dotGeneral dot_S65536x1024_S1024x5632_S65536x5632_1_0_0_1_n_n none a b : FVec Ideal S65536x5632 .f32) (ix2 t f)
      = ∑ j : Fin 1024, (a (ix2 t j) : EReal) * (b (ix2 j f) : EReal) := by
  pointwise

theorem down_at (x : FVec Ideal S65536x1024 .f32) (a : FVec Ideal S65536x2816 .f32) (w : FVec Ideal S2816x1024 .f32) (t : Fin 65536) (k : Fin 1024) :
    (addf x (Host.dotGeneral dot_S65536x2816_S2816x1024_S65536x1024_1_0_0_1_n_n none a w) : FVec Ideal S65536x1024 .f32) (ix2 t k)
      = (x (ix2 t k) : EReal) + ∑ f : Fin 2816, (a (ix2 t f) : EReal) * (w (ix2 f k) : EReal) := by
  pointwise

theorem select_word (a b : BitVec 32) (x y : EReal) : Scalar.select (IntOp.cmpi .eq a b) x y = if a = b then x else y := by
  show (if BitVec.ofBool (a == b) = 1#1 then x else y) = _
  by_cases h : a = b
  · rw [if_pos h, h, beq_self_eq_true]
    rfl
  · rw [if_neg h, beq_eq_false_iff_ne.mpr h]
    rfl

theorem before_at (p q : IVec S65536 32) (x : FVec Ideal S65536x5632 .f32) (t : Fin 65536) (f : Fin 5632) (ht : t.val = 0 → p (ix1 t) = q (ix1 t)) :
    (select (broadcastInDim S65536x5632 ![0, 1] bcast_S65536x1_S65536x5632_0_1 (broadcastInDim S65536x1 ![0] bcast_S65536_S65536x1_0 (cmpi .eq p q))) (broadcastInDim S65536x5632 ![] bcast_S_S65536x5632 (id (constant S_ .f32 0x00000000#32))) (extractStridedSlice S65536x5632 ![0, 0] (pad S65537x5632 ![1, 0] ![0, 0] ![0, 0] x (sitofp .f32 (constantI S_ 32 0#32)) pads_S65536x5632_S65537x5632_100_000 h_S_) slices_S65537x5632_S65536x5632_0_0) : FVec Ideal S65536x5632 .f32) (ix2 t f)
      = if p (ix1 t) = q (ix1 t) then (0 : EReal) else x (ix2 ⟨t.val - 1, by omega⟩ f) := by
  pointwise
  rw [select_word]
  split_ifs with h h'
  · exact Ideal.ofBits_zero_f32
  · rfl
  · exact absurd (ht (by omega)) h

theorem after_at (p q : IVec S65536 32) (x : FVec Ideal S65536x5632 .f32) (t : Fin 65536) (f : Fin 5632) (ht : t.val = 65535 → p (ix1 t) = q (ix1 t)) :
    (select (broadcastInDim S65536x5632 ![0, 1] bcast_S65536x1_S65536x5632_0_1 (broadcastInDim S65536x1 ![0] bcast_S65536_S65536x1_0 (cmpi .eq p q))) (broadcastInDim S65536x5632 ![] bcast_S_S65536x5632 (id (constant S_ .f32 0x00000000#32))) (extractStridedSlice S65536x5632 ![1, 0] (pad S65537x5632 ![0, 0] ![1, 0] ![0, 0] x (sitofp .f32 (constantI S_ 32 0#32)) pads_S65536x5632_S65537x5632_010_000 h_S_) slices_S65537x5632_S65536x5632_1_0) : FVec Ideal S65536x5632 .f32) (ix2 t f)
      = if p (ix1 t) = q (ix1 t) then (0 : EReal) else x (ix2 ⟨(t.val + 1) % 65536, by omega⟩ f) := by
  pointwise
  rw [select_word]
  split_ifs with h h'
  · exact Ideal.ofBits_zero_f32
  · exact congrArg (fun t => x (ix2 t f)) (Fin.ext (by show 1 + t.val = (t.val + 1) % 65536; omega))
  · exact absurd (ht (by omega)) h

theorem conv_at (p x n : FVec Ideal S65536x5632 .f32) (w : FVec Ideal S3x5632 .f32) (b : FVec Ideal S5632 .f32) (t : Fin 65536) (f : Fin 5632) :
    (addf (addf (addf (mulf p (broadcastInDim S65536x5632 ![0, 1] bcast_S1x5632_S65536x5632_0_1 (broadcastInDim S1x5632 ![1] bcast_S5632_S1x5632_1 (shapeCast _ (extractStridedSlice S1x5632 ![0, 0] w slices_S3x5632_S1x5632_0_0) shapeCasts_S1x5632_S5632)))) (mulf x (broadcastInDim S65536x5632 ![0, 1] bcast_S1x5632_S65536x5632_0_1 (broadcastInDim S1x5632 ![1] bcast_S5632_S1x5632_1 (shapeCast _ (extractStridedSlice S1x5632 ![1, 0] w slices_S3x5632_S1x5632_1_0) shapeCasts_S1x5632_S5632))))) (mulf n (broadcastInDim S65536x5632 ![0, 1] bcast_S1x5632_S65536x5632_0_1 (broadcastInDim S1x5632 ![1] bcast_S5632_S1x5632_1 (shapeCast _ (extractStridedSlice S1x5632 ![2, 0] w slices_S3x5632_S1x5632_2_0) shapeCasts_S1x5632_S5632))))) (broadcastInDim S65536x5632 ![0, 1] bcast_S1x5632_S65536x5632_0_1 (broadcastInDim S1x5632 ![1] bcast_S5632_S1x5632_1 b)) : FVec Ideal S65536x5632 .f32) (ix2 t f)
      = Rows.conv3 (p (ix2 t f)) (x (ix2 t f)) (n (ix2 t f)) (fun i => w (ix2 i f)) (b (ix1 f)) := by
  pointwise
  exact Rows.conv3_eq _ _ _ _ _ _ _

theorem unit_at (a : FVec Ideal S65536x2816 .f32) (v : FVec Ideal S65536x5632 .f32) (t : Fin 65536) (f : Fin 2816) :
    (mulf (mulf a (mulf (broadcastInDim S65536x2816 ![] bcast_S_S65536x2816 (constant S_ .f32 0x3F000000#32)) (addf (broadcastInDim S65536x2816 ![] bcast_S_S65536x2816 (constant S_ .f32 0x3F800000#32)) (Host.tanh (mulf (broadcastInDim S65536x2816 ![] bcast_S_S65536x2816 (constant S_ .f32 0x3F4C422A#32)) (addf a (mulf (broadcastInDim S65536x2816 ![] bcast_S_S65536x2816 (constant S_ .f32 0x3D372713#32)) (mulf (mulf a a) a)))))))) (extractStridedSlice S65536x2816 ![0, 2816] v slices_S65536x5632_S65536x2816_0_2816) : FVec Ideal S65536x2816 .f32) (ix2 t f)
      = Rows.gelu (a (ix2 t f)) * (v (ix2 t ⟨2816 + f.val, by omega⟩) : EReal) := by
  pointwise
  rw [← Rows.gelu_eq]

/-- The length of a token's sequence, as the references select it. -/
theorem length_word (t : Fin 65536) :
    Scalar.select (IntOp.cmpi .slt (BitVec.ofNat 32 t.val) (BitVec.ofNat 32 32768)) 16384#32 8192#32 = BitVec.ofNat 32 (Rows.seqLen t.val) := by
  unfold Rows.seqLen
  rw [cmpi_slt_ofNat (w := 32) (by omega) (by decide), select_decide]
  split_ifs <;> rfl

variable (V0 : Valuation τ sig (Elt Ideal))

theorem length_at (t : Fin 65536) : res_main_v17 V0 (ix1 t) = BitVec.ofNat 32 (Rows.seqLen t.val) := length_word t

theorem seqLen_bounds (t : ℕ) : 0 < Rows.seqLen t ∧ Rows.seqLen t ≤ 16384 := by unfold Rows.seqLen; split <;> decide

theorem place_at (t : Fin 65536) : res_main_v18 V0 (ix1 t) = BitVec.ofNat 32 (t.val % Rows.seqLen t.val) := by
  have h := seqLen_bounds t.val
  exact pyRem_ap (s := shape0) (by decide) (fun _ => BitVec.ofNat 32 t.val) (fun _ => res_main_v17 V0 (ix1 t)) ix0
    (a := t.val) (b := Rows.seqLen t.val) rfl (length_at V0 t) (by omega) h.1 (by omega)

theorem up_at (t : Fin 65536) (f : Fin 5632) : (res_main_v13 V0 (ix2 t f) : EReal) = Rows.up (fun t j => V0 (Proc.devRef .tc main_arg0) (ix2 t j))
    (fun j => V0 (Proc.devRef .tc main_arg1) (ix1 j)) (fun j f => V0 (Proc.devRef .tc main_arg2) (ix2 j f)) t f := by
  unfold res_main_v13 Rows.up Rows.proj
  refine (dot_up _ _ t f).trans (Finset.sum_congr rfl fun j _ => congrArg (fun a : EReal => a * _) ?_)
  exact norm_at _ _ t j

theorem word_inj (a b : ℕ) (ha : a < 2 ^ 32) (hb : b < 2 ^ 32) : BitVec.ofNat 32 a = BitVec.ofNat 32 b ↔ a = b := by
  refine ⟨fun h => ?_, fun h => h ▸ rfl⟩
  have := congrArg BitVec.toNat h
  rw [BitVec.toNat_ofNat, BitVec.toNat_ofNat, Nat.mod_eq_of_lt ha, Nat.mod_eq_of_lt hb] at this
  exact this

theorem first_iff (t : Fin 65536) : res_main_v18 V0 (ix1 t) = 0#32 ↔ t.val % Rows.seqLen t.val = 0 := by
  rw [place_at]
  exact word_inj _ 0 (by have := Nat.mod_le t.val (Rows.seqLen t.val); omega) (by decide)

theorem last_iff (t : Fin 65536) : res_main_v18 V0 (ix1 t) = IntOp.subi (res_main_v17 V0 (ix1 t)) 1#32 ↔ (t.val + 1) % Rows.seqLen t.val = 0 := by
  have h := seqLen_bounds t.val
  rw [place_at, length_at, show IntOp.subi (BitVec.ofNat 32 (Rows.seqLen t.val)) 1#32 = BitVec.ofNat 32 (Rows.seqLen t.val - 1) from ofNat32_sub h.1,
    word_inj _ _ (by have := Nat.mod_le t.val (Rows.seqLen t.val); omega) (by omega)]
  unfold Rows.seqLen
  split_ifs <;> omega

theorem conv3_congr {p p' c c' n n' b : EReal} {w : Fin 3 → EReal} (hp : p = p') (hc : c = c') (hn : n = n') :
    Rows.conv3 p c n w b = Rows.conv3 p' c' n' w b := by
  rw [hp, hc, hn]

/-- The convolution's channel `f` at token `t`. -/
theorem channel_at (t : Fin 65536) (f : Fin 5632) : (res_main_v52 V0 (ix2 t f) : EReal) = Rows.conv3
    (Rows.upPrev (fun t j => V0 (Proc.devRef .tc main_arg0) (ix2 t j)) (fun j => V0 (Proc.devRef .tc main_arg1) (ix1 j)) (fun j f => V0 (Proc.devRef .tc main_arg2) (ix2 j f)) t f)
    (Rows.up (fun t j => V0 (Proc.devRef .tc main_arg0) (ix2 t j)) (fun j => V0 (Proc.devRef .tc main_arg1) (ix1 j)) (fun j f => V0 (Proc.devRef .tc main_arg2) (ix2 j f)) t f)
    (Rows.upNext (fun t j => V0 (Proc.devRef .tc main_arg0) (ix2 t j)) (fun j => V0 (Proc.devRef .tc main_arg1) (ix1 j)) (fun j f => V0 (Proc.devRef .tc main_arg2) (ix2 j f)) t f)
    (fun i => V0 (Proc.devRef .tc main_arg3) (ix2 i f)) (V0 (Proc.devRef .tc main_arg4) (ix1 f)) := by
  unfold res_main_v52 Rows.upPrev Rows.upNext
  refine (conv_at _ _ _ _ _ t f).trans ?_
  refine conv3_congr ?_ (up_at V0 t f) ?_
  · refine (before_at _ _ _ t f fun h => (first_iff V0 t).mpr (by rw [h]; exact Nat.zero_mod _)).trans ?_
    exact (if_congr (first_iff V0 t) rfl (up_at V0 _ f))
  · refine (after_at _ _ _ t f fun h => (last_iff V0 t).mpr (by rw [h]; decide)).trans ?_
    exact (if_congr (last_iff V0 t) rfl (up_at V0 _ f))

/-- The reference's result. -/
theorem refOut_at (t : Fin 65536) (k : Fin 1024) :
    (mulf (mulf (res_main_v70 V0) (broadcastInDim S65536x1024 ![0, 1] bcast_S65536x1_S65536x1024_0_1 (Host.rsqrt (addf (Host.divf (broadcastInDim S65536x1 ![0] bcast_S65536_S65536x1_0 (Host.reduceAdd (mulf (res_main_v70 V0) (res_main_v70 V0)) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (V0 (Proc.devRef .tc main_arg6)))) : FVec Ideal S65536x1024 .f32) (ix2 t k)
      = Rows.ffn (fun t j => V0 (Proc.devRef .tc main_arg0) (ix2 t j)) (fun j => V0 (Proc.devRef .tc main_arg1) (ix1 j)) (fun j f => V0 (Proc.devRef .tc main_arg2) (ix2 j f))
        (fun i f => V0 (Proc.devRef .tc main_arg3) (ix2 i f)) (fun f => V0 (Proc.devRef .tc main_arg4) (ix1 f)) (fun f j => V0 (Proc.devRef .tc main_arg5) (ix2 f j))
        (fun j => V0 (Proc.devRef .tc main_arg6) (ix1 j)) t k := by
  refine (norm_at _ _ t k).trans ?_
  unfold Rows.ffn Rows.ffnRow
  refine congrArg (fun y => Rows.norm y _ k) (funext fun j => ?_)
  unfold res_main_v70 Rows.act
  refine (down_at _ _ _ t j).trans (congrArg (fun a : EReal => _ + a) (Finset.sum_congr rfl fun f _ => congrArg (fun a : EReal => a * _) ?_))
  refine (unit_at _ _ t f).trans (congrArg₂ (fun a b : EReal => Rows.gelu a * b) ?_ (channel_at V0 t _))
  refine Eq.trans ?_ (channel_at V0 t ⟨f.val, by omega⟩)
  unfold res_main_v53
  pointwise

end Cert.Reference2Ideal.Value
end
-- ==== Proof.Ffn.lean ====
/- The feed-forward part: its kernel computes its reference. -/
module

public import proofs.«01_k».proof.Defs
public import proofs.«01_k».proof.Proof.FfnOut
public import proofs.«01_k».proof.Proof.FfnRef
public import Idealize.ShloMosaic.Adequacy
public import Idealize.ShloMosaic.Init

@[expose] public section
set_option maxRecDepth 16384
noncomputable section
namespace Cert.Proof
open Idealize.ShloMosaic Idealize.ShloMosaic.StableHlo Idealize.SL.Sem

theorem frame_ffn_reference : Cert.quiescent_Reference2Ideal := fun m g _ =>
  (θ_run _ _ _).mono (fun r h => ⟨fun c => (h c).2, sem_eq_zero_of_no_sems (by decide) r.2⟩) (Cert.Reference2Ideal.Value.run (F := Ideal) m g)

theorem algebraic_ffn : Cert.algebraic_Kernel2Ideal_Reference2Ideal := by
  intro m g m' g' _ hargs
  refine ⟨fun c => Cert.Kernel2Ideal.Value.result m c, ?_, ?_⟩
  · exact (θ_run _ _ _).mono (fun r h c => ⟨(h c).1.trans (Cert.Kernel2Ideal.Value.arr_eq m c), (h c).2⟩) (Cert.Kernel2Ideal.Value.run_blocks (F := Ideal) m g)
  · refine (θ_run _ _ _).mono (fun r h c => ⟨(h c).1.trans ?_, (h c).2⟩) (Cert.Reference2Ideal.Value.run (F := Ideal) m' g')
    obtain ⟨h0, h1, h2, h3, h4, h5, h6⟩ := hargs c
    funext y
    obtain ⟨t, k, rfl⟩ : ∃ (t : Fin 65536) (k : Fin 1024), y = ix2 t k := ⟨y 0, y 1, (ix2_eta y).symm⟩
    refine (Cert.Reference2Ideal.Value.refOut_at (launchContents m' c) t k).trans ?_
    have e0 : launchContents m' c (Proc.devRef .tc Cert.Reference2Ideal.main_arg0) = _ := h0
    have e1 : launchContents m' c (Proc.devRef .tc Cert.Reference2Ideal.main_arg1) = _ := h1
    have e2 : launchContents m' c (Proc.devRef .tc Cert.Reference2Ideal.main_arg2) = _ := h2
    have e3 : launchContents m' c (Proc.devRef .tc Cert.Reference2Ideal.main_arg3) = _ := h3
    have e4 : launchContents m' c (Proc.devRef .tc Cert.Reference2Ideal.main_arg4) = _ := h4
    have e5 : launchContents m' c (Proc.devRef .tc Cert.Reference2Ideal.main_arg5) = _ := h5
    have e6 : launchContents m' c (Proc.devRef .tc Cert.Reference2Ideal.main_arg6) = _ := h6
    rw [e0, e1, e2, e3, e4, e5, e6]
    rfl

end Cert.Proof
end
-- ==== Proof.MergeBody.lean ====
/- The merge's body: the gated sum of the four branches, projected and added to the residual stream, at a row and a
   feature of one block of tokens. -/
module

public import proofs.«01_k».proof.Proof.Gen.Kernel3Ideal.Value
public import proofs.«01_k».proof.Proof.Rows
public import Idealize.ShloMosaic.Lib.Pipeline.ValueKit
public import Idealize.ShloMosaic.Lib.Pipeline.ReadBack
public import Idealize.ShloMosaic.Lib.StableHlo.ReadAt

@[expose] public section
set_option maxRecDepth 16384
noncomputable section
namespace Cert.Kernel3Ideal.Value
open Cert.Kernel3Ideal Cert.Kernel3Ideal.Gen Idealize.ShloMosaic Idealize.ShloMosaic.TcCoe Idealize.SL.Sem
open Idealize.ShloMosaic.Pipeline (Dat)

theorem norm_at (x : Vec Ideal S512x1024 .f32) (g : Vec Ideal S1x1024 .f32) (r : Fin 512) (k : Fin 1024) :
    (k0_pay2 x g (ix2 r k) : EReal) = Rows.norm (fun j => x (ix2 r j)) (fun j => g (ix2 0 j)) k := by
  pointwise [k0_pay2]
  rfl

theorem gate_at (h : FVec Ideal S512x1024 .bf16) (w : Vec Ideal S1024x1024 .bf16) (b : Vec Ideal S1x1024 .f32) (r : Fin 512) (k : Fin 1024) :
    (k0_pay5 h w b (ix2 r k) : EReal) = Rows.gate (fun j => h (ix2 r j)) (fun j => w (ix2 j k)) (b (ix2 0 k)) := by
  pointwise [k0_pay5]
  rw [zero_sub]
  rfl

theorem first_at (x : Vec Ideal S512x1024 .f32) (g : Vec Ideal S1x1024 .f32) (w : Vec Ideal S1024x1024 .bf16) (b : Vec Ideal S1x1024 .f32)
    (y : Vec Ideal S512x512 .bf16) (v : Vec Ideal S1x512x1024 .bf16) (r : Fin 512) (k : Fin 1024) :
    (k0_pay3 x g w b y v (ix2 r k) : EReal) = Rows.gate (fun j => k0_pay2 x g (ix2 r j)) (fun j => w (ix2 j k)) (b (ix2 0 k))
      * ∑ j : Fin 512, (y (ix2 r j) : EReal) * (v (ix3 0 j k) : EReal) := by
  pointwise [k0_pay3]
  rw [zero_sub]
  rfl

theorem second_at (h : FVec Ideal S512x1024 .bf16) (p : FVec Ideal S512x1024 .f32) (w : Vec Ideal S1024x1024 .bf16) (b : Vec Ideal S1x1024 .f32)
    (y : Vec Ideal S512x512 .bf16) (v : Vec Ideal S1x512x1024 .bf16) (r : Fin 512) (k : Fin 1024) :
    (k0_pay4 h p w b y v (ix2 r k) : EReal) = (p (ix2 r k) : EReal) + Rows.gate (fun j => h (ix2 r j)) (fun j => w (ix2 j k)) (b (ix2 0 k))
      * ∑ j : Fin 512, (y (ix2 r j) : EReal) * (v (ix3 0 j k) : EReal) := by
  pointwise [k0_pay4]
  rw [zero_sub]
  rfl

theorem last_at (x : Vec Ideal S512x1024 .f32) (h : FVec Ideal S512x1024 .bf16) (p q : FVec Ideal S512x1024 .f32) (y2 : Vec Ideal S512x512 .bf16)
    (v2 : Vec Ideal S1x512x1024 .bf16) (w : Vec Ideal S1024x1024 .bf16) (b : Vec Ideal S1x1024 .f32) (y3 : Vec Ideal S512x512 .bf16)
    (v3 : Vec Ideal S1x512x1024 .bf16) (wo : Vec Ideal S1024x1024 .bf16) (r : Fin 512) (k : Fin 1024) :
    (k0_pay1 x h p q y2 v2 w b y3 v3 wo (ix2 r k) : EReal) = (x (ix2 r k) : EReal) + ∑ i : Fin 1024, ((p (ix2 r i) : EReal)
      + (q (ix2 r i) : EReal) * (∑ j : Fin 512, (y2 (ix2 r j) : EReal) * (v2 (ix3 0 j i) : EReal))
      + Rows.gate (fun j => h (ix2 r j)) (fun j => w (ix2 j i)) (b (ix2 0 i)) * ∑ j : Fin 512, (y3 (ix2 r j) : EReal) * (v3 (ix3 0 j i) : EReal))
      * (wo (ix2 i k) : EReal) := by
  pointwise [k0_pay1]
  simp only [zero_sub]
  rfl

/-- Column block `i` of the gates' weights. -/
theorem ld_wg (x : Vec Ideal S1024x4096 .bf16) (i : Fin 4) (inb : ∀ a, (![0, 1024 * i.val] : Fin 2 → ℕ) a + S1024x1024.size a ≤ S1024x4096.size a) (j k : Fin 1024) :
    View.ld (Val := Elt Ideal) (e' := .bf16) x (Rect.unit (s := S1024x4096) ![0, 1024 * i.val] S1024x1024.size inb) (ix2 j k)
      = x (ix2 j ⟨1024 * i.val + k.val, by omega⟩) := by
  pointwise

theorem ld_bg (x : Vec Ideal S1x4096 .f32) (i : Fin 4) (inb : ∀ a, (![0, 1024 * i.val] : Fin 2 → ℕ) a + S1x1024.size a ≤ S1x4096.size a) (k : Fin 1024) :
    View.ld (Val := Elt Ideal) (e' := .f32) x (Rect.unit (s := S1x4096) ![0, 1024 * i.val] S1x1024.size inb) (ix2 0 k)
      = x (ix2 0 ⟨1024 * i.val + k.val, by omega⟩) := by
  pointwise

theorem ld_wb (x : Vec Ideal S4x512x1024 .bf16) (i : Fin 4) (inb : ∀ a, (![i.val, 0, 0] : Fin 3 → ℕ) a + S1x512x1024.size a ≤ S4x512x1024.size a) (j : Fin 512) (k : Fin 1024) :
    View.ld (Val := Elt Ideal) (e' := .bf16) x (Rect.unit (s := S4x512x1024) ![i.val, 0, 0] S1x512x1024.size inb) (ix3 0 j k) = x (ix3 i j k) := by
  pointwise

theorem out_eq (x0 : Vec Ideal S512x1024 .f32) (x1 : Vec Ideal S1x1024 .f32) (x2 : Vec Ideal S1024x4096 .bf16) (x3 : Vec Ideal S1x4096 .f32)
    (x4 x5 x6 x7 : Vec Ideal S512x512 .bf16) (x8 : Vec Ideal S4x512x1024 .bf16) (x9 : Vec Ideal S1024x1024 .bf16) (r : Fin 512) (k : Fin 1024) :
    (out0_10 x0 x1 x2 x3 x4 x5 x6 x7 x8 x9 (ix2 r k) : EReal) = Rows.mergeRow (fun j => x0 (ix2 r j)) (fun j => x1 (ix2 0 j))
      (fun i j k => x2 (ix2 j ⟨1024 * i.val + k.val, by omega⟩)) (fun i k => x3 (ix2 0 ⟨1024 * i.val + k.val, by omega⟩))
      (fun i j => ![x4, x5, x6, x7] i (ix2 r j)) (fun i j k => x8 (ix3 i j k)) (fun i j => x9 (ix2 i j)) k := by
  unfold out0_10
  canon_tiles x h
  have hx : x = ix2 r k := by
    rw [← ix2_eta x]
    exact congrArg₂ ix2 (Fin.ext (by simpa using h0.symm)) (Fin.ext (by simpa using h1.symm))
  subst hx
  unfold k0_pay6
  rw [last_at]
  simp only [second_at, first_at, gate_at, norm_at]
  have w0 : ∀ j k, View.ld (Val := Elt Ideal) (e' := .bf16) x2 r0_2 (ix2 j k) = _ := ld_wg x2 0 _
  have b0 : ∀ k, View.ld (Val := Elt Ideal) (e' := .f32) x3 r0_3 (ix2 0 k) = _ := ld_bg x3 0 _
  have v0 : ∀ j k, View.ld (Val := Elt Ideal) (e' := .bf16) x8 r0_5 (ix3 0 j k) = _ := ld_wb x8 0 _
  have w1 : ∀ j k, View.ld (Val := Elt Ideal) (e' := .bf16) x2 r0_6 (ix2 j k) = _ := ld_wg x2 1 _
  have b1 : ∀ k, View.ld (Val := Elt Ideal) (e' := .f32) x3 r0_7 (ix2 0 k) = _ := ld_bg x3 1 _
  have v1 : ∀ j k, View.ld (Val := Elt Ideal) (e' := .bf16) x8 r0_8 (ix3 0 j k) = _ := ld_wb x8 1 _
  have w2 : ∀ j k, View.ld (Val := Elt Ideal) (e' := .bf16) x2 r0_9 (ix2 j k) = _ := ld_wg x2 2 _
  have b2 : ∀ k, View.ld (Val := Elt Ideal) (e' := .f32) x3 r0_10 (ix2 0 k) = _ := ld_bg x3 2 _
  have v2 : ∀ j k, View.ld (Val := Elt Ideal) (e' := .bf16) x8 r0_11 (ix3 0 j k) = _ := ld_wb x8 2 _
  have w3 : ∀ j k, View.ld (Val := Elt Ideal) (e' := .bf16) x2 r0_12 (ix2 j k) = _ := ld_wg x2 3 _
  have b3 : ∀ k, View.ld (Val := Elt Ideal) (e' := .f32) x3 r0_13 (ix2 0 k) = _ := ld_bg x3 3 _
  have v3 : ∀ j k, View.ld (Val := Elt Ideal) (e' := .bf16) x8 r0_14 (ix3 0 j k) = _ := ld_wb x8 3 _
  simp only [w0, w1, w2, w3, b0, b1, b2, b3, v0, v1, v2, v3]
  have z : (![0, 0] : Fin 2 → ℕ) = fun _ => 0 := by decide
  have whole : ∀ y : Vec Ideal S512x512 .bf16, View.ld (Val := Elt Ideal) (e' := .bf16) y r0_4 = y := fun y => View.ld_unit_zero (S := S512x512) z _ y
  rw [show View.ld (Val := Elt Ideal) (e' := .f32) x0 r0_0 = x0 from View.ld_unit_zero (S := S512x1024) z _ x0,
    show View.ld (Val := Elt Ideal) (e' := .f32) x1 r0_1 = x1 from View.ld_unit_zero (S := S1x1024) z _ x1,
    show View.ld (Val := Elt Ideal) (e' := .bf16) x9 r0_15 = x9 from View.ld_unit_zero (S := S1024x1024) z _ x9, whole, whole, whole, whole]
  rfl

end Cert.Kernel3Ideal.Value
end
-- ==== Proof.MergeOut.lean ====
/- The merge's result, read at every token and feature, as a function of the arrays it is launched on. -/
module

public import proofs.«01_k».proof.Proof.MergeBody

@[expose] public section
set_option maxRecDepth 16384
noncomputable section
namespace Cert.Kernel3Ideal.Value
open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

theorem index0 : ∀ t : Fin cfg0.N, win0_0.index t = ![(grid0.coords t 0 : ℕ), 0] := by decide +kernel
theorem index1 : ∀ t : Fin cfg0.N, win0_1.index t = ![0, 0] := by decide +kernel
theorem index2 : ∀ t : Fin cfg0.N, win0_2.index t = ![0, 0] := by decide +kernel
theorem index3 : ∀ t : Fin cfg0.N, win0_3.index t = ![0, 0] := by decide +kernel
theorem index4 : ∀ t : Fin cfg0.N, win0_4.index t = ![(grid0.coords t 0 : ℕ), 0] := by decide +kernel
theorem index5 : ∀ t : Fin cfg0.N, win0_5.index t = ![(grid0.coords t 0 : ℕ), 0] := by decide +kernel
theorem index6 : ∀ t : Fin cfg0.N, win0_6.index t = ![(grid0.coords t 0 : ℕ), 0] := by decide +kernel
theorem index7 : ∀ t : Fin cfg0.N, win0_7.index t = ![(grid0.coords t 0 : ℕ), 0] := by decide +kernel
theorem index8 : ∀ t : Fin cfg0.N, win0_8.index t = ![0, 0, 0] := by decide +kernel
theorem index9 : ∀ t : Fin cfg0.N, win0_9.index t = ![0, 0] := by decide +kernel
theorem index10 : ∀ t : Fin cfg0.N, win0_10.index t = ![(grid0.coords t 0 : ℕ), 0] := by decide +kernel
theorem coord_lt (t : Fin cfg0.N) : (grid0.coords t 0 : ℕ) < 128 := (grid0.coords t 0).isLt

/-- The token of row `r` of the block of grid point `t`. -/
def token (t : Fin cfg0.N) (r : Fin 512) : Fin 65536 := ⟨(grid0.coords t 0 : ℕ) * 512 + r.val, by have := coord_lt t; omega⟩

theorem b0 (c : Dev nD) (t : Fin cfg0.N) (r : Fin 512) (k : Fin 1024) : (iblk m c 0 t (ix2 r k) : EReal) = m (c, main_arg0) (ix2 (token t r) k) := by
  unfold iblk
  blk_simp
  rw [V_main_arg0]
  refine congrArg _ ?_
  blk_ext [index0 t]
  rfl
theorem b4 (c : Dev nD) (t : Fin cfg0.N) (r k : Fin 512) : (iblk m c 4 t (ix2 r k) : EReal) = m (c, main_arg4) (ix2 (token t r) k) := by
  unfold iblk
  blk_simp
  rw [V_main_arg4]
  refine congrArg _ ?_
  blk_ext [index4 t]
  rfl
theorem b5 (c : Dev nD) (t : Fin cfg0.N) (r k : Fin 512) : (iblk m c 5 t (ix2 r k) : EReal) = m (c, main_arg5) (ix2 (token t r) k) := by
  unfold iblk
  blk_simp
  rw [V_main_arg5]
  refine congrArg _ ?_
  blk_ext [index5 t]
  rfl
theorem b6 (c : Dev nD) (t : Fin cfg0.N) (r k : Fin 512) : (iblk m c 6 t (ix2 r k) : EReal) = m (c, main_arg6) (ix2 (token t r) k) := by
  unfold iblk
  blk_simp
  rw [V_main_arg6]
  refine congrArg _ ?_
  blk_ext [index6 t]
  rfl
theorem b7 (c : Dev nD) (t : Fin cfg0.N) (r k : Fin 512) : (iblk m c 7 t (ix2 r k) : EReal) = m (c, main_arg7) (ix2 (token t r) k) := by
  unfold iblk
  blk_simp
  rw [V_main_arg7]
  refine congrArg _ ?_
  blk_ext [index7 t]
  rfl
theorem b1 (c : Dev nD) (t : Fin cfg0.N) (k : Fin 1024) : (iblk m c 1 t (ix2 0 k) : EReal) = m (c, main_arg1) (ix1 k) := by
  have h : (iblk m c 1 t (ix2 0 k) : EReal) = V m c main_v0 (ix2 0 k) := by
    unfold iblk
    blk_simp
    refine congrArg (V m c main_v0) ?_
    blk_ext [index1 t]
  rw [h]
  unfold V hostOps0
  after_reads_at
theorem b2 (c : Dev nD) (t : Fin cfg0.N) (j : Fin 1024) (k : Fin 4096) : (iblk m c 2 t (ix2 j k) : EReal) = m (c, main_arg2) (ix2 j k) := by
  have h : (iblk m c 2 t (ix2 j k) : EReal) = V m c main_v1 (ix2 j k) := by
    unfold iblk
    blk_simp
    refine congrArg (V m c main_v1) ?_
    blk_ext [index2 t]
  rw [h]
  unfold V hostOps0
  after_reads_at
theorem b3 (c : Dev nD) (t : Fin cfg0.N) (i : Fin 4) (k : Fin 1024) : (iblk m c 3 t (ix2 0 (⟨1024 * i.val + k.val, by omega⟩ : Fin 4096)) : EReal) = m (c, main_arg3) (ix2 i k) := by
  have h : (iblk m c 3 t (ix2 0 (⟨1024 * i.val + k.val, by omega⟩ : Fin 4096)) : EReal) = V m c main_v2 (ix2 0 (⟨1024 * i.val + k.val, by omega⟩ : Fin 4096)) := by
    unfold iblk
    blk_simp
    refine congrArg (V m c main_v2) ?_
    blk_ext [index3 t]
  rw [h]
  unfold V hostOps0
  after_reads_at
theorem b8 (c : Dev nD) (t : Fin cfg0.N) (i : Fin 4) (j : Fin 512) (k : Fin 1024) : (iblk m c 8 t (ix3 i j k) : EReal) = m (c, main_arg8) (ix3 i j k) := by
  have h : (iblk m c 8 t (ix3 i j k) : EReal) = V m c main_v3 (ix3 i j k) := by
    unfold iblk
    blk_simp
    refine congrArg (V m c main_v3) ?_
    blk_ext [index8 t]
  rw [h]
  unfold V hostOps0
  after_reads_at
theorem b9 (c : Dev nD) (t : Fin cfg0.N) (j k : Fin 1024) : (iblk m c 9 t (ix2 j k) : EReal) = m (c, main_arg9) (ix2 j k) := by
  have h : (iblk m c 9 t (ix2 j k) : EReal) = V m c main_v4 (ix2 j k) := by
    unfold iblk
    blk_simp
    refine congrArg (V m c main_v4) ?_
    blk_ext [index9 t]
  rw [h]
  unfold V hostOps0
  after_reads_at

/-- The kernel's result. -/
def result (c : Dev nD) : S65536x1024.Idx → EReal := fun y => Rows.mergeRow (fun j => m (c, main_arg0) (ix2 (y 0) j)) (fun j => m (c, main_arg1) (ix1 j))
  (fun i j k => m (c, main_arg2) (ix2 j ⟨1024 * i.val + k.val, by omega⟩)) (fun i k => m (c, main_arg3) (ix2 i k))
  ![fun j => m (c, main_arg4) (ix2 (y 0) j), fun j => m (c, main_arg5) (ix2 (y 0) j), fun j => m (c, main_arg6) (ix2 (y 0) j), fun j => m (c, main_arg7) (ix2 (y 0) j)]
  (fun i j k => m (c, main_arg8) (ix3 i j k)) (fun i j => m (c, main_arg9) (ix2 i j)) (y 1)

theorem arr_eq (c : Dev nD) : (dats m 0 c).arrAt 10 cfg0.N = result m c := by
  refine (dats m 0 c).arrAt_eq_of_covers 10 _ (by decide +kernel) fun t hf y => ?_
  have hA := congrFun (flushed10 m c t) y
  obtain ⟨r, k, rfl⟩ : ∃ (r : Fin 512) (k : Fin 1024), y = ix2 r k := ⟨y 0, y 1, (ix2_eta y).symm⟩
  have hout := out_eq (iblk m c 0 t) (iblk m c 1 t) (iblk m c 2 t) (iblk m c 3 t) (iblk m c 4 t) (iblk m c 5 t) (iblk m c 6 t) (iblk m c 7 t)
    (iblk m c 8 t) (iblk m c 9 t) r k
  refine (hA.trans hout).trans ?_
  simp only [b0, b1, b2, b3, b8, b9]
  have hy : (fun (i : Fin 4) (j : Fin 512) => ![iblk m c 4 t, iblk m c 5 t, iblk m c 6 t, iblk m c 7 t] i (ix2 r j))
      = ![fun j => m (c, main_arg4) (ix2 (token t r) j), fun j => m (c, main_arg5) (ix2 (token t r) j), fun j => m (c, main_arg6) (ix2 (token t r) j), fun j => m (c, main_arg7) (ix2 (token t r) j)] := by
    funext i j
    match i with
    | 0 => exact b4 m c t r j
    | 1 => exact b5 m c t r j
    | 2 => exact b6 m c t r j
    | 3 => exact b7 m c t r j
  refine (congrArg (fun u => Rows.mergeRow _ _ _ _ u _ _ k) hy).trans ?_
  refine congrArg (result m c) (a₁ := ix2 (token t r) k) ?_
  funext a
  refine Fin.ext ?_
  match a with
  | ⟨0, _⟩ => blk_simp [index10 t]; rfl
  | ⟨1, _⟩ => blk_simp [index10 t]

end Cert.Kernel3Ideal.Value
end
-- ==== Proof.MergeRef.lean ====
/- The merge's reference, read at every token and feature. -/
module

public import proofs.«01_k».proof.Proof.Gen.Reference3Ideal.Run
public import proofs.«01_k».proof.Proof.Rows

@[expose] public section
set_option maxRecDepth 16384
noncomputable section
namespace Cert.Reference3Ideal.Value
open Cert.Reference3Ideal Cert.Reference3Ideal.Gen Idealize.ShloMosaic Idealize.ShloMosaic.TcCoe Idealize.SL.Sem Idealize.ShloMosaic.StableHlo

theorem norm_at (x : FVec Ideal S65536x1024 .f32) (g : FVec Ideal S1024 .f32) (t : Fin 65536) (k : Fin 1024) :
    (mulf (mulf x (broadcastInDim S65536x1024 ![0, 1] bcast_S65536x1_S65536x1024_0_1 (Host.rsqrt (addf (Host.divf (broadcastInDim S65536x1 ![0] bcast_S65536_S65536x1_0 (Host.reduceAdd (mulf x x) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 g)) : FVec Ideal S65536x1024 .f32) (ix2 t k)
      = Rows.norm (fun j => x (ix2 t j)) (fun j => g (ix1 j)) k := by
  pointwise
  rfl

/-- Branch `i`'s gates. -/
theorem gate_at (h : FVec Ideal S65536x1024 .f32) (w : FVec Ideal S1024x4096 .f32) (b : FVec Ideal S4x1024 .f32) (i : Fin 4)
    (hs : S65536x4x1024.Slices ![0, i.val, 0] S65536x1x1024) (t : Fin 65536) (k : Fin 1024) :
    (shapeCast S65536x1024 (extractStridedSlice S65536x1x1024 ![0, i.val, 0] (shapeCast _ (Host.divf (broadcastInDim S65536x4096 ![] bcast_S_S65536x4096 (constant S_ .f32 0x3F800000#32)) (addf (broadcastInDim S65536x4096 ![] bcast_S_S65536x4096 (constant S_ .f32 0x3F800000#32)) (Host.exp (Host.negf (addf (Host.dotGeneral dot_S65536x1024_S1024x4096_S65536x4096_1_0_0_1_n_n none h w) (broadcastInDim S65536x4096 ![0, 1] bcast_S1x4096_S65536x4096_0_1 (broadcastInDim S1x4096 ![1] bcast_S4096_S1x4096_1 (shapeCast _ b shapeCasts_S4x1024_S4096)))))))) shapeCasts_S65536x4096_S65536x4x1024) hs) shapeCasts_S65536x1x1024_S65536x1024 : FVec Ideal S65536x1024 .f32) (ix2 t k)
      = Rows.gate (fun j => h (ix2 t j)) (fun j => w (ix2 j ⟨1024 * i.val + k.val, by omega⟩)) (b (ix2 i k)) := by
  pointwise
  have e : (⟨i.val * 1024 + k.val, by omega⟩ : Fin 4096) = ⟨1024 * i.val + k.val, by omega⟩ := Fin.ext (by dsimp only; omega)
  rw [e]
  rfl

theorem branch_at (y : FVec Ideal S65536x512 .bf16) (w : FVec Ideal S4x512x1024 .f32) (i : Fin 4) (hs : S4x512x1024.Slices ![i.val, 0, 0] S1x512x1024)
    (t : Fin 65536) (k : Fin 1024) :
    (Host.dotGeneral dot_S65536x512_S512x1024_S65536x1024_1_0_0_1_n_n none (extf .f32 y bitsLt_bf16_f32) (shapeCast S512x1024 (extractStridedSlice S1x512x1024 ![i.val, 0, 0] w hs) shapeCasts_S1x512x1024_S512x1024) : FVec Ideal S65536x1024 .f32) (ix2 t k)
      = ∑ j : Fin 512, (y (ix2 t j) : EReal) * (w (ix3 i j k) : EReal) := by
  pointwise

theorem out_at (x q : FVec Ideal S65536x1024 .f32) (w : FVec Ideal S1024x1024 .f32) (t : Fin 65536) (k : Fin 1024) :
    (addf x (Host.dotGeneral dot_S65536x1024_S1024x1024_S65536x1024_1_0_0_1_n_n none q w) : FVec Ideal S65536x1024 .f32) (ix2 t k)
      = x (ix2 t k) + ∑ j : Fin 1024, (q (ix2 t j) : EReal) * (w (ix2 j k) : EReal) := by
  pointwise

theorem sum_at (a b c d e f g h : FVec Ideal S65536x1024 .f32) (t : Fin 65536) (k : Fin 1024) :
    (addf (addf (addf (mulf a b) (mulf c d)) (mulf e f)) (mulf g h) : FVec Ideal S65536x1024 .f32) (ix2 t k)
      = ((a (ix2 t k) * b (ix2 t k) + c (ix2 t k) * d (ix2 t k) + e (ix2 t k) * f (ix2 t k) + g (ix2 t k) * h (ix2 t k) : EReal)) := by
  pointwise

variable (m : (ℓ : Loc nD τ sig) → Buf (Elt Ideal) ℓ)

theorem refOut_at (c : Dev nD) (t : Fin 65536) (k : Fin 1024) :
    (res_main_v57 m c (ix2 t k) : EReal) = Rows.mergeRow (fun j => m (c, main_arg0) (ix2 t j)) (fun j => m (c, main_arg1) (ix1 j))
      (fun i j k => m (c, main_arg2) (ix2 j ⟨1024 * i.val + k.val, by omega⟩)) (fun i k => m (c, main_arg3) (ix2 i k))
      ![fun j => m (c, main_arg4) (ix2 t j), fun j => m (c, main_arg5) (ix2 t j), fun j => m (c, main_arg6) (ix2 t j), fun j => m (c, main_arg7) (ix2 t j)]
      (fun i j k => m (c, main_arg8) (ix3 i j k)) (fun i j => m (c, main_arg9) (ix2 i j)) k := by
  unfold res_main_v57 Rows.mergeRow Rows.merged
  refine (out_at _ _ _ t k).trans ?_
  refine congrArg₂ (fun a b : EReal => a + b) rfl (Finset.sum_congr rfl fun j _ => congrArg₂ (fun a b : EReal => a * b) ((sum_at _ _ _ _ _ _ _ _ t j).trans ?_) rfl)
  have hh := fun i => norm_at (m (c, main_arg0)) (m (c, main_arg1)) t i
  refine congrArg₂ (fun a b : EReal => a + b) (congrArg₂ (fun a b : EReal => a + b) (congrArg₂ (fun a b : EReal => a + b) ?_ ?_) ?_) ?_
  · exact congrArg₂ (fun a b : EReal => a * b) ((gate_at _ _ _ 0 _ t j).trans (congrArg (fun h => Rows.gate h _ _) (funext hh))) (branch_at _ _ 0 _ t j)
  · exact congrArg₂ (fun a b : EReal => a * b) ((gate_at _ _ _ 1 _ t j).trans (congrArg (fun h => Rows.gate h _ _) (funext hh))) (branch_at _ _ 1 _ t j)
  · exact congrArg₂ (fun a b : EReal => a * b) ((gate_at _ _ _ 2 _ t j).trans (congrArg (fun h => Rows.gate h _ _) (funext hh))) (branch_at _ _ 2 _ t j)
  · exact congrArg₂ (fun a b : EReal => a * b) ((gate_at _ _ _ 3 _ t j).trans (congrArg (fun h => Rows.gate h _ _) (funext hh))) (branch_at _ _ 3 _ t j)

end Cert.Reference3Ideal.Value
end
-- ==== Proof.Merge.lean ====
/- The merge: its kernel computes its reference. -/
module

public import proofs.«01_k».proof.Defs
public import proofs.«01_k».proof.Proof.MergeOut
public import proofs.«01_k».proof.Proof.MergeRef
public import Idealize.ShloMosaic.Adequacy
public import Idealize.ShloMosaic.Init

@[expose] public section
set_option maxRecDepth 16384
noncomputable section
namespace Cert.Proof
open Idealize.ShloMosaic Idealize.ShloMosaic.StableHlo Idealize.SL.Sem

theorem frame_merge_reference : Cert.quiescent_Reference3Ideal := fun m g _ =>
  (θ_run _ _ _).mono (fun r h => ⟨fun c => (h c).2, sem_eq_zero_of_no_sems (by decide) r.2⟩) (Cert.Reference3Ideal.Value.run (F := Ideal) m g)

theorem algebraic_merge : Cert.algebraic_Kernel3Ideal_Reference3Ideal := by
  intro m g m' g' _ hargs
  refine ⟨fun c => Cert.Kernel3Ideal.Value.result m c, ?_, ?_⟩
  · exact (θ_run _ _ _).mono (fun r h c => ⟨(h c).1.trans (Cert.Kernel3Ideal.Value.arr_eq m c), (h c).2⟩) (Cert.Kernel3Ideal.Value.run_blocks (F := Ideal) m g)
  · refine (θ_run _ _ _).mono (fun r h c => ⟨(h c).1.trans ?_, (h c).2⟩) (Cert.Reference3Ideal.Value.run (F := Ideal) m' g')
    obtain ⟨h0, h1, h2, h3, h4, h5, h6, h7, h8, h9⟩ := hargs c
    funext y
    obtain ⟨t, k, rfl⟩ : ∃ (t : Fin 65536) (k : Fin 1024), y = ix2 t k := ⟨y 0, y 1, (ix2_eta y).symm⟩
    refine (Cert.Reference3Ideal.Value.refOut_at m' c t k).trans ?_
    rw [h0, h1, h2, h3, h4, h5, h6, h7, h8, h9]
    rfl

end Cert.Proof
end
-- ==== Proof.ProjBody.lean ====
/- The body of the input projections: the normed rows of one block of tokens times the projections' columns, stored in
   chunks of 512 columns and one of 256, and the small columns beside them. -/
module

public import proofs.«01_k».proof.Proof.Gen.Kernel4Ideal.Value
public import proofs.«01_k».proof.Proof.Rows
public import Idealize.ShloMosaic.Lib.Pipeline.ValueKit
public import Idealize.ShloMosaic.Lib.Pipeline.ReadBack
public import Idealize.ShloMosaic.Lib.StableHlo.ReadAt

@[expose] public section
set_option maxRecDepth 16384
noncomputable section
namespace Cert.Kernel4Ideal.Value
open Cert.Kernel4Ideal Cert.Kernel4Ideal.Gen Idealize.ShloMosaic Idealize.ShloMosaic.TcCoe Idealize.SL.Sem
open Idealize.ShloMosaic.Pipeline (Dat)
open Idealize.ShloMosaic.Tactic

theorem norm_at (x : Vec Ideal S512x1024 .f32) (g : Vec Ideal S1x1024 .f32) (r : Fin 512) (k : Fin 1024) :
    (k0_pay5 x g (ix2 r k) : EReal) = Rows.norm (fun j => x (ix2 r j)) (fun j => g (ix2 0 j)) k := by
  pointwise [k0_pay5]
  rfl

theorem chunk_at (h : FVec Ideal S512x1024 .bf16) (w : Vec Ideal S1024x5888 .bf16) (off : ℕ)
    (inb : ∀ a, (![0, off] : Fin 2 → ℕ) a + S1024x512.size a ≤ S1024x5888.size a) (r l : Fin 512) (y : Fin 5888) (hy : y.val = off + l.val) :
    (k0_pay1 h (View.ld (Val := Elt Ideal) (e' := .bf16) w (Rect.unit (s := S1024x5888) ![0, off] S1024x512.size inb)) (ix2 r l) : EReal)
      = ∑ j, (h (ix2 r j) : EReal) * (w (ix2 j y) : EReal) := by
  rw [show y = ⟨off + l.val, hy ▸ y.isLt⟩ from Fin.ext hy]
  pointwise [k0_pay1]

theorem tail_at (h : FVec Ideal S512x1024 .bf16) (w : Vec Ideal S1024x5888 .bf16) (off : ℕ)
    (inb : ∀ a, (![0, off] : Fin 2 → ℕ) a + S1024x256.size a ≤ S1024x5888.size a) (r : Fin 512) (l : Fin 256) (y : Fin 5888) (hy : y.val = off + l.val) :
    (k0_pay3 h (View.ld (Val := Elt Ideal) (e' := .bf16) w (Rect.unit (s := S1024x5888) ![0, off] S1024x256.size inb)) (ix2 r l) : EReal)
      = ∑ j, (h (ix2 r j) : EReal) * (w (ix2 j y) : EReal) := by
  rw [show y = ⟨off + l.val, hy ▸ y.isLt⟩ from Fin.ext hy]
  pointwise [k0_pay3]

/-- One column of the projection of one row of the block. -/
def projBlock {n : ℕ} (x : Vec Ideal S512x1024 .f32) (g : Vec Ideal S1x1024 .f32) (w : (⟨2, ![1024, n]⟩ : Shape).Idx → EReal) (r : Fin 512) (k : Fin n) : EReal :=
  Rows.proj (fun j => x (ix2 r j)) (fun j => g (ix2 0 j)) (fun j => w (ix2 j k))

theorem chunk (x : Vec Ideal S512x1024 .f32) (g : Vec Ideal S1x1024 .f32) (w : Vec Ideal S1024x5888 .bf16) (off : ℕ)
    (inb : ∀ a, (![0, off] : Fin 2 → ℕ) a + S1024x512.size a ≤ S1024x5888.size a) (z : S512x512.Idx) (r : Fin 512) (y : Fin 5888)
    (hr : r.val = (z 0).val) (hy : y.val = off + (z 1).val) :
    (k0_pay1 (k0_pay5 x g) (View.ld (Val := Elt Ideal) (e' := .bf16) w (Rect.unit (s := S1024x5888) ![0, off] S1024x512.size inb)) z : EReal)
      = projBlock (n := 5888) x g w r y := by
  rw [← ix2_eta z]
  refine (chunk_at _ w off inb _ _ y hy).trans ?_
  rw [show r = z 0 from Fin.ext hr]
  exact Finset.sum_congr rfl fun j _ => congrArg₂ (fun a b : EReal => a * b) (norm_at x g _ j) rfl

theorem tail (x : Vec Ideal S512x1024 .f32) (g : Vec Ideal S1x1024 .f32) (w : Vec Ideal S1024x5888 .bf16) (off : ℕ)
    (inb : ∀ a, (![0, off] : Fin 2 → ℕ) a + S1024x256.size a ≤ S1024x5888.size a) (z : S512x256.Idx) (r : Fin 512) (y : Fin 5888)
    (hr : r.val = (z 0).val) (hy : y.val = off + (z 1).val) :
    (k0_pay3 (k0_pay5 x g) (View.ld (Val := Elt Ideal) (e' := .bf16) w (Rect.unit (s := S1024x5888) ![0, off] S1024x256.size inb)) z : EReal)
      = projBlock (n := 5888) x g w r y := by
  rw [← ix2_eta z]
  refine (tail_at _ w off inb _ _ y hy).trans ?_
  rw [show r = z 0 from Fin.ext hr]
  exact Finset.sum_congr rfl fun j _ => congrArg₂ (fun a b : EReal => a * b) (norm_at x g _ j) rfl

theorem small_at (h : FVec Ideal S512x1024 .bf16) (w : Vec Ideal S1024x128 .bf16) (r : Fin 512) (l : Fin 128) :
    (k0_pay4 h w (ix2 r l) : EReal) = ∑ j, (h (ix2 r j) : EReal) * (w (ix2 j l) : EReal) := by
  pointwise [k0_pay4]

set_option maxHeartbeats 4000000 in
theorem main_eq (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x5888 .bf16) (harg3 : arg3.IsWhole) (arg4 : Memref sig .tc .vmem S1024x128 .bf16) (harg4 : arg4.IsWhole) (arg5 : Memref sig .tc .vmem S512x5888 .bf16) (harg5 : arg5.IsWhole) (arg6 : Memref sig .tc .vmem S512x128 .f32) (harg6 : arg6.IsWhole)
    (x0 : Vec Ideal S512x1024 .f32) (x1 : Vec Ideal S1x1024 .f32) (x2 : Vec Ideal S1024x5888 .bf16) (x3 : Vec Ideal S1024x128 .bf16) (y : S512x5888.Idx) :
    (out0_A_4 c i arg1 harg1 arg2 harg2 arg3 harg3 arg4 harg4 arg5 harg5 arg6 harg6 x0 x1 x2 x3 y : EReal) = projBlock (n := 5888) x0 x1 x2 (y 0) (y 1) := by
  frame_open
  frame_out
  canon_tiles z h using (View.cover_of_tiledBy _ ![512, 256] (by sl_kernel_rfl) y)
  · exact tail x0 x1 x2 5632 inb_S1024x5888_S1024x256_0_5632 z _ _ (by simpa using h0) h1
  · exact chunk x0 x1 x2 5120 inb_S1024x5888_S1024x512_0_5120 z _ _ (by simpa using h0) h1
  · exact chunk x0 x1 x2 4608 inb_S1024x5888_S1024x512_0_4608 z _ _ (by simpa using h0) h1
  · exact chunk x0 x1 x2 4096 inb_S1024x5888_S1024x512_0_4096 z _ _ (by simpa using h0) h1
  · exact chunk x0 x1 x2 3584 inb_S1024x5888_S1024x512_0_3584 z _ _ (by simpa using h0) h1
  · exact chunk x0 x1 x2 3072 inb_S1024x5888_S1024x512_0_3072 z _ _ (by simpa using h0) h1
  · exact chunk x0 x1 x2 2560 inb_S1024x5888_S1024x512_0_2560 z _ _ (by simpa using h0) h1
  · exact chunk x0 x1 x2 2048 inb_S1024x5888_S1024x512_0_2048 z _ _ (by simpa using h0) h1
  · exact chunk x0 x1 x2 1536 inb_S1024x5888_S1024x512_0_1536 z _ _ (by simpa using h0) h1
  · exact chunk x0 x1 x2 1024 inb_S1024x5888_S1024x512_0_1024 z _ _ (by simpa using h0) h1
  · exact chunk x0 x1 x2 512 inb_S1024x5888_S1024x512_0_512 z _ _ (by simpa using h0) h1
  · exact chunk x0 x1 x2 0 inb_S1024x5888_S1024x512_0_0 z _ _ (by simpa using h0) (by simpa using h1)

theorem small_eq (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x5888 .bf16) (harg3 : arg3.IsWhole) (arg4 : Memref sig .tc .vmem S1024x128 .bf16) (harg4 : arg4.IsWhole) (arg5 : Memref sig .tc .vmem S512x5888 .bf16) (harg5 : arg5.IsWhole) (arg6 : Memref sig .tc .vmem S512x128 .f32) (harg6 : arg6.IsWhole)
    (x0 : Vec Ideal S512x1024 .f32) (x1 : Vec Ideal S1x1024 .f32) (x2 : Vec Ideal S1024x5888 .bf16) (x3 : Vec Ideal S1024x128 .bf16) (y : S512x128.Idx) :
    (out0_A_5 c i arg1 harg1 arg2 harg2 arg3 harg3 arg4 harg4 arg5 harg5 arg6 harg6 x0 x1 x2 x3 y : EReal) = projBlock (n := 128) x0 x1 x3 (y 0) (y 1) := by
  frame_open
  frame_out
  rw [← ix2_eta y]
  refine (small_at _ x3 _ _).trans ?_
  exact Finset.sum_congr rfl fun j _ => congrArg₂ (fun a b : EReal => a * b) (norm_at x0 x1 _ j) rfl

end Cert.Kernel4Ideal.Value
end
-- ==== Proof.ProjOut.lean ====
/- The input projections' two results, read at every token and column. -/
module

public import proofs.«01_k».proof.Proof.ProjBody

@[expose] public section
set_option maxRecDepth 16384
noncomputable section
namespace Cert.Kernel4Ideal.Value
open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

theorem index0 : ∀ t : Fin cfg0.N, win0_0.index t = ![(grid0.coords t 0 : ℕ), 0] := by decide +kernel
theorem index1 : ∀ t : Fin cfg0.N, win0_1.index t = ![0, 0] := by decide +kernel
theorem index2 : ∀ t : Fin cfg0.N, win0_2.index t = ![0, 0] := by decide +kernel
theorem index3 : ∀ t : Fin cfg0.N, win0_3.index t = ![0, 0] := by decide +kernel
theorem index4 : ∀ t : Fin cfg0.N, win0_4.index t = ![(grid0.coords t 0 : ℕ), 0] := by decide +kernel
theorem index5 : ∀ t : Fin cfg0.N, win0_5.index t = ![(grid0.coords t 0 : ℕ), 0] := by decide +kernel
theorem coord_lt (t : Fin cfg0.N) : (grid0.coords t 0 : ℕ) < 128 := (grid0.coords t 0).isLt

/-- The token of row `r` of the block of grid point `t`. -/
def token (t : Fin cfg0.N) (r : Fin 512) : Fin 65536 := ⟨(grid0.coords t 0 : ℕ) * 512 + r.val, by have := coord_lt t; omega⟩

theorem b0 (c : Dev nD) (t : Fin cfg0.N) (r : Fin 512) (k : Fin 1024) : (iblk m c 0 t (ix2 r k) : EReal) = m (c, main_arg0) (ix2 (token t r) k) := by
  unfold iblk
  blk_simp
  rw [V_main_arg0]
  refine congrArg _ ?_
  blk_ext [index0 t]
  rfl
theorem b1 (c : Dev nD) (t : Fin cfg0.N) (k : Fin 1024) : (iblk m c 1 t (ix2 0 k) : EReal) = m (c, main_arg1) (ix1 k) := by
  have h : (iblk m c 1 t (ix2 0 k) : EReal) = V m c main_v11 (ix2 0 k) := by
    unfold iblk
    blk_simp
    refine congrArg (V m c main_v11) ?_
    blk_ext [index1 t]
  rw [h]
  unfold V hostOps0
  after_reads_at
theorem w_main (c : Dev nD) : V m c main_v5 = (truncf .bf16 (concatenate S1024x5888 1 [⟨S1024x2560, extractStridedSlice S1024x2560 ![0, 0] (m (c, main_arg2)) slices_S1024x5920_S1024x2560_0_0⟩, ⟨S1024x2048, extractStridedSlice S1024x2048 ![0, 2832] (m (c, main_arg2)) slices_S1024x5920_S1024x2048_0_2832⟩, ⟨S1024x1024, extractStridedSlice S1024x1024 ![0, 4896] (m (c, main_arg2)) slices_S1024x5920_S1024x1024_0_4896⟩, ⟨S1024x256, extractStridedSlice S1024x256 ![0, 2560] (m (c, main_arg2)) slices_S1024x5920_S1024x256_0_2560⟩] concatenates_S1024x2560_S1024x2048_S1024x1024_S1024x256_S1024x5888_d1) bitsLt_bf16_f32 : FVec Ideal S1024x5888 .bf16) := by
  unfold V hostOps0
  after_results_simp <;> rfl
theorem w_small (c : Dev nD) : V m c main_v10 = (truncf .bf16 (concatenate S1024x128 1 [⟨S1024x16, extractStridedSlice S1024x16 ![0, 2816] (m (c, main_arg2)) slices_S1024x5920_S1024x16_0_2816⟩, ⟨S1024x16, extractStridedSlice S1024x16 ![0, 4880] (m (c, main_arg2)) slices_S1024x5920_S1024x16_0_4880⟩, ⟨S1024x96, broadcastInDim S1024x96 ![] bcast_S_S1024x96 (constant S_ .f32 0x00000000#32)⟩] concatenates_S1024x16_S1024x16_S1024x96_S1024x128_d1) bitsLt_bf16_f32 : FVec Ideal S1024x128 .bf16) := by
  unfold V hostOps0
  after_results_simp <;> rfl

/-- The main weights' columns, and the small ones', of an array of all. -/
theorem w_main_at (w : FVec Ideal S1024x5920 .f32) (j : Fin 1024) (k : Fin 5888) : ((truncf .bf16 (concatenate S1024x5888 1 [⟨S1024x2560, extractStridedSlice S1024x2560 ![0, 0] w slices_S1024x5920_S1024x2560_0_0⟩, ⟨S1024x2048, extractStridedSlice S1024x2048 ![0, 2832] w slices_S1024x5920_S1024x2048_0_2832⟩, ⟨S1024x1024, extractStridedSlice S1024x1024 ![0, 4896] w slices_S1024x5920_S1024x1024_0_4896⟩, ⟨S1024x256, extractStridedSlice S1024x256 ![0, 2560] w slices_S1024x5920_S1024x256_0_2560⟩] concatenates_S1024x2560_S1024x2048_S1024x1024_S1024x256_S1024x5888_d1) bitsLt_bf16_f32 : FVec Ideal S1024x5888 .bf16) (ix2 j k) : EReal)
    = w (ix2 j (Rows.column k)) := by
  pointwise
  split_ifs <;> refine congrArg (fun q => w (ix2 j q)) (Fin.ext ?_) <;> rw [Rows.column_val] <;> dsimp only <;> split_ifs <;> omega
theorem w_small_at (w : FVec Ideal S1024x5920 .f32) (j : Fin 1024) (k : Fin 128) : ((truncf .bf16 (concatenate S1024x128 1 [⟨S1024x16, extractStridedSlice S1024x16 ![0, 2816] w slices_S1024x5920_S1024x16_0_2816⟩, ⟨S1024x16, extractStridedSlice S1024x16 ![0, 4880] w slices_S1024x5920_S1024x16_0_4880⟩, ⟨S1024x96, broadcastInDim S1024x96 ![] bcast_S_S1024x96 (constant S_ .f32 0x00000000#32)⟩] concatenates_S1024x16_S1024x16_S1024x96_S1024x128_d1) bitsLt_bf16_f32 : FVec Ideal S1024x128 .bf16) (ix2 j k) : EReal)
    = Rows.smallW (fun j k => w (ix2 j k)) j k := by
  pointwise
  unfold Rows.smallW
  by_cases h : k.val < 16
  · rw [dif_pos h, dif_pos h]
  · rw [dif_neg h, dif_neg h]
    by_cases h' : k.val < 32
    · rw [dif_pos (by omega), dif_pos h']
      exact congrArg (fun q => w (ix2 j q)) (Fin.ext (by dsimp only; omega))
    · rw [dif_neg (by omega), dif_neg h']

theorem b2 (c : Dev nD) (t : Fin cfg0.N) (j : Fin 1024) (k : Fin 5888) : (iblk m c 2 t (ix2 j k) : EReal) = m (c, main_arg2) (ix2 j (Rows.column k)) := by
  have h : (iblk m c 2 t (ix2 j k) : EReal) = V m c main_v5 (ix2 j k) := by
    unfold iblk
    blk_simp
    refine congrArg (V m c main_v5) ?_
    blk_ext [index2 t]
  rw [h, w_main]
  exact w_main_at _ j k
theorem b3 (c : Dev nD) (t : Fin cfg0.N) (j : Fin 1024) (k : Fin 128) : (iblk m c 3 t (ix2 j k) : EReal)
    = Rows.smallW (fun j k => m (c, main_arg2) (ix2 j k)) j k := by
  have h : (iblk m c 3 t (ix2 j k) : EReal) = V m c main_v10 (ix2 j k) := by
    unfold iblk
    blk_simp
    refine congrArg (V m c main_v10) ?_
    blk_ext [index3 t]
  rw [h, w_small]
  exact w_small_at _ j k

/-- The kernel's two results. -/
def resultMain (c : Dev nD) : S65536x5888.Idx → EReal := fun y =>
  Rows.proj (fun j => m (c, main_arg0) (ix2 (y 0) j)) (fun j => m (c, main_arg1) (ix1 j)) (fun j => m (c, main_arg2) (ix2 j (Rows.column (y 1))))
def resultSmall (c : Dev nD) : S65536x128.Idx → EReal := fun y =>
  Rows.smallCol (fun j => m (c, main_arg0) (ix2 (y 0) j)) (fun j => m (c, main_arg1) (ix1 j)) (fun j k => m (c, main_arg2) (ix2 j k)) (y 1)

theorem arr_main (c : Dev nD) : (dats m 0 c).arrAt 4 cfg0.N = resultMain m c := by
  refine (dats m 0 c).arrAt_eq_of_covers 4 _ (by decide +kernel) fun t hf y => ?_
  have hA := congrFun (flushed4_A m c t) y
  obtain ⟨r, k, rfl⟩ : ∃ (r : Fin 512) (k : Fin 5888), y = ix2 r k := ⟨y 0, y 1, (ix2_eta y).symm⟩
  refine (hA.trans (main_eq c (grid0.coords t) (ms0_0 t) (hs0_0 t) (ms0_1 t) (hs0_1 t) (ms0_2 t) (hs0_2 t) (ms0_3 t) (hs0_3 t) (ms0_4 t) (hs0_4 t) (ms0_5 t) (hs0_5 t)
    (iblk m c 0 t) (iblk m c 1 t) (iblk m c 2 t) (iblk m c 3 t) (ix2 r k))).trans ?_
  show projBlock (n := 5888) (iblk m c 0 t) (iblk m c 1 t) (iblk m c 2 t) r k = _
  unfold projBlock
  simp only [b0, b1, b2]
  refine congrArg (resultMain m c) (a₁ := ix2 (token t r) k) ?_
  funext a
  refine Fin.ext ?_
  match a with
  | ⟨0, _⟩ => blk_simp [index4 t]; rfl
  | ⟨1, _⟩ => blk_simp [index4 t]

theorem arr_small (c : Dev nD) : (dats m 0 c).arrAt 5 cfg0.N = resultSmall m c := by
  refine (dats m 0 c).arrAt_eq_of_covers 5 _ (by decide +kernel) fun t hf y => ?_
  have hA := congrFun (flushed5_A m c t) y
  obtain ⟨r, k, rfl⟩ : ∃ (r : Fin 512) (k : Fin 128), y = ix2 r k := ⟨y 0, y 1, (ix2_eta y).symm⟩
  refine (hA.trans (small_eq c (grid0.coords t) (ms0_0 t) (hs0_0 t) (ms0_1 t) (hs0_1 t) (ms0_2 t) (hs0_2 t) (ms0_3 t) (hs0_3 t) (ms0_4 t) (hs0_4 t) (ms0_5 t) (hs0_5 t)
    (iblk m c 0 t) (iblk m c 1 t) (iblk m c 2 t) (iblk m c 3 t) (ix2 r k))).trans ?_
  show projBlock (n := 128) (iblk m c 0 t) (iblk m c 1 t) (iblk m c 3 t) r k = _
  unfold projBlock
  simp only [b0, b1, b3, Rows.proj_smallW]
  refine congrArg (resultSmall m c) (a₁ := ix2 (token t r) k) ?_
  funext a
  refine Fin.ext ?_
  match a with
  | ⟨0, _⟩ => blk_simp [index5 t]; rfl
  | ⟨1, _⟩ => blk_simp [index5 t]

end Cert.Kernel4Ideal.Value
end
-- ==== Proof.ProjRef.lean ====
/- The reference of the input projections, its two results read at every token and column. -/
module

public import proofs.«01_k».proof.Proof.Gen.Reference4Ideal.Run
public import proofs.«01_k».proof.Proof.MergeRef

@[expose] public section
set_option maxRecDepth 16384
noncomputable section
namespace Cert.Reference4Ideal.Value
open Cert.Reference4Ideal Cert.Reference4Ideal.Gen Idealize.ShloMosaic Idealize.ShloMosaic.TcCoe Idealize.SL.Sem Idealize.ShloMosaic.StableHlo

theorem dot_at (h : FVec Ideal S65536x1024 .f32) (w : FVec Ideal S1024x5920 .f32) (t : Fin 65536) (k : Fin 5920) :
    (Host.dotGeneral dot_S65536x1024_S1024x5920_S65536x5920_1_0_0_1_n_n none h w : FVec Ideal S65536x5920 .f32) (ix2 t k)
      = ∑ j : Fin 1024, (h (ix2 t j) : EReal) * (w (ix2 j k) : EReal) := by
  pointwise

/-- All the projections. -/
def projAll (x : FVec Ideal S65536x1024 .f32) (g : FVec Ideal S1024 .f32) (w : FVec Ideal S1024x5920 .f32) : FVec Ideal S65536x5920 .f32 :=
  Host.dotGeneral dot_S65536x1024_S1024x5920_S65536x5920_1_0_0_1_n_n none (mulf (mulf x (broadcastInDim S65536x1024 ![0, 1] bcast_S65536x1_S65536x1024_0_1 (Host.rsqrt (addf (Host.divf (broadcastInDim S65536x1 ![0] bcast_S65536_S65536x1_0 (Host.reduceAdd (mulf x x) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 g))) w

theorem projAll_at (x : FVec Ideal S65536x1024 .f32) (g : FVec Ideal S1024 .f32) (w : FVec Ideal S1024x5920 .f32) (t : Fin 65536) (k : Fin 5920) :
    (projAll x g w (ix2 t k) : EReal) = Rows.proj (fun j => x (ix2 t j)) (fun j => g (ix1 j)) (fun j => w (ix2 j k)) :=
  (dot_at _ _ t k).trans (Finset.sum_congr rfl fun j _ => congrArg₂ (fun a b : EReal => a * b) (Cert.Reference3Ideal.Value.norm_at x g t j) rfl)

theorem main_at (p : FVec Ideal S65536x5920 .f32) (t : Fin 65536) (k : Fin 5888) :
    (truncf .bf16 ((concatenate S65536x5888 1 [⟨S65536x1536, ((extractStridedSlice S65536x1536 ![0, 0] p slices_S65536x5920_S65536x1536_0_0) : (⟨S65536x1536, .f32⟩ : BufTy).Contents (Elt Ideal))⟩, ⟨S65536x1024, ((extractStridedSlice S65536x1024 ![0, 1536] p slices_S65536x5920_S65536x1024_0_1536) : (⟨S65536x1024, .f32⟩ : BufTy).Contents (Elt Ideal))⟩, ⟨S65536x2048, ((extractStridedSlice S65536x2048 ![0, 2832] p slices_S65536x5920_S65536x2048_0_2832) : (⟨S65536x2048, .f32⟩ : BufTy).Contents (Elt Ideal))⟩, ⟨S65536x1024, ((extractStridedSlice S65536x1024 ![0, 4896] p slices_S65536x5920_S65536x1024_0_4896) : (⟨S65536x1024, .f32⟩ : BufTy).Contents (Elt Ideal))⟩, ⟨S65536x256, ((extractStridedSlice S65536x256 ![0, 2560] p slices_S65536x5920_S65536x256_0_2560) : (⟨S65536x256, .f32⟩ : BufTy).Contents (Elt Ideal))⟩] concatenates_S65536x1536_S65536x1024_S65536x2048_S65536x1024_S65536x256_S65536x5888_d1 : (⟨S65536x5888, .f32⟩ : BufTy).Contents (Elt Ideal))) bitsLt_bf16_f32 : FVec Ideal S65536x5888 .bf16) (ix2 t k) = p (ix2 t (Rows.column k)) := by
  pointwise
  split_ifs <;> refine congrArg (fun q => p (ix2 t q)) (Fin.ext ?_) <;> rw [Rows.column_val] <;> dsimp only <;> split_ifs <;> omega

/-- The small result of all the projections. -/
def small (p : FVec Ideal S65536x5920 .f32) : FVec Ideal S65536x128 .f32 :=
  pad S65536x128 ![0, 0] ![0, 96] ![0, 0] (concatenate S65536x32 1 [⟨S65536x16, (extractStridedSlice S65536x16 ![0, 2816] p slices_S65536x5920_S65536x16_0_2816)⟩, ⟨S65536x16, (extractStridedSlice S65536x16 ![0, 4880] p slices_S65536x5920_S65536x16_0_4880)⟩] concatenates_S65536x16_S65536x16_S65536x32_d1) (sitofp .f32 (constantI S_ 32 0#32)) pads_S65536x32_S65536x128_000_0960 h_S_

theorem small_at (p : FVec Ideal S65536x5920 .f32) (t : Fin 65536) (k : Fin 128) :
    (small p (ix2 t k) : EReal) = if h : k.val < 16 then p (ix2 t ⟨2816 + k.val, by omega⟩) else if h' : k.val < 32 then p (ix2 t ⟨4864 + k.val, by omega⟩) else 0 := by
  pointwise [small]
  have z : (FloatOps.sitofp FTy.f32 0#32 : Ideal .f32) = (0 : EReal) := by
    simp [FloatOps.sitofp]
  by_cases h : k.val < 16
  · rw [dif_pos (by omega), dif_pos h, dif_pos h]
  · rw [dif_neg h]
    by_cases h' : k.val < 32
    · rw [dif_pos h', dif_neg h, dif_pos h']
      exact congrArg (fun q => p (ix2 t q)) (Fin.ext (by dsimp only; omega))
    · rw [dif_neg h', dif_neg h', z]

variable (m : (ℓ : Loc nD τ sig) → Buf (Elt Ideal) ℓ)

/-- … of the arrays launched. -/
def proj (c : Dev nD) : FVec Ideal S65536x5920 .f32 := projAll (m (c, main_arg0)) (m (c, main_arg1)) (m (c, main_arg2))

theorem refMain_at (c : Dev nD) (t : Fin 65536) (k : Fin 5888) :
    (res_main_v22 m c (ix2 t k) : EReal) = Rows.proj (fun j => m (c, main_arg0) (ix2 t j)) (fun j => m (c, main_arg1) (ix1 j)) (fun j => m (c, main_arg2) (ix2 j (Rows.column k))) := by
  unfold res_main_v22
  exact (main_at (proj m c) t k).trans (projAll_at _ _ _ t _)

theorem refSmall_at (c : Dev nD) (t : Fin 65536) (k : Fin 128) :
    (small (proj m c) (ix2 t k) : EReal) = Rows.smallCol (fun j => m (c, main_arg0) (ix2 t j)) (fun j => m (c, main_arg1) (ix1 j)) (fun j k => m (c, main_arg2) (ix2 j k)) k := by
  unfold proj
  rw [small_at]
  unfold Rows.smallCol
  simp only [projAll_at]

end Cert.Reference4Ideal.Value
end
-- ==== Proof.Projections.lean ====
/- The input projections: their kernel computes their reference. -/
module

public import proofs.«01_k».proof.Defs
public import proofs.«01_k».proof.Proof.ProjOut
public import proofs.«01_k».proof.Proof.ProjRef
public import Idealize.ShloMosaic.Adequacy
public import Idealize.ShloMosaic.Init

@[expose] public section
set_option maxRecDepth 16384
noncomputable section
namespace Cert.Proof
open Idealize.ShloMosaic Idealize.ShloMosaic.StableHlo Idealize.SL.Sem

theorem frame_projections_reference : Cert.quiescent_Reference4Ideal := fun m g _ =>
  (θ_run _ _ _).mono (fun r h => ⟨fun c => (h c).2.2, sem_eq_zero_of_no_sems (by decide) r.2⟩) (Cert.Reference4Ideal.Value.run (F := Ideal) m g)

theorem algebraic_projections : Cert.algebraic_Kernel4Ideal_Reference4Ideal := by
  intro m g m' g' _ hargs
  refine ⟨fun c => Cert.Kernel4Ideal.Value.resultMain m c, fun c => Cert.Kernel4Ideal.Value.resultSmall m c, ?_, ?_⟩
  · exact (θ_run _ _ _).mono (fun r h c => ⟨(h c).1.trans (Cert.Kernel4Ideal.Value.arr_main m c), (h c).2.1.trans (Cert.Kernel4Ideal.Value.arr_small m c), (h c).2.2⟩)
      (Cert.Kernel4Ideal.Value.run_blocks (F := Ideal) m g)
  · refine (θ_run _ _ _).mono (fun r h c => ⟨(h c).1.trans ?_, (h c).2.1.trans ?_, (h c).2.2⟩) (Cert.Reference4Ideal.Value.run (F := Ideal) m' g')
    · obtain ⟨h0, h1, h2⟩ := hargs c
      funext y
      obtain ⟨t, k, rfl⟩ : ∃ (t : Fin 65536) (k : Fin 5888), y = ix2 t k := ⟨y 0, y 1, (ix2_eta y).symm⟩
      refine (Cert.Reference4Ideal.Value.refMain_at m' c t k).trans ?_
      rw [h0, h1, h2]
      rfl
    · obtain ⟨h0, h1, h2⟩ := hargs c
      funext y
      obtain ⟨t, k, rfl⟩ : ∃ (t : Fin 65536) (k : Fin 128), y = ix2 t k := ⟨y 0, y 1, (ix2_eta y).symm⟩
      refine (Cert.Reference4Ideal.Value.refSmall_at m' c t k).trans ?_
      rw [h0, h1, h2]
      rfl

end Cert.Proof
end
-- ==== Proof.SguRows.lean ====
/- The spatial gating of one token, as formulas over the extended reals: what its kernel and its reference are both
   compared to. -/
module

public import proofs.«01_k».proof.Proof.FfnRows

@[expose] public section
noncomputable section
namespace Cert.Rows
open Idealize.ShloMosaic

/-- The root-mean-square norm of a row of 512 features, times its gain. -/
def norm512 (x g : Fin 512 → EReal) (k : Fin 512) : EReal :=
  x k * Ideal.rsqrt (Ideal.div (∑ j, x j * x j) (Ideal.ofBits FTy.f32 0x44000000#32) + Ideal.ofBits FTy.f32 0x358637BD#32) * g k

/-- A token's gated features: its unit row times the mix, over the 128 tokens `v` of its chunk, of their normed unit
    rows, with one row of mixing weights and one bias for each group of 128 features. -/
def gated (u : Fin 512 → EReal) (v : Fin 128 → Fin 512 → EReal) (g : Fin 512 → EReal) (w : Fin 4 → Fin 128 → EReal) (b : Fin 4 → EReal) (k : Fin 512) : EReal :=
  gelu (u k) * ((∑ s, w ⟨k.val / 128, by omega⟩ s * norm512 (fun j => gelu (v s j)) g k) + b ⟨k.val / 128, by omega⟩)

/-- Token `s` of the chunk that token `t` lies in. -/
def inChunk (t : Fin 65536) (s : Fin 128) : Fin 65536 := ⟨128 * (t.val / 128) + s.val, by omega⟩

/-- The spatial gating at token `t` and feature `k`. -/
def sgu (u v : Fin 65536 → Fin 512 → EReal) (g : Fin 512 → EReal) (w : Fin 4 → Fin 128 → Fin 128 → EReal) (b : Fin 4 → Fin 128 → EReal)
    (t : Fin 65536) (k : Fin 512) : EReal :=
  gated (u t) (fun s => v (inChunk t s)) g (fun i => w i ⟨t.val % 128, by omega⟩) (fun i => b i ⟨t.val % 128, by omega⟩) k

end Cert.Rows
end
-- ==== Proof.SguBody.lean ====
/- The body of the spatial gating: four chunks of 128 tokens, each of which mixes its rows within four groups of features. -/
module

public import proofs.«01_k».proof.Proof.Gen.Kernel5Ideal.Value
public import proofs.«01_k».proof.Proof.SguRows
public import Idealize.ShloMosaic.Lib.Pipeline.ValueKit
public import Idealize.ShloMosaic.Lib.Pipeline.ReadBack
public import Idealize.ShloMosaic.Lib.StableHlo.ReadAt

@[expose] public section
set_option maxRecDepth 16384
noncomputable section
namespace Cert.Kernel5Ideal.Value
open Cert.Kernel5Ideal Cert.Kernel5Ideal.Gen Idealize.ShloMosaic Idealize.ShloMosaic.TcCoe Idealize.SL.Sem
open Idealize.ShloMosaic.Pipeline (Dat)
open Idealize.ShloMosaic.Tactic

theorem unit_at (x : Vec Ideal S512x512 .bf16) (r k : Fin 512) : (k0_pay2 x (ix2 r k) : EReal) = Rows.gelu (x (ix2 r k)) := by
  pointwise [k0_pay2]
  rfl

theorem normed_at (x : Vec Ideal S512x512 .bf16) (g : Vec Ideal S1x512 .f32) (r k : Fin 512) :
    (k0_pay5 (k0_pay3 x) (k0_pay4 g) (ix2 r k) : EReal) = Rows.norm512 (fun j => Rows.gelu (x (ix2 r j))) (fun j => g (ix2 0 j)) k := by
  pointwise [k0_pay5, k0_pay4, k0_pay3]
  rfl

/-- The mix of group `i` in the chunk that begins at row `R`, from the group's weights and bias column. -/
def mix (h : FVec Ideal S512x512 .bf16) (w : FVec Ideal S1x128x128 .bf16) (b : FVec Ideal S128x1 .f32) (R q : ℕ) (hs : S512x512.Slices ![R, q] S128x128) :
    FVec Ideal S128x128 .f32 :=
  addf (matmul dot_S128x128_S128x128_S128x128_1_0_0_1_n_n none (shapeCast S128x128 w shapeCasts_S1x128x128_S128x128)
      (extractStridedSlice S128x128 ![R, q] h hs) (constant S128x128 .f32 0x00000000#32))
    (broadcastTo S128x128 (shapeCast S128x1 b shapeCasts_S128x1_S128x1) broadcasts_S128x1_S128x128)

theorem mix_at (h : FVec Ideal S512x512 .bf16) (w : FVec Ideal S1x128x128 .bf16) (b : FVec Ideal S128x1 .f32) (R q : ℕ) (hR : R + 128 ≤ 512) (hq : q + 128 ≤ 512)
    (hs : S512x512.Slices ![R, q] S128x128) (r l : Fin 128) :
    (mix h w b R q hs (ix2 r l) : EReal) = (∑ s : Fin 128, (w (ix3 0 r s) : EReal) * (h (ix2 ⟨R + s.val, by omega⟩ ⟨q + l.val, by omega⟩) : EReal)) + (b (ix2 r 0) : EReal) := by
  pointwise [mix]

theorem ld_w (w : Vec Ideal S4x128x128 .bf16) (i : ℕ) (hi : i < 4) (inb : ∀ a, (![i, 0, 0] : Fin 3 → ℕ) a + (![1, 128, 128] : Fin 3 → ℕ) a ≤ S4x128x128.size a) (r s : Fin 128) :
    View.ld (Val := Elt Ideal) (e' := .bf16) w (Rect.unit (s := S4x128x128) ![i, 0, 0] ![1, 128, 128] inb) (ix3 0 r s) = w (ix3 ⟨i, hi⟩ r s) := by
  pointwise

theorem ld_b (b : Vec Ideal S128x128 .f32) (i : ℕ) (hi : i < 128) (inb : ∀ a, (![0, i] : Fin 2 → ℕ) a + (![128, 1] : Fin 2 → ℕ) a ≤ S128x128.size a) (r : Fin 128) :
    View.ld (Val := Elt Ideal) (e' := .f32) b (Rect.unit (s := S128x128) ![0, i] ![128, 1] inb) (ix2 r 0) = b (ix2 r ⟨i, hi⟩) := by
  pointwise

/-- What is stored for the chunk that begins at row `R`, from the mixes of its four groups. -/
def stored (u : FVec Ideal S512x512 .f32) (R : ℕ) (hu : S512x512.Slices ![R, 0] S128x512) (a b c d : FVec Ideal S128x128 .f32) : FVec Ideal S128x512 .bf16 :=
  truncf .bf16 (mulf (extractStridedSlice S128x512 ![R, 0] u hu)
    (concatenate S128x512 1 [⟨S128x128, a⟩, ⟨S128x128, b⟩, ⟨S128x128, c⟩, ⟨S128x128, d⟩] concatenates_S128x128_S128x128_S128x128_S128x128_S128x512_d1)) bitsLt_bf16_f32

theorem stored_at (u : FVec Ideal S512x512 .f32) (R : ℕ) (hR : R + 128 ≤ 512) (hu : S512x512.Slices ![R, 0] S128x512) (a b c d : FVec Ideal S128x128 .f32)
    (r : Fin 128) (f : Fin 512 → EReal)
    (ha : ∀ l : Fin 128, (a (ix2 r l) : EReal) = f ⟨0 + l.val, by omega⟩) (hb : ∀ l : Fin 128, (b (ix2 r l) : EReal) = f ⟨128 + l.val, by omega⟩)
    (hc : ∀ l : Fin 128, (c (ix2 r l) : EReal) = f ⟨256 + l.val, by omega⟩) (hd : ∀ l : Fin 128, (d (ix2 r l) : EReal) = f ⟨384 + l.val, by omega⟩) (k : Fin 512) :
    (stored u R hu a b c d (ix2 r k) : EReal) = (u (ix2 ⟨R + r.val, by omega⟩ k) : EReal) * f k := by
  pointwise [stored]
  have e (j : ℕ) (hj : j < 512) (h : j = k.val) : f ⟨j, hj⟩ = f k := congrArg f (Fin.ext h)
  by_cases h0 : k.val < 128
  · rw [dif_pos h0, ha, e _ _ (by show 0 + k.val = k.val; omega)]
  rw [dif_neg h0]
  by_cases h1 : k.val - 128 < 128
  · rw [dif_pos h1, hb, e _ _ (by show 128 + (k.val - 128) = k.val; omega)]
  rw [dif_neg h1]
  by_cases h2 : k.val - 128 - 128 < 128
  · rw [dif_pos h2, hc, e _ _ (by show 256 + (k.val - 128 - 128) = k.val; omega)]
  · rw [dif_neg h2, hd, e _ _ (by show 384 + (k.val - 128 - 128 - 128) = k.val; omega)]

/-- The body's output at row `r` and feature `k` of a block of 512 tokens. -/
def gatedBlock (x0 x1 : Vec Ideal S512x512 .bf16) (x2 : Vec Ideal S1x512 .f32) (x3 : Vec Ideal S4x128x128 .bf16) (x4 : Vec Ideal S128x128 .f32) (r k : Fin 512) : EReal :=
  Rows.gated (fun j => x0 (ix2 r j)) (fun s j => x1 (ix2 ⟨128 * (r.val / 128) + s.val, by omega⟩ j)) (fun j => x2 (ix2 0 j))
    (fun i s => x3 (ix3 i ⟨r.val % 128, by omega⟩ s)) (fun i => x4 (ix2 ⟨r.val % 128, by omega⟩ ⟨i.val, by omega⟩)) k

/-- The mix with its bias at row `r` of the chunk that begins at row `R`. -/
def mixed (x1 : Vec Ideal S512x512 .bf16) (x2 : Vec Ideal S1x512 .f32) (x3 : Vec Ideal S4x128x128 .bf16) (x4 : Vec Ideal S128x128 .f32) (R : ℕ) (hR : R + 128 ≤ 512)
    (r : Fin 128) (k : Fin 512) : EReal :=
  (∑ s : Fin 128, (x3 (ix3 ⟨k.val / 128, by omega⟩ r s) : EReal) * Rows.norm512 (fun j => Rows.gelu (x1 (ix2 ⟨R + s.val, by omega⟩ j))) (fun j => x2 (ix2 0 j)) k)
    + (x4 (ix2 r ⟨k.val / 128, by omega⟩) : EReal)

/-- One group's mix at row `r` of chunk `c`, at a column of that group. -/
theorem group (x1 : Vec Ideal S512x512 .bf16) (x2 : Vec Ideal S1x512 .f32) (x3 : Vec Ideal S4x128x128 .bf16) (x4 : Vec Ideal S128x128 .f32) (R i q : ℕ)
    (hR : R + 128 ≤ 512) (hi : i < 4) (hq : q = 128 * i) (hs : S512x512.Slices ![R, q] S128x128)
    (hw : ∀ a, (![i, 0, 0] : Fin 3 → ℕ) a + (![1, 128, 128] : Fin 3 → ℕ) a ≤ S4x128x128.size a) (hb : ∀ a, (![0, i] : Fin 2 → ℕ) a + (![128, 1] : Fin 2 → ℕ) a ≤ S128x128.size a)
    (r l : Fin 128) :
    (mix (k0_pay5 (k0_pay3 x1) (k0_pay4 x2)) (View.ld (Val := Elt Ideal) (e' := .bf16) x3 (Rect.unit (s := S4x128x128) ![i, 0, 0] ![1, 128, 128] hw))
      (View.ld (Val := Elt Ideal) (e' := .f32) x4 (Rect.unit (s := S128x128) ![0, i] ![128, 1] hb)) R q hs (ix2 r l) : EReal)
    = mixed x1 x2 x3 x4 R hR r ⟨q + l.val, by omega⟩ := by
  have e : (q + l.val) / 128 = i := by omega
  rw [mix_at _ _ _ R q hR (by omega)]
  simp only [ld_w x3 i hi, ld_b x4 i (by omega), normed_at, mixed, e]

/-- The store of chunk `c`, read at its place in the block. -/
theorem chunk (x0 x1 : Vec Ideal S512x512 .bf16) (x2 : Vec Ideal S1x512 .f32) (x3 : Vec Ideal S4x128x128 .bf16) (x4 : Vec Ideal S128x128 .f32) (R c : ℕ) (hc : c < 4) (hR : R = 128 * c)
    (hu : S512x512.Slices ![R, 0] S128x512) (s0 : S512x512.Slices ![R, 0] S128x128) (s1 : S512x512.Slices ![R, 128] S128x128) (s2 : S512x512.Slices ![R, 256] S128x128)
    (s3 : S512x512.Slices ![R, 384] S128x128) (z : S128x512.Idx) (r k : Fin 512) (h0 : r.val = R + (z 0).val) (h1 : k.val = (z 1).val) :
    (stored (k0_pay2 x0) R hu
      (mix (k0_pay5 (k0_pay3 x1) (k0_pay4 x2)) (View.ld (Val := Elt Ideal) (e' := .bf16) x3 (Rect.unit (s := S4x128x128) ![0, 0, 0] ![1, 128, 128] inb_S4x128x128_S1x128x128_0_0_0))
        (View.ld (Val := Elt Ideal) (e' := .f32) x4 (Rect.unit (s := S128x128) ![0, 0] ![128, 1] inb_S128x128_S128x1_0_0)) R 0 s0)
      (mix (k0_pay5 (k0_pay3 x1) (k0_pay4 x2)) (View.ld (Val := Elt Ideal) (e' := .bf16) x3 (Rect.unit (s := S4x128x128) ![1, 0, 0] ![1, 128, 128] inb_S4x128x128_S1x128x128_1_0_0))
        (View.ld (Val := Elt Ideal) (e' := .f32) x4 (Rect.unit (s := S128x128) ![0, 1] ![128, 1] inb_S128x128_S128x1_0_1)) R 128 s1)
      (mix (k0_pay5 (k0_pay3 x1) (k0_pay4 x2)) (View.ld (Val := Elt Ideal) (e' := .bf16) x3 (Rect.unit (s := S4x128x128) ![2, 0, 0] ![1, 128, 128] inb_S4x128x128_S1x128x128_2_0_0))
        (View.ld (Val := Elt Ideal) (e' := .f32) x4 (Rect.unit (s := S128x128) ![0, 2] ![128, 1] inb_S128x128_S128x1_0_2)) R 256 s2)
      (mix (k0_pay5 (k0_pay3 x1) (k0_pay4 x2)) (View.ld (Val := Elt Ideal) (e' := .bf16) x3 (Rect.unit (s := S4x128x128) ![3, 0, 0] ![1, 128, 128] inb_S4x128x128_S1x128x128_3_0_0))
        (View.ld (Val := Elt Ideal) (e' := .f32) x4 (Rect.unit (s := S128x128) ![0, 3] ![128, 1] inb_S128x128_S128x1_0_3)) R 384 s3) z : EReal)
    = gatedBlock x0 x1 x2 x3 x4 r k := by
  obtain ⟨y, l, rfl⟩ : ∃ (y : Fin 128) (l : Fin 512), z = ix2 y l := ⟨z 0, z 1, (ix2_eta z).symm⟩
  have h0' : r.val = R + y.val := h0
  obtain rfl : k = l := Fin.ext h1
  rw [stored_at _ R (by omega) hu _ _ _ _ y (mixed x1 x2 x3 x4 R (by omega) y) (group x1 x2 x3 x4 R 0 0 (by omega) (by omega) rfl s0 _ _ y) (group x1 x2 x3 x4 R 1 128 (by omega) (by omega) rfl s1 _ _ y)
    (group x1 x2 x3 x4 R 2 256 (by omega) (by omega) rfl s2 _ _ y) (group x1 x2 x3 x4 R 3 384 (by omega) (by omega) rfl s3 _ _ y) k, unit_at]
  have hr : (⟨R + y.val, by omega⟩ : Fin 512) = r := Fin.ext h0'.symm
  have hy : y = ⟨r.val % 128, by omega⟩ := Fin.ext (by show y.val = r.val % 128; omega)
  have hs (s : Fin 128) : (⟨R + s.val, by omega⟩ : Fin 512) = ⟨128 * (r.val / 128) + s.val, by omega⟩ := Fin.ext (by show R + s.val = 128 * (r.val / 128) + s.val; omega)
  unfold mixed gatedBlock Rows.gated
  rw [hr]
  simp only [hs]
  rw [← hy]

open Idealize.ShloMosaic.Tactic in
theorem out_eq (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S1x512 .f32) (harg3 : arg3.IsWhole) (arg4 : Memref sig .tc .vmem S4x128x128 .bf16) (harg4 : arg4.IsWhole) (arg5 : Memref sig .tc .vmem S128x128 .f32) (harg5 : arg5.IsWhole) (arg6 : Memref sig .tc .vmem S512x512 .bf16) (harg6 : arg6.IsWhole)
    (x0 x1 : Vec Ideal S512x512 .bf16) (x2 : Vec Ideal S1x512 .f32) (x3 : Vec Ideal S4x128x128 .bf16) (x4 : Vec Ideal S128x128 .f32) (y : S512x512.Idx) :
    (out0_A_5 c i arg1 harg1 arg2 harg2 arg3 harg3 arg4 harg4 arg5 harg5 arg6 harg6 x0 x1 x2 x3 x4 y : EReal) = gatedBlock x0 x1 x2 x3 x4 (y 0) (y 1) := by
  frame_open
  frame_out
  canon_tiles z h using (View.cover_of_tiledBy _ ![128, 512] (by sl_kernel_rfl) y)
  · exact chunk x0 x1 x2 x3 x4 384 3 (by omega) rfl slices_S512x512_o384_0_S128x512 slices_S512x512_o384_0_S128x128 slices_S512x512_o384_128_S128x128 slices_S512x512_o384_256_S128x128 slices_S512x512_o384_384_S128x128 z _ _ h0 h1
  · exact chunk x0 x1 x2 x3 x4 256 2 (by omega) rfl slices_S512x512_o256_0_S128x512 slices_S512x512_o256_0_S128x128 slices_S512x512_o256_128_S128x128 slices_S512x512_o256_256_S128x128 slices_S512x512_o256_384_S128x128 z _ _ h0 h1
  · exact chunk x0 x1 x2 x3 x4 128 1 (by omega) rfl slices_S512x512_o128_0_S128x512 slices_S512x512_o128_0_S128x128 slices_S512x512_o128_128_S128x128 slices_S512x512_o128_256_S128x128 slices_S512x512_o128_384_S128x128 z _ _ h0 h1
  · exact chunk x0 x1 x2 x3 x4 0 0 (by omega) rfl slices_S512x512_o0_0_S128x512 slices_S512x512_o0_0_S128x128 slices_S512x512_o0_128_S128x128 slices_S512x512_o0_256_S128x128 slices_S512x512_o0_384_S128x128 z _ _ (by simpa using h0) h1

end Cert.Kernel5Ideal.Value
end
-- ==== Proof.SguOut.lean ====
/- The spatial gating's result, read at every token and feature, as a function of the arrays it is launched on. -/
module

public import proofs.«01_k».proof.Proof.SguBody
public import Idealize.ShloMosaic.Lib.Routing.OpsSet
public import Idealize.ShloMosaic.Lib.Routing.OpsPair

@[expose] public section
set_option maxRecDepth 16384
noncomputable section
namespace Cert.Kernel5Ideal.Value
open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ)

theorem index0 : ∀ t : Fin cfg0.N, win0_0.index t = ![(grid0.coords t 0 : ℕ), 9] := by decide +kernel
theorem index1 : ∀ t : Fin cfg0.N, win0_1.index t = ![(grid0.coords t 0 : ℕ), 10] := by decide +kernel
theorem index2 : ∀ t : Fin cfg0.N, win0_2.index t = ![0, 0] := by decide +kernel
theorem index3 : ∀ t : Fin cfg0.N, win0_3.index t = ![0, 0, 0] := by decide +kernel
theorem index4 : ∀ t : Fin cfg0.N, win0_4.index t = ![0, 0] := by decide +kernel
theorem index5 : ∀ t : Fin cfg0.N, win0_5.index t = ![(grid0.coords t 0 : ℕ), 0] := by decide +kernel
theorem coord_lt (t : Fin cfg0.N) : (grid0.coords t 0 : ℕ) < 128 := (grid0.coords t 0).isLt

/-- The token of row `r` of the block of grid point `t`. -/
def token (t : Fin cfg0.N) (r : Fin 512) : Fin 65536 := ⟨(grid0.coords t 0 : ℕ) * 512 + r.val, by have := coord_lt t; omega⟩

theorem b0 (c : Dev nD) (t : Fin cfg0.N) (r k : Fin 512) : (X0_0 m c t (ix2 r k) : EReal) = m (c, main_arg0) (ix2 (token t r) ⟨4608 + k.val, by omega⟩) := by
  unfold X0_0 iblk Pipeline.Window.fill
  rw [dif_pos (moved0_0 t _)]
  blk_simp
  rw [V_main_arg0]
  refine congrArg _ ?_
  blk_ext [index0 t]
  rfl
theorem b1 (c : Dev nD) (t : Fin cfg0.N) (r k : Fin 512) : (X0_1 m c t (ix2 r k) : EReal) = m (c, main_arg0) (ix2 (token t r) ⟨5120 + k.val, by omega⟩) := by
  unfold X0_1 iblk Pipeline.Window.fill
  rw [dif_pos (moved0_1 t _)]
  blk_simp
  rw [V_main_arg0]
  refine congrArg _ ?_
  blk_ext [index1 t]
  rfl
theorem b2 (c : Dev nD) (t : Fin cfg0.N) (k : Fin 512) : (iblk m c 2 t (ix2 0 k) : EReal) = m (c, main_arg1) (ix1 k) := by
  have h : (iblk m c 2 t (ix2 0 k) : EReal) = V m c main_v4 (ix2 0 k) := by
    unfold iblk
    blk_simp
    refine congrArg (V m c main_v4) ?_
    blk_ext [index2 t]
  rw [h]
  unfold V hostOps0
  after_reads_at
theorem b3 (c : Dev nD) (t : Fin cfg0.N) (i : Fin 4) (r s : Fin 128) : (iblk m c 3 t (ix3 i r s) : EReal) = m (c, main_arg2) (ix3 i r s) := by
  have h : (iblk m c 3 t (ix3 i r s) : EReal) = V m c main_v5 (ix3 i r s) := by
    unfold iblk
    blk_simp
    refine congrArg (V m c main_v5) ?_
    blk_ext [index3 t]
  rw [h]
  unfold V hostOps0
  after_reads_at

/-- Element `(a, b)` of the bias columns that the host sets lands at row `a` and column `b`, where the index word is zero. -/
theorem lands (idx : IVec S1 32) (hidx : (idx (ix1 0)).toInt = 0) (a r : Fin 128) (b : Fin 4) (g : Fin 128) :
    scatter_S128x128_S1_S128x4_01_n_1_0.resultIdx? (ix2 a b) idx = some (ix2 r g) ↔ a.val = r.val ∧ b.val = g.val := by
  have hstart0 : scatter_S128x128_S1_S128x4_01_n_1_0.start (ix2 a b) idx 0 = 0 := by
    unfold ScatterDims.start
    exact dif_neg (by decide)
  have hstart1 : scatter_S128x128_S1_S128x4_01_n_1_0.start (ix2 a b) idx 1 = 0 := by
    unfold ScatterDims.start
    rw [dif_pos (by decide)]
    refine (congrArg (fun i => (idx i).toInt) ?_).trans hidx
    funext j
    match j with
    | ⟨0, _⟩ => exact Subsingleton.elim (α := Fin 1) _ _
  have hwin0 : scatter_S128x128_S1_S128x4_01_n_1_0.window (ix2 a b) 0 = a.val := by
    unfold ScatterDims.window
    rw [dif_pos (by decide)]
    rfl
  have hwin1 : scatter_S128x128_S1_S128x4_01_n_1_0.window (ix2 a b) 1 = b.val := by
    unfold ScatterDims.window
    rw [dif_pos (by decide)]
    rfl
  refine (Routing.resultIdx?_ix2 (R := 128) (C := 128) scatter_S128x128_S1_S128x4_01_n_1_0 (ix2 a b) idx r g).trans ?_
  rw [hstart0, hwin0, hstart1, hwin1]
  omega

theorem b4 (c : Dev nD) (t : Fin cfg0.N) (r : Fin 128) (i : Fin 4) : (iblk m c 4 t (ix2 r (⟨i.val, by omega⟩ : Fin 128)) : EReal) = m (c, main_arg3) (ix2 i r) := by
  have h : (iblk m c 4 t (ix2 r (⟨i.val, by omega⟩ : Fin 128)) : EReal) = V m c main_v3 (ix2 r (⟨i.val, by omega⟩ : Fin 128)) := by
    unfold iblk
    blk_simp
    refine congrArg (V m c main_v3) ?_
    blk_ext [index4 t]
  rw [h]
  unfold V hostOps0
  after_reads_at
  have h0 : (broadcastInDim S1 ![] bcast_S_S1 (constantI S_ 32 0#32) (ix1 0)).toInt = 0 := by decide
  refine Routing.scatter_set_hit _ _ _ _ _ _ (fun k hk => ?_) (ix2 r i) ((lands _ h0 r r i _).2 ⟨rfl, rfl⟩)
  obtain ⟨a, b, rfl⟩ : ∃ (a : Fin 128) (b : Fin 4), k = ix2 a b := ⟨k 0, k 1, (ix2_eta k).symm⟩
  obtain ⟨ha, hb⟩ := (lands _ h0 a r b _).1 hk
  obtain rfl : a = r := Fin.ext ha
  obtain rfl : b = i := Fin.ext hb
  pointwise

/-- The kernel's result. -/
def result (c : Dev nD) : S65536x512.Idx → EReal := fun y => Rows.sgu (fun t k => m (c, main_arg0) (ix2 t ⟨4608 + k.val, by omega⟩))
  (fun t k => m (c, main_arg0) (ix2 t ⟨5120 + k.val, by omega⟩)) (fun k => m (c, main_arg1) (ix1 k)) (fun i r s => m (c, main_arg2) (ix3 i r s))
  (fun i r => m (c, main_arg3) (ix2 i r)) (y 0) (y 1)

theorem token_mod (t : Fin cfg0.N) (r : Fin 512) : (token t r).val % 128 = r.val % 128 := by
  show ((grid0.coords t 0 : ℕ) * 512 + r.val) % 128 = r.val % 128
  omega
theorem token_chunk (t : Fin cfg0.N) (r : Fin 512) (s : Fin 128) : token t ⟨128 * (r.val / 128) + s.val, by omega⟩ = Rows.inChunk (token t r) s :=
  Fin.ext (by show (grid0.coords t 0 : ℕ) * 512 + (128 * (r.val / 128) + s.val) = 128 * (((grid0.coords t 0 : ℕ) * 512 + r.val) / 128) + s.val; omega)

theorem arr_eq (c : Dev nD) : (dats m 0 c).arrAt 5 cfg0.N = result m c := by
  refine (dats m 0 c).arrAt_eq_of_covers 5 _ (by decide +kernel) fun t hf y => ?_
  have hA := congrFun (flushed5_A m c t) y
  obtain ⟨r, k, rfl⟩ : ∃ (r k : Fin 512), y = ix2 r k := ⟨y 0, y 1, (ix2_eta y).symm⟩
  refine hA.trans ?_
  refine (out_eq c (grid0.coords t) (ms0_0 t) (hs0_0 t) (ms0_1 t) (hs0_1 t) (ms0_2 t) (hs0_2 t) (ms0_3 t) (hs0_3 t) (ms0_4 t) (hs0_4 t) (ms0_5 t) (hs0_5 t)
    (X0_0 m c t) (X0_1 m c t) (iblk m c 2 t) (iblk m c 3 t) (iblk m c 4 t) (ix2 r k)).trans ?_
  have hb : gatedBlock (X0_0 m c t) (X0_1 m c t) (iblk m c 2 t) (iblk m c 3 t) (iblk m c 4 t) r k = result m c (ix2 (token t r) k) := by
    unfold gatedBlock
    simp only [b0, b1, b2, b3, b4, token_chunk, ← token_mod t r]
    rfl
  refine hb.trans ?_
  refine congrArg (result m c) (a₁ := ix2 (token t r) k) ?_
  funext a
  refine Fin.ext ?_
  match a with
  | ⟨0, _⟩ => blk_simp [index5 t]; rfl
  | ⟨1, _⟩ => blk_simp [index5 t]

end Cert.Kernel5Ideal.Value
end
-- ==== Proof.SguRef.lean ====
/- The spatial gating's reference, read at every token and feature. -/
module

public import proofs.«01_k».proof.Proof.Gen.Reference5Ideal.Run
public import proofs.«01_k».proof.Proof.SguRows

@[expose] public section
set_option maxRecDepth 16384
noncomputable section
namespace Cert.Reference5Ideal.Value
open Cert.Reference5Ideal Cert.Reference5Ideal.Gen Idealize.ShloMosaic Idealize.ShloMosaic.TcCoe Idealize.SL.Sem Idealize.ShloMosaic.StableHlo

theorem unit_at (x : FVec Ideal S65536x512 .f32) (t : Fin 65536) (k : Fin 512) :
    ((mulf x (mulf (broadcastInDim S65536x512 ![] bcast_S_S65536x512 (constant S_ .f32 0x3F000000#32)) (addf (broadcastInDim S65536x512 ![] bcast_S_S65536x512 (constant S_ .f32 0x3F800000#32)) (Host.tanh (mulf (broadcastInDim S65536x512 ![] bcast_S_S65536x512 (constant S_ .f32 0x3F4C422A#32)) (addf x (mulf (broadcastInDim S65536x512 ![] bcast_S_S65536x512 (constant S_ .f32 0x3D372713#32)) (mulf (mulf x x) x)))))))) : FVec Ideal S65536x512 .f32) (ix2 t k) = Rows.gelu (x (ix2 t k)) := by
  pointwise
  rw [← Rows.gelu_eq]

theorem norm_at (x : FVec Ideal S65536x512 .f32) (g : FVec Ideal S512 .f32) (t : Fin 65536) (k : Fin 512) :
    (mulf (mulf x (broadcastInDim S65536x512 ![0, 1] bcast_S65536x1_S65536x512_0_1 (Host.rsqrt (addf (Host.divf (broadcastInDim S65536x1 ![0] bcast_S65536_S65536x1_0 (Host.reduceAdd (mulf x x) (constant S_ .f32 0x00000000#32) reducesTo_S65536x512_S65536_d1 h_S_)) (broadcastInDim S65536x1 ![] bcast_S_S65536x1 (constant S_ .f32 0x44000000#32))) (broadcastInDim S65536x1 ![] bcast_S_S65536x1 (constant S_ .f32 0x358637BD#32)))))) (broadcastInDim S65536x512 ![0, 1] bcast_S1x512_S65536x512_0_1 (broadcastInDim S1x512 ![1] bcast_S512_S1x512_1 g)) : FVec Ideal S65536x512 .f32) (ix2 t k)
      = Rows.norm512 (fun j => x (ix2 t j)) (fun j => g (ix1 j)) k := by
  pointwise
  rfl

theorem mix_at (u h : FVec Ideal S65536x512 .f32) (w : FVec Ideal S4x128x128 .f32) (b : FVec Ideal S4x128 .f32) (t : Fin 65536) (k : Fin 512) :
    (truncf .bf16 (mulf u (shapeCast S65536x512 (addf (transpose S512x128x4x128 [1, 3, 0, 2] (Host.dotGeneral dot_S512x128x4x128_S4x128x128_S4x512x128x128_1_2_03_1_2_0 none (shapeCast S512x128x4x128 h shapeCasts_S65536x512_S512x128x4x128) w) transposes_S4x512x128x128_S512x128x4x128_1_3_0_2) (broadcastInDim S512x128x4x128 ![0, 1, 2, 3] bcast_S1x128x4x1_S512x128x4x128_0_1_2_3 (broadcastInDim S1x128x4x1 ![1, 2, 3] bcast_S128x4x1_S1x128x4x1_1_2_3 (broadcastInDim S128x4x1 ![0, 1] bcast_S128x4_S128x4x1_0_1 (transpose S128x4 [1, 0] b transposes_S4x128_S128x4_1_0))))) shapeCasts_S512x128x4x128_S65536x512)) bitsLt_bf16_f32 : FVec Ideal S65536x512 .bf16) (ix2 t k)
      = (u (ix2 t k) : EReal) * ((∑ s : Fin 128, (w (ix3 ⟨k.val / 128, by omega⟩ ⟨t.val % 128, by omega⟩ s) : EReal) * (h (ix2 (Rows.inChunk t s) k) : EReal))
        + (b (ix2 ⟨k.val / 128, by omega⟩ ⟨t.val % 128, by omega⟩) : EReal)) := by
  pointwise
  have e (s : Fin 128) : (⟨t.val / 128 * 128 + s.val, by omega⟩ : Fin 65536) = Rows.inChunk t s := Fin.ext (by show t.val / 128 * 128 + s.val = 128 * (t.val / 128) + s.val; omega)
  simp only [e]
  exact congrArg (fun a : EReal => _ * (a + _)) (Finset.sum_congr rfl fun s _ => mul_comm _ _)

variable (m : (ℓ : Loc nD τ sig) → Buf (Elt Ideal) ℓ)

theorem refOut_at (c : Dev nD) (t : Fin 65536) (k : Fin 512) :
    (res_main_v53 m c (ix2 t k) : EReal) = Rows.sgu (fun t k => m (c, main_arg0) (ix2 t ⟨4608 + k.val, by omega⟩))
      (fun t k => m (c, main_arg0) (ix2 t ⟨5120 + k.val, by omega⟩)) (fun k => m (c, main_arg1) (ix1 k)) (fun i r s => m (c, main_arg2) (ix3 i r s))
      (fun i r => m (c, main_arg3) (ix2 i r)) t k := by
  unfold res_main_v53 Rows.sgu Rows.gated
  refine (mix_at _ _ _ _ t k).trans ?_
  refine congrArg₂ (fun a b : EReal => a * b) ((unit_at _ t k).trans (congrArg Rows.gelu ?_)) (congrArg (fun a : EReal => a + _)
    (Finset.sum_congr rfl fun s _ => congrArg (fun a : EReal => _ * a) ((norm_at _ _ _ k).trans (congrArg (fun y => Rows.norm512 y _ k) (funext fun j =>
      (unit_at _ _ j).trans (congrArg Rows.gelu ?_))))))
  · pointwise
  · pointwise

end Cert.Reference5Ideal.Value
end
-- ==== Proof.Sgu.lean ====
/- The spatial gating: its kernel computes its reference. -/
module

public import proofs.«01_k».proof.Defs
public import proofs.«01_k».proof.Proof.SguOut
public import proofs.«01_k».proof.Proof.SguRef
public import Idealize.ShloMosaic.Adequacy
public import Idealize.ShloMosaic.Init

@[expose] public section
set_option maxRecDepth 16384
noncomputable section
namespace Cert.Proof
open Idealize.ShloMosaic Idealize.ShloMosaic.StableHlo Idealize.SL.Sem

theorem frame_sgu_reference : Cert.quiescent_Reference5Ideal := fun m g _ =>
  (θ_run _ _ _).mono (fun r h => ⟨fun c => (h c).2, sem_eq_zero_of_no_sems (by decide) r.2⟩) (Cert.Reference5Ideal.Value.run (F := Ideal) m g)

theorem algebraic_sgu : Cert.algebraic_Kernel5Ideal_Reference5Ideal := by
  intro m g m' g' _ hargs
  refine ⟨fun c => Cert.Kernel5Ideal.Value.result m c, ?_, ?_⟩
  · exact (θ_run _ _ _).mono (fun r h c => ⟨(h c).1.trans (Cert.Kernel5Ideal.Value.arr_eq m c), (h c).2⟩) (Cert.Kernel5Ideal.Value.run_blocks (F := Ideal) m g)
  · refine (θ_run _ _ _).mono (fun r h c => ⟨(h c).1.trans ?_, (h c).2⟩) (Cert.Reference5Ideal.Value.run (F := Ideal) m' g')
    obtain ⟨h0, h1, h2, h3⟩ := hargs c
    funext y
    obtain ⟨t, k, rfl⟩ : ∃ (t : Fin 65536) (k : Fin 512), y = ix2 t k := ⟨y 0, y 1, (ix2_eta y).symm⟩
    refine (Cert.Reference5Ideal.Value.refOut_at m' c t k).trans ?_
    rw [h0, h1, h2, h3]
    rfl

end Cert.Proof
end
-- ==== Proof.ConvRows.lean ====
/- The depthwise convolution of width five and its unit, as formulas over the extended reals: what the two kernels and
   their references are both compared to. -/
module

public import proofs.«01_k».proof.Proof.FfnTerm

@[expose] public section
noncomputable section
namespace Cert.Rows
open Idealize.ShloMosaic

/-- Tap `k` of token `t`: the token `k - 2` further on, and zero beyond the ends of its sequence. -/
def tap (x : Fin 65536 → EReal) (t : Fin 65536) (k : Fin 5) : EReal :=
  if 2 ≤ t.val % seqLen t.val + k.val ∧ t.val % seqLen t.val + k.val < seqLen t.val + 2 then x ⟨(t.val + k.val - 2) % 65536, by omega⟩ else 0

def conv5 (p w : Fin 5 → EReal) (b : EReal) : EReal := b + w 0 * p 0 + w 1 * p 1 + w 2 * p 2 + w 3 * p 3 + w 4 * p 4

/-- The unit: the argument times its logistic. -/
def silu (y : EReal) : EReal := y * Ideal.div 1 (1 + Ideal.exp (-y))

/-- One channel of the convolution at token `t`, through the unit. -/
def convSilu (x : Fin 65536 → EReal) (w : Fin 5 → EReal) (b : EReal) (t : Fin 65536) : EReal := silu (conv5 (tap x t) w b)

/-- The convolution as the reference orders its terms. -/
theorem conv5_eq (p w : Fin 5 → EReal) (b : EReal) : p 0 * w 0 + p 1 * w 1 + p 2 * w 2 + p 3 * w 3 + p 4 * w 4 + b = conv5 p w b := by
  unfold conv5
  simp only [mul_comm (p _), add_comm _ b, ← add_assoc]

/-- Row `ρ` of a block of 512 tokens with eight rows on either side, out of the sixteen rows above and below it that the
    kernel reads; zero above a sequence's first block and below its last. -/
def haloAt (first last : BitVec 1) (p : Fin 16 → EReal) (c : Fin 512 → EReal) (e : Fin 16 → EReal) (ρ : Fin 528) : EReal :=
  if h0 : ρ.val < 8 then (if first = 1#1 then 0 else p ⟨8 + ρ.val, by omega⟩)
  else if h1 : ρ.val < 520 then c ⟨ρ.val - 8, by omega⟩
  else if last = 1#1 then 0 else e ⟨ρ.val - 520, by omega⟩

open Cert.Kernel2Ideal.Value in
/-- The five rows that the kernel reads for row `r` of block `q` are the token's taps. -/
theorem halo_tap (x : Fin 65536 → EReal) (q : Fin 128) (r : Fin 512) (k : Fin 5) :
    haloAt (firstWord q.val) (lastWord q.val) (fun i => x ⟨(32 * q.val - 1) * 16 + i.val, by omega⟩) (fun i => x ⟨q.val * 512 + i.val, by omega⟩)
      (fun i => x ⟨min (32 * q.val + 32) 4095 * 16 + i.val, by omega⟩) ⟨6 + k.val + r.val, by omega⟩ = tap x ⟨q.val * 512 + r.val, by omega⟩ k := by
  unfold haloAt tap seqLen
  dsimp only
  have hf := firstWord_iff q
  have hl := lastWord_iff q
  by_cases h0 : 6 + k.val + r.val < 8
  · rw [dif_pos h0]
    by_cases h : firstWord q.val = 1#1
    · rw [if_pos h, if_neg]
      have h' := hf.mp h
      split_ifs at h' ⊢ <;> omega
    · rw [if_neg h, if_pos]
      · exact congrArg x (Fin.ext (by show (32 * q.val - 1) * 16 + (8 + (6 + k.val + r.val)) = (q.val * 512 + r.val + k.val - 2) % 65536; have := mt hf.mpr h; split_ifs at this <;> omega))
      · have h' := mt hf.mpr h
        split_ifs at h' ⊢ <;> omega
  · rw [dif_neg h0]
    by_cases h1 : 6 + k.val + r.val < 520
    · rw [dif_pos h1, if_pos]
      · exact congrArg x (Fin.ext (by show q.val * 512 + (6 + k.val + r.val - 8) = (q.val * 512 + r.val + k.val - 2) % 65536; omega))
      · split_ifs <;> omega
    · rw [dif_neg h1]
      by_cases h : lastWord q.val = 1#1
      · rw [if_pos h, if_neg]
        have h' := hl.mp h
        split_ifs at h' ⊢ <;> omega
      · rw [if_neg h, if_pos]
        · exact congrArg x (Fin.ext (by show min (32 * q.val + 32) 4095 * 16 + (6 + k.val + r.val - 520) = (q.val * 512 + r.val + k.val - 2) % 65536; have := mt hl.mpr h; split_ifs at this <;> omega))
        · have h' := mt hl.mpr h
          split_ifs at h' ⊢ <;> omega

end Cert.Rows
end
-- ==== Proof.ConvBody.lean ====
/- The convolution bodies' scratch buffer, read back at any row, for any number of channels. -/
module

public import proofs.«01_k».proof.Proof.ConvRows
public import Idealize.ShloMosaic.Lib.Routing.Shapes
public import Idealize.ShloMosaic.Lib.StableHlo.ReadAt

@[expose] public section
set_option maxRecDepth 16384
noncomputable section
namespace Cert.Conv
open Idealize.ShloMosaic Idealize.ShloMosaic.TcCoe Idealize.SL.Sem
open Idealize.ShloMosaic.Routing (shape2)
open Cert.Kernel2Ideal.Value (hit miss)

variable {n : ℕ} {e : EltTy}

/-- Rows `d` to `d + 511` of eight rows, a block of 512 rows and eight rows. -/
def stacked {α : Type} (d : ℕ) (hd : d + 512 ≤ 528) (a : (shape2 8 n).Idx → α) (b : (shape2 512 n).Idx → α) (c : (shape2 8 n).Idx → α) :
    (shape2 512 n).Idx → α := fun j =>
  have hj : (j 0).val < 512 := (j 0).isLt
  if h0 : d + (j 0).val < 8 then a (ix2 ⟨d + (j 0).val, h0⟩ (j 1))
  else if h1 : d + (j 0).val < 520 then b (ix2 ⟨d + (j 0).val - 8, by omega⟩ (j 1))
  else c (ix2 ⟨d + (j 0).val - 520, by omega⟩ (j 1))

theorem readCov_stacked {sig : RefSig} (v : View sig .tc .vmem (shape2 528 n) e) (d : ℕ)
    (h5 : ∀ a, (![520, 0] : Fin 2 → ℕ) a + (![8, n] : Fin 2 → ℕ) a ≤ (shape2 528 n).size a)
    (h8 : ∀ a, (![8, 0] : Fin 2 → ℕ) a + (![512, n] : Fin 2 → ℕ) a ≤ (shape2 528 n).size a)
    (h0 : ∀ a, (![0, 0] : Fin 2 → ℕ) a + (![8, n] : Fin 2 → ℕ) a ≤ (shape2 528 n).size a)
    (hr : ∀ a, (![d, 0] : Fin 2 → ℕ) a + (![512, n] : Fin 2 → ℕ) a ≤ (shape2 528 n).size a)
    (c : (Rect.unit (s := shape2 528 n) ![520, 0] ![8, n] h5).shape.Idx → Elt Ideal e)
    (b : (Rect.unit (s := shape2 528 n) ![8, 0] ![512, n] h8).shape.Idx → Elt Ideal e)
    (a : (Rect.unit (s := shape2 528 n) ![0, 0] ![8, n] h0).shape.Idx → Elt Ideal e)
    (L : List (View.Piece (Elt Ideal) (shape2 528 n) e)) :
    v.readCov (⟨Rect.unit ![520, 0] ![8, n] h5, c⟩ :: ⟨Rect.unit ![8, 0] ![512, n] h8, b⟩ :: ⟨Rect.unit ![0, 0] ![8, n] h0, a⟩ :: L)
      (Rect.unit ![d, 0] ![512, n] hr).toLoadRect = stacked d (hr 0) a b c := by
  rw [View.readCov_eq_canon']
  funext j
  have hj0 : (j 0).val < 512 := (j 0).isLt
  have hd : d + 512 ≤ 528 := hr 0
  have y0 : ((Rect.unit (s := shape2 528 n) ![d, 0] ![512, n] hr).toLoadRect.idx j 0).val = d + 1 * (j 0).val := rfl
  have y1 : ((Rect.unit (s := shape2 528 n) ![d, 0] ![512, n] hr).toLoadRect.idx j 1).val = 0 + 1 * (j 1).val := rfl
  beta_reduce
  generalize (Rect.unit (s := shape2 528 n) ![d, 0] ![512, n] hr).toLoadRect.idx j = y at y0 y1 ⊢
  unfold stacked
  by_cases c0 : d + (j 0).val < 8
  · rw [dif_pos c0]
    refine (miss h5 _ _ y 0 (Or.inl (show (y 0).val < 520 by omega))).trans ((miss h8 _ _ y 0 (Or.inl (show (y 0).val < 8 by omega))).trans
      (hit h0 _ _ y (ix2 ⟨d + (j 0).val, c0⟩ (j 1)) fun b => ?_))
    match b with
    | ⟨0, _⟩ => show (y 0).val = 0 + (d + (j 0).val); omega
    | ⟨1, _⟩ => show (y 1).val = 0 + (j 1).val; omega
  · rw [dif_neg c0]
    by_cases c1 : d + (j 0).val < 520
    · rw [dif_pos c1]
      refine (miss h5 _ _ y 0 (Or.inl (show (y 0).val < 520 by omega))).trans (hit h8 _ _ y (ix2 ⟨d + (j 0).val - 8, by omega⟩ (j 1)) fun b => ?_)
      match b with
      | ⟨0, _⟩ => show (y 0).val = 8 + (d + (j 0).val - 8); omega
      | ⟨1, _⟩ => show (y 1).val = 0 + (j 1).val; omega
    · rw [dif_neg c1]
      refine hit h5 _ _ y (ix2 ⟨d + (j 0).val - 520, by omega⟩ (j 1)) fun b => ?_
      match b with
      | ⟨0, _⟩ => show (y 0).val = 520 + (d + (j 0).val - 520); omega
      | ⟨1, _⟩ => show (y 1).val = 0 + (j 1).val; omega

/-- The eight rows stored above the block and those stored below it, out of sixteen; zero where the block is its
    sequence's first, or its last. -/
theorem above_at (f : BitVec 1) (x : Vec Ideal (shape2 16 n) .bf16) (hb : FTy.bits .bf16 < FTy.bits .f32) (hs : (shape2 16 n).Slices ![8, 0] (shape2 8 n))
    (hc : (shape2 8 n).ShapeCasts (shape2 8 n)) (r : Fin 8) (k : Fin n) :
    (shapeCast (shape2 8 n) (Scalar.select f (broadcast (shape2 8 n) (Scalar.ofBits .f32 0x00000000#32)) (extractStridedSlice (shape2 8 n) ![8, 0] (extf .f32 x hb) hs)) hc : FVec Ideal (shape2 8 n) .f32) (ix2 r k)
      = if f = 1#1 then (0 : EReal) else x (ix2 ⟨8 + r.val, by omega⟩ k) := by
  by_cases h : f = 1#1
  · subst h
    rw [if_pos rfl]
    unfold Scalar.select
    rw [if_pos (by rfl)]
    pointwise
  · rw [if_neg h]
    unfold Scalar.select
    rw [if_neg (show ¬f = 1 from h)]
    pointwise
    refine congrArg x (funext fun a => Fin.ext ?_)
    match a with
    | ⟨0, _⟩ => rfl
    | ⟨1, _⟩ => exact Nat.zero_add _

theorem below_at (f : BitVec 1) (x : Vec Ideal (shape2 16 n) .bf16) (hb : FTy.bits .bf16 < FTy.bits .f32) (hs : (shape2 16 n).Slices ![0, 0] (shape2 8 n))
    (hc : (shape2 8 n).ShapeCasts (shape2 8 n)) (r : Fin 8) (k : Fin n) :
    (shapeCast (shape2 8 n) (Scalar.select f (broadcast (shape2 8 n) (Scalar.ofBits .f32 0x00000000#32)) (extractStridedSlice (shape2 8 n) ![0, 0] (extf .f32 x hb) hs)) hc : FVec Ideal (shape2 8 n) .f32) (ix2 r k)
      = if f = 1#1 then (0 : EReal) else x (ix2 ⟨r.val, by omega⟩ k) := by
  by_cases h : f = 1#1
  · subst h
    rw [if_pos rfl]
    unfold Scalar.select
    rw [if_pos (by rfl)]
    pointwise
  · rw [if_neg h]
    unfold Scalar.select
    rw [if_neg (show ¬f = 1 from h)]
    pointwise
    refine congrArg x (funext fun a => Fin.ext ?_)
    match a with
    | ⟨0, _⟩ => exact Nat.zero_add _
    | ⟨1, _⟩ => exact Nat.zero_add _

theorem own_at (x : Vec Ideal (shape2 512 n) .bf16) (hb : FTy.bits .bf16 < FTy.bits .f32) (hc : (shape2 512 n).ShapeCasts (shape2 512 n)) (r : Fin 512) (k : Fin n) :
    (shapeCast (shape2 512 n) (extf .f32 x hb) hc : FVec Ideal (shape2 512 n) .f32) (ix2 r k) = (x (ix2 r k) : EReal) := by
  pointwise

/-- The five rows that the body reads are the block with its halo, as stored. -/
theorem stacked_at (f l : BitVec 1) (x0 : Vec Ideal (shape2 512 n) .bf16) (x1 x2 : Vec Ideal (shape2 16 n) .bf16) (hb : FTy.bits .bf16 < FTy.bits .f32)
    (ha : (shape2 16 n).Slices ![8, 0] (shape2 8 n)) (hz : (shape2 16 n).Slices ![0, 0] (shape2 8 n)) (hc : (shape2 8 n).ShapeCasts (shape2 8 n))
    (ho : (shape2 512 n).ShapeCasts (shape2 512 n)) (d : ℕ) (hd : d + 512 ≤ 528) (r : Fin 512) (k : Fin n) :
    (stacked (α := EReal) d hd (shapeCast (shape2 8 n) (Scalar.select f (broadcast (shape2 8 n) (Scalar.ofBits (F := Ideal) .f32 0x00000000#32)) (extractStridedSlice (shape2 8 n) ![8, 0] (extf .f32 x1 hb) ha)) hc : FVec Ideal (shape2 8 n) .f32)
      (shapeCast (shape2 512 n) (extf (F := Ideal) .f32 x0 hb) ho : FVec Ideal (shape2 512 n) .f32)
      (shapeCast (shape2 8 n) (Scalar.select l (broadcast (shape2 8 n) (Scalar.ofBits (F := Ideal) .f32 0x00000000#32)) (extractStridedSlice (shape2 8 n) ![0, 0] (extf .f32 x2 hb) hz)) hc : FVec Ideal (shape2 8 n) .f32) (ix2 r k))
      = Rows.haloAt f l (fun i => x1 (ix2 i k)) (fun i => x0 (ix2 i k)) (fun i => x2 (ix2 i k)) ⟨d + r.val, by omega⟩ := by
  unfold stacked Rows.haloAt
  dsimp only
  by_cases c0 : d + r.val < 8
  · rw [dif_pos c0, dif_pos (show d + (ix2 r k 0).val < 8 from c0)]
    exact above_at f x1 hb ha hc _ k
  · rw [dif_neg c0, dif_neg (show ¬d + (ix2 r k 0).val < 8 from c0)]
    by_cases c1 : d + r.val < 520
    · rw [dif_pos c1, dif_pos (show d + (ix2 r k 0).val < 520 from c1)]
      exact own_at x0 hb ho _ k
    · rw [dif_neg c1, dif_neg (show ¬d + (ix2 r k 0).val < 520 from c1)]
      exact below_at l x2 hb hz hc _ k

end Cert.Conv
end
-- ==== Proof.ConvX.lean ====
/- The first of the convolution's two calls, read at every token and channel as a function of the arrays it is launched on. -/
module

public import proofs.«01_k».proof.Proof.Gen.Kernel6Ideal.Value
public import proofs.«01_k».proof.Proof.ConvBody
public import Idealize.ShloMosaic.Lib.Pipeline.ValueKit
public import Idealize.ShloMosaic.Lib.Pipeline.ReadBack
public import Idealize.ShloMosaic.Lib.StableHlo.ReadAt

@[expose] public section
set_option maxRecDepth 16384
noncomputable section
namespace Cert.Kernel6Ideal.Value
open Cert.Kernel6Ideal Cert.Kernel6Ideal.Gen Idealize.ShloMosaic Idealize.ShloMosaic.TcCoe Idealize.SL.Sem
open Idealize.ShloMosaic.Pipeline (Dat)
open Cert.Kernel2Ideal.Value (firstWord lastWord placeWord_eq firstWord_eq lastWord_eq)

/-! ### The body -/

theorem pay_at (w : Vec Ideal S5x512 .f32) (b : Vec Ideal S1x512 .f32) (p0 p1 p2 p3 p4 : Vec Ideal S512x512 .f32) (r k : Fin 512) :
    (k0_pay1 (k0_pay5 w) (k0_pay9 w b p0 p1 p2) (k0_pay10 w) p3 p4 (ix2 r k) : EReal)
      = Rows.silu (Rows.conv5 ![p0 (ix2 r k), p1 (ix2 r k), p2 (ix2 r k), p3 (ix2 r k), p4 (ix2 r k)] (fun i => w (ix2 i k)) (b (ix2 0 k))) := by
  pointwise [k0_pay1, k0_pay5, k0_pay9, k0_pay10]
  rw [zero_sub]
  rfl

/-- The rows that the body reads from row `d` of its scratch buffer on. -/
def taps (f l : BitVec 1) (x0 : Vec Ideal S512x512 .bf16) (x1 x2 : Vec Ideal S16x512 .bf16) (d : ℕ) (hd : d + 512 ≤ 528) : Vec Ideal S512x512 .f32 :=
  Conv.stacked d hd (k0_pay6 f (k0_pay3 x1)) (k0_pay7 (k0_pay2 x0)) (k0_pay8 l (k0_pay4 x2))

theorem term_eq (c : Dev nD) (i : grid0.Coords) (arg1 : Memref sig .tc .vmem S512x512 .bf16) (harg1 : arg1.IsWhole) (arg2 : Memref sig .tc .vmem S16x512 .bf16) (harg2 : arg2.IsWhole) (arg3 : Memref sig .tc .vmem S16x512 .bf16) (harg3 : arg3.IsWhole) (arg4 : Memref sig .tc .vmem S5x512 .f32) (harg4 : arg4.IsWhole) (arg5 : Memref sig .tc .vmem S1x512 .f32) (harg5 : arg5.IsWhole) (arg6 : Memref sig .tc .vmem S512x512 .bf16) (harg6 : arg6.IsWhole) (arg7 : Memref sig .tc .vmem S528x512 .f32) (harg7 : arg7.IsWhole)
    (x0 : Vec Ideal S512x512 .bf16) (x1 x2 : Vec Ideal S16x512 .bf16) (x3 : Vec Ideal S5x512 .f32) (x4 : Vec Ideal S1x512 .f32) (y : S512x512.Idx) :
    out0_A_5 c i arg1 harg1 arg2 harg2 arg3 harg3 arg4 harg4 arg5 harg5 arg6 harg6 arg7 harg7 x0 x1 x2 x3 x4 y
      = (let s := taps (firstWord (i 0).val) (lastWord (i 0).val) x0 x1 x2
         k0_pay1 (k0_pay5 x3) (k0_pay9 x3 x4 (s 6 (by omega)) (s 7 (by omega)) (s 8 (by omega))) (k0_pay10 x3) (s 9 (by omega)) (s 10 (by omega)) y) := by
  frame_open
  simp only [↓ Conv.readCov_stacked]
  frame_out
  simp only [placeWord_eq, firstWord_eq, lastWord_eq]
  rfl

theorem body_at (f l : BitVec 1) (x0 : Vec Ideal S512x512 .bf16) (x1 x2 : Vec Ideal S16x512 .bf16) (x3 : Vec Ideal S5x512 .f32) (x4 : Vec Ideal S1x512 .f32) (r k : Fin 512) :
    (let s := taps f l x0 x1 x2
     (k0_pay1 (k0_pay5 x3) (k0_pay9 x3 x4 (s 6 (by omega)) (s 7 (by omega)) (s 8 (by omega))) (k0_pay10 x3) (s 9 (by omega)) (s 10 (by omega)) (ix2 r k) : EReal))
      = Rows.silu (Rows.conv5 (fun d => Rows.haloAt f l (fun i => x1 (ix2 i k)) (fun i => x0 (ix2 i k)) (fun i => x2 (ix2 i k)) ⟨6 + d.val + r.val, by omega⟩)
        (fun i => x3 (ix2 i k)) (x4 (ix2 0 k))) := by
  have h : ∀ d hd, (taps f l x0 x1 x2 d hd (ix2 r k) : EReal) = _ := fun d hd =>
    Conv.stacked_at f l x0 x1 x2 bitsLt_bf16_f32 slices_S16x512_o8_0_S8x512 slices_S16x512_o0_0_S8x512 shapeCasts_S8x512_S8x512 shapeCasts_S512x512_S512x512 d hd r k
  refine (pay_at _ _ _ _ _ _ _ r k).trans ?_
  simp only [h]
  rfl

/-! ### Its blocks -/

variable (m : (ℓ : Loc nD τ sig) → Buf (Elt Ideal) ℓ)

theorem index0 : ∀ t : Fin cfg0.N, win0_0.index t = ![(grid0.coords t 0 : ℕ), 4] := by decide +kernel
theorem index1 : ∀ t : Fin cfg0.N, win0_1.index t = ![32 * (grid0.coords t 0 : ℕ) - 1, 4] := by decide +kernel
theorem index2 : ∀ t : Fin cfg0.N, win0_2.index t = ![min (32 * (grid0.coords t 0 : ℕ) + 32) 4095, 4] := by decide +kernel
theorem index3 : ∀ t : Fin cfg0.N, win0_3.index t = ![0, 0] := by decide +kernel
theorem index4 : ∀ t : Fin cfg0.N, win0_4.index t = ![0, 0] := by decide +kernel
theorem index5 : ∀ t : Fin cfg0.N, win0_5.index t = ![(grid0.coords t 0 : ℕ), 0] := by decide +kernel
theorem coord_lt (t : Fin cfg0.N) : (grid0.coords t 0 : ℕ) < 128 := (grid0.coords t 0).isLt

/-- Channel `k` as launched, at every token. -/
def channel (c : Dev nD) (k : Fin 512) : Fin 65536 → EReal := fun t => m (c, main_arg0) (ix2 t ⟨2048 + k.val, by omega⟩)

theorem b0 (c : Dev nD) (t : Fin cfg0.N) (r k : Fin 512) : (X0_0 m c t (ix2 r k) : EReal)
    = channel m c k ⟨(grid0.coords t 0 : ℕ) * 512 + r.val, by have := coord_lt t; omega⟩ := by
  unfold X0_0 iblk Pipeline.Window.fill
  rw [dif_pos (moved0_0 t _)]
  blk_simp
  rw [V_main_arg0]
  refine congrArg _ ?_
  blk_ext [index0 t]
  all_goals rfl
theorem b1 (c : Dev nD) (t : Fin cfg0.N) (r : Fin 16) (k : Fin 512) : (X0_1 m c t (ix2 r k) : EReal)
    = channel m c k ⟨(32 * (grid0.coords t 0 : ℕ) - 1) * 16 + r.val, by have := coord_lt t; omega⟩ := by
  unfold X0_1 iblk Pipeline.Window.fill
  rw [dif_pos (moved0_1 t _)]
  blk_simp
  rw [V_main_arg0]
  refine congrArg _ ?_
  blk_ext [index1 t]
  all_goals rfl
theorem b2 (c : Dev nD) (t : Fin cfg0.N) (r : Fin 16) (k : Fin 512) : (X0_2 m c t (ix2 r k) : EReal)
    = channel m c k ⟨min (32 * (grid0.coords t 0 : ℕ) + 32) 4095 * 16 + r.val, by omega⟩ := by
  unfold X0_2 iblk Pipeline.Window.fill
  rw [dif_pos (moved0_2 t _)]
  blk_simp
  rw [V_main_arg0]
  refine congrArg _ ?_
  blk_ext [index2 t]
  all_goals rfl
theorem b3 (c : Dev nD) (t : Fin cfg0.N) (i : Fin 5) (k : Fin 512) : (iblk m c 3 t (ix2 i k) : EReal) = m (c, main_arg1) (ix2 i ⟨k.val, by omega⟩) := by
  have h : (iblk m c 3 t (ix2 i k) : EReal) = V m c main_v0 (ix2 i k) := by
    unfold iblk
    blk_simp
    refine congrArg (V m c main_v0) ?_
    blk_ext [index3 t]
  rw [h]
  unfold V hostOps0
  after_reads_at
theorem b4 (c : Dev nD) (t : Fin cfg0.N) (k : Fin 512) : (iblk m c 4 t (ix2 0 k) : EReal) = m (c, main_arg2) (ix1 ⟨k.val, by omega⟩) := by
  have h : (iblk m c 4 t (ix2 0 k) : EReal) = V m c main_v2 (ix2 0 k) := by
    unfold iblk
    blk_simp
    refine congrArg (V m c main_v2) ?_
    blk_ext [index4 t]
  rw [h]
  unfold V hostOps0
  after_reads_at

/-! ### Its result -/

def result (c : Dev nD) : S65536x512.Idx → EReal := fun y => Rows.convSilu (channel m c (y 1)) (fun i => m (c, main_arg1) (ix2 i ⟨(y 1).val, by have : (y 1).val < 512 := (y 1).isLt; omega⟩))
  (m (c, main_arg2) (ix1 ⟨(y 1).val, by have : (y 1).val < 512 := (y 1).isLt; omega⟩)) (y 0)

theorem arr_eq (c : Dev nD) : (dats m 0 c).arrAt 5 cfg0.N = result m c := by
  refine (dats m 0 c).arrAt_eq_of_covers 5 _ (by decide +kernel) fun t hf y => ?_
  have hA := congrFun (flushed5_A m c t) y
  obtain ⟨r, k, rfl⟩ : ∃ (r k : Fin 512), y = ix2 r k := ⟨y 0, y 1, (ix2_eta y).symm⟩
  have hout := term_eq c (grid0.coords t) (ms0_0 t) (hs0_0 t) (ms0_1 t) (hs0_1 t) (ms0_2 t) (hs0_2 t) (ms0_3 t) (hs0_3 t) (ms0_4 t) (hs0_4 t)
    (ms0_5 t) (hs0_5 t) scM0_0 (Memref.isWhole_whole _) (X0_0 m c t) (X0_1 m c t) (X0_2 m c t) (iblk m c 3 t) (iblk m c 4 t) (ix2 r k)
  have hb := body_at (firstWord (grid0.coords t 0).val) (lastWord (grid0.coords t 0).val) (X0_0 m c t) (X0_1 m c t) (X0_2 m c t) (iblk m c 3 t) (iblk m c 4 t) r k
  simp only [b0, b1, b2, b3, b4, Rows.halo_tap (channel m c k) (grid0.coords t 0)] at hb
  refine (hA.trans (hout.trans hb)).trans ?_
  refine congrArg (result m c) (a₁ := ix2 ⟨(grid0.coords t 0 : ℕ) * 512 + r.val, by have := coord_lt t; omega⟩ k) ?_
  funext a
  refine Fin.ext ?_
  match a with
  | ⟨0, _⟩ => blk_simp [index5 t]
  | ⟨1, _⟩ => blk_simp [index5 t]

end Cert.Kernel6Ideal.Value
end
-- ==== Proof.ConvBC.lean ====
/- The second of the convolution's two calls, read at every token and channel as a function of the arrays it is launched on. -/
module

public import proofs.«01_k».proof.Proof.Gen.Kernel7Ideal.Value
public import proofs.«01_k».proof.Proof.ConvBody
public import Idealize.ShloMosaic.Lib.Pipeline.ValueKit
public import Idealize.ShloMosaic.Lib.Pipeline.ReadBack
public import Idealize.ShloMosaic.Lib.StableHlo.ReadAt

@[expose] public section
set_option maxRecDepth 16384
noncomputable section
namespace Cert.Kernel7Ideal.Value
open Cert.Kernel7Ideal Cert.Kernel7Ideal.Gen Idealize.ShloMosaic Idealize.ShloMosaic.TcCoe Idealize.SL.Sem
open Idealize.ShloMosaic.Pipeline (Dat)
open Cert.Kernel2Ideal.Value (firstWord lastWord placeWord_eq firstWord_eq lastWord_eq)

/-! ### The body -/

theorem pay_at (w : Vec Ideal S5x256 .f32) (b : Vec Ideal S1x256 .f32) (p0 p1 p2 p3 p4 : Vec Ideal S512x256 .f32) (r : Fin 512) (k : Fin 256) :
    (k0_pay1 (k0_pay5 w) (k0_pay9 w b p0 p1 p2) (k0_pay10 w) p3 p4 (ix2 r k) : EReal)
      = Rows.silu (Rows.conv5 ![p0 (ix2 r k), p1 (ix2 r k), p2 (ix2 r k), p3 (ix2 r k), p4 (ix2 r k)] (fun i => w (ix2 i k)) (b (ix2 0 k))) := by
  pointwise [k0_pay1, k0_pay5, k0_pay9, k0_pay10]
  rw [zero_sub]
  rfl

/-- The rows that the body reads from row `d` of its scratch buffer on. -/
def taps (f l : BitVec 1) (x0 : Vec Ideal S512x256 .bf16) (x1 x2 : Vec Ideal S16x256 .bf16) (d : ℕ) (hd : d + 512 ≤ 528) : Vec Ideal S512x256 .f32 :=
  Conv.stacked d hd (k0_pay6 f (k0_pay3 x1)) (k0_pay7 (k0_pay2 x0)) (k0_pay8 l (k0_pay4 x2))

theorem term_eq (c : Dev nD) (i : grid0.Coords) (arg1 : Memref sig .tc .vmem S512x256 .bf16) (harg1 : arg1.IsWhole) (arg2 : Memref sig .tc .vmem S16x256 .bf16) (harg2 : arg2.IsWhole) (arg3 : Memref sig .tc .vmem S16x256 .bf16) (harg3 : arg3.IsWhole) (arg4 : Memref sig .tc .vmem S5x256 .f32) (harg4 : arg4.IsWhole) (arg5 : Memref sig .tc .vmem S1x256 .f32) (harg5 : arg5.IsWhole) (arg6 : Memref sig .tc .vmem S512x256 .bf16) (harg6 : arg6.IsWhole) (arg7 : Memref sig .tc .vmem S528x256 .f32) (harg7 : arg7.IsWhole)
    (x0 : Vec Ideal S512x256 .bf16) (x1 x2 : Vec Ideal S16x256 .bf16) (x3 : Vec Ideal S5x256 .f32) (x4 : Vec Ideal S1x256 .f32) (y : S512x256.Idx) :
    out0_A_5 c i arg1 harg1 arg2 harg2 arg3 harg3 arg4 harg4 arg5 harg5 arg6 harg6 arg7 harg7 x0 x1 x2 x3 x4 y
      = (let s := taps (firstWord (i 0).val) (lastWord (i 0).val) x0 x1 x2
         k0_pay1 (k0_pay5 x3) (k0_pay9 x3 x4 (s 6 (by omega)) (s 7 (by omega)) (s 8 (by omega))) (k0_pay10 x3) (s 9 (by omega)) (s 10 (by omega)) y) := by
  frame_open
  simp only [↓ Conv.readCov_stacked]
  frame_out
  simp only [placeWord_eq, firstWord_eq, lastWord_eq]
  rfl

theorem body_at (f l : BitVec 1) (x0 : Vec Ideal S512x256 .bf16) (x1 x2 : Vec Ideal S16x256 .bf16) (x3 : Vec Ideal S5x256 .f32) (x4 : Vec Ideal S1x256 .f32) (r : Fin 512) (k : Fin 256) :
    (let s := taps f l x0 x1 x2
     (k0_pay1 (k0_pay5 x3) (k0_pay9 x3 x4 (s 6 (by omega)) (s 7 (by omega)) (s 8 (by omega))) (k0_pay10 x3) (s 9 (by omega)) (s 10 (by omega)) (ix2 r k) : EReal))
      = Rows.silu (Rows.conv5 (fun d => Rows.haloAt f l (fun i => x1 (ix2 i k)) (fun i => x0 (ix2 i k)) (fun i => x2 (ix2 i k)) ⟨6 + d.val + r.val, by omega⟩)
        (fun i => x3 (ix2 i k)) (x4 (ix2 0 k))) := by
  have h : ∀ d hd, (taps f l x0 x1 x2 d hd (ix2 r k) : EReal) = _ := fun d hd =>
    Conv.stacked_at f l x0 x1 x2 bitsLt_bf16_f32 slices_S16x256_o8_0_S8x256 slices_S16x256_o0_0_S8x256 shapeCasts_S8x256_S8x256 shapeCasts_S512x256_S512x256 d hd r k
  refine (pay_at _ _ _ _ _ _ _ r k).trans ?_
  simp only [h]
  rfl

/-! ### Its blocks -/

variable (m : (ℓ : Loc nD τ sig) → Buf (Elt Ideal) ℓ)

theorem index0 : ∀ t : Fin cfg0.N, win0_0.index t = ![(grid0.coords t 0 : ℕ), 22] := by decide +kernel
theorem index1 : ∀ t : Fin cfg0.N, win0_1.index t = ![32 * (grid0.coords t 0 : ℕ) - 1, 22] := by decide +kernel
theorem index2 : ∀ t : Fin cfg0.N, win0_2.index t = ![min (32 * (grid0.coords t 0 : ℕ) + 32) 4095, 22] := by decide +kernel
theorem index3 : ∀ t : Fin cfg0.N, win0_3.index t = ![0, 0] := by decide +kernel
theorem index4 : ∀ t : Fin cfg0.N, win0_4.index t = ![0, 0] := by decide +kernel
theorem index5 : ∀ t : Fin cfg0.N, win0_5.index t = ![(grid0.coords t 0 : ℕ), 0] := by decide +kernel
theorem coord_lt (t : Fin cfg0.N) : (grid0.coords t 0 : ℕ) < 128 := (grid0.coords t 0).isLt

/-- Channel `k` as launched, at every token. -/
def channel (c : Dev nD) (k : Fin 256) : Fin 65536 → EReal := fun t => m (c, main_arg0) (ix2 t ⟨5632 + k.val, by omega⟩)

theorem b0 (c : Dev nD) (t : Fin cfg0.N) (r : Fin 512) (k : Fin 256) : (iblk m c 0 t (ix2 r k) : EReal)
    = channel m c k ⟨(grid0.coords t 0 : ℕ) * 512 + r.val, by have := coord_lt t; omega⟩ := by
  unfold iblk
  blk_simp
  rw [V_main_arg0]
  refine congrArg _ ?_
  blk_ext [index0 t]
  all_goals rfl
theorem b1 (c : Dev nD) (t : Fin cfg0.N) (r : Fin 16) (k : Fin 256) : (iblk m c 1 t (ix2 r k) : EReal)
    = channel m c k ⟨(32 * (grid0.coords t 0 : ℕ) - 1) * 16 + r.val, by have := coord_lt t; omega⟩ := by
  unfold iblk
  blk_simp
  rw [V_main_arg0]
  refine congrArg _ ?_
  blk_ext [index1 t]
  all_goals rfl
theorem b2 (c : Dev nD) (t : Fin cfg0.N) (r : Fin 16) (k : Fin 256) : (iblk m c 2 t (ix2 r k) : EReal)
    = channel m c k ⟨min (32 * (grid0.coords t 0 : ℕ) + 32) 4095 * 16 + r.val, by omega⟩ := by
  unfold iblk
  blk_simp
  rw [V_main_arg0]
  refine congrArg _ ?_
  blk_ext [index2 t]
  all_goals rfl
theorem b3 (c : Dev nD) (t : Fin cfg0.N) (i : Fin 5) (k : Fin 256) : (iblk m c 3 t (ix2 i k) : EReal) = m (c, main_arg1) (ix2 i ⟨512 + k.val, by omega⟩) := by
  have h : (iblk m c 3 t (ix2 i k) : EReal) = V m c main_v0 (ix2 i k) := by
    unfold iblk
    blk_simp
    refine congrArg (V m c main_v0) ?_
    blk_ext [index3 t]
  rw [h]
  unfold V hostOps0
  after_reads_at
theorem b4 (c : Dev nD) (t : Fin cfg0.N) (k : Fin 256) : (iblk m c 4 t (ix2 0 k) : EReal) = m (c, main_arg2) (ix1 ⟨512 + k.val, by omega⟩) := by
  have h : (iblk m c 4 t (ix2 0 k) : EReal) = V m c main_v2 (ix2 0 k) := by
    unfold iblk
    blk_simp
    refine congrArg (V m c main_v2) ?_
    blk_ext [index4 t]
  rw [h]
  unfold V hostOps0
  after_reads_at

/-! ### Its result -/

def result (c : Dev nD) : S65536x256.Idx → EReal := fun y => Rows.convSilu (channel m c (y 1)) (fun i => m (c, main_arg1) (ix2 i ⟨512 + (y 1).val, by have : (y 1).val < 256 := (y 1).isLt; omega⟩))
  (m (c, main_arg2) (ix1 ⟨512 + (y 1).val, by have : (y 1).val < 256 := (y 1).isLt; omega⟩)) (y 0)

theorem arr_eq (c : Dev nD) : (dats m 0 c).arrAt 5 cfg0.N = result m c := by
  refine (dats m 0 c).arrAt_eq_of_covers 5 _ (by decide +kernel) fun t hf y => ?_
  have hA := congrFun (flushed5_A m c t) y
  obtain ⟨r, k, rfl⟩ : ∃ (r : Fin 512) (k : Fin 256), y = ix2 r k := ⟨y 0, y 1, (ix2_eta y).symm⟩
  have hout := term_eq c (grid0.coords t) (ms0_0 t) (hs0_0 t) (ms0_1 t) (hs0_1 t) (ms0_2 t) (hs0_2 t) (ms0_3 t) (hs0_3 t) (ms0_4 t) (hs0_4 t)
    (ms0_5 t) (hs0_5 t) scM0_0 (Memref.isWhole_whole _) (iblk m c 0 t) (iblk m c 1 t) (iblk m c 2 t) (iblk m c 3 t) (iblk m c 4 t) (ix2 r k)
  have hb := body_at (firstWord (grid0.coords t 0).val) (lastWord (grid0.coords t 0).val) (iblk m c 0 t) (iblk m c 1 t) (iblk m c 2 t) (iblk m c 3 t) (iblk m c 4 t) r k
  simp only [b0, b1, b2, b3, b4, Rows.halo_tap (channel m c k) (grid0.coords t 0)] at hb
  refine (hA.trans (hout.trans hb)).trans ?_
  refine congrArg (result m c) (a₁ := ix2 ⟨(grid0.coords t 0 : ℕ) * 512 + r.val, by have := coord_lt t; omega⟩ k) ?_
  funext a
  refine Fin.ext ?_
  match a with
  | ⟨0, _⟩ => blk_simp [index5 t]
  | ⟨1, _⟩ => blk_simp [index5 t]

end Cert.Kernel7Ideal.Value
end
-- ==== Proof.ConvRef.lean ====
/- The convolution references' parts that do not depend on the number of channels. -/
module

public import proofs.«01_k».proof.Proof.ConvRows
public import proofs.«01_k».proof.Proof.FfnRef

@[expose] public section
set_option maxRecDepth 16384
noncomputable section
namespace Cert.Conv
open Idealize.ShloMosaic Idealize.ShloMosaic.TcCoe Idealize.SL.Sem Idealize.ShloMosaic.WordCmp
open Idealize.ShloMosaic.Routing (shape0 shape1 shape2)

variable {n : ℕ}

/-- A tap, by the words that the reference compares: the padded row where they say that it lies in the token's sequence. -/
theorem tap_word (P Q : BitVec 32) (t : Fin 65536) (d : ℕ) (hd : d < 5) (x : Fin 65536 → EReal) (y z : EReal) (hz : z = 0)
    (hP : P = BitVec.ofNat 32 (t.val % Rows.seqLen t.val)) (hQ : Q = BitVec.ofNat 32 (Rows.seqLen t.val))
    (hy : 2 ≤ t.val + d ∧ t.val + d - 2 < 65536 → y = x ⟨(t.val + d - 2) % 65536, by omega⟩) :
    Scalar.select (IntOp.andi (IntOp.cmpi .sge (IntOp.addi P (BitVec.ofNat 32 d)) 2#32) (IntOp.cmpi .slt (IntOp.addi P (BitVec.ofNat 32 d)) (IntOp.addi Q 2#32))) y z
      = Rows.tap x t ⟨d, hd⟩ := by
  have hL := Cert.Reference2Ideal.Value.seqLen_bounds t.val
  have hm := Nat.mod_lt t.val hL.1
  have e1 : IntOp.addi (BitVec.ofNat 32 (t.val % Rows.seqLen t.val)) (BitVec.ofNat 32 d) = BitVec.ofNat 32 (t.val % Rows.seqLen t.val + d) := (BitVec.ofNat_add _ _).symm
  have e2 : IntOp.addi (BitVec.ofNat 32 (Rows.seqLen t.val)) 2#32 = BitVec.ofNat 32 (Rows.seqLen t.val + 2) := (BitVec.ofNat_add _ _).symm
  rw [hP, hQ, e1, e2, show (2#32 : BitVec 32) = BitVec.ofNat 32 2 from rfl, cmpi_sge_ofNat (by omega) (by decide), cmpi_slt_ofNat (by omega) (by omega), andi_ofBool,
    ← Bool.decide_and, select_decide, hz]
  unfold Rows.tap
  dsimp only
  split_ifs with h
  · refine hy ?_
    revert h
    unfold Rows.seqLen
    split_ifs <;> omega
  · rfl

theorem sum_at (p0 p1 p2 p3 p4 w0 w1 w2 w3 w4 b : FVec Ideal (shape2 65536 n) .f32) (i : (shape2 65536 n).Idx) :
    (addf (addf (addf (addf (addf (mulf p0 w0) (mulf p1 w1)) (mulf p2 w2)) (mulf p3 w3)) (mulf p4 w4)) b : FVec Ideal (shape2 65536 n) .f32) i
      = Rows.conv5 ![p0 i, p1 i, p2 i, p3 i, p4 i] ![w0 i, w1 i, w2 i, w3 i, w4 i] (b i) :=
  Rows.conv5_eq ![p0 i, p1 i, p2 i, p3 i, p4 i] ![w0 i, w1 i, w2 i, w3 i, w4 i] (b i)

theorem silu_at (y : FVec Ideal (shape2 65536 n) .f32) (h : shape0.BroadcastsInDim (shape2 65536 n) ![]) (hb : FTy.bits .bf16 < FTy.bits .f32) (t : Fin 65536) (f : Fin n) :
    (truncf .bf16 (mulf y (Host.divf (broadcastInDim (shape2 65536 n) ![] h (constant shape0 .f32 0x3F800000#32)) (addf (broadcastInDim (shape2 65536 n) ![] h (constant shape0 .f32 0x3F800000#32)) (Host.exp (Host.negf y))))) hb : FVec Ideal (shape2 65536 n) .bf16) (ix2 t f)
      = Rows.silu (y (ix2 t f)) := by
  pointwise
  rfl

end Cert.Conv
end
-- ==== Proof.ConvXRef.lean ====
/- The reference of the first of the convolution's two calls, read at every token and channel. -/
module

public import proofs.«01_k».proof.Proof.Gen.Reference6Ideal.Run
public import proofs.«01_k».proof.Proof.ConvRef

@[expose] public section
set_option maxRecDepth 16384
noncomputable section
namespace Cert.Reference6Ideal.Value
open Cert.Reference6Ideal Cert.Reference6Ideal.Gen Idealize.ShloMosaic Idealize.ShloMosaic.TcCoe Idealize.SL.Sem
open Idealize.ShloMosaic.StableHlo Idealize.ShloMosaic.Routing Idealize.ShloMosaic.WordCmp

theorem tap_at (p q : IVec S65536 32) (x : FVec Ideal S65536x512 .f32) (t : Fin 65536) (f : Fin 512) (d : ℕ) (hd : d < 5) (hs : S65540x512.Slices ![d, 0] S65536x512)
    (hp : p (ix1 t) = BitVec.ofNat 32 (t.val % Rows.seqLen t.val)) (hq : q (ix1 t) = BitVec.ofNat 32 (Rows.seqLen t.val)) :
    (select (broadcastInDim S65536x512 ![0, 1] bcast_S65536x1_S65536x512_0_1 (broadcastInDim S65536x1 ![0] bcast_S65536_S65536x1_0 (andi (cmpi .sge (addi p (broadcastInDim S65536 ![] bcast_S_S65536 (constantI S_ 32 (BitVec.ofNat 32 d)))) (broadcastInDim S65536 ![] bcast_S_S65536 (constantI S_ 32 2#32))) (cmpi .slt (addi p (broadcastInDim S65536 ![] bcast_S_S65536 (constantI S_ 32 (BitVec.ofNat 32 d)))) (id (addi q (broadcastInDim S65536 ![] bcast_S_S65536 (constantI S_ 32 2#32)))))))) (extractStridedSlice S65536x512 ![d, 0] (pad S65540x512 ![2, 0] ![2, 0] ![0, 0] x (sitofp .f32 (constantI S_ 32 0#32)) pads_S65536x512_S65540x512_220_000 h_S_) hs) (broadcastInDim S65536x512 ![] bcast_S_S65536x512 (id (constant S_ .f32 0x00000000#32))) : FVec Ideal S65536x512 .f32) (ix2 t f)
      = Rows.tap (fun t => x (ix2 t f)) t ⟨d, hd⟩ := by
  pointwise
  refine Conv.tap_word _ _ t d hd (fun t => x (ix2 t f)) _ _ Ideal.ofBits_zero_f32 hp hq fun h => ?_
  rw [dif_pos (by omega : 2 ≤ d + t.val ∧ d + t.val - 2 < 65536)]
  exact congrArg (fun t => x (ix2 t f)) (Fin.ext (by dsimp only; omega))

theorem row_at (w : FVec Ideal S5x512 .f32) (t : Fin 65536) (f : Fin 512) (d : ℕ) (hd : d < 5) (hs : S5x512.Slices ![d, 0] S1x512) :
    (broadcastInDim S65536x512 ![0, 1] bcast_S1x512_S65536x512_0_1 (broadcastInDim S1x512 ![1] bcast_S512_S1x512_1 (shapeCast S512 (extractStridedSlice S1x512 ![d, 0] w hs) shapeCasts_S1x512_S512)) : FVec Ideal S65536x512 .f32) (ix2 t f)
      = w (ix2 ⟨d, hd⟩ f) := by
  pointwise

variable (V0 : Valuation τ sig (Elt Ideal))

theorem length_at (t : Fin 65536) : res_main_v7 V0 (ix1 t) = BitVec.ofNat 32 (Rows.seqLen t.val) := Cert.Reference2Ideal.Value.length_word t

theorem place_at (t : Fin 65536) : res_main_v8 V0 (ix1 t) = BitVec.ofNat 32 (t.val % Rows.seqLen t.val) := by
  have h := Cert.Reference2Ideal.Value.seqLen_bounds t.val
  exact pyRem_ap (s := shape0) (by decide) (fun _ => BitVec.ofNat 32 t.val) (fun _ => res_main_v7 V0 (ix1 t)) ix0
    (a := t.val) (b := Rows.seqLen t.val) rfl (length_at V0 t) (by omega) h.1 (by omega)

theorem column_at (x : FVec Ideal S65536x5888 .bf16) (t : Fin 65536) (f : Fin 512) :
    (extf .f32 (extractStridedSlice S65536x512 ![0, 2048] x slices_S65536x5888_S65536x512_0_2048) bitsLt_bf16_f32 : FVec Ideal S65536x512 .f32) (ix2 t f)
      = (x (ix2 t ⟨2048 + f.val, by omega⟩) : EReal) := by
  pointwise

theorem weight_at (i : Fin 5) (f : Fin 512) : (res_main_v2 V0 (ix2 i f) : EReal) = V0 (Proc.devRef .tc main_arg1) (ix2 i ⟨f.val, by omega⟩) := by
  unfold res_main_v2
  pointwise

theorem bias_at (b : FVec Ideal S768 .f32) (t : Fin 65536) (f : Fin 512) :
    (broadcastInDim S65536x512 ![0, 1] bcast_S1x512_S65536x512_0_1 (broadcastInDim S1x512 ![1] bcast_S512_S1x512_1 (extractStridedSlice S512 ![0] b slices_S768_S512_0)) : FVec Ideal S65536x512 .f32) (ix2 t f)
      = (b (ix1 ⟨f.val, by omega⟩) : EReal) := by
  pointwise

theorem sum_at (t : Fin 65536) (f : Fin 512) : (res_main_v111 V0 (ix2 t f) : EReal) = Rows.conv5
    (Rows.tap (fun t => V0 (Proc.devRef .tc main_arg0) (ix2 t ⟨2048 + f.val, by omega⟩)) t) (fun i => V0 (Proc.devRef .tc main_arg1) (ix2 i ⟨f.val, by omega⟩))
    (V0 (Proc.devRef .tc main_arg2) (ix1 ⟨f.val, by omega⟩)) := by
  have hx : (fun t => V0 (Proc.devRef .tc main_arg0) (ix2 t ⟨2048 + f.val, by omega⟩)) = (fun t => _) := funext fun t => (column_at _ t f).symm
  have hw : (fun i => V0 (Proc.devRef .tc main_arg1) (ix2 i ⟨f.val, by omega⟩)) = (fun i => _) := funext fun i => (weight_at V0 i f).symm
  have hb : (V0 (Proc.devRef .tc main_arg2) (ix1 ⟨f.val, by omega⟩) : EReal) = _ := (bias_at (V0 (Proc.devRef .tc main_arg2)) t f).symm
  rw [hx, hw, hb]
  unfold res_main_v111 res_main_v108
  refine (Conv.sum_at _ _ _ _ _ _ _ _ _ _ _ (ix2 t f)).trans ?_
  refine congrArg₂ (fun p w => Rows.conv5 p w _) (funext fun d => ?_) (funext fun d => ?_)
  · match d with
    | ⟨0, h⟩ => exact tap_at _ _ _ t f 0 h _ (place_at V0 t) (length_at V0 t)
    | ⟨1, h⟩ => exact tap_at _ _ _ t f 1 h _ (place_at V0 t) (length_at V0 t)
    | ⟨2, h⟩ => exact tap_at _ _ _ t f 2 h _ (place_at V0 t) (length_at V0 t)
    | ⟨3, h⟩ => exact tap_at _ _ _ t f 3 h _ (place_at V0 t) (length_at V0 t)
    | ⟨4, h⟩ => exact tap_at _ _ _ t f 4 h _ (place_at V0 t) (length_at V0 t)
  · match d with
    | ⟨0, h⟩ => exact row_at (res_main_v2 V0) t f 0 h slices_S5x512_S1x512_0_0
    | ⟨1, h⟩ => exact row_at (res_main_v2 V0) t f 1 h slices_S5x512_S1x512_1_0
    | ⟨2, h⟩ => exact row_at (res_main_v2 V0) t f 2 h slices_S5x512_S1x512_2_0
    | ⟨3, h⟩ => exact row_at (res_main_v2 V0) t f 3 h slices_S5x512_S1x512_3_0
    | ⟨4, h⟩ => exact row_at (res_main_v2 V0) t f 4 h slices_S5x512_S1x512_4_0

/-- The reference's result. -/
theorem refOut_at (t : Fin 65536) (f : Fin 512) :
    (truncf .bf16 (mulf (res_main_v111 V0) (Host.divf (broadcastInDim S65536x512 ![] bcast_S_S65536x512 (constant S_ .f32 0x3F800000#32)) (addf (broadcastInDim S65536x512 ![] bcast_S_S65536x512 (constant S_ .f32 0x3F800000#32)) (Host.exp (Host.negf (res_main_v111 V0)))))) bitsLt_bf16_f32 : FVec Ideal S65536x512 .bf16) (ix2 t f)
      = Rows.convSilu (fun t => V0 (Proc.devRef .tc main_arg0) (ix2 t ⟨2048 + f.val, by omega⟩)) (fun i => V0 (Proc.devRef .tc main_arg1) (ix2 i ⟨f.val, by omega⟩))
        (V0 (Proc.devRef .tc main_arg2) (ix1 ⟨f.val, by omega⟩)) t :=
  (Conv.silu_at _ _ _ t f).trans (congrArg Rows.silu (sum_at V0 t f))

end Cert.Reference6Ideal.Value
end
-- ==== Proof.ConvBCRef.lean ====
/- The reference of the second of the convolution's two calls, read at every token and channel. -/
module

public import proofs.«01_k».proof.Proof.Gen.Reference7Ideal.Run
public import proofs.«01_k».proof.Proof.ConvRef

@[expose] public section
set_option maxRecDepth 16384
noncomputable section
namespace Cert.Reference7Ideal.Value
open Cert.Reference7Ideal Cert.Reference7Ideal.Gen Idealize.ShloMosaic Idealize.ShloMosaic.TcCoe Idealize.SL.Sem
open Idealize.ShloMosaic.StableHlo Idealize.ShloMosaic.Routing Idealize.ShloMosaic.WordCmp

theorem tap_at (p q : IVec S65536 32) (x : FVec Ideal S65536x256 .f32) (t : Fin 65536) (f : Fin 256) (d : ℕ) (hd : d < 5) (hs : S65540x256.Slices ![d, 0] S65536x256)
    (hp : p (ix1 t) = BitVec.ofNat 32 (t.val % Rows.seqLen t.val)) (hq : q (ix1 t) = BitVec.ofNat 32 (Rows.seqLen t.val)) :
    (select (broadcastInDim S65536x256 ![0, 1] bcast_S65536x1_S65536x256_0_1 (broadcastInDim S65536x1 ![0] bcast_S65536_S65536x1_0 (andi (cmpi .sge (addi p (broadcastInDim S65536 ![] bcast_S_S65536 (constantI S_ 32 (BitVec.ofNat 32 d)))) (broadcastInDim S65536 ![] bcast_S_S65536 (constantI S_ 32 2#32))) (cmpi .slt (addi p (broadcastInDim S65536 ![] bcast_S_S65536 (constantI S_ 32 (BitVec.ofNat 32 d)))) (id (addi q (broadcastInDim S65536 ![] bcast_S_S65536 (constantI S_ 32 2#32)))))))) (extractStridedSlice S65536x256 ![d, 0] (pad S65540x256 ![2, 0] ![2, 0] ![0, 0] x (sitofp .f32 (constantI S_ 32 0#32)) pads_S65536x256_S65540x256_220_000 h_S_) hs) (broadcastInDim S65536x256 ![] bcast_S_S65536x256 (id (constant S_ .f32 0x00000000#32))) : FVec Ideal S65536x256 .f32) (ix2 t f)
      = Rows.tap (fun t => x (ix2 t f)) t ⟨d, hd⟩ := by
  pointwise
  refine Conv.tap_word _ _ t d hd (fun t => x (ix2 t f)) _ _ Ideal.ofBits_zero_f32 hp hq fun h => ?_
  rw [dif_pos (by omega : 2 ≤ d + t.val ∧ d + t.val - 2 < 65536)]
  exact congrArg (fun t => x (ix2 t f)) (Fin.ext (by dsimp only; omega))

theorem row_at (w : FVec Ideal S5x256 .f32) (t : Fin 65536) (f : Fin 256) (d : ℕ) (hd : d < 5) (hs : S5x256.Slices ![d, 0] S1x256) :
    (broadcastInDim S65536x256 ![0, 1] bcast_S1x256_S65536x256_0_1 (broadcastInDim S1x256 ![1] bcast_S256_S1x256_1 (shapeCast S256 (extractStridedSlice S1x256 ![d, 0] w hs) shapeCasts_S1x256_S256)) : FVec Ideal S65536x256 .f32) (ix2 t f)
      = w (ix2 ⟨d, hd⟩ f) := by
  pointwise

variable (V0 : Valuation τ sig (Elt Ideal))

theorem length_at (t : Fin 65536) : res_main_v7 V0 (ix1 t) = BitVec.ofNat 32 (Rows.seqLen t.val) := Cert.Reference2Ideal.Value.length_word t

theorem place_at (t : Fin 65536) : res_main_v8 V0 (ix1 t) = BitVec.ofNat 32 (t.val % Rows.seqLen t.val) := by
  have h := Cert.Reference2Ideal.Value.seqLen_bounds t.val
  exact pyRem_ap (s := shape0) (by decide) (fun _ => BitVec.ofNat 32 t.val) (fun _ => res_main_v7 V0 (ix1 t)) ix0
    (a := t.val) (b := Rows.seqLen t.val) rfl (length_at V0 t) (by omega) h.1 (by omega)

theorem column_at (x : FVec Ideal S65536x5888 .bf16) (t : Fin 65536) (f : Fin 256) :
    (extf .f32 (extractStridedSlice S65536x256 ![0, 5632] x slices_S65536x5888_S65536x256_0_5632) bitsLt_bf16_f32 : FVec Ideal S65536x256 .f32) (ix2 t f)
      = (x (ix2 t ⟨5632 + f.val, by omega⟩) : EReal) := by
  pointwise

theorem weight_at (i : Fin 5) (f : Fin 256) : (res_main_v2 V0 (ix2 i f) : EReal) = V0 (Proc.devRef .tc main_arg1) (ix2 i ⟨512 + f.val, by omega⟩) := by
  unfold res_main_v2
  pointwise

theorem bias_at (b : FVec Ideal S768 .f32) (t : Fin 65536) (f : Fin 256) :
    (broadcastInDim S65536x256 ![0, 1] bcast_S1x256_S65536x256_0_1 (broadcastInDim S1x256 ![1] bcast_S256_S1x256_1 (extractStridedSlice S256 ![512] b slices_S768_S256_512)) : FVec Ideal S65536x256 .f32) (ix2 t f)
      = (b (ix1 ⟨512 + f.val, by omega⟩) : EReal) := by
  pointwise

theorem sum_at (t : Fin 65536) (f : Fin 256) : (res_main_v111 V0 (ix2 t f) : EReal) = Rows.conv5
    (Rows.tap (fun t => V0 (Proc.devRef .tc main_arg0) (ix2 t ⟨5632 + f.val, by omega⟩)) t) (fun i => V0 (Proc.devRef .tc main_arg1) (ix2 i ⟨512 + f.val, by omega⟩))
    (V0 (Proc.devRef .tc main_arg2) (ix1 ⟨512 + f.val, by omega⟩)) := by
  have hx : (fun t => V0 (Proc.devRef .tc main_arg0) (ix2 t ⟨5632 + f.val, by omega⟩)) = (fun t => _) := funext fun t => (column_at _ t f).symm
  have hw : (fun i => V0 (Proc.devRef .tc main_arg1) (ix2 i ⟨512 + f.val, by omega⟩)) = (fun i => _) := funext fun i => (weight_at V0 i f).symm
  have hb : (V0 (Proc.devRef .tc main_arg2) (ix1 ⟨512 + f.val, by omega⟩) : EReal) = _ := (bias_at (V0 (Proc.devRef .tc main_arg2)) t f).symm
  rw [hx, hw, hb]
  unfold res_main_v111 res_main_v108
  refine (Conv.sum_at _ _ _ _ _ _ _ _ _ _ _ (ix2 t f)).trans ?_
  refine congrArg₂ (fun p w => Rows.conv5 p w _) (funext fun d => ?_) (funext fun d => ?_)
  · match d with
    | ⟨0, h⟩ => exact tap_at _ _ _ t f 0 h _ (place_at V0 t) (length_at V0 t)
    | ⟨1, h⟩ => exact tap_at _ _ _ t f 1 h _ (place_at V0 t) (length_at V0 t)
    | ⟨2, h⟩ => exact tap_at _ _ _ t f 2 h _ (place_at V0 t) (length_at V0 t)
    | ⟨3, h⟩ => exact tap_at _ _ _ t f 3 h _ (place_at V0 t) (length_at V0 t)
    | ⟨4, h⟩ => exact tap_at _ _ _ t f 4 h _ (place_at V0 t) (length_at V0 t)
  · match d with
    | ⟨0, h⟩ => exact row_at (res_main_v2 V0) t f 0 h slices_S5x256_S1x256_0_0
    | ⟨1, h⟩ => exact row_at (res_main_v2 V0) t f 1 h slices_S5x256_S1x256_1_0
    | ⟨2, h⟩ => exact row_at (res_main_v2 V0) t f 2 h slices_S5x256_S1x256_2_0
    | ⟨3, h⟩ => exact row_at (res_main_v2 V0) t f 3 h slices_S5x256_S1x256_3_0
    | ⟨4, h⟩ => exact row_at (res_main_v2 V0) t f 4 h slices_S5x256_S1x256_4_0

/-- The reference's result. -/
theorem refOut_at (t : Fin 65536) (f : Fin 256) :
    (truncf .bf16 (mulf (res_main_v111 V0) (Host.divf (broadcastInDim S65536x256 ![] bcast_S_S65536x256 (constant S_ .f32 0x3F800000#32)) (addf (broadcastInDim S65536x256 ![] bcast_S_S65536x256 (constant S_ .f32 0x3F800000#32)) (Host.exp (Host.negf (res_main_v111 V0)))))) bitsLt_bf16_f32 : FVec Ideal S65536x256 .bf16) (ix2 t f)
      = Rows.convSilu (fun t => V0 (Proc.devRef .tc main_arg0) (ix2 t ⟨5632 + f.val, by omega⟩)) (fun i => V0 (Proc.devRef .tc main_arg1) (ix2 i ⟨512 + f.val, by omega⟩))
        (V0 (Proc.devRef .tc main_arg2) (ix1 ⟨512 + f.val, by omega⟩)) t :=
  (Conv.silu_at _ _ _ t f).trans (congrArg Rows.silu (sum_at V0 t f))

end Cert.Reference7Ideal.Value
end
-- ==== Proof.Conv.lean ====
/- The two calls of the convolution: their kernels compute their references. -/
module

public import proofs.«01_k».proof.Defs
public import proofs.«01_k».proof.Proof.ConvX
public import proofs.«01_k».proof.Proof.ConvBC
public import proofs.«01_k».proof.Proof.ConvXRef
public import proofs.«01_k».proof.Proof.ConvBCRef
public import Idealize.ShloMosaic.Adequacy
public import Idealize.ShloMosaic.Init

@[expose] public section
set_option maxRecDepth 16384
noncomputable section
namespace Cert.Proof
open Idealize.ShloMosaic Idealize.ShloMosaic.StableHlo Idealize.SL.Sem

theorem frame_conv_x_reference : Cert.quiescent_Reference6Ideal := fun m g _ =>
  (θ_run _ _ _).mono (fun r h => ⟨fun c => (h c).2, sem_eq_zero_of_no_sems (by decide) r.2⟩) (Cert.Reference6Ideal.Value.run (F := Ideal) m g)

theorem algebraic_conv_x : Cert.algebraic_Kernel6Ideal_Reference6Ideal := by
  intro m g m' g' _ hargs
  refine ⟨fun c => Cert.Kernel6Ideal.Value.result m c, ?_, ?_⟩
  · exact (θ_run _ _ _).mono (fun r h c => ⟨(h c).1.trans (Cert.Kernel6Ideal.Value.arr_eq m c), (h c).2⟩) (Cert.Kernel6Ideal.Value.run_blocks (F := Ideal) m g)
  · refine (θ_run _ _ _).mono (fun r h c => ⟨(h c).1.trans ?_, (h c).2⟩) (Cert.Reference6Ideal.Value.run (F := Ideal) m' g')
    obtain ⟨h0, h1, h2⟩ := hargs c
    funext y
    obtain ⟨t, k, rfl⟩ : ∃ (t : Fin 65536) (k : Fin 512), y = ix2 t k := ⟨y 0, y 1, (ix2_eta y).symm⟩
    refine (Cert.Reference6Ideal.Value.refOut_at (launchContents m' c) t k).trans ?_
    have e0 : launchContents m' c (Proc.devRef .tc Cert.Reference6Ideal.main_arg0) = _ := h0
    have e1 : launchContents m' c (Proc.devRef .tc Cert.Reference6Ideal.main_arg1) = _ := h1
    have e2 : launchContents m' c (Proc.devRef .tc Cert.Reference6Ideal.main_arg2) = _ := h2
    rw [e0, e1, e2]
    rfl

theorem frame_conv_bc_reference : Cert.quiescent_Reference7Ideal := fun m g _ =>
  (θ_run _ _ _).mono (fun r h => ⟨fun c => (h c).2, sem_eq_zero_of_no_sems (by decide) r.2⟩) (Cert.Reference7Ideal.Value.run (F := Ideal) m g)

theorem algebraic_conv_bc : Cert.algebraic_Kernel7Ideal_Reference7Ideal := by
  intro m g m' g' _ hargs
  refine ⟨fun c => Cert.Kernel7Ideal.Value.result m c, ?_, ?_⟩
  · exact (θ_run _ _ _).mono (fun r h c => ⟨(h c).1.trans (Cert.Kernel7Ideal.Value.arr_eq m c), (h c).2⟩) (Cert.Kernel7Ideal.Value.run_blocks (F := Ideal) m g)
  · refine (θ_run _ _ _).mono (fun r h c => ⟨(h c).1.trans ?_, (h c).2⟩) (Cert.Reference7Ideal.Value.run (F := Ideal) m' g')
    obtain ⟨h0, h1, h2⟩ := hargs c
    funext y
    obtain ⟨t, k, rfl⟩ : ∃ (t : Fin 65536) (k : Fin 256), y = ix2 t k := ⟨y 0, y 1, (ix2_eta y).symm⟩
    refine (Cert.Reference7Ideal.Value.refOut_at (launchContents m' c) t k).trans ?_
    have e0 : launchContents m' c (Proc.devRef .tc Cert.Reference7Ideal.main_arg0) = _ := h0
    have e1 : launchContents m' c (Proc.devRef .tc Cert.Reference7Ideal.main_arg1) = _ := h1
    have e2 : launchContents m' c (Proc.devRef .tc Cert.Reference7Ideal.main_arg2) = _ := h2
    rw [e0, e1, e2]
    rfl

end Cert.Proof
end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Finite
public import proofs.«01_k».proof.Proof.RefValue
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Ffn
public import proofs.«01_k».proof.Proof.Merge
public import proofs.«01_k».proof.Proof.Projections
public import proofs.«01_k».proof.Proof.Sgu
public import proofs.«01_k».proof.Proof.Conv
public import Idealize.ShloMosaic.Adequacy
public import Idealize.ShloMosaic.Init

@[expose] public section

set_option maxRecDepth 16384

noncomputable section

namespace Cert.Proof

open Idealize.ShloMosaic Idealize.ShloMosaic.StableHlo Idealize.SL.Sem

theorem facts_scores : Cert.Pre_scores_finite.Facts where
  slices_S65536x5888_S65536x1024_0_0 := by decide
  bcast_S_S65536x1024 := by decide
  bcast_S_S8x15x31 := by decide

theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run _ _ _).mono (fun r h => ⟨fun c => ⟨(h c).2.1, (h c).2.2⟩, sem_eq_zero_of_no_sems (by decide) r.2⟩)
    (Cert.ReferenceIdeal.Value.run (F := Ideal) m g)

theorem refOut_result (m : (ℓ : Loc Cert.KernelIdeal.nD Cert.KernelIdeal.τ Cert.KernelIdeal.sig) → Buf (Elt Ideal) ℓ)
    (V0 : Valuation Cert.ReferenceIdeal.τ Cert.ReferenceIdeal.sig (Elt Ideal)) (c : Dev Cert.KernelIdeal.nD)
    (h0 : V0 (Proc.devRef .tc Cert.ReferenceIdeal.main_arg0) = m ((c.tc : Thread Cert.KernelIdeal.nD Cert.KernelIdeal.τ).loc Cert.KernelIdeal.main_arg0))
    (h1 : V0 (Proc.devRef .tc Cert.ReferenceIdeal.main_arg1) = m ((c.tc : Thread Cert.KernelIdeal.nD Cert.KernelIdeal.τ).loc Cert.KernelIdeal.main_arg1))
    (hw : ∀ T col, Cert.KernelIdeal.Value.windowed (Cert.KernelIdeal.Value.proj m c) (Cert.KernelIdeal.Value.rpb m c) T col
      = Cert.KernelIdeal.Value.neighbourhood (Cert.KernelIdeal.Value.proj m c) (Cert.KernelIdeal.Value.rpb m c) T col) :
    Cert.ReferenceIdeal.Value.refOut V0 = Cert.KernelIdeal.Value.result m c := by
  have e0 : Cert.ReferenceIdeal.Value.aproj V0 = Cert.KernelIdeal.Value.proj m c :=
    funext fun a => funext fun b => congrFun h0 (ix2 a b)
  have e1 : Cert.ReferenceIdeal.Value.arpb V0 = Cert.KernelIdeal.Value.rpb m c :=
    funext fun h => funext fun a => funext fun b => congrFun h1 (ix3 h a b)
  funext y
  obtain ⟨T, col, rfl⟩ : ∃ (T : Fin 65536) (col : Fin 512), y = ix2 T col := ⟨y 0, y 1, eq_ix2 y⟩
  rw [Cert.ReferenceIdeal.Value.refOut_at, e0, e1, ← hw]
  rfl

theorem algebraic : Cert.algebraic_KernelIdeal_ReferenceIdeal_pre_scores_finite (hPre_scores_finite := facts_scores) := by
  intro m g m' g' hpre hargs
  refine ⟨fun c => Cert.KernelIdeal.Value.result m c, ?_, ?_⟩
  · exact (θ_run _ _ _).mono (fun r h c => ⟨(h c).1.trans (Cert.KernelIdeal.Value.arr_eq m c), (h c).2.1, (h c).2.2⟩)
      (Cert.KernelIdeal.Value.run_blocks (F := Ideal) m g)
  · refine (θ_run _ _ _).mono (fun r h c => ⟨(h c).1.trans ?_, (h c).2.1, (h c).2.2⟩) (Cert.ReferenceIdeal.Value.run (F := Ideal) m' g')
    exact refOut_result m (launchContents m' c) c (hargs c).1 (hargs c).2
      (@Cert.KernelIdeal.Value.result_eq m facts_scores c (hpre c).1 (hpre c).2)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts, facts_scores,
  fun m g _ => Cert.Kernel.Gen.frame m g,
  fun m g _ => Cert.KernelIdeal.Gen.frame m g,
  fun m g _ => Cert.KernelIdeal.Gen.frame m g,
  fun m g _ => frame_reference m g,
  fun m g _ => frame_reference m g,
  fun m g _ => Cert.Kernel2.Gen.frame m g,
  fun m g _ => Cert.Kernel2Ideal.Gen.frame m g,
  frame_ffn_reference,
  fun m g _ => Cert.Kernel3.Gen.frame m g,
  fun m g _ => Cert.Kernel3Ideal.Gen.frame m g,
  frame_merge_reference,
  fun m g _ => Cert.Kernel4.Gen.frame m g,
  fun m g _ => Cert.Kernel4Ideal.Gen.frame m g,
  frame_projections_reference,
  fun m g _ => Cert.Kernel5.Gen.frame m g,
  fun m g _ => Cert.Kernel5Ideal.Gen.frame m g,
  frame_sgu_reference,
  fun m g _ => Cert.Kernel6.Gen.frame m g,
  fun m g _ => Cert.Kernel6Ideal.Gen.frame m g,
  frame_conv_x_reference,
  fun m g _ => Cert.Kernel7.Gen.frame m g,
  fun m g _ => Cert.Kernel7Ideal.Gen.frame m g,
  frame_conv_bc_reference,
  trivial, algebraic,
  trivial, algebraic_ffn,
  trivial, algebraic_merge,
  trivial, algebraic_projections,
  trivial, algebraic_sgu,
  trivial, algebraic_conv_x,
  trivial, algebraic_conv_bc⟩

end Cert.Proof

end
